-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S64x2048 : Shape := ⟨2, ![64, 2048]⟩
abbrev S16x64x128 : Shape := ⟨3, ![16, 64, 128]⟩
abbrev S64x128 : Shape := ⟨2, ![64, 128]⟩
abbrev S2 : Shape := ⟨1, ![2]⟩
abbrev S_ : Shape := ⟨0, ![]⟩
abbrev S32x1024 : Shape := ⟨2, ![32, 1024]⟩
abbrev S32x2048 : Shape := ⟨2, ![32, 2048]⟩
abbrev S1 : Shape := ⟨1, ![1]⟩
abbrev S1x64x128 : Shape := ⟨3, ![1, 64, 128]⟩
abbrev S32x128 : Shape := ⟨2, ![32, 128]⟩
abbrev S1x32x128 : Shape := ⟨3, ![1, 32, 128]⟩
abbrev S16x32x128 : Shape := ⟨3, ![16, 32, 128]⟩

abbrev nBuf : Space → Nat
  | .hbm => 8
  | .vmem => 13
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S64x2048, .bf16⟩
  | .local _ .vmem, ⟨9, _⟩ => ⟨S16x64x128, .bf16⟩
  | .local _ .vmem, ⟨10, _⟩ => ⟨S64x128, .bf16⟩
  | .local _ .vmem, ⟨11, _⟩ => ⟨S64x2048, .bf16⟩
  | .local _ .vmem, ⟨12, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c0_i32 : BitVec 32 := 0#32
  let v5 : BitVec 32 := Scalar.addi v4 c0_i32
  let c16_i32_1 : BitVec 32 := 16#32
  let c0_i32_2 : BitVec 32 := 0#32
  let v6 : BitVec 1 := Scalar.cmpi .eq c16_i32_1 c0_i32_2
  let c1_i32_3 : BitVec 32 := 1#32
  let v7 : BitVec 32 := Scalar.select v6 c1_i32_3 c16_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v18 : BitVec 32 := Scalar.addi v2 c1_i32_10
  let c1_i32_11 : BitVec 32 := 1#32
  let v19 : BitVec 32 := Scalar.addi v18 c1_i32_11
  let c16_i32_12 : BitVec 32 := 16#32
  let c0_i32_13 : BitVec 32 := 0#32
  let v20 : BitVec 1 := Scalar.cmpi .eq c16_i32_12 c0_i32_13
  let c1_i32_14 : BitVec 32 := 1#32
  let v21 : BitVec 32 := Scalar.select v20 c1_i32_14 c16_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v32 : BitVec 32 := Scalar.addi v2 c1_i32_21
  let c2_i32 : BitVec 32 := 2#32
  let v33 : BitVec 32 := Scalar.addi v32 c2_i32
  let c16_i32_22 : BitVec 32 := 16#32
  let c0_i32_23 : BitVec 32 := 0#32
  let v34 : BitVec 1 := Scalar.cmpi .eq c16_i32_22 c0_i32_23
  let c1_i32_24 : BitVec 32 := 1#32
  let v35 : BitVec 32 := Scalar.select v34 c1_i32_24 c16_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v46 : BitVec 32 := Scalar.addi v2 c1_i32_31
  let c3_i32 : BitVec 32 := 3#32
  let v47 : BitVec 32 := Scalar.addi v46 c3_i32
  let c16_i32_32 : BitVec 32 := 16#32
  let c0_i32_33 : BitVec 32 := 0#32
  let v48 : BitVec 1 := Scalar.cmpi .eq c16_i32_32 c0_i32_33
  let c1_i32_34 : BitVec 32 := 1#32
  let v49 : BitVec 32 := Scalar.select v48 c1_i32_34 c16_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v60 : BitVec 32 := Scalar.addi v2 c1_i32_41
  let c4_i32 : BitVec 32 := 4#32
  let v61 : BitVec 32 := Scalar.addi v60 c4_i32
  let c16_i32_42 : BitVec 32 := 16#32
  let c0_i32_43 : BitVec 32 := 0#32
  let v62 : BitVec 1 := Scalar.cmpi .eq c16_i32_42 c0_i32_43
  let c1_i32_44 : BitVec 32 := 1#32
  let v63 : BitVec 32 := Scalar.select v62 c1_i32_44 c16_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v74 : BitVec 32 := Scalar.addi v2 c1_i32_51
  let c5_i32 : BitVec 32 := 5#32
  let v75 : BitVec 32 := Scalar.addi v74 c5_i32
  let c16_i32_52 : BitVec 32 := 16#32
  let c0_i32_53 : BitVec 32 := 0#32
  let v76 : BitVec 1 := Scalar.cmpi .eq c16_i32_52 c0_i32_53
  let c1_i32_54 : BitVec 32 := 1#32
  let v77 : BitVec 32 := Scalar.select v76 c1_i32_54 c16_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v88 : BitVec 32 := Scalar.addi v2 c1_i32_61
  let c6_i32 : BitVec 32 := 6#32
  let v89 : BitVec 32 := Scalar.addi v88 c6_i32
  let c16_i32_62 : BitVec 32 := 16#32
  let c0_i32_63 : BitVec 32 := 0#32
  let v90 : BitVec 1 := Scalar.cmpi .eq c16_i32_62 c0_i32_63
  let c1_i32_64 : BitVec 32 := 1#32
  let v91 : BitVec 32 := Scalar.select v90 c1_i32_64 c16_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v102 : BitVec 32 := Scalar.addi v2 c1_i32_71
  let c7_i32 : BitVec 32 := 7#32
  let v103 : BitVec 32 := Scalar.addi v102 c7_i32
  let c16_i32_72 : BitVec 32 := 16#32
  let c0_i32_73 : BitVec 32 := 0#32
  let v104 : BitVec 1 := Scalar.cmpi .eq c16_i32_72 c0_i32_73
  let c1_i32_74 : BitVec 32 := 1#32
  let v105 : BitVec 32 := Scalar.select v104 c1_i32_74 c16_i32_72
  let v106 : BitVec 32 := Scalar.remsi v103 v105
  let c0_i32_76 : BitVec 32 := 0#32
  let v108 : BitVec 1 := Scalar.cmpi .slt v106 c0_i32_76
  let c0_i32_77 : BitVec 32 := 0#32
  let v109 : BitVec 1 := Scalar.cmpi .slt v105 c0_i32_77
  let v110 : BitVec 1 := Scalar.xori v108 v109
  let c0_i32_75 : BitVec 32 := 0#32
  let v107 : BitVec 1 := Scalar.cmpi .ne v106 c0_i32_75
  let v111 : BitVec 1 := Scalar.andi v110 v107
  let v112 : BitVec 32 := Scalar.addi v106 v105
  let v113 : BitVec 32 := Scalar.select v111 v112 v106
  let c1_i32_79 : BitVec 32 := 1#32
  let v114 : BitVec 32 := Scalar.muli v113 c1_i32_79
  let v115 : BitVec 32 := Scalar.addi c0_i32_80 v114
  v115.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_81 : BitVec 32 := 1#32
  let v116 : BitVec 32 := Scalar.addi v2 c1_i32_81
  let c8_i32 : BitVec 32 := 8#32
  let v117 : BitVec 32 := Scalar.addi v116 c8_i32
  let c16_i32_82 : BitVec 32 := 16#32
  let c0_i32_83 : BitVec 32 := 0#32
  let v118 : BitVec 1 := Scalar.cmpi .eq c16_i32_82 c0_i32_83
  let c1_i32_84 : BitVec 32 := 1#32
  let v119 : BitVec 32 := Scalar.select v118 c1_i32_84 c16_i32_82
  let v120 : BitVec 32 := Scalar.remsi v117 v119
  let c0_i32_86 : BitVec 32 := 0#32
  let v122 : BitVec 1 := Scalar.cmpi .slt v120 c0_i32_86
  let c0_i32_87 : BitVec 32 := 0#32
  let v123 : BitVec 1 := Scalar.cmpi .slt v119 c0_i32_87
  let v124 : BitVec 1 := Scalar.xori v122 v123
  let c0_i32_85 : BitVec 32 := 0#32
  let v121 : BitVec 1 := Scalar.cmpi .ne v120 c0_i32_85
  let v125 : BitVec 1 := Scalar.andi v124 v121
  let v126 : BitVec 32 := Scalar.addi v120 v119
  let v127 : BitVec 32 := Scalar.select v125 v126 v120
  let c1_i32_89 : BitVec 32 := 1#32
  let v128 : BitVec 32 := Scalar.muli v127 c1_i32_89
  let v129 : BitVec 32 := Scalar.addi c0_i32_90 v128
  v129.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_91 : BitVec 32 := 1#32
  let v130 : BitVec 32 := Scalar.addi v2 c1_i32_91
  let c9_i32 : BitVec 32 := 9#32
  let v131 : BitVec 32 := Scalar.addi v130 c9_i32
  let c16_i32_92 : BitVec 32 := 16#32
  let c0_i32_93 : BitVec 32 := 0#32
  let v132 : BitVec 1 := Scalar.cmpi .eq c16_i32_92 c0_i32_93
  let c1_i32_94 : BitVec 32 := 1#32
  let v133 : BitVec 32 := Scalar.select v132 c1_i32_94 c16_i32_92
  let v134 : BitVec 32 := Scalar.remsi v131 v133
  let c0_i32_96 : BitVec 32 := 0#32
  let v136 : BitVec 1 := Scalar.cmpi .slt v134 c0_i32_96
  let c0_i32_97 : BitVec 32 := 0#32
  let v137 : BitVec 1 := Scalar.cmpi .slt v133 c0_i32_97
  let v138 : BitVec 1 := Scalar.xori v136 v137
  let c0_i32_95 : BitVec 32 := 0#32
  let v135 : BitVec 1 := Scalar.cmpi .ne v134 c0_i32_95
  let v139 : BitVec 1 := Scalar.andi v138 v135
  let v140 : BitVec 32 := Scalar.addi v134 v133
  let v141 : BitVec 32 := Scalar.select v139 v140 v134
  let c1_i32_99 : BitVec 32 := 1#32
  let v142 : BitVec 32 := Scalar.muli v141 c1_i32_99
  let v143 : BitVec 32 := Scalar.addi c0_i32_100 v142
  v143.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_101 : BitVec 32 := 1#32
  let v144 : BitVec 32 := Scalar.addi v2 c1_i32_101
  let c10_i32 : BitVec 32 := 10#32
  let v145 : BitVec 32 := Scalar.addi v144 c10_i32
  let c16_i32_102 : BitVec 32 := 16#32
  let c0_i32_103 : BitVec 32 := 0#32
  let v146 : BitVec 1 := Scalar.cmpi .eq c16_i32_102 c0_i32_103
  let c1_i32_104 : BitVec 32 := 1#32
  let v147 : BitVec 32 := Scalar.select v146 c1_i32_104 c16_i32_102
  let v148 : BitVec 32 := Scalar.remsi v145 v147
  let c0_i32_106 : BitVec 32 := 0#32
  let v150 : BitVec 1 := Scalar.cmpi .slt v148 c0_i32_106
  let c0_i32_107 : BitVec 32 := 0#32
  let v151 : BitVec 1 := Scalar.cmpi .slt v147 c0_i32_107
  let v152 : BitVec 1 := Scalar.xori v150 v151
  let c0_i32_105 : BitVec 32 := 0#32
  let v149 : BitVec 1 := Scalar.cmpi .ne v148 c0_i32_105
  let v153 : BitVec 1 := Scalar.andi v152 v149
  let v154 : BitVec 32 := Scalar.addi v148 v147
  let v155 : BitVec 32 := Scalar.select v153 v154 v148
  let c1_i32_109 : BitVec 32 := 1#32
  let v156 : BitVec 32 := Scalar.muli v155 c1_i32_109
  let v157 : BitVec 32 := Scalar.addi c0_i32_110 v156
  v157.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_111 : BitVec 32 := 1#32
  let v158 : BitVec 32 := Scalar.addi v2 c1_i32_111
  let c11_i32 : BitVec 32 := 11#32
  let v159 : BitVec 32 := Scalar.addi v158 c11_i32
  let c16_i32_112 : BitVec 32 := 16#32
  let c0_i32_113 : BitVec 32 := 0#32
  let v160 : BitVec 1 := Scalar.cmpi .eq c16_i32_112 c0_i32_113
  let c1_i32_114 : BitVec 32 := 1#32
  let v161 : BitVec 32 := Scalar.select v160 c1_i32_114 c16_i32_112
  let v162 : BitVec 32 := Scalar.remsi v159 v161
  let c0_i32_116 : BitVec 32 := 0#32
  let v164 : BitVec 1 := Scalar.cmpi .slt v162 c0_i32_116
  let c0_i32_117 : BitVec 32 := 0#32
  let v165 : BitVec 1 := Scalar.cmpi .slt v161 c0_i32_117
  let v166 : BitVec 1 := Scalar.xori v164 v165
  let c0_i32_115 : BitVec 32 := 0#32
  let v163 : BitVec 1 := Scalar.cmpi .ne v162 c0_i32_115
  let v167 : BitVec 1 := Scalar.andi v166 v163
  let v168 : BitVec 32 := Scalar.addi v162 v161
  let v169 : BitVec 32 := Scalar.select v167 v168 v162
  let c1_i32_119 : BitVec 32 := 1#32
  let v170 : BitVec 32 := Scalar.muli v169 c1_i32_119
  let v171 : BitVec 32 := Scalar.addi c0_i32_120 v170
  v171.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v172 : BitVec 32 := Scalar.addi v2 c1_i32_121
  let c12_i32 : BitVec 32 := 12#32
  let v173 : BitVec 32 := Scalar.addi v172 c12_i32
  let c16_i32_122 : BitVec 32 := 16#32
  let c0_i32_123 : BitVec 32 := 0#32
  let v174 : BitVec 1 := Scalar.cmpi .eq c16_i32_122 c0_i32_123
  let c1_i32_124 : BitVec 32 := 1#32
  let v175 : BitVec 32 := Scalar.select v174 c1_i32_124 c16_i32_122
  let v176 : BitVec 32 := Scalar.remsi v173 v175
  let c0_i32_126 : BitVec 32 := 0#32
  let v178 : BitVec 1 := Scalar.cmpi .slt v176 c0_i32_126
  let c0_i32_127 : BitVec 32 := 0#32
  let v179 : BitVec 1 := Scalar.cmpi .slt v175 c0_i32_127
  let v180 : BitVec 1 := Scalar.xori v178 v179
  let c0_i32_125 : BitVec 32 := 0#32
  let v177 : BitVec 1 := Scalar.cmpi .ne v176 c0_i32_125
  let v181 : BitVec 1 := Scalar.andi v180 v177
  let v182 : BitVec 32 := Scalar.addi v176 v175
  let v183 : BitVec 32 := Scalar.select v181 v182 v176
  let c1_i32_129 : BitVec 32 := 1#32
  let v184 : BitVec 32 := Scalar.muli v183 c1_i32_129
  let v185 : BitVec 32 := Scalar.addi c0_i32_130 v184
  v185.toNat
def k0_dev14 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_131 : BitVec 32 := 1#32
  let v186 : BitVec 32 := Scalar.addi v2 c1_i32_131
  let c13_i32 : BitVec 32 := 13#32
  let v187 : BitVec 32 := Scalar.addi v186 c13_i32
  let c16_i32_132 : BitVec 32 := 16#32
  let c0_i32_133 : BitVec 32 := 0#32
  let v188 : BitVec 1 := Scalar.cmpi .eq c16_i32_132 c0_i32_133
  let c1_i32_134 : BitVec 32 := 1#32
  let v189 : BitVec 32 := Scalar.select v188 c1_i32_134 c16_i32_132
  let v190 : BitVec 32 := Scalar.remsi v187 v189
  let c0_i32_136 : BitVec 32 := 0#32
  let v192 : BitVec 1 := Scalar.cmpi .slt v190 c0_i32_136
  let c0_i32_137 : BitVec 32 := 0#32
  let v193 : BitVec 1 := Scalar.cmpi .slt v189 c0_i32_137
  let v194 : BitVec 1 := Scalar.xori v192 v193
  let c0_i32_135 : BitVec 32 := 0#32
  let v191 : BitVec 1 := Scalar.cmpi .ne v190 c0_i32_135
  let v195 : BitVec 1 := Scalar.andi v194 v191
  let v196 : BitVec 32 := Scalar.addi v190 v189
  let v197 : BitVec 32 := Scalar.select v195 v196 v190
  let c1_i32_139 : BitVec 32 := 1#32
  let v198 : BitVec 32 := Scalar.muli v197 c1_i32_139
  let v199 : BitVec 32 := Scalar.addi c0_i32_140 v198
  v199.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v200 : BitVec 32 := Scalar.addi v2 c1_i32_141
  let c14_i32 : BitVec 32 := 14#32
  let v201 : BitVec 32 := Scalar.addi v200 c14_i32
  let c16_i32_142 : BitVec 32 := 16#32
  let c0_i32_143 : BitVec 32 := 0#32
  let v202 : BitVec 1 := Scalar.cmpi .eq c16_i32_142 c0_i32_143
  let c1_i32_144 : BitVec 32 := 1#32
  let v203 : BitVec 32 := Scalar.select v202 c1_i32_144 c16_i32_142
  let v204 : BitVec 32 := Scalar.remsi v201 v203
  let c0_i32_146 : BitVec 32 := 0#32
  let v206 : BitVec 1 := Scalar.cmpi .slt v204 c0_i32_146
  let c0_i32_147 : BitVec 32 := 0#32
  let v207 : BitVec 1 := Scalar.cmpi .slt v203 c0_i32_147
  let v208 : BitVec 1 := Scalar.xori v206 v207
  let c0_i32_145 : BitVec 32 := 0#32
  let v205 : BitVec 1 := Scalar.cmpi .ne v204 c0_i32_145
  let v209 : BitVec 1 := Scalar.andi v208 v205
  let v210 : BitVec 32 := Scalar.addi v204 v203
  let v211 : BitVec 32 := Scalar.select v209 v210 v204
  let c1_i32_149 : BitVec 32 := 1#32
  let v212 : BitVec 32 := Scalar.muli v211 c1_i32_149
  let v213 : BitVec 32 := Scalar.addi c0_i32_150 v212
  v213.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_168 : BitVec 32 := 0#32
  let c0_i32_169 : BitVec 32 := 0#32
  ![v2.toNat, 0, 0]
def k0_off2 (d0 : Dev nD) (c0_i32_157 : BitVec 32) : Fin 2 → Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_156 : BitVec 32 := 1#32
  let v223 : BitVec 32 := Scalar.addi v2 c1_i32_156
  let v224 : BitVec 32 := Scalar.addi v223 c0_i32_157
  let c16_i32_158 : BitVec 32 := 16#32
  let c0_i32_159 : BitVec 32 := 0#32
  let v225 : BitVec 1 := Scalar.cmpi .eq c16_i32_158 c0_i32_159
  let c1_i32_160 : BitVec 32 := 1#32
  let v226 : BitVec 32 := Scalar.select v225 c1_i32_160 c16_i32_158
  let v227 : BitVec 32 := Scalar.remsi v224 v226
  let c0_i32_162 : BitVec 32 := 0#32
  let v229 : BitVec 1 := Scalar.cmpi .slt v227 c0_i32_162
  let c0_i32_163 : BitVec 32 := 0#32
  let v230 : BitVec 1 := Scalar.cmpi .slt v226 c0_i32_163
  let v231 : BitVec 1 := Scalar.xori v229 v230
  let c0_i32_161 : BitVec 32 := 0#32
  let v228 : BitVec 1 := Scalar.cmpi .ne v227 c0_i32_161
  let v232 : BitVec 1 := Scalar.andi v231 v228
  let v233 : BitVec 32 := Scalar.addi v227 v226
  let v234 : BitVec 32 := Scalar.select v232 v233 v227
  let c128_i32 : BitVec 32 := 128#32
  let v235 : BitVec 32 := Scalar.muli v234 c128_i32
  ![0, v235.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_168 : BitVec 32 := 0#32
  let c0_i32_169 : BitVec 32 := 0#32
  ![v2.toNat, 0, 0]
def k0_dev16 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_156 : BitVec 32 := 1#32
  let v223 : BitVec 32 := Scalar.addi v2 c1_i32_156
  let c0_i32_157 : BitVec 32 := 0#32
  let v224 : BitVec 32 := Scalar.addi v223 c0_i32_157
  let c16_i32_158 : BitVec 32 := 16#32
  let c0_i32_159 : BitVec 32 := 0#32
  let v225 : BitVec 1 := Scalar.cmpi .eq c16_i32_158 c0_i32_159
  let c1_i32_160 : BitVec 32 := 1#32
  let v226 : BitVec 32 := Scalar.select v225 c1_i32_160 c16_i32_158
  let v227 : BitVec 32 := Scalar.remsi v224 v226
  let c0_i32_162 : BitVec 32 := 0#32
  let v229 : BitVec 1 := Scalar.cmpi .slt v227 c0_i32_162
  let c0_i32_163 : BitVec 32 := 0#32
  let v230 : BitVec 1 := Scalar.cmpi .slt v226 c0_i32_163
  let v231 : BitVec 1 := Scalar.xori v229 v230
  let c0_i32_161 : BitVec 32 := 0#32
  let v228 : BitVec 1 := Scalar.cmpi .ne v227 c0_i32_161
  let v232 : BitVec 1 := Scalar.andi v231 v228
  let v233 : BitVec 32 := Scalar.addi v227 v226
  let v234 : BitVec 32 := Scalar.select v232 v233 v227
  let c1_i32_166 : BitVec 32 := 1#32
  let v236 : BitVec 32 := Scalar.muli v234 c1_i32_166
  let v237 : BitVec 32 := Scalar.addi c0_i32_167 v236
  v237.toNat
def k0_dev17 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_173 : BitVec 32 := 1#32
  let v246 : BitVec 32 := Scalar.addi v2 c1_i32_173
  let c1_i32_174 : BitVec 32 := 1#32
  let v247 : BitVec 32 := Scalar.addi v246 c1_i32_174
  let c16_i32_175 : BitVec 32 := 16#32
  let c0_i32_176 : BitVec 32 := 0#32
  let v248 : BitVec 1 := Scalar.cmpi .eq c16_i32_175 c0_i32_176
  let c1_i32_177 : BitVec 32 := 1#32
  let v249 : BitVec 32 := Scalar.select v248 c1_i32_177 c16_i32_175
  let v250 : BitVec 32 := Scalar.remsi v247 v249
  let c0_i32_179 : BitVec 32 := 0#32
  let v252 : BitVec 1 := Scalar.cmpi .slt v250 c0_i32_179
  let c0_i32_180 : BitVec 32 := 0#32
  let v253 : BitVec 1 := Scalar.cmpi .slt v249 c0_i32_180
  let v254 : BitVec 1 := Scalar.xori v252 v253
  let c0_i32_178 : BitVec 32 := 0#32
  let v251 : BitVec 1 := Scalar.cmpi .ne v250 c0_i32_178
  let v255 : BitVec 1 := Scalar.andi v254 v251
  let v256 : BitVec 32 := Scalar.addi v250 v249
  let v257 : BitVec 32 := Scalar.select v255 v256 v250
  let c1_i32_184 : BitVec 32 := 1#32
  let v259 : BitVec 32 := Scalar.muli v257 c1_i32_184
  let v260 : BitVec 32 := Scalar.addi c0_i32_185 v259
  v260.toNat
def k0_dev18 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let v269 : BitVec 32 := Scalar.addi v2 c1_i32_191
  let c2_i32_192 : BitVec 32 := 2#32
  let v270 : BitVec 32 := Scalar.addi v269 c2_i32_192
  let c16_i32_193 : BitVec 32 := 16#32
  let c0_i32_194 : BitVec 32 := 0#32
  let v271 : BitVec 1 := Scalar.cmpi .eq c16_i32_193 c0_i32_194
  let c1_i32_195 : BitVec 32 := 1#32
  let v272 : BitVec 32 := Scalar.select v271 c1_i32_195 c16_i32_193
  let v273 : BitVec 32 := Scalar.remsi v270 v272
  let c0_i32_197 : BitVec 32 := 0#32
  let v275 : BitVec 1 := Scalar.cmpi .slt v273 c0_i32_197
  let c0_i32_198 : BitVec 32 := 0#32
  let v276 : BitVec 1 := Scalar.cmpi .slt v272 c0_i32_198
  let v277 : BitVec 1 := Scalar.xori v275 v276
  let c0_i32_196 : BitVec 32 := 0#32
  let v274 : BitVec 1 := Scalar.cmpi .ne v273 c0_i32_196
  let v278 : BitVec 1 := Scalar.andi v277 v274
  let v279 : BitVec 32 := Scalar.addi v273 v272
  let v280 : BitVec 32 := Scalar.select v278 v279 v273
  let c1_i32_202 : BitVec 32 := 1#32
  let v282 : BitVec 32 := Scalar.muli v280 c1_i32_202
  let v283 : BitVec 32 := Scalar.addi c0_i32_203 v282
  v283.toNat
def k0_dev19 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_209 : BitVec 32 := 1#32
  let v292 : BitVec 32 := Scalar.addi v2 c1_i32_209
  let c3_i32_210 : BitVec 32 := 3#32
  let v293 : BitVec 32 := Scalar.addi v292 c3_i32_210
  let c16_i32_211 : BitVec 32 := 16#32
  let c0_i32_212 : BitVec 32 := 0#32
  let v294 : BitVec 1 := Scalar.cmpi .eq c16_i32_211 c0_i32_212
  let c1_i32_213 : BitVec 32 := 1#32
  let v295 : BitVec 32 := Scalar.select v294 c1_i32_213 c16_i32_211
  let v296 : BitVec 32 := Scalar.remsi v293 v295
  let c0_i32_215 : BitVec 32 := 0#32
  let v298 : BitVec 1 := Scalar.cmpi .slt v296 c0_i32_215
  let c0_i32_216 : BitVec 32 := 0#32
  let v299 : BitVec 1 := Scalar.cmpi .slt v295 c0_i32_216
  let v300 : BitVec 1 := Scalar.xori v298 v299
  let c0_i32_214 : BitVec 32 := 0#32
  let v297 : BitVec 1 := Scalar.cmpi .ne v296 c0_i32_214
  let v301 : BitVec 1 := Scalar.andi v300 v297
  let v302 : BitVec 32 := Scalar.addi v296 v295
  let v303 : BitVec 32 := Scalar.select v301 v302 v296
  let c1_i32_220 : BitVec 32 := 1#32
  let v305 : BitVec 32 := Scalar.muli v303 c1_i32_220
  let v306 : BitVec 32 := Scalar.addi c0_i32_221 v305
  v306.toNat
def k0_dev20 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_227 : BitVec 32 := 1#32
  let v315 : BitVec 32 := Scalar.addi v2 c1_i32_227
  let c4_i32_228 : BitVec 32 := 4#32
  let v316 : BitVec 32 := Scalar.addi v315 c4_i32_228
  let c16_i32_229 : BitVec 32 := 16#32
  let c0_i32_230 : BitVec 32 := 0#32
  let v317 : BitVec 1 := Scalar.cmpi .eq c16_i32_229 c0_i32_230
  let c1_i32_231 : BitVec 32 := 1#32
  let v318 : BitVec 32 := Scalar.select v317 c1_i32_231 c16_i32_229
  let v319 : BitVec 32 := Scalar.remsi v316 v318
  let c0_i32_233 : BitVec 32 := 0#32
  let v321 : BitVec 1 := Scalar.cmpi .slt v319 c0_i32_233
  let c0_i32_234 : BitVec 32 := 0#32
  let v322 : BitVec 1 := Scalar.cmpi .slt v318 c0_i32_234
  let v323 : BitVec 1 := Scalar.xori v321 v322
  let c0_i32_232 : BitVec 32 := 0#32
  let v320 : BitVec 1 := Scalar.cmpi .ne v319 c0_i32_232
  let v324 : BitVec 1 := Scalar.andi v323 v320
  let v325 : BitVec 32 := Scalar.addi v319 v318
  let v326 : BitVec 32 := Scalar.select v324 v325 v319
  let c1_i32_238 : BitVec 32 := 1#32
  let v328 : BitVec 32 := Scalar.muli v326 c1_i32_238
  let v329 : BitVec 32 := Scalar.addi c0_i32_239 v328
  v329.toNat
def k0_dev21 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_245 : BitVec 32 := 1#32
  let v338 : BitVec 32 := Scalar.addi v2 c1_i32_245
  let c5_i32_246 : BitVec 32 := 5#32
  let v339 : BitVec 32 := Scalar.addi v338 c5_i32_246
  let c16_i32_247 : BitVec 32 := 16#32
  let c0_i32_248 : BitVec 32 := 0#32
  let v340 : BitVec 1 := Scalar.cmpi .eq c16_i32_247 c0_i32_248
  let c1_i32_249 : BitVec 32 := 1#32
  let v341 : BitVec 32 := Scalar.select v340 c1_i32_249 c16_i32_247
  let v342 : BitVec 32 := Scalar.remsi v339 v341
  let c0_i32_251 : BitVec 32 := 0#32
  let v344 : BitVec 1 := Scalar.cmpi .slt v342 c0_i32_251
  let c0_i32_252 : BitVec 32 := 0#32
  let v345 : BitVec 1 := Scalar.cmpi .slt v341 c0_i32_252
  let v346 : BitVec 1 := Scalar.xori v344 v345
  let c0_i32_250 : BitVec 32 := 0#32
  let v343 : BitVec 1 := Scalar.cmpi .ne v342 c0_i32_250
  let v347 : BitVec 1 := Scalar.andi v346 v343
  let v348 : BitVec 32 := Scalar.addi v342 v341
  let v349 : BitVec 32 := Scalar.select v347 v348 v342
  let c1_i32_256 : BitVec 32 := 1#32
  let v351 : BitVec 32 := Scalar.muli v349 c1_i32_256
  let v352 : BitVec 32 := Scalar.addi c0_i32_257 v351
  v352.toNat
def k0_dev22 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_263 : BitVec 32 := 1#32
  let v361 : BitVec 32 := Scalar.addi v2 c1_i32_263
  let c6_i32_264 : BitVec 32 := 6#32
  let v362 : BitVec 32 := Scalar.addi v361 c6_i32_264
  let c16_i32_265 : BitVec 32 := 16#32
  let c0_i32_266 : BitVec 32 := 0#32
  let v363 : BitVec 1 := Scalar.cmpi .eq c16_i32_265 c0_i32_266
  let c1_i32_267 : BitVec 32 := 1#32
  let v364 : BitVec 32 := Scalar.select v363 c1_i32_267 c16_i32_265
  let v365 : BitVec 32 := Scalar.remsi v362 v364
  let c0_i32_269 : BitVec 32 := 0#32
  let v367 : BitVec 1 := Scalar.cmpi .slt v365 c0_i32_269
  let c0_i32_270 : BitVec 32 := 0#32
  let v368 : BitVec 1 := Scalar.cmpi .slt v364 c0_i32_270
  let v369 : BitVec 1 := Scalar.xori v367 v368
  let c0_i32_268 : BitVec 32 := 0#32
  let v366 : BitVec 1 := Scalar.cmpi .ne v365 c0_i32_268
  let v370 : BitVec 1 := Scalar.andi v369 v366
  let v371 : BitVec 32 := Scalar.addi v365 v364
  let v372 : BitVec 32 := Scalar.select v370 v371 v365
  let c1_i32_274 : BitVec 32 := 1#32
  let v374 : BitVec 32 := Scalar.muli v372 c1_i32_274
  let v375 : BitVec 32 := Scalar.addi c0_i32_275 v374
  v375.toNat
def k0_dev23 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let v384 : BitVec 32 := Scalar.addi v2 c1_i32_281
  let c7_i32_282 : BitVec 32 := 7#32
  let v385 : BitVec 32 := Scalar.addi v384 c7_i32_282
  let c16_i32_283 : BitVec 32 := 16#32
  let c0_i32_284 : BitVec 32 := 0#32
  let v386 : BitVec 1 := Scalar.cmpi .eq c16_i32_283 c0_i32_284
  let c1_i32_285 : BitVec 32 := 1#32
  let v387 : BitVec 32 := Scalar.select v386 c1_i32_285 c16_i32_283
  let v388 : BitVec 32 := Scalar.remsi v385 v387
  let c0_i32_287 : BitVec 32 := 0#32
  let v390 : BitVec 1 := Scalar.cmpi .slt v388 c0_i32_287
  let c0_i32_288 : BitVec 32 := 0#32
  let v391 : BitVec 1 := Scalar.cmpi .slt v387 c0_i32_288
  let v392 : BitVec 1 := Scalar.xori v390 v391
  let c0_i32_286 : BitVec 32 := 0#32
  let v389 : BitVec 1 := Scalar.cmpi .ne v388 c0_i32_286
  let v393 : BitVec 1 := Scalar.andi v392 v389
  let v394 : BitVec 32 := Scalar.addi v388 v387
  let v395 : BitVec 32 := Scalar.select v393 v394 v388
  let c1_i32_292 : BitVec 32 := 1#32
  let v397 : BitVec 32 := Scalar.muli v395 c1_i32_292
  let v398 : BitVec 32 := Scalar.addi c0_i32_293 v397
  v398.toNat
def k0_dev24 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_299 : BitVec 32 := 1#32
  let v407 : BitVec 32 := Scalar.addi v2 c1_i32_299
  let c8_i32_300 : BitVec 32 := 8#32
  let v408 : BitVec 32 := Scalar.addi v407 c8_i32_300
  let c16_i32_301 : BitVec 32 := 16#32
  let c0_i32_302 : BitVec 32 := 0#32
  let v409 : BitVec 1 := Scalar.cmpi .eq c16_i32_301 c0_i32_302
  let c1_i32_303 : BitVec 32 := 1#32
  let v410 : BitVec 32 := Scalar.select v409 c1_i32_303 c16_i32_301
  let v411 : BitVec 32 := Scalar.remsi v408 v410
  let c0_i32_305 : BitVec 32 := 0#32
  let v413 : BitVec 1 := Scalar.cmpi .slt v411 c0_i32_305
  let c0_i32_306 : BitVec 32 := 0#32
  let v414 : BitVec 1 := Scalar.cmpi .slt v410 c0_i32_306
  let v415 : BitVec 1 := Scalar.xori v413 v414
  let c0_i32_304 : BitVec 32 := 0#32
  let v412 : BitVec 1 := Scalar.cmpi .ne v411 c0_i32_304
  let v416 : BitVec 1 := Scalar.andi v415 v412
  let v417 : BitVec 32 := Scalar.addi v411 v410
  let v418 : BitVec 32 := Scalar.select v416 v417 v411
  let c1_i32_310 : BitVec 32 := 1#32
  let v420 : BitVec 32 := Scalar.muli v418 c1_i32_310
  let v421 : BitVec 32 := Scalar.addi c0_i32_311 v420
  v421.toNat
def k0_dev25 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_317 : BitVec 32 := 1#32
  let v430 : BitVec 32 := Scalar.addi v2 c1_i32_317
  let c9_i32_318 : BitVec 32 := 9#32
  let v431 : BitVec 32 := Scalar.addi v430 c9_i32_318
  let c16_i32_319 : BitVec 32 := 16#32
  let c0_i32_320 : BitVec 32 := 0#32
  let v432 : BitVec 1 := Scalar.cmpi .eq c16_i32_319 c0_i32_320
  let c1_i32_321 : BitVec 32 := 1#32
  let v433 : BitVec 32 := Scalar.select v432 c1_i32_321 c16_i32_319
  let v434 : BitVec 32 := Scalar.remsi v431 v433
  let c0_i32_323 : BitVec 32 := 0#32
  let v436 : BitVec 1 := Scalar.cmpi .slt v434 c0_i32_323
  let c0_i32_324 : BitVec 32 := 0#32
  let v437 : BitVec 1 := Scalar.cmpi .slt v433 c0_i32_324
  let v438 : BitVec 1 := Scalar.xori v436 v437
  let c0_i32_322 : BitVec 32 := 0#32
  let v435 : BitVec 1 := Scalar.cmpi .ne v434 c0_i32_322
  let v439 : BitVec 1 := Scalar.andi v438 v435
  let v440 : BitVec 32 := Scalar.addi v434 v433
  let v441 : BitVec 32 := Scalar.select v439 v440 v434
  let c1_i32_328 : BitVec 32 := 1#32
  let v443 : BitVec 32 := Scalar.muli v441 c1_i32_328
  let v444 : BitVec 32 := Scalar.addi c0_i32_329 v443
  v444.toNat
def k0_dev26 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_335 : BitVec 32 := 1#32
  let v453 : BitVec 32 := Scalar.addi v2 c1_i32_335
  let c10_i32_336 : BitVec 32 := 10#32
  let v454 : BitVec 32 := Scalar.addi v453 c10_i32_336
  let c16_i32_337 : BitVec 32 := 16#32
  let c0_i32_338 : BitVec 32 := 0#32
  let v455 : BitVec 1 := Scalar.cmpi .eq c16_i32_337 c0_i32_338
  let c1_i32_339 : BitVec 32 := 1#32
  let v456 : BitVec 32 := Scalar.select v455 c1_i32_339 c16_i32_337
  let v457 : BitVec 32 := Scalar.remsi v454 v456
  let c0_i32_341 : BitVec 32 := 0#32
  let v459 : BitVec 1 := Scalar.cmpi .slt v457 c0_i32_341
  let c0_i32_342 : BitVec 32 := 0#32
  let v460 : BitVec 1 := Scalar.cmpi .slt v456 c0_i32_342
  let v461 : BitVec 1 := Scalar.xori v459 v460
  let c0_i32_340 : BitVec 32 := 0#32
  let v458 : BitVec 1 := Scalar.cmpi .ne v457 c0_i32_340
  let v462 : BitVec 1 := Scalar.andi v461 v458
  let v463 : BitVec 32 := Scalar.addi v457 v456
  let v464 : BitVec 32 := Scalar.select v462 v463 v457
  let c1_i32_346 : BitVec 32 := 1#32
  let v466 : BitVec 32 := Scalar.muli v464 c1_i32_346
  let v467 : BitVec 32 := Scalar.addi c0_i32_347 v466
  v467.toNat
def k0_dev27 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_353 : BitVec 32 := 1#32
  let v476 : BitVec 32 := Scalar.addi v2 c1_i32_353
  let c11_i32_354 : BitVec 32 := 11#32
  let v477 : BitVec 32 := Scalar.addi v476 c11_i32_354
  let c16_i32_355 : BitVec 32 := 16#32
  let c0_i32_356 : BitVec 32 := 0#32
  let v478 : BitVec 1 := Scalar.cmpi .eq c16_i32_355 c0_i32_356
  let c1_i32_357 : BitVec 32 := 1#32
  let v479 : BitVec 32 := Scalar.select v478 c1_i32_357 c16_i32_355
  let v480 : BitVec 32 := Scalar.remsi v477 v479
  let c0_i32_359 : BitVec 32 := 0#32
  let v482 : BitVec 1 := Scalar.cmpi .slt v480 c0_i32_359
  let c0_i32_360 : BitVec 32 := 0#32
  let v483 : BitVec 1 := Scalar.cmpi .slt v479 c0_i32_360
  let v484 : BitVec 1 := Scalar.xori v482 v483
  let c0_i32_358 : BitVec 32 := 0#32
  let v481 : BitVec 1 := Scalar.cmpi .ne v480 c0_i32_358
  let v485 : BitVec 1 := Scalar.andi v484 v481
  let v486 : BitVec 32 := Scalar.addi v480 v479
  let v487 : BitVec 32 := Scalar.select v485 v486 v480
  let c1_i32_364 : BitVec 32 := 1#32
  let v489 : BitVec 32 := Scalar.muli v487 c1_i32_364
  let v490 : BitVec 32 := Scalar.addi c0_i32_365 v489
  v490.toNat
def k0_dev28 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_371 : BitVec 32 := 1#32
  let v499 : BitVec 32 := Scalar.addi v2 c1_i32_371
  let c12_i32_372 : BitVec 32 := 12#32
  let v500 : BitVec 32 := Scalar.addi v499 c12_i32_372
  let c16_i32_373 : BitVec 32 := 16#32
  let c0_i32_374 : BitVec 32 := 0#32
  let v501 : BitVec 1 := Scalar.cmpi .eq c16_i32_373 c0_i32_374
  let c1_i32_375 : BitVec 32 := 1#32
  let v502 : BitVec 32 := Scalar.select v501 c1_i32_375 c16_i32_373
  let v503 : BitVec 32 := Scalar.remsi v500 v502
  let c0_i32_377 : BitVec 32 := 0#32
  let v505 : BitVec 1 := Scalar.cmpi .slt v503 c0_i32_377
  let c0_i32_378 : BitVec 32 := 0#32
  let v506 : BitVec 1 := Scalar.cmpi .slt v502 c0_i32_378
  let v507 : BitVec 1 := Scalar.xori v505 v506
  let c0_i32_376 : BitVec 32 := 0#32
  let v504 : BitVec 1 := Scalar.cmpi .ne v503 c0_i32_376
  let v508 : BitVec 1 := Scalar.andi v507 v504
  let v509 : BitVec 32 := Scalar.addi v503 v502
  let v510 : BitVec 32 := Scalar.select v508 v509 v503
  let c1_i32_382 : BitVec 32 := 1#32
  let v512 : BitVec 32 := Scalar.muli v510 c1_i32_382
  let v513 : BitVec 32 := Scalar.addi c0_i32_383 v512
  v513.toNat
def k0_dev29 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_389 : BitVec 32 := 1#32
  let v522 : BitVec 32 := Scalar.addi v2 c1_i32_389
  let c13_i32_390 : BitVec 32 := 13#32
  let v523 : BitVec 32 := Scalar.addi v522 c13_i32_390
  let c16_i32_391 : BitVec 32 := 16#32
  let c0_i32_392 : BitVec 32 := 0#32
  let v524 : BitVec 1 := Scalar.cmpi .eq c16_i32_391 c0_i32_392
  let c1_i32_393 : BitVec 32 := 1#32
  let v525 : BitVec 32 := Scalar.select v524 c1_i32_393 c16_i32_391
  let v526 : BitVec 32 := Scalar.remsi v523 v525
  let c0_i32_395 : BitVec 32 := 0#32
  let v528 : BitVec 1 := Scalar.cmpi .slt v526 c0_i32_395
  let c0_i32_396 : BitVec 32 := 0#32
  let v529 : BitVec 1 := Scalar.cmpi .slt v525 c0_i32_396
  let v530 : BitVec 1 := Scalar.xori v528 v529
  let c0_i32_394 : BitVec 32 := 0#32
  let v527 : BitVec 1 := Scalar.cmpi .ne v526 c0_i32_394
  let v531 : BitVec 1 := Scalar.andi v530 v527
  let v532 : BitVec 32 := Scalar.addi v526 v525
  let v533 : BitVec 32 := Scalar.select v531 v532 v526
  let c1_i32_400 : BitVec 32 := 1#32
  let v535 : BitVec 32 := Scalar.muli v533 c1_i32_400
  let v536 : BitVec 32 := Scalar.addi c0_i32_401 v535
  v536.toNat
def k0_dev30 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_407 : BitVec 32 := 1#32
  let v545 : BitVec 32 := Scalar.addi v2 c1_i32_407
  let c14_i32_408 : BitVec 32 := 14#32
  let v546 : BitVec 32 := Scalar.addi v545 c14_i32_408
  let c16_i32_409 : BitVec 32 := 16#32
  let c0_i32_410 : BitVec 32 := 0#32
  let v547 : BitVec 1 := Scalar.cmpi .eq c16_i32_409 c0_i32_410
  let c1_i32_411 : BitVec 32 := 1#32
  let v548 : BitVec 32 := Scalar.select v547 c1_i32_411 c16_i32_409
  let v549 : BitVec 32 := Scalar.remsi v546 v548
  let c0_i32_413 : BitVec 32 := 0#32
  let v551 : BitVec 1 := Scalar.cmpi .slt v549 c0_i32_413
  let c0_i32_414 : BitVec 32 := 0#32
  let v552 : BitVec 1 := Scalar.cmpi .slt v548 c0_i32_414
  let v553 : BitVec 1 := Scalar.xori v551 v552
  let c0_i32_412 : BitVec 32 := 0#32
  let v550 : BitVec 1 := Scalar.cmpi .ne v549 c0_i32_412
  let v554 : BitVec 1 := Scalar.andi v553 v550
  let v555 : BitVec 32 := Scalar.addi v549 v548
  let v556 : BitVec 32 := Scalar.select v554 v555 v549
  let c1_i32_418 : BitVec 32 := 1#32
  let v558 : BitVec 32 := Scalar.muli v556 c1_i32_418
  let v559 : BitVec 32 := Scalar.addi c0_i32_419 v558
  v559.toNat
def k0_off4 (d0 : Dev nD) : Fin 2 → Nat :=
  let c0_426 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_425 : BitVec 32 := 128#32
  let v568 : BitVec 32 := Scalar.muli v2 c128_i32_425
  let v569 : Index := Scalar.indexCast v568
  ![0, v569.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v571 : Index := Scalar.indexCast v2
  let c0_427 : Index := 0#32
  let c0_428 : Index := 0#32
  ![v571.toNat, 0, 0]
def k0_off6 (d0 : Dev nD) (c0_i32_436 : BitVec 32) : Fin 2 → Nat :=
  let c32_i32_451 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_435 : BitVec 32 := 1#32
  let v584 : BitVec 32 := Scalar.addi v2 c1_i32_435
  let v585 : BitVec 32 := Scalar.addi v584 c0_i32_436
  let c16_i32_437 : BitVec 32 := 16#32
  let c0_i32_438 : BitVec 32 := 0#32
  let v586 : BitVec 1 := Scalar.cmpi .eq c16_i32_437 c0_i32_438
  let c1_i32_439 : BitVec 32 := 1#32
  let v587 : BitVec 32 := Scalar.select v586 c1_i32_439 c16_i32_437
  let v588 : BitVec 32 := Scalar.remsi v585 v587
  let c0_i32_441 : BitVec 32 := 0#32
  let v590 : BitVec 1 := Scalar.cmpi .slt v588 c0_i32_441
  let c0_i32_442 : BitVec 32 := 0#32
  let v591 : BitVec 1 := Scalar.cmpi .slt v587 c0_i32_442
  let v592 : BitVec 1 := Scalar.xori v590 v591
  let c0_i32_440 : BitVec 32 := 0#32
  let v589 : BitVec 1 := Scalar.cmpi .ne v588 c0_i32_440
  let v593 : BitVec 1 := Scalar.andi v592 v589
  let v594 : BitVec 32 := Scalar.addi v588 v587
  let v595 : BitVec 32 := Scalar.select v593 v594 v588
  let c128_i32_443 : BitVec 32 := 128#32
  let v596 : BitVec 32 := Scalar.muli v595 c128_i32_443
  ![32, v596.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  ![v2.toNat, 32, 0]
def k0_dev31 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_435 : BitVec 32 := 1#32
  let v584 : BitVec 32 := Scalar.addi v2 c1_i32_435
  let c0_i32_436 : BitVec 32 := 0#32
  let v585 : BitVec 32 := Scalar.addi v584 c0_i32_436
  let c16_i32_437 : BitVec 32 := 16#32
  let c0_i32_438 : BitVec 32 := 0#32
  let v586 : BitVec 1 := Scalar.cmpi .eq c16_i32_437 c0_i32_438
  let c1_i32_439 : BitVec 32 := 1#32
  let v587 : BitVec 32 := Scalar.select v586 c1_i32_439 c16_i32_437
  let v588 : BitVec 32 := Scalar.remsi v585 v587
  let c0_i32_441 : BitVec 32 := 0#32
  let v590 : BitVec 1 := Scalar.cmpi .slt v588 c0_i32_441
  let c0_i32_442 : BitVec 32 := 0#32
  let v591 : BitVec 1 := Scalar.cmpi .slt v587 c0_i32_442
  let v592 : BitVec 1 := Scalar.xori v590 v591
  let c0_i32_440 : BitVec 32 := 0#32
  let v589 : BitVec 1 := Scalar.cmpi .ne v588 c0_i32_440
  let v593 : BitVec 1 := Scalar.andi v592 v589
  let v594 : BitVec 32 := Scalar.addi v588 v587
  let v595 : BitVec 32 := Scalar.select v593 v594 v588
  let c1_i32_446 : BitVec 32 := 1#32
  let v597 : BitVec 32 := Scalar.muli v595 c1_i32_446
  let v598 : BitVec 32 := Scalar.addi c0_i32_447 v597
  v598.toNat
def k0_dev32 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_452 : BitVec 32 := 1#32
  let v607 : BitVec 32 := Scalar.addi v2 c1_i32_452
  let c1_i32_453 : BitVec 32 := 1#32
  let v608 : BitVec 32 := Scalar.addi v607 c1_i32_453
  let c16_i32_454 : BitVec 32 := 16#32
  let c0_i32_455 : BitVec 32 := 0#32
  let v609 : BitVec 1 := Scalar.cmpi .eq c16_i32_454 c0_i32_455
  let c1_i32_456 : BitVec 32 := 1#32
  let v610 : BitVec 32 := Scalar.select v609 c1_i32_456 c16_i32_454
  let v611 : BitVec 32 := Scalar.remsi v608 v610
  let c0_i32_458 : BitVec 32 := 0#32
  let v613 : BitVec 1 := Scalar.cmpi .slt v611 c0_i32_458
  let c0_i32_459 : BitVec 32 := 0#32
  let v614 : BitVec 1 := Scalar.cmpi .slt v610 c0_i32_459
  let v615 : BitVec 1 := Scalar.xori v613 v614
  let c0_i32_457 : BitVec 32 := 0#32
  let v612 : BitVec 1 := Scalar.cmpi .ne v611 c0_i32_457
  let v616 : BitVec 1 := Scalar.andi v615 v612
  let v617 : BitVec 32 := Scalar.addi v611 v610
  let v618 : BitVec 32 := Scalar.select v616 v617 v611
  let c1_i32_463 : BitVec 32 := 1#32
  let v620 : BitVec 32 := Scalar.muli v618 c1_i32_463
  let v621 : BitVec 32 := Scalar.addi c0_i32_464 v620
  v621.toNat
def k0_dev33 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_470 : BitVec 32 := 1#32
  let v630 : BitVec 32 := Scalar.addi v2 c1_i32_470
  let c2_i32_471 : BitVec 32 := 2#32
  let v631 : BitVec 32 := Scalar.addi v630 c2_i32_471
  let c16_i32_472 : BitVec 32 := 16#32
  let c0_i32_473 : BitVec 32 := 0#32
  let v632 : BitVec 1 := Scalar.cmpi .eq c16_i32_472 c0_i32_473
  let c1_i32_474 : BitVec 32 := 1#32
  let v633 : BitVec 32 := Scalar.select v632 c1_i32_474 c16_i32_472
  let v634 : BitVec 32 := Scalar.remsi v631 v633
  let c0_i32_476 : BitVec 32 := 0#32
  let v636 : BitVec 1 := Scalar.cmpi .slt v634 c0_i32_476
  let c0_i32_477 : BitVec 32 := 0#32
  let v637 : BitVec 1 := Scalar.cmpi .slt v633 c0_i32_477
  let v638 : BitVec 1 := Scalar.xori v636 v637
  let c0_i32_475 : BitVec 32 := 0#32
  let v635 : BitVec 1 := Scalar.cmpi .ne v634 c0_i32_475
  let v639 : BitVec 1 := Scalar.andi v638 v635
  let v640 : BitVec 32 := Scalar.addi v634 v633
  let v641 : BitVec 32 := Scalar.select v639 v640 v634
  let c1_i32_481 : BitVec 32 := 1#32
  let v643 : BitVec 32 := Scalar.muli v641 c1_i32_481
  let v644 : BitVec 32 := Scalar.addi c0_i32_482 v643
  v644.toNat
def k0_dev34 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_488 : BitVec 32 := 1#32
  let v653 : BitVec 32 := Scalar.addi v2 c1_i32_488
  let c3_i32_489 : BitVec 32 := 3#32
  let v654 : BitVec 32 := Scalar.addi v653 c3_i32_489
  let c16_i32_490 : BitVec 32 := 16#32
  let c0_i32_491 : BitVec 32 := 0#32
  let v655 : BitVec 1 := Scalar.cmpi .eq c16_i32_490 c0_i32_491
  let c1_i32_492 : BitVec 32 := 1#32
  let v656 : BitVec 32 := Scalar.select v655 c1_i32_492 c16_i32_490
  let v657 : BitVec 32 := Scalar.remsi v654 v656
  let c0_i32_494 : BitVec 32 := 0#32
  let v659 : BitVec 1 := Scalar.cmpi .slt v657 c0_i32_494
  let c0_i32_495 : BitVec 32 := 0#32
  let v660 : BitVec 1 := Scalar.cmpi .slt v656 c0_i32_495
  let v661 : BitVec 1 := Scalar.xori v659 v660
  let c0_i32_493 : BitVec 32 := 0#32
  let v658 : BitVec 1 := Scalar.cmpi .ne v657 c0_i32_493
  let v662 : BitVec 1 := Scalar.andi v661 v658
  let v663 : BitVec 32 := Scalar.addi v657 v656
  let v664 : BitVec 32 := Scalar.select v662 v663 v657
  let c1_i32_499 : BitVec 32 := 1#32
  let v666 : BitVec 32 := Scalar.muli v664 c1_i32_499
  let v667 : BitVec 32 := Scalar.addi c0_i32_500 v666
  v667.toNat
def k0_dev35 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_506 : BitVec 32 := 1#32
  let v676 : BitVec 32 := Scalar.addi v2 c1_i32_506
  let c4_i32_507 : BitVec 32 := 4#32
  let v677 : BitVec 32 := Scalar.addi v676 c4_i32_507
  let c16_i32_508 : BitVec 32 := 16#32
  let c0_i32_509 : BitVec 32 := 0#32
  let v678 : BitVec 1 := Scalar.cmpi .eq c16_i32_508 c0_i32_509
  let c1_i32_510 : BitVec 32 := 1#32
  let v679 : BitVec 32 := Scalar.select v678 c1_i32_510 c16_i32_508
  let v680 : BitVec 32 := Scalar.remsi v677 v679
  let c0_i32_512 : BitVec 32 := 0#32
  let v682 : BitVec 1 := Scalar.cmpi .slt v680 c0_i32_512
  let c0_i32_513 : BitVec 32 := 0#32
  let v683 : BitVec 1 := Scalar.cmpi .slt v679 c0_i32_513
  let v684 : BitVec 1 := Scalar.xori v682 v683
  let c0_i32_511 : BitVec 32 := 0#32
  let v681 : BitVec 1 := Scalar.cmpi .ne v680 c0_i32_511
  let v685 : BitVec 1 := Scalar.andi v684 v681
  let v686 : BitVec 32 := Scalar.addi v680 v679
  let v687 : BitVec 32 := Scalar.select v685 v686 v680
  let c1_i32_517 : BitVec 32 := 1#32
  let v689 : BitVec 32 := Scalar.muli v687 c1_i32_517
  let v690 : BitVec 32 := Scalar.addi c0_i32_518 v689
  v690.toNat
def k0_dev36 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_524 : BitVec 32 := 1#32
  let v699 : BitVec 32 := Scalar.addi v2 c1_i32_524
  let c5_i32_525 : BitVec 32 := 5#32
  let v700 : BitVec 32 := Scalar.addi v699 c5_i32_525
  let c16_i32_526 : BitVec 32 := 16#32
  let c0_i32_527 : BitVec 32 := 0#32
  let v701 : BitVec 1 := Scalar.cmpi .eq c16_i32_526 c0_i32_527
  let c1_i32_528 : BitVec 32 := 1#32
  let v702 : BitVec 32 := Scalar.select v701 c1_i32_528 c16_i32_526
  let v703 : BitVec 32 := Scalar.remsi v700 v702
  let c0_i32_530 : BitVec 32 := 0#32
  let v705 : BitVec 1 := Scalar.cmpi .slt v703 c0_i32_530
  let c0_i32_531 : BitVec 32 := 0#32
  let v706 : BitVec 1 := Scalar.cmpi .slt v702 c0_i32_531
  let v707 : BitVec 1 := Scalar.xori v705 v706
  let c0_i32_529 : BitVec 32 := 0#32
  let v704 : BitVec 1 := Scalar.cmpi .ne v703 c0_i32_529
  let v708 : BitVec 1 := Scalar.andi v707 v704
  let v709 : BitVec 32 := Scalar.addi v703 v702
  let v710 : BitVec 32 := Scalar.select v708 v709 v703
  let c1_i32_535 : BitVec 32 := 1#32
  let v712 : BitVec 32 := Scalar.muli v710 c1_i32_535
  let v713 : BitVec 32 := Scalar.addi c0_i32_536 v712
  v713.toNat
def k0_dev37 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_542 : BitVec 32 := 1#32
  let v722 : BitVec 32 := Scalar.addi v2 c1_i32_542
  let c6_i32_543 : BitVec 32 := 6#32
  let v723 : BitVec 32 := Scalar.addi v722 c6_i32_543
  let c16_i32_544 : BitVec 32 := 16#32
  let c0_i32_545 : BitVec 32 := 0#32
  let v724 : BitVec 1 := Scalar.cmpi .eq c16_i32_544 c0_i32_545
  let c1_i32_546 : BitVec 32 := 1#32
  let v725 : BitVec 32 := Scalar.select v724 c1_i32_546 c16_i32_544
  let v726 : BitVec 32 := Scalar.remsi v723 v725
  let c0_i32_548 : BitVec 32 := 0#32
  let v728 : BitVec 1 := Scalar.cmpi .slt v726 c0_i32_548
  let c0_i32_549 : BitVec 32 := 0#32
  let v729 : BitVec 1 := Scalar.cmpi .slt v725 c0_i32_549
  let v730 : BitVec 1 := Scalar.xori v728 v729
  let c0_i32_547 : BitVec 32 := 0#32
  let v727 : BitVec 1 := Scalar.cmpi .ne v726 c0_i32_547
  let v731 : BitVec 1 := Scalar.andi v730 v727
  let v732 : BitVec 32 := Scalar.addi v726 v725
  let v733 : BitVec 32 := Scalar.select v731 v732 v726
  let c1_i32_553 : BitVec 32 := 1#32
  let v735 : BitVec 32 := Scalar.muli v733 c1_i32_553
  let v736 : BitVec 32 := Scalar.addi c0_i32_554 v735
  v736.toNat
def k0_dev38 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_560 : BitVec 32 := 1#32
  let v745 : BitVec 32 := Scalar.addi v2 c1_i32_560
  let c7_i32_561 : BitVec 32 := 7#32
  let v746 : BitVec 32 := Scalar.addi v745 c7_i32_561
  let c16_i32_562 : BitVec 32 := 16#32
  let c0_i32_563 : BitVec 32 := 0#32
  let v747 : BitVec 1 := Scalar.cmpi .eq c16_i32_562 c0_i32_563
  let c1_i32_564 : BitVec 32 := 1#32
  let v748 : BitVec 32 := Scalar.select v747 c1_i32_564 c16_i32_562
  let v749 : BitVec 32 := Scalar.remsi v746 v748
  let c0_i32_566 : BitVec 32 := 0#32
  let v751 : BitVec 1 := Scalar.cmpi .slt v749 c0_i32_566
  let c0_i32_567 : BitVec 32 := 0#32
  let v752 : BitVec 1 := Scalar.cmpi .slt v748 c0_i32_567
  let v753 : BitVec 1 := Scalar.xori v751 v752
  let c0_i32_565 : BitVec 32 := 0#32
  let v750 : BitVec 1 := Scalar.cmpi .ne v749 c0_i32_565
  let v754 : BitVec 1 := Scalar.andi v753 v750
  let v755 : BitVec 32 := Scalar.addi v749 v748
  let v756 : BitVec 32 := Scalar.select v754 v755 v749
  let c1_i32_571 : BitVec 32 := 1#32
  let v758 : BitVec 32 := Scalar.muli v756 c1_i32_571
  let v759 : BitVec 32 := Scalar.addi c0_i32_572 v758
  v759.toNat
def k0_dev39 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_578 : BitVec 32 := 1#32
  let v768 : BitVec 32 := Scalar.addi v2 c1_i32_578
  let c8_i32_579 : BitVec 32 := 8#32
  let v769 : BitVec 32 := Scalar.addi v768 c8_i32_579
  let c16_i32_580 : BitVec 32 := 16#32
  let c0_i32_581 : BitVec 32 := 0#32
  let v770 : BitVec 1 := Scalar.cmpi .eq c16_i32_580 c0_i32_581
  let c1_i32_582 : BitVec 32 := 1#32
  let v771 : BitVec 32 := Scalar.select v770 c1_i32_582 c16_i32_580
  let v772 : BitVec 32 := Scalar.remsi v769 v771
  let c0_i32_584 : BitVec 32 := 0#32
  let v774 : BitVec 1 := Scalar.cmpi .slt v772 c0_i32_584
  let c0_i32_585 : BitVec 32 := 0#32
  let v775 : BitVec 1 := Scalar.cmpi .slt v771 c0_i32_585
  let v776 : BitVec 1 := Scalar.xori v774 v775
  let c0_i32_583 : BitVec 32 := 0#32
  let v773 : BitVec 1 := Scalar.cmpi .ne v772 c0_i32_583
  let v777 : BitVec 1 := Scalar.andi v776 v773
  let v778 : BitVec 32 := Scalar.addi v772 v771
  let v779 : BitVec 32 := Scalar.select v777 v778 v772
  let c1_i32_589 : BitVec 32 := 1#32
  let v781 : BitVec 32 := Scalar.muli v779 c1_i32_589
  let v782 : BitVec 32 := Scalar.addi c0_i32_590 v781
  v782.toNat
def k0_dev40 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_596 : BitVec 32 := 1#32
  let v791 : BitVec 32 := Scalar.addi v2 c1_i32_596
  let c9_i32_597 : BitVec 32 := 9#32
  let v792 : BitVec 32 := Scalar.addi v791 c9_i32_597
  let c16_i32_598 : BitVec 32 := 16#32
  let c0_i32_599 : BitVec 32 := 0#32
  let v793 : BitVec 1 := Scalar.cmpi .eq c16_i32_598 c0_i32_599
  let c1_i32_600 : BitVec 32 := 1#32
  let v794 : BitVec 32 := Scalar.select v793 c1_i32_600 c16_i32_598
  let v795 : BitVec 32 := Scalar.remsi v792 v794
  let c0_i32_602 : BitVec 32 := 0#32
  let v797 : BitVec 1 := Scalar.cmpi .slt v795 c0_i32_602
  let c0_i32_603 : BitVec 32 := 0#32
  let v798 : BitVec 1 := Scalar.cmpi .slt v794 c0_i32_603
  let v799 : BitVec 1 := Scalar.xori v797 v798
  let c0_i32_601 : BitVec 32 := 0#32
  let v796 : BitVec 1 := Scalar.cmpi .ne v795 c0_i32_601
  let v800 : BitVec 1 := Scalar.andi v799 v796
  let v801 : BitVec 32 := Scalar.addi v795 v794
  let v802 : BitVec 32 := Scalar.select v800 v801 v795
  let c1_i32_607 : BitVec 32 := 1#32
  let v804 : BitVec 32 := Scalar.muli v802 c1_i32_607
  let v805 : BitVec 32 := Scalar.addi c0_i32_608 v804
  v805.toNat
def k0_dev41 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_614 : BitVec 32 := 1#32
  let v814 : BitVec 32 := Scalar.addi v2 c1_i32_614
  let c10_i32_615 : BitVec 32 := 10#32
  let v815 : BitVec 32 := Scalar.addi v814 c10_i32_615
  let c16_i32_616 : BitVec 32 := 16#32
  let c0_i32_617 : BitVec 32 := 0#32
  let v816 : BitVec 1 := Scalar.cmpi .eq c16_i32_616 c0_i32_617
  let c1_i32_618 : BitVec 32 := 1#32
  let v817 : BitVec 32 := Scalar.select v816 c1_i32_618 c16_i32_616
  let v818 : BitVec 32 := Scalar.remsi v815 v817
  let c0_i32_620 : BitVec 32 := 0#32
  let v820 : BitVec 1 := Scalar.cmpi .slt v818 c0_i32_620
  let c0_i32_621 : BitVec 32 := 0#32
  let v821 : BitVec 1 := Scalar.cmpi .slt v817 c0_i32_621
  let v822 : BitVec 1 := Scalar.xori v820 v821
  let c0_i32_619 : BitVec 32 := 0#32
  let v819 : BitVec 1 := Scalar.cmpi .ne v818 c0_i32_619
  let v823 : BitVec 1 := Scalar.andi v822 v819
  let v824 : BitVec 32 := Scalar.addi v818 v817
  let v825 : BitVec 32 := Scalar.select v823 v824 v818
  let c1_i32_625 : BitVec 32 := 1#32
  let v827 : BitVec 32 := Scalar.muli v825 c1_i32_625
  let v828 : BitVec 32 := Scalar.addi c0_i32_626 v827
  v828.toNat
def k0_dev42 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_632 : BitVec 32 := 1#32
  let v837 : BitVec 32 := Scalar.addi v2 c1_i32_632
  let c11_i32_633 : BitVec 32 := 11#32
  let v838 : BitVec 32 := Scalar.addi v837 c11_i32_633
  let c16_i32_634 : BitVec 32 := 16#32
  let c0_i32_635 : BitVec 32 := 0#32
  let v839 : BitVec 1 := Scalar.cmpi .eq c16_i32_634 c0_i32_635
  let c1_i32_636 : BitVec 32 := 1#32
  let v840 : BitVec 32 := Scalar.select v839 c1_i32_636 c16_i32_634
  let v841 : BitVec 32 := Scalar.remsi v838 v840
  let c0_i32_638 : BitVec 32 := 0#32
  let v843 : BitVec 1 := Scalar.cmpi .slt v841 c0_i32_638
  let c0_i32_639 : BitVec 32 := 0#32
  let v844 : BitVec 1 := Scalar.cmpi .slt v840 c0_i32_639
  let v845 : BitVec 1 := Scalar.xori v843 v844
  let c0_i32_637 : BitVec 32 := 0#32
  let v842 : BitVec 1 := Scalar.cmpi .ne v841 c0_i32_637
  let v846 : BitVec 1 := Scalar.andi v845 v842
  let v847 : BitVec 32 := Scalar.addi v841 v840
  let v848 : BitVec 32 := Scalar.select v846 v847 v841
  let c1_i32_643 : BitVec 32 := 1#32
  let v850 : BitVec 32 := Scalar.muli v848 c1_i32_643
  let v851 : BitVec 32 := Scalar.addi c0_i32_644 v850
  v851.toNat
def k0_dev43 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_650 : BitVec 32 := 1#32
  let v860 : BitVec 32 := Scalar.addi v2 c1_i32_650
  let c12_i32_651 : BitVec 32 := 12#32
  let v861 : BitVec 32 := Scalar.addi v860 c12_i32_651
  let c16_i32_652 : BitVec 32 := 16#32
  let c0_i32_653 : BitVec 32 := 0#32
  let v862 : BitVec 1 := Scalar.cmpi .eq c16_i32_652 c0_i32_653
  let c1_i32_654 : BitVec 32 := 1#32
  let v863 : BitVec 32 := Scalar.select v862 c1_i32_654 c16_i32_652
  let v864 : BitVec 32 := Scalar.remsi v861 v863
  let c0_i32_656 : BitVec 32 := 0#32
  let v866 : BitVec 1 := Scalar.cmpi .slt v864 c0_i32_656
  let c0_i32_657 : BitVec 32 := 0#32
  let v867 : BitVec 1 := Scalar.cmpi .slt v863 c0_i32_657
  let v868 : BitVec 1 := Scalar.xori v866 v867
  let c0_i32_655 : BitVec 32 := 0#32
  let v865 : BitVec 1 := Scalar.cmpi .ne v864 c0_i32_655
  let v869 : BitVec 1 := Scalar.andi v868 v865
  let v870 : BitVec 32 := Scalar.addi v864 v863
  let v871 : BitVec 32 := Scalar.select v869 v870 v864
  let c1_i32_661 : BitVec 32 := 1#32
  let v873 : BitVec 32 := Scalar.muli v871 c1_i32_661
  let v874 : BitVec 32 := Scalar.addi c0_i32_662 v873
  v874.toNat
def k0_dev44 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_668 : BitVec 32 := 1#32
  let v883 : BitVec 32 := Scalar.addi v2 c1_i32_668
  let c13_i32_669 : BitVec 32 := 13#32
  let v884 : BitVec 32 := Scalar.addi v883 c13_i32_669
  let c16_i32_670 : BitVec 32 := 16#32
  let c0_i32_671 : BitVec 32 := 0#32
  let v885 : BitVec 1 := Scalar.cmpi .eq c16_i32_670 c0_i32_671
  let c1_i32_672 : BitVec 32 := 1#32
  let v886 : BitVec 32 := Scalar.select v885 c1_i32_672 c16_i32_670
  let v887 : BitVec 32 := Scalar.remsi v884 v886
  let c0_i32_674 : BitVec 32 := 0#32
  let v889 : BitVec 1 := Scalar.cmpi .slt v887 c0_i32_674
  let c0_i32_675 : BitVec 32 := 0#32
  let v890 : BitVec 1 := Scalar.cmpi .slt v886 c0_i32_675
  let v891 : BitVec 1 := Scalar.xori v889 v890
  let c0_i32_673 : BitVec 32 := 0#32
  let v888 : BitVec 1 := Scalar.cmpi .ne v887 c0_i32_673
  let v892 : BitVec 1 := Scalar.andi v891 v888
  let v893 : BitVec 32 := Scalar.addi v887 v886
  let v894 : BitVec 32 := Scalar.select v892 v893 v887
  let c1_i32_679 : BitVec 32 := 1#32
  let v896 : BitVec 32 := Scalar.muli v894 c1_i32_679
  let v897 : BitVec 32 := Scalar.addi c0_i32_680 v896
  v897.toNat
def k0_dev45 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_686 : BitVec 32 := 1#32
  let v906 : BitVec 32 := Scalar.addi v2 c1_i32_686
  let c14_i32_687 : BitVec 32 := 14#32
  let v907 : BitVec 32 := Scalar.addi v906 c14_i32_687
  let c16_i32_688 : BitVec 32 := 16#32
  let c0_i32_689 : BitVec 32 := 0#32
  let v908 : BitVec 1 := Scalar.cmpi .eq c16_i32_688 c0_i32_689
  let c1_i32_690 : BitVec 32 := 1#32
  let v909 : BitVec 32 := Scalar.select v908 c1_i32_690 c16_i32_688
  let v910 : BitVec 32 := Scalar.remsi v907 v909
  let c0_i32_692 : BitVec 32 := 0#32
  let v912 : BitVec 1 := Scalar.cmpi .slt v910 c0_i32_692
  let c0_i32_693 : BitVec 32 := 0#32
  let v913 : BitVec 1 := Scalar.cmpi .slt v909 c0_i32_693
  let v914 : BitVec 1 := Scalar.xori v912 v913
  let c0_i32_691 : BitVec 32 := 0#32
  let v911 : BitVec 1 := Scalar.cmpi .ne v910 c0_i32_691
  let v915 : BitVec 1 := Scalar.andi v914 v911
  let v916 : BitVec 32 := Scalar.addi v910 v909
  let v917 : BitVec 32 := Scalar.select v915 v916 v910
  let c1_i32_697 : BitVec 32 := 1#32
  let v919 : BitVec 32 := Scalar.muli v917 c1_i32_697
  let v920 : BitVec 32 := Scalar.addi c0_i32_698 v919
  v920.toNat
def k0_off8 (d0 : Dev nD) : Fin 2 → Nat :=
  let c32_705 : Index := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_704 : BitVec 32 := 128#32
  let v929 : BitVec 32 := Scalar.muli v2 c128_i32_704
  let v930 : Index := Scalar.indexCast v929
  ![32, v930.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v932 : Index := Scalar.indexCast v2
  let c32_706 : Index := 32#32
  let c0_707 : Index := 0#32
  ![v932.toNat, 32, 0]
def k0_off10 (d0 : Dev nD) : Fin 2 → Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_708 : BitVec 32 := 128#32
  let v936 : BitVec 32 := Scalar.muli v2 c128_i32_708
  ![0, v936.toNat]
def k0_dev46 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_865 : BitVec 32 := 1#32
  let v1080 : BitVec 32 := Scalar.addi v2 c1_i32_865
  let c0_i32_866 : BitVec 32 := 0#32
  let v1081 : BitVec 32 := Scalar.addi v1080 c0_i32_866
  let c16_i32_867 : BitVec 32 := 16#32
  let c0_i32_868 : BitVec 32 := 0#32
  let v1082 : BitVec 1 := Scalar.cmpi .eq c16_i32_867 c0_i32_868
  let c1_i32_869 : BitVec 32 := 1#32
  let v1083 : BitVec 32 := Scalar.select v1082 c1_i32_869 c16_i32_867
  let v1084 : BitVec 32 := Scalar.remsi v1081 v1083
  let c0_i32_871 : BitVec 32 := 0#32
  let v1086 : BitVec 1 := Scalar.cmpi .slt v1084 c0_i32_871
  let c0_i32_872 : BitVec 32 := 0#32
  let v1087 : BitVec 1 := Scalar.cmpi .slt v1083 c0_i32_872
  let v1088 : BitVec 1 := Scalar.xori v1086 v1087
  let c0_i32_870 : BitVec 32 := 0#32
  let v1085 : BitVec 1 := Scalar.cmpi .ne v1084 c0_i32_870
  let v1089 : BitVec 1 := Scalar.andi v1088 v1085
  let v1090 : BitVec 32 := Scalar.addi v1084 v1083
  let v1091 : BitVec 32 := Scalar.select v1089 v1090 v1084
  let c1_i32_876 : BitVec 32 := 1#32
  let v1093 : BitVec 32 := Scalar.muli v1091 c1_i32_876
  let v1094 : BitVec 32 := Scalar.addi c0_i32_877 v1093
  v1094.toNat
def k0_dev47 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_881 : BitVec 32 := 1#32
  let v1101 : BitVec 32 := Scalar.addi v2 c1_i32_881
  let c1_i32_882 : BitVec 32 := 1#32
  let v1102 : BitVec 32 := Scalar.addi v1101 c1_i32_882
  let c16_i32_883 : BitVec 32 := 16#32
  let c0_i32_884 : BitVec 32 := 0#32
  let v1103 : BitVec 1 := Scalar.cmpi .eq c16_i32_883 c0_i32_884
  let c1_i32_885 : BitVec 32 := 1#32
  let v1104 : BitVec 32 := Scalar.select v1103 c1_i32_885 c16_i32_883
  let v1105 : BitVec 32 := Scalar.remsi v1102 v1104
  let c0_i32_887 : BitVec 32 := 0#32
  let v1107 : BitVec 1 := Scalar.cmpi .slt v1105 c0_i32_887
  let c0_i32_888 : BitVec 32 := 0#32
  let v1108 : BitVec 1 := Scalar.cmpi .slt v1104 c0_i32_888
  let v1109 : BitVec 1 := Scalar.xori v1107 v1108
  let c0_i32_886 : BitVec 32 := 0#32
  let v1106 : BitVec 1 := Scalar.cmpi .ne v1105 c0_i32_886
  let v1110 : BitVec 1 := Scalar.andi v1109 v1106
  let v1111 : BitVec 32 := Scalar.addi v1105 v1104
  let v1112 : BitVec 32 := Scalar.select v1110 v1111 v1105
  let c1_i32_892 : BitVec 32 := 1#32
  let v1114 : BitVec 32 := Scalar.muli v1112 c1_i32_892
  let v1115 : BitVec 32 := Scalar.addi c0_i32_893 v1114
  v1115.toNat
def k0_dev48 (d0 : Dev nD) : Nat :=
  let c0_i32_909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_897 : BitVec 32 := 1#32
  let v1122 : BitVec 32 := Scalar.addi v2 c1_i32_897
  let c2_i32_898 : BitVec 32 := 2#32
  let v1123 : BitVec 32 := Scalar.addi v1122 c2_i32_898
  let c16_i32_899 : BitVec 32 := 16#32
  let c0_i32_900 : BitVec 32 := 0#32
  let v1124 : BitVec 1 := Scalar.cmpi .eq c16_i32_899 c0_i32_900
  let c1_i32_901 : BitVec 32 := 1#32
  let v1125 : BitVec 32 := Scalar.select v1124 c1_i32_901 c16_i32_899
  let v1126 : BitVec 32 := Scalar.remsi v1123 v1125
  let c0_i32_903 : BitVec 32 := 0#32
  let v1128 : BitVec 1 := Scalar.cmpi .slt v1126 c0_i32_903
  let c0_i32_904 : BitVec 32 := 0#32
  let v1129 : BitVec 1 := Scalar.cmpi .slt v1125 c0_i32_904
  let v1130 : BitVec 1 := Scalar.xori v1128 v1129
  let c0_i32_902 : BitVec 32 := 0#32
  let v1127 : BitVec 1 := Scalar.cmpi .ne v1126 c0_i32_902
  let v1131 : BitVec 1 := Scalar.andi v1130 v1127
  let v1132 : BitVec 32 := Scalar.addi v1126 v1125
  let v1133 : BitVec 32 := Scalar.select v1131 v1132 v1126
  let c1_i32_908 : BitVec 32 := 1#32
  let v1135 : BitVec 32 := Scalar.muli v1133 c1_i32_908
  let v1136 : BitVec 32 := Scalar.addi c0_i32_909 v1135
  v1136.toNat
def k0_dev49 (d0 : Dev nD) : Nat :=
  let c0_i32_925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_913 : BitVec 32 := 1#32
  let v1143 : BitVec 32 := Scalar.addi v2 c1_i32_913
  let c3_i32_914 : BitVec 32 := 3#32
  let v1144 : BitVec 32 := Scalar.addi v1143 c3_i32_914
  let c16_i32_915 : BitVec 32 := 16#32
  let c0_i32_916 : BitVec 32 := 0#32
  let v1145 : BitVec 1 := Scalar.cmpi .eq c16_i32_915 c0_i32_916
  let c1_i32_917 : BitVec 32 := 1#32
  let v1146 : BitVec 32 := Scalar.select v1145 c1_i32_917 c16_i32_915
  let v1147 : BitVec 32 := Scalar.remsi v1144 v1146
  let c0_i32_919 : BitVec 32 := 0#32
  let v1149 : BitVec 1 := Scalar.cmpi .slt v1147 c0_i32_919
  let c0_i32_920 : BitVec 32 := 0#32
  let v1150 : BitVec 1 := Scalar.cmpi .slt v1146 c0_i32_920
  let v1151 : BitVec 1 := Scalar.xori v1149 v1150
  let c0_i32_918 : BitVec 32 := 0#32
  let v1148 : BitVec 1 := Scalar.cmpi .ne v1147 c0_i32_918
  let v1152 : BitVec 1 := Scalar.andi v1151 v1148
  let v1153 : BitVec 32 := Scalar.addi v1147 v1146
  let v1154 : BitVec 32 := Scalar.select v1152 v1153 v1147
  let c1_i32_924 : BitVec 32 := 1#32
  let v1156 : BitVec 32 := Scalar.muli v1154 c1_i32_924
  let v1157 : BitVec 32 := Scalar.addi c0_i32_925 v1156
  v1157.toNat
def k0_dev50 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_929 : BitVec 32 := 1#32
  let v1164 : BitVec 32 := Scalar.addi v2 c1_i32_929
  let c4_i32_930 : BitVec 32 := 4#32
  let v1165 : BitVec 32 := Scalar.addi v1164 c4_i32_930
  let c16_i32_931 : BitVec 32 := 16#32
  let c0_i32_932 : BitVec 32 := 0#32
  let v1166 : BitVec 1 := Scalar.cmpi .eq c16_i32_931 c0_i32_932
  let c1_i32_933 : BitVec 32 := 1#32
  let v1167 : BitVec 32 := Scalar.select v1166 c1_i32_933 c16_i32_931
  let v1168 : BitVec 32 := Scalar.remsi v1165 v1167
  let c0_i32_935 : BitVec 32 := 0#32
  let v1170 : BitVec 1 := Scalar.cmpi .slt v1168 c0_i32_935
  let c0_i32_936 : BitVec 32 := 0#32
  let v1171 : BitVec 1 := Scalar.cmpi .slt v1167 c0_i32_936
  let v1172 : BitVec 1 := Scalar.xori v1170 v1171
  let c0_i32_934 : BitVec 32 := 0#32
  let v1169 : BitVec 1 := Scalar.cmpi .ne v1168 c0_i32_934
  let v1173 : BitVec 1 := Scalar.andi v1172 v1169
  let v1174 : BitVec 32 := Scalar.addi v1168 v1167
  let v1175 : BitVec 32 := Scalar.select v1173 v1174 v1168
  let c1_i32_940 : BitVec 32 := 1#32
  let v1177 : BitVec 32 := Scalar.muli v1175 c1_i32_940
  let v1178 : BitVec 32 := Scalar.addi c0_i32_941 v1177
  v1178.toNat
def k0_dev51 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_945 : BitVec 32 := 1#32
  let v1185 : BitVec 32 := Scalar.addi v2 c1_i32_945
  let c5_i32_946 : BitVec 32 := 5#32
  let v1186 : BitVec 32 := Scalar.addi v1185 c5_i32_946
  let c16_i32_947 : BitVec 32 := 16#32
  let c0_i32_948 : BitVec 32 := 0#32
  let v1187 : BitVec 1 := Scalar.cmpi .eq c16_i32_947 c0_i32_948
  let c1_i32_949 : BitVec 32 := 1#32
  let v1188 : BitVec 32 := Scalar.select v1187 c1_i32_949 c16_i32_947
  let v1189 : BitVec 32 := Scalar.remsi v1186 v1188
  let c0_i32_951 : BitVec 32 := 0#32
  let v1191 : BitVec 1 := Scalar.cmpi .slt v1189 c0_i32_951
  let c0_i32_952 : BitVec 32 := 0#32
  let v1192 : BitVec 1 := Scalar.cmpi .slt v1188 c0_i32_952
  let v1193 : BitVec 1 := Scalar.xori v1191 v1192
  let c0_i32_950 : BitVec 32 := 0#32
  let v1190 : BitVec 1 := Scalar.cmpi .ne v1189 c0_i32_950
  let v1194 : BitVec 1 := Scalar.andi v1193 v1190
  let v1195 : BitVec 32 := Scalar.addi v1189 v1188
  let v1196 : BitVec 32 := Scalar.select v1194 v1195 v1189
  let c1_i32_956 : BitVec 32 := 1#32
  let v1198 : BitVec 32 := Scalar.muli v1196 c1_i32_956
  let v1199 : BitVec 32 := Scalar.addi c0_i32_957 v1198
  v1199.toNat
def k0_dev52 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_961 : BitVec 32 := 1#32
  let v1206 : BitVec 32 := Scalar.addi v2 c1_i32_961
  let c6_i32_962 : BitVec 32 := 6#32
  let v1207 : BitVec 32 := Scalar.addi v1206 c6_i32_962
  let c16_i32_963 : BitVec 32 := 16#32
  let c0_i32_964 : BitVec 32 := 0#32
  let v1208 : BitVec 1 := Scalar.cmpi .eq c16_i32_963 c0_i32_964
  let c1_i32_965 : BitVec 32 := 1#32
  let v1209 : BitVec 32 := Scalar.select v1208 c1_i32_965 c16_i32_963
  let v1210 : BitVec 32 := Scalar.remsi v1207 v1209
  let c0_i32_967 : BitVec 32 := 0#32
  let v1212 : BitVec 1 := Scalar.cmpi .slt v1210 c0_i32_967
  let c0_i32_968 : BitVec 32 := 0#32
  let v1213 : BitVec 1 := Scalar.cmpi .slt v1209 c0_i32_968
  let v1214 : BitVec 1 := Scalar.xori v1212 v1213
  let c0_i32_966 : BitVec 32 := 0#32
  let v1211 : BitVec 1 := Scalar.cmpi .ne v1210 c0_i32_966
  let v1215 : BitVec 1 := Scalar.andi v1214 v1211
  let v1216 : BitVec 32 := Scalar.addi v1210 v1209
  let v1217 : BitVec 32 := Scalar.select v1215 v1216 v1210
  let c1_i32_972 : BitVec 32 := 1#32
  let v1219 : BitVec 32 := Scalar.muli v1217 c1_i32_972
  let v1220 : BitVec 32 := Scalar.addi c0_i32_973 v1219
  v1220.toNat
def k0_dev53 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_977 : BitVec 32 := 1#32
  let v1227 : BitVec 32 := Scalar.addi v2 c1_i32_977
  let c7_i32_978 : BitVec 32 := 7#32
  let v1228 : BitVec 32 := Scalar.addi v1227 c7_i32_978
  let c16_i32_979 : BitVec 32 := 16#32
  let c0_i32_980 : BitVec 32 := 0#32
  let v1229 : BitVec 1 := Scalar.cmpi .eq c16_i32_979 c0_i32_980
  let c1_i32_981 : BitVec 32 := 1#32
  let v1230 : BitVec 32 := Scalar.select v1229 c1_i32_981 c16_i32_979
  let v1231 : BitVec 32 := Scalar.remsi v1228 v1230
  let c0_i32_983 : BitVec 32 := 0#32
  let v1233 : BitVec 1 := Scalar.cmpi .slt v1231 c0_i32_983
  let c0_i32_984 : BitVec 32 := 0#32
  let v1234 : BitVec 1 := Scalar.cmpi .slt v1230 c0_i32_984
  let v1235 : BitVec 1 := Scalar.xori v1233 v1234
  let c0_i32_982 : BitVec 32 := 0#32
  let v1232 : BitVec 1 := Scalar.cmpi .ne v1231 c0_i32_982
  let v1236 : BitVec 1 := Scalar.andi v1235 v1232
  let v1237 : BitVec 32 := Scalar.addi v1231 v1230
  let v1238 : BitVec 32 := Scalar.select v1236 v1237 v1231
  let c1_i32_988 : BitVec 32 := 1#32
  let v1240 : BitVec 32 := Scalar.muli v1238 c1_i32_988
  let v1241 : BitVec 32 := Scalar.addi c0_i32_989 v1240
  v1241.toNat
def k0_dev54 (d0 : Dev nD) : Nat :=
  let c0_i32_1005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_993 : BitVec 32 := 1#32
  let v1248 : BitVec 32 := Scalar.addi v2 c1_i32_993
  let c8_i32_994 : BitVec 32 := 8#32
  let v1249 : BitVec 32 := Scalar.addi v1248 c8_i32_994
  let c16_i32_995 : BitVec 32 := 16#32
  let c0_i32_996 : BitVec 32 := 0#32
  let v1250 : BitVec 1 := Scalar.cmpi .eq c16_i32_995 c0_i32_996
  let c1_i32_997 : BitVec 32 := 1#32
  let v1251 : BitVec 32 := Scalar.select v1250 c1_i32_997 c16_i32_995
  let v1252 : BitVec 32 := Scalar.remsi v1249 v1251
  let c0_i32_999 : BitVec 32 := 0#32
  let v1254 : BitVec 1 := Scalar.cmpi .slt v1252 c0_i32_999
  let c0_i32_1000 : BitVec 32 := 0#32
  let v1255 : BitVec 1 := Scalar.cmpi .slt v1251 c0_i32_1000
  let v1256 : BitVec 1 := Scalar.xori v1254 v1255
  let c0_i32_998 : BitVec 32 := 0#32
  let v1253 : BitVec 1 := Scalar.cmpi .ne v1252 c0_i32_998
  let v1257 : BitVec 1 := Scalar.andi v1256 v1253
  let v1258 : BitVec 32 := Scalar.addi v1252 v1251
  let v1259 : BitVec 32 := Scalar.select v1257 v1258 v1252
  let c1_i32_1004 : BitVec 32 := 1#32
  let v1261 : BitVec 32 := Scalar.muli v1259 c1_i32_1004
  let v1262 : BitVec 32 := Scalar.addi c0_i32_1005 v1261
  v1262.toNat
def k0_dev55 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1009 : BitVec 32 := 1#32
  let v1269 : BitVec 32 := Scalar.addi v2 c1_i32_1009
  let c9_i32_1010 : BitVec 32 := 9#32
  let v1270 : BitVec 32 := Scalar.addi v1269 c9_i32_1010
  let c16_i32_1011 : BitVec 32 := 16#32
  let c0_i32_1012 : BitVec 32 := 0#32
  let v1271 : BitVec 1 := Scalar.cmpi .eq c16_i32_1011 c0_i32_1012
  let c1_i32_1013 : BitVec 32 := 1#32
  let v1272 : BitVec 32 := Scalar.select v1271 c1_i32_1013 c16_i32_1011
  let v1273 : BitVec 32 := Scalar.remsi v1270 v1272
  let c0_i32_1015 : BitVec 32 := 0#32
  let v1275 : BitVec 1 := Scalar.cmpi .slt v1273 c0_i32_1015
  let c0_i32_1016 : BitVec 32 := 0#32
  let v1276 : BitVec 1 := Scalar.cmpi .slt v1272 c0_i32_1016
  let v1277 : BitVec 1 := Scalar.xori v1275 v1276
  let c0_i32_1014 : BitVec 32 := 0#32
  let v1274 : BitVec 1 := Scalar.cmpi .ne v1273 c0_i32_1014
  let v1278 : BitVec 1 := Scalar.andi v1277 v1274
  let v1279 : BitVec 32 := Scalar.addi v1273 v1272
  let v1280 : BitVec 32 := Scalar.select v1278 v1279 v1273
  let c1_i32_1020 : BitVec 32 := 1#32
  let v1282 : BitVec 32 := Scalar.muli v1280 c1_i32_1020
  let v1283 : BitVec 32 := Scalar.addi c0_i32_1021 v1282
  v1283.toNat
def k0_dev56 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1025 : BitVec 32 := 1#32
  let v1290 : BitVec 32 := Scalar.addi v2 c1_i32_1025
  let c10_i32_1026 : BitVec 32 := 10#32
  let v1291 : BitVec 32 := Scalar.addi v1290 c10_i32_1026
  let c16_i32_1027 : BitVec 32 := 16#32
  let c0_i32_1028 : BitVec 32 := 0#32
  let v1292 : BitVec 1 := Scalar.cmpi .eq c16_i32_1027 c0_i32_1028
  let c1_i32_1029 : BitVec 32 := 1#32
  let v1293 : BitVec 32 := Scalar.select v1292 c1_i32_1029 c16_i32_1027
  let v1294 : BitVec 32 := Scalar.remsi v1291 v1293
  let c0_i32_1031 : BitVec 32 := 0#32
  let v1296 : BitVec 1 := Scalar.cmpi .slt v1294 c0_i32_1031
  let c0_i32_1032 : BitVec 32 := 0#32
  let v1297 : BitVec 1 := Scalar.cmpi .slt v1293 c0_i32_1032
  let v1298 : BitVec 1 := Scalar.xori v1296 v1297
  let c0_i32_1030 : BitVec 32 := 0#32
  let v1295 : BitVec 1 := Scalar.cmpi .ne v1294 c0_i32_1030
  let v1299 : BitVec 1 := Scalar.andi v1298 v1295
  let v1300 : BitVec 32 := Scalar.addi v1294 v1293
  let v1301 : BitVec 32 := Scalar.select v1299 v1300 v1294
  let c1_i32_1036 : BitVec 32 := 1#32
  let v1303 : BitVec 32 := Scalar.muli v1301 c1_i32_1036
  let v1304 : BitVec 32 := Scalar.addi c0_i32_1037 v1303
  v1304.toNat
def k0_dev57 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1041 : BitVec 32 := 1#32
  let v1311 : BitVec 32 := Scalar.addi v2 c1_i32_1041
  let c11_i32_1042 : BitVec 32 := 11#32
  let v1312 : BitVec 32 := Scalar.addi v1311 c11_i32_1042
  let c16_i32_1043 : BitVec 32 := 16#32
  let c0_i32_1044 : BitVec 32 := 0#32
  let v1313 : BitVec 1 := Scalar.cmpi .eq c16_i32_1043 c0_i32_1044
  let c1_i32_1045 : BitVec 32 := 1#32
  let v1314 : BitVec 32 := Scalar.select v1313 c1_i32_1045 c16_i32_1043
  let v1315 : BitVec 32 := Scalar.remsi v1312 v1314
  let c0_i32_1047 : BitVec 32 := 0#32
  let v1317 : BitVec 1 := Scalar.cmpi .slt v1315 c0_i32_1047
  let c0_i32_1048 : BitVec 32 := 0#32
  let v1318 : BitVec 1 := Scalar.cmpi .slt v1314 c0_i32_1048
  let v1319 : BitVec 1 := Scalar.xori v1317 v1318
  let c0_i32_1046 : BitVec 32 := 0#32
  let v1316 : BitVec 1 := Scalar.cmpi .ne v1315 c0_i32_1046
  let v1320 : BitVec 1 := Scalar.andi v1319 v1316
  let v1321 : BitVec 32 := Scalar.addi v1315 v1314
  let v1322 : BitVec 32 := Scalar.select v1320 v1321 v1315
  let c1_i32_1052 : BitVec 32 := 1#32
  let v1324 : BitVec 32 := Scalar.muli v1322 c1_i32_1052
  let v1325 : BitVec 32 := Scalar.addi c0_i32_1053 v1324
  v1325.toNat
def k0_dev58 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1057 : BitVec 32 := 1#32
  let v1332 : BitVec 32 := Scalar.addi v2 c1_i32_1057
  let c12_i32_1058 : BitVec 32 := 12#32
  let v1333 : BitVec 32 := Scalar.addi v1332 c12_i32_1058
  let c16_i32_1059 : BitVec 32 := 16#32
  let c0_i32_1060 : BitVec 32 := 0#32
  let v1334 : BitVec 1 := Scalar.cmpi .eq c16_i32_1059 c0_i32_1060
  let c1_i32_1061 : BitVec 32 := 1#32
  let v1335 : BitVec 32 := Scalar.select v1334 c1_i32_1061 c16_i32_1059
  let v1336 : BitVec 32 := Scalar.remsi v1333 v1335
  let c0_i32_1063 : BitVec 32 := 0#32
  let v1338 : BitVec 1 := Scalar.cmpi .slt v1336 c0_i32_1063
  let c0_i32_1064 : BitVec 32 := 0#32
  let v1339 : BitVec 1 := Scalar.cmpi .slt v1335 c0_i32_1064
  let v1340 : BitVec 1 := Scalar.xori v1338 v1339
  let c0_i32_1062 : BitVec 32 := 0#32
  let v1337 : BitVec 1 := Scalar.cmpi .ne v1336 c0_i32_1062
  let v1341 : BitVec 1 := Scalar.andi v1340 v1337
  let v1342 : BitVec 32 := Scalar.addi v1336 v1335
  let v1343 : BitVec 32 := Scalar.select v1341 v1342 v1336
  let c1_i32_1068 : BitVec 32 := 1#32
  let v1345 : BitVec 32 := Scalar.muli v1343 c1_i32_1068
  let v1346 : BitVec 32 := Scalar.addi c0_i32_1069 v1345
  v1346.toNat
def k0_dev59 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1073 : BitVec 32 := 1#32
  let v1353 : BitVec 32 := Scalar.addi v2 c1_i32_1073
  let c13_i32_1074 : BitVec 32 := 13#32
  let v1354 : BitVec 32 := Scalar.addi v1353 c13_i32_1074
  let c16_i32_1075 : BitVec 32 := 16#32
  let c0_i32_1076 : BitVec 32 := 0#32
  let v1355 : BitVec 1 := Scalar.cmpi .eq c16_i32_1075 c0_i32_1076
  let c1_i32_1077 : BitVec 32 := 1#32
  let v1356 : BitVec 32 := Scalar.select v1355 c1_i32_1077 c16_i32_1075
  let v1357 : BitVec 32 := Scalar.remsi v1354 v1356
  let c0_i32_1079 : BitVec 32 := 0#32
  let v1359 : BitVec 1 := Scalar.cmpi .slt v1357 c0_i32_1079
  let c0_i32_1080 : BitVec 32 := 0#32
  let v1360 : BitVec 1 := Scalar.cmpi .slt v1356 c0_i32_1080
  let v1361 : BitVec 1 := Scalar.xori v1359 v1360
  let c0_i32_1078 : BitVec 32 := 0#32
  let v1358 : BitVec 1 := Scalar.cmpi .ne v1357 c0_i32_1078
  let v1362 : BitVec 1 := Scalar.andi v1361 v1358
  let v1363 : BitVec 32 := Scalar.addi v1357 v1356
  let v1364 : BitVec 32 := Scalar.select v1362 v1363 v1357
  let c1_i32_1084 : BitVec 32 := 1#32
  let v1366 : BitVec 32 := Scalar.muli v1364 c1_i32_1084
  let v1367 : BitVec 32 := Scalar.addi c0_i32_1085 v1366
  v1367.toNat
def k0_dev60 (d0 : Dev nD) : Nat :=
  let c0_i32_1101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1089 : BitVec 32 := 1#32
  let v1374 : BitVec 32 := Scalar.addi v2 c1_i32_1089
  let c14_i32_1090 : BitVec 32 := 14#32
  let v1375 : BitVec 32 := Scalar.addi v1374 c14_i32_1090
  let c16_i32_1091 : BitVec 32 := 16#32
  let c0_i32_1092 : BitVec 32 := 0#32
  let v1376 : BitVec 1 := Scalar.cmpi .eq c16_i32_1091 c0_i32_1092
  let c1_i32_1093 : BitVec 32 := 1#32
  let v1377 : BitVec 32 := Scalar.select v1376 c1_i32_1093 c16_i32_1091
  let v1378 : BitVec 32 := Scalar.remsi v1375 v1377
  let c0_i32_1095 : BitVec 32 := 0#32
  let v1380 : BitVec 1 := Scalar.cmpi .slt v1378 c0_i32_1095
  let c0_i32_1096 : BitVec 32 := 0#32
  let v1381 : BitVec 1 := Scalar.cmpi .slt v1377 c0_i32_1096
  let v1382 : BitVec 1 := Scalar.xori v1380 v1381
  let c0_i32_1094 : BitVec 32 := 0#32
  let v1379 : BitVec 1 := Scalar.cmpi .ne v1378 c0_i32_1094
  let v1383 : BitVec 1 := Scalar.andi v1382 v1379
  let v1384 : BitVec 32 := Scalar.addi v1378 v1377
  let v1385 : BitVec 32 := Scalar.select v1383 v1384 v1378
  let c1_i32_1100 : BitVec 32 := 1#32
  let v1387 : BitVec 32 := Scalar.muli v1385 c1_i32_1100
  let v1388 : BitVec 32 := Scalar.addi c0_i32_1101 v1387
  v1388.toNat
def k0_off11 (d0 : Dev nD) : Fin 2 → Nat :=
  let c32_i32_1253 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1244 : BitVec 32 := 128#32
  let v1506 : BitVec 32 := Scalar.muli v2 c128_i32_1244
  ![32, v1506.toNat]
def k0_dev61 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1401 : BitVec 32 := 1#32
  let v1650 : BitVec 32 := Scalar.addi v2 c1_i32_1401
  let c0_i32_1402 : BitVec 32 := 0#32
  let v1651 : BitVec 32 := Scalar.addi v1650 c0_i32_1402
  let c16_i32_1403 : BitVec 32 := 16#32
  let c0_i32_1404 : BitVec 32 := 0#32
  let v1652 : BitVec 1 := Scalar.cmpi .eq c16_i32_1403 c0_i32_1404
  let c1_i32_1405 : BitVec 32 := 1#32
  let v1653 : BitVec 32 := Scalar.select v1652 c1_i32_1405 c16_i32_1403
  let v1654 : BitVec 32 := Scalar.remsi v1651 v1653
  let c0_i32_1407 : BitVec 32 := 0#32
  let v1656 : BitVec 1 := Scalar.cmpi .slt v1654 c0_i32_1407
  let c0_i32_1408 : BitVec 32 := 0#32
  let v1657 : BitVec 1 := Scalar.cmpi .slt v1653 c0_i32_1408
  let v1658 : BitVec 1 := Scalar.xori v1656 v1657
  let c0_i32_1406 : BitVec 32 := 0#32
  let v1655 : BitVec 1 := Scalar.cmpi .ne v1654 c0_i32_1406
  let v1659 : BitVec 1 := Scalar.andi v1658 v1655
  let v1660 : BitVec 32 := Scalar.addi v1654 v1653
  let v1661 : BitVec 32 := Scalar.select v1659 v1660 v1654
  let c1_i32_1412 : BitVec 32 := 1#32
  let v1663 : BitVec 32 := Scalar.muli v1661 c1_i32_1412
  let v1664 : BitVec 32 := Scalar.addi c0_i32_1413 v1663
  v1664.toNat
def k0_dev62 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1417 : BitVec 32 := 1#32
  let v1671 : BitVec 32 := Scalar.addi v2 c1_i32_1417
  let c1_i32_1418 : BitVec 32 := 1#32
  let v1672 : BitVec 32 := Scalar.addi v1671 c1_i32_1418
  let c16_i32_1419 : BitVec 32 := 16#32
  let c0_i32_1420 : BitVec 32 := 0#32
  let v1673 : BitVec 1 := Scalar.cmpi .eq c16_i32_1419 c0_i32_1420
  let c1_i32_1421 : BitVec 32 := 1#32
  let v1674 : BitVec 32 := Scalar.select v1673 c1_i32_1421 c16_i32_1419
  let v1675 : BitVec 32 := Scalar.remsi v1672 v1674
  let c0_i32_1423 : BitVec 32 := 0#32
  let v1677 : BitVec 1 := Scalar.cmpi .slt v1675 c0_i32_1423
  let c0_i32_1424 : BitVec 32 := 0#32
  let v1678 : BitVec 1 := Scalar.cmpi .slt v1674 c0_i32_1424
  let v1679 : BitVec 1 := Scalar.xori v1677 v1678
  let c0_i32_1422 : BitVec 32 := 0#32
  let v1676 : BitVec 1 := Scalar.cmpi .ne v1675 c0_i32_1422
  let v1680 : BitVec 1 := Scalar.andi v1679 v1676
  let v1681 : BitVec 32 := Scalar.addi v1675 v1674
  let v1682 : BitVec 32 := Scalar.select v1680 v1681 v1675
  let c1_i32_1428 : BitVec 32 := 1#32
  let v1684 : BitVec 32 := Scalar.muli v1682 c1_i32_1428
  let v1685 : BitVec 32 := Scalar.addi c0_i32_1429 v1684
  v1685.toNat
def k0_dev63 (d0 : Dev nD) : Nat :=
  let c0_i32_1445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1433 : BitVec 32 := 1#32
  let v1692 : BitVec 32 := Scalar.addi v2 c1_i32_1433
  let c2_i32_1434 : BitVec 32 := 2#32
  let v1693 : BitVec 32 := Scalar.addi v1692 c2_i32_1434
  let c16_i32_1435 : BitVec 32 := 16#32
  let c0_i32_1436 : BitVec 32 := 0#32
  let v1694 : BitVec 1 := Scalar.cmpi .eq c16_i32_1435 c0_i32_1436
  let c1_i32_1437 : BitVec 32 := 1#32
  let v1695 : BitVec 32 := Scalar.select v1694 c1_i32_1437 c16_i32_1435
  let v1696 : BitVec 32 := Scalar.remsi v1693 v1695
  let c0_i32_1439 : BitVec 32 := 0#32
  let v1698 : BitVec 1 := Scalar.cmpi .slt v1696 c0_i32_1439
  let c0_i32_1440 : BitVec 32 := 0#32
  let v1699 : BitVec 1 := Scalar.cmpi .slt v1695 c0_i32_1440
  let v1700 : BitVec 1 := Scalar.xori v1698 v1699
  let c0_i32_1438 : BitVec 32 := 0#32
  let v1697 : BitVec 1 := Scalar.cmpi .ne v1696 c0_i32_1438
  let v1701 : BitVec 1 := Scalar.andi v1700 v1697
  let v1702 : BitVec 32 := Scalar.addi v1696 v1695
  let v1703 : BitVec 32 := Scalar.select v1701 v1702 v1696
  let c1_i32_1444 : BitVec 32 := 1#32
  let v1705 : BitVec 32 := Scalar.muli v1703 c1_i32_1444
  let v1706 : BitVec 32 := Scalar.addi c0_i32_1445 v1705
  v1706.toNat
def k0_dev64 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1449 : BitVec 32 := 1#32
  let v1713 : BitVec 32 := Scalar.addi v2 c1_i32_1449
  let c3_i32_1450 : BitVec 32 := 3#32
  let v1714 : BitVec 32 := Scalar.addi v1713 c3_i32_1450
  let c16_i32_1451 : BitVec 32 := 16#32
  let c0_i32_1452 : BitVec 32 := 0#32
  let v1715 : BitVec 1 := Scalar.cmpi .eq c16_i32_1451 c0_i32_1452
  let c1_i32_1453 : BitVec 32 := 1#32
  let v1716 : BitVec 32 := Scalar.select v1715 c1_i32_1453 c16_i32_1451
  let v1717 : BitVec 32 := Scalar.remsi v1714 v1716
  let c0_i32_1455 : BitVec 32 := 0#32
  let v1719 : BitVec 1 := Scalar.cmpi .slt v1717 c0_i32_1455
  let c0_i32_1456 : BitVec 32 := 0#32
  let v1720 : BitVec 1 := Scalar.cmpi .slt v1716 c0_i32_1456
  let v1721 : BitVec 1 := Scalar.xori v1719 v1720
  let c0_i32_1454 : BitVec 32 := 0#32
  let v1718 : BitVec 1 := Scalar.cmpi .ne v1717 c0_i32_1454
  let v1722 : BitVec 1 := Scalar.andi v1721 v1718
  let v1723 : BitVec 32 := Scalar.addi v1717 v1716
  let v1724 : BitVec 32 := Scalar.select v1722 v1723 v1717
  let c1_i32_1460 : BitVec 32 := 1#32
  let v1726 : BitVec 32 := Scalar.muli v1724 c1_i32_1460
  let v1727 : BitVec 32 := Scalar.addi c0_i32_1461 v1726
  v1727.toNat
def k0_dev65 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1465 : BitVec 32 := 1#32
  let v1734 : BitVec 32 := Scalar.addi v2 c1_i32_1465
  let c4_i32_1466 : BitVec 32 := 4#32
  let v1735 : BitVec 32 := Scalar.addi v1734 c4_i32_1466
  let c16_i32_1467 : BitVec 32 := 16#32
  let c0_i32_1468 : BitVec 32 := 0#32
  let v1736 : BitVec 1 := Scalar.cmpi .eq c16_i32_1467 c0_i32_1468
  let c1_i32_1469 : BitVec 32 := 1#32
  let v1737 : BitVec 32 := Scalar.select v1736 c1_i32_1469 c16_i32_1467
  let v1738 : BitVec 32 := Scalar.remsi v1735 v1737
  let c0_i32_1471 : BitVec 32 := 0#32
  let v1740 : BitVec 1 := Scalar.cmpi .slt v1738 c0_i32_1471
  let c0_i32_1472 : BitVec 32 := 0#32
  let v1741 : BitVec 1 := Scalar.cmpi .slt v1737 c0_i32_1472
  let v1742 : BitVec 1 := Scalar.xori v1740 v1741
  let c0_i32_1470 : BitVec 32 := 0#32
  let v1739 : BitVec 1 := Scalar.cmpi .ne v1738 c0_i32_1470
  let v1743 : BitVec 1 := Scalar.andi v1742 v1739
  let v1744 : BitVec 32 := Scalar.addi v1738 v1737
  let v1745 : BitVec 32 := Scalar.select v1743 v1744 v1738
  let c1_i32_1476 : BitVec 32 := 1#32
  let v1747 : BitVec 32 := Scalar.muli v1745 c1_i32_1476
  let v1748 : BitVec 32 := Scalar.addi c0_i32_1477 v1747
  v1748.toNat
def k0_dev66 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1481 : BitVec 32 := 1#32
  let v1755 : BitVec 32 := Scalar.addi v2 c1_i32_1481
  let c5_i32_1482 : BitVec 32 := 5#32
  let v1756 : BitVec 32 := Scalar.addi v1755 c5_i32_1482
  let c16_i32_1483 : BitVec 32 := 16#32
  let c0_i32_1484 : BitVec 32 := 0#32
  let v1757 : BitVec 1 := Scalar.cmpi .eq c16_i32_1483 c0_i32_1484
  let c1_i32_1485 : BitVec 32 := 1#32
  let v1758 : BitVec 32 := Scalar.select v1757 c1_i32_1485 c16_i32_1483
  let v1759 : BitVec 32 := Scalar.remsi v1756 v1758
  let c0_i32_1487 : BitVec 32 := 0#32
  let v1761 : BitVec 1 := Scalar.cmpi .slt v1759 c0_i32_1487
  let c0_i32_1488 : BitVec 32 := 0#32
  let v1762 : BitVec 1 := Scalar.cmpi .slt v1758 c0_i32_1488
  let v1763 : BitVec 1 := Scalar.xori v1761 v1762
  let c0_i32_1486 : BitVec 32 := 0#32
  let v1760 : BitVec 1 := Scalar.cmpi .ne v1759 c0_i32_1486
  let v1764 : BitVec 1 := Scalar.andi v1763 v1760
  let v1765 : BitVec 32 := Scalar.addi v1759 v1758
  let v1766 : BitVec 32 := Scalar.select v1764 v1765 v1759
  let c1_i32_1492 : BitVec 32 := 1#32
  let v1768 : BitVec 32 := Scalar.muli v1766 c1_i32_1492
  let v1769 : BitVec 32 := Scalar.addi c0_i32_1493 v1768
  v1769.toNat
def k0_dev67 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1497 : BitVec 32 := 1#32
  let v1776 : BitVec 32 := Scalar.addi v2 c1_i32_1497
  let c6_i32_1498 : BitVec 32 := 6#32
  let v1777 : BitVec 32 := Scalar.addi v1776 c6_i32_1498
  let c16_i32_1499 : BitVec 32 := 16#32
  let c0_i32_1500 : BitVec 32 := 0#32
  let v1778 : BitVec 1 := Scalar.cmpi .eq c16_i32_1499 c0_i32_1500
  let c1_i32_1501 : BitVec 32 := 1#32
  let v1779 : BitVec 32 := Scalar.select v1778 c1_i32_1501 c16_i32_1499
  let v1780 : BitVec 32 := Scalar.remsi v1777 v1779
  let c0_i32_1503 : BitVec 32 := 0#32
  let v1782 : BitVec 1 := Scalar.cmpi .slt v1780 c0_i32_1503
  let c0_i32_1504 : BitVec 32 := 0#32
  let v1783 : BitVec 1 := Scalar.cmpi .slt v1779 c0_i32_1504
  let v1784 : BitVec 1 := Scalar.xori v1782 v1783
  let c0_i32_1502 : BitVec 32 := 0#32
  let v1781 : BitVec 1 := Scalar.cmpi .ne v1780 c0_i32_1502
  let v1785 : BitVec 1 := Scalar.andi v1784 v1781
  let v1786 : BitVec 32 := Scalar.addi v1780 v1779
  let v1787 : BitVec 32 := Scalar.select v1785 v1786 v1780
  let c1_i32_1508 : BitVec 32 := 1#32
  let v1789 : BitVec 32 := Scalar.muli v1787 c1_i32_1508
  let v1790 : BitVec 32 := Scalar.addi c0_i32_1509 v1789
  v1790.toNat
def k0_dev68 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1513 : BitVec 32 := 1#32
  let v1797 : BitVec 32 := Scalar.addi v2 c1_i32_1513
  let c7_i32_1514 : BitVec 32 := 7#32
  let v1798 : BitVec 32 := Scalar.addi v1797 c7_i32_1514
  let c16_i32_1515 : BitVec 32 := 16#32
  let c0_i32_1516 : BitVec 32 := 0#32
  let v1799 : BitVec 1 := Scalar.cmpi .eq c16_i32_1515 c0_i32_1516
  let c1_i32_1517 : BitVec 32 := 1#32
  let v1800 : BitVec 32 := Scalar.select v1799 c1_i32_1517 c16_i32_1515
  let v1801 : BitVec 32 := Scalar.remsi v1798 v1800
  let c0_i32_1519 : BitVec 32 := 0#32
  let v1803 : BitVec 1 := Scalar.cmpi .slt v1801 c0_i32_1519
  let c0_i32_1520 : BitVec 32 := 0#32
  let v1804 : BitVec 1 := Scalar.cmpi .slt v1800 c0_i32_1520
  let v1805 : BitVec 1 := Scalar.xori v1803 v1804
  let c0_i32_1518 : BitVec 32 := 0#32
  let v1802 : BitVec 1 := Scalar.cmpi .ne v1801 c0_i32_1518
  let v1806 : BitVec 1 := Scalar.andi v1805 v1802
  let v1807 : BitVec 32 := Scalar.addi v1801 v1800
  let v1808 : BitVec 32 := Scalar.select v1806 v1807 v1801
  let c1_i32_1524 : BitVec 32 := 1#32
  let v1810 : BitVec 32 := Scalar.muli v1808 c1_i32_1524
  let v1811 : BitVec 32 := Scalar.addi c0_i32_1525 v1810
  v1811.toNat
def k0_dev69 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1529 : BitVec 32 := 1#32
  let v1818 : BitVec 32 := Scalar.addi v2 c1_i32_1529
  let c8_i32_1530 : BitVec 32 := 8#32
  let v1819 : BitVec 32 := Scalar.addi v1818 c8_i32_1530
  let c16_i32_1531 : BitVec 32 := 16#32
  let c0_i32_1532 : BitVec 32 := 0#32
  let v1820 : BitVec 1 := Scalar.cmpi .eq c16_i32_1531 c0_i32_1532
  let c1_i32_1533 : BitVec 32 := 1#32
  let v1821 : BitVec 32 := Scalar.select v1820 c1_i32_1533 c16_i32_1531
  let v1822 : BitVec 32 := Scalar.remsi v1819 v1821
  let c0_i32_1535 : BitVec 32 := 0#32
  let v1824 : BitVec 1 := Scalar.cmpi .slt v1822 c0_i32_1535
  let c0_i32_1536 : BitVec 32 := 0#32
  let v1825 : BitVec 1 := Scalar.cmpi .slt v1821 c0_i32_1536
  let v1826 : BitVec 1 := Scalar.xori v1824 v1825
  let c0_i32_1534 : BitVec 32 := 0#32
  let v1823 : BitVec 1 := Scalar.cmpi .ne v1822 c0_i32_1534
  let v1827 : BitVec 1 := Scalar.andi v1826 v1823
  let v1828 : BitVec 32 := Scalar.addi v1822 v1821
  let v1829 : BitVec 32 := Scalar.select v1827 v1828 v1822
  let c1_i32_1540 : BitVec 32 := 1#32
  let v1831 : BitVec 32 := Scalar.muli v1829 c1_i32_1540
  let v1832 : BitVec 32 := Scalar.addi c0_i32_1541 v1831
  v1832.toNat
def k0_dev70 (d0 : Dev nD) : Nat :=
  let c0_i32_1557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1545 : BitVec 32 := 1#32
  let v1839 : BitVec 32 := Scalar.addi v2 c1_i32_1545
  let c9_i32_1546 : BitVec 32 := 9#32
  let v1840 : BitVec 32 := Scalar.addi v1839 c9_i32_1546
  let c16_i32_1547 : BitVec 32 := 16#32
  let c0_i32_1548 : BitVec 32 := 0#32
  let v1841 : BitVec 1 := Scalar.cmpi .eq c16_i32_1547 c0_i32_1548
  let c1_i32_1549 : BitVec 32 := 1#32
  let v1842 : BitVec 32 := Scalar.select v1841 c1_i32_1549 c16_i32_1547
  let v1843 : BitVec 32 := Scalar.remsi v1840 v1842
  let c0_i32_1551 : BitVec 32 := 0#32
  let v1845 : BitVec 1 := Scalar.cmpi .slt v1843 c0_i32_1551
  let c0_i32_1552 : BitVec 32 := 0#32
  let v1846 : BitVec 1 := Scalar.cmpi .slt v1842 c0_i32_1552
  let v1847 : BitVec 1 := Scalar.xori v1845 v1846
  let c0_i32_1550 : BitVec 32 := 0#32
  let v1844 : BitVec 1 := Scalar.cmpi .ne v1843 c0_i32_1550
  let v1848 : BitVec 1 := Scalar.andi v1847 v1844
  let v1849 : BitVec 32 := Scalar.addi v1843 v1842
  let v1850 : BitVec 32 := Scalar.select v1848 v1849 v1843
  let c1_i32_1556 : BitVec 32 := 1#32
  let v1852 : BitVec 32 := Scalar.muli v1850 c1_i32_1556
  let v1853 : BitVec 32 := Scalar.addi c0_i32_1557 v1852
  v1853.toNat
def k0_dev71 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1561 : BitVec 32 := 1#32
  let v1860 : BitVec 32 := Scalar.addi v2 c1_i32_1561
  let c10_i32_1562 : BitVec 32 := 10#32
  let v1861 : BitVec 32 := Scalar.addi v1860 c10_i32_1562
  let c16_i32_1563 : BitVec 32 := 16#32
  let c0_i32_1564 : BitVec 32 := 0#32
  let v1862 : BitVec 1 := Scalar.cmpi .eq c16_i32_1563 c0_i32_1564
  let c1_i32_1565 : BitVec 32 := 1#32
  let v1863 : BitVec 32 := Scalar.select v1862 c1_i32_1565 c16_i32_1563
  let v1864 : BitVec 32 := Scalar.remsi v1861 v1863
  let c0_i32_1567 : BitVec 32 := 0#32
  let v1866 : BitVec 1 := Scalar.cmpi .slt v1864 c0_i32_1567
  let c0_i32_1568 : BitVec 32 := 0#32
  let v1867 : BitVec 1 := Scalar.cmpi .slt v1863 c0_i32_1568
  let v1868 : BitVec 1 := Scalar.xori v1866 v1867
  let c0_i32_1566 : BitVec 32 := 0#32
  let v1865 : BitVec 1 := Scalar.cmpi .ne v1864 c0_i32_1566
  let v1869 : BitVec 1 := Scalar.andi v1868 v1865
  let v1870 : BitVec 32 := Scalar.addi v1864 v1863
  let v1871 : BitVec 32 := Scalar.select v1869 v1870 v1864
  let c1_i32_1572 : BitVec 32 := 1#32
  let v1873 : BitVec 32 := Scalar.muli v1871 c1_i32_1572
  let v1874 : BitVec 32 := Scalar.addi c0_i32_1573 v1873
  v1874.toNat
def k0_dev72 (d0 : Dev nD) : Nat :=
  let c0_i32_1589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1577 : BitVec 32 := 1#32
  let v1881 : BitVec 32 := Scalar.addi v2 c1_i32_1577
  let c11_i32_1578 : BitVec 32 := 11#32
  let v1882 : BitVec 32 := Scalar.addi v1881 c11_i32_1578
  let c16_i32_1579 : BitVec 32 := 16#32
  let c0_i32_1580 : BitVec 32 := 0#32
  let v1883 : BitVec 1 := Scalar.cmpi .eq c16_i32_1579 c0_i32_1580
  let c1_i32_1581 : BitVec 32 := 1#32
  let v1884 : BitVec 32 := Scalar.select v1883 c1_i32_1581 c16_i32_1579
  let v1885 : BitVec 32 := Scalar.remsi v1882 v1884
  let c0_i32_1583 : BitVec 32 := 0#32
  let v1887 : BitVec 1 := Scalar.cmpi .slt v1885 c0_i32_1583
  let c0_i32_1584 : BitVec 32 := 0#32
  let v1888 : BitVec 1 := Scalar.cmpi .slt v1884 c0_i32_1584
  let v1889 : BitVec 1 := Scalar.xori v1887 v1888
  let c0_i32_1582 : BitVec 32 := 0#32
  let v1886 : BitVec 1 := Scalar.cmpi .ne v1885 c0_i32_1582
  let v1890 : BitVec 1 := Scalar.andi v1889 v1886
  let v1891 : BitVec 32 := Scalar.addi v1885 v1884
  let v1892 : BitVec 32 := Scalar.select v1890 v1891 v1885
  let c1_i32_1588 : BitVec 32 := 1#32
  let v1894 : BitVec 32 := Scalar.muli v1892 c1_i32_1588
  let v1895 : BitVec 32 := Scalar.addi c0_i32_1589 v1894
  v1895.toNat
def k0_dev73 (d0 : Dev nD) : Nat :=
  let c0_i32_1605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1593 : BitVec 32 := 1#32
  let v1902 : BitVec 32 := Scalar.addi v2 c1_i32_1593
  let c12_i32_1594 : BitVec 32 := 12#32
  let v1903 : BitVec 32 := Scalar.addi v1902 c12_i32_1594
  let c16_i32_1595 : BitVec 32 := 16#32
  let c0_i32_1596 : BitVec 32 := 0#32
  let v1904 : BitVec 1 := Scalar.cmpi .eq c16_i32_1595 c0_i32_1596
  let c1_i32_1597 : BitVec 32 := 1#32
  let v1905 : BitVec 32 := Scalar.select v1904 c1_i32_1597 c16_i32_1595
  let v1906 : BitVec 32 := Scalar.remsi v1903 v1905
  let c0_i32_1599 : BitVec 32 := 0#32
  let v1908 : BitVec 1 := Scalar.cmpi .slt v1906 c0_i32_1599
  let c0_i32_1600 : BitVec 32 := 0#32
  let v1909 : BitVec 1 := Scalar.cmpi .slt v1905 c0_i32_1600
  let v1910 : BitVec 1 := Scalar.xori v1908 v1909
  let c0_i32_1598 : BitVec 32 := 0#32
  let v1907 : BitVec 1 := Scalar.cmpi .ne v1906 c0_i32_1598
  let v1911 : BitVec 1 := Scalar.andi v1910 v1907
  let v1912 : BitVec 32 := Scalar.addi v1906 v1905
  let v1913 : BitVec 32 := Scalar.select v1911 v1912 v1906
  let c1_i32_1604 : BitVec 32 := 1#32
  let v1915 : BitVec 32 := Scalar.muli v1913 c1_i32_1604
  let v1916 : BitVec 32 := Scalar.addi c0_i32_1605 v1915
  v1916.toNat
def k0_dev74 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1609 : BitVec 32 := 1#32
  let v1923 : BitVec 32 := Scalar.addi v2 c1_i32_1609
  let c13_i32_1610 : BitVec 32 := 13#32
  let v1924 : BitVec 32 := Scalar.addi v1923 c13_i32_1610
  let c16_i32_1611 : BitVec 32 := 16#32
  let c0_i32_1612 : BitVec 32 := 0#32
  let v1925 : BitVec 1 := Scalar.cmpi .eq c16_i32_1611 c0_i32_1612
  let c1_i32_1613 : BitVec 32 := 1#32
  let v1926 : BitVec 32 := Scalar.select v1925 c1_i32_1613 c16_i32_1611
  let v1927 : BitVec 32 := Scalar.remsi v1924 v1926
  let c0_i32_1615 : BitVec 32 := 0#32
  let v1929 : BitVec 1 := Scalar.cmpi .slt v1927 c0_i32_1615
  let c0_i32_1616 : BitVec 32 := 0#32
  let v1930 : BitVec 1 := Scalar.cmpi .slt v1926 c0_i32_1616
  let v1931 : BitVec 1 := Scalar.xori v1929 v1930
  let c0_i32_1614 : BitVec 32 := 0#32
  let v1928 : BitVec 1 := Scalar.cmpi .ne v1927 c0_i32_1614
  let v1932 : BitVec 1 := Scalar.andi v1931 v1928
  let v1933 : BitVec 32 := Scalar.addi v1927 v1926
  let v1934 : BitVec 32 := Scalar.select v1932 v1933 v1927
  let c1_i32_1620 : BitVec 32 := 1#32
  let v1936 : BitVec 32 := Scalar.muli v1934 c1_i32_1620
  let v1937 : BitVec 32 := Scalar.addi c0_i32_1621 v1936
  v1937.toNat
def k0_dev75 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1625 : BitVec 32 := 1#32
  let v1944 : BitVec 32 := Scalar.addi v2 c1_i32_1625
  let c14_i32_1626 : BitVec 32 := 14#32
  let v1945 : BitVec 32 := Scalar.addi v1944 c14_i32_1626
  let c16_i32_1627 : BitVec 32 := 16#32
  let c0_i32_1628 : BitVec 32 := 0#32
  let v1946 : BitVec 1 := Scalar.cmpi .eq c16_i32_1627 c0_i32_1628
  let c1_i32_1629 : BitVec 32 := 1#32
  let v1947 : BitVec 32 := Scalar.select v1946 c1_i32_1629 c16_i32_1627
  let v1948 : BitVec 32 := Scalar.remsi v1945 v1947
  let c0_i32_1631 : BitVec 32 := 0#32
  let v1950 : BitVec 1 := Scalar.cmpi .slt v1948 c0_i32_1631
  let c0_i32_1632 : BitVec 32 := 0#32
  let v1951 : BitVec 1 := Scalar.cmpi .slt v1947 c0_i32_1632
  let v1952 : BitVec 1 := Scalar.xori v1950 v1951
  let c0_i32_1630 : BitVec 32 := 0#32
  let v1949 : BitVec 1 := Scalar.cmpi .ne v1948 c0_i32_1630
  let v1953 : BitVec 1 := Scalar.andi v1952 v1949
  let v1954 : BitVec 32 := Scalar.addi v1948 v1947
  let v1955 : BitVec 32 := Scalar.select v1953 v1954 v1948
  let c1_i32_1636 : BitVec 32 := 1#32
  let v1957 : BitVec 32 := Scalar.muli v1955 c1_i32_1636
  let v1958 : BitVec 32 := Scalar.addi c0_i32_1637 v1957
  v1958.toNat
def k0_dev76 (d0 : Dev nD) : Nat :=
  let c0_i32_2031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2019 : BitVec 32 := 1#32
  let v2272 : BitVec 32 := Scalar.addi v2 c1_i32_2019
  let c0_i32_2020 : BitVec 32 := 0#32
  let v2273 : BitVec 32 := Scalar.addi v2272 c0_i32_2020
  let c16_i32_2021 : BitVec 32 := 16#32
  let c0_i32_2022 : BitVec 32 := 0#32
  let v2274 : BitVec 1 := Scalar.cmpi .eq c16_i32_2021 c0_i32_2022
  let c1_i32_2023 : BitVec 32 := 1#32
  let v2275 : BitVec 32 := Scalar.select v2274 c1_i32_2023 c16_i32_2021
  let v2276 : BitVec 32 := Scalar.remsi v2273 v2275
  let c0_i32_2025 : BitVec 32 := 0#32
  let v2278 : BitVec 1 := Scalar.cmpi .slt v2276 c0_i32_2025
  let c0_i32_2026 : BitVec 32 := 0#32
  let v2279 : BitVec 1 := Scalar.cmpi .slt v2275 c0_i32_2026
  let v2280 : BitVec 1 := Scalar.xori v2278 v2279
  let c0_i32_2024 : BitVec 32 := 0#32
  let v2277 : BitVec 1 := Scalar.cmpi .ne v2276 c0_i32_2024
  let v2281 : BitVec 1 := Scalar.andi v2280 v2277
  let v2282 : BitVec 32 := Scalar.addi v2276 v2275
  let v2283 : BitVec 32 := Scalar.select v2281 v2282 v2276
  let c1_i32_2030 : BitVec 32 := 1#32
  let v2285 : BitVec 32 := Scalar.muli v2283 c1_i32_2030
  let v2286 : BitVec 32 := Scalar.addi c0_i32_2031 v2285
  v2286.toNat
def k0_dev77 (d0 : Dev nD) : Nat :=
  let c0_i32_2049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2037 : BitVec 32 := 1#32
  let v2295 : BitVec 32 := Scalar.addi v2 c1_i32_2037
  let c1_i32_2038 : BitVec 32 := 1#32
  let v2296 : BitVec 32 := Scalar.addi v2295 c1_i32_2038
  let c16_i32_2039 : BitVec 32 := 16#32
  let c0_i32_2040 : BitVec 32 := 0#32
  let v2297 : BitVec 1 := Scalar.cmpi .eq c16_i32_2039 c0_i32_2040
  let c1_i32_2041 : BitVec 32 := 1#32
  let v2298 : BitVec 32 := Scalar.select v2297 c1_i32_2041 c16_i32_2039
  let v2299 : BitVec 32 := Scalar.remsi v2296 v2298
  let c0_i32_2043 : BitVec 32 := 0#32
  let v2301 : BitVec 1 := Scalar.cmpi .slt v2299 c0_i32_2043
  let c0_i32_2044 : BitVec 32 := 0#32
  let v2302 : BitVec 1 := Scalar.cmpi .slt v2298 c0_i32_2044
  let v2303 : BitVec 1 := Scalar.xori v2301 v2302
  let c0_i32_2042 : BitVec 32 := 0#32
  let v2300 : BitVec 1 := Scalar.cmpi .ne v2299 c0_i32_2042
  let v2304 : BitVec 1 := Scalar.andi v2303 v2300
  let v2305 : BitVec 32 := Scalar.addi v2299 v2298
  let v2306 : BitVec 32 := Scalar.select v2304 v2305 v2299
  let c1_i32_2048 : BitVec 32 := 1#32
  let v2308 : BitVec 32 := Scalar.muli v2306 c1_i32_2048
  let v2309 : BitVec 32 := Scalar.addi c0_i32_2049 v2308
  v2309.toNat
def k0_dev78 (d0 : Dev nD) : Nat :=
  let c0_i32_2067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2055 : BitVec 32 := 1#32
  let v2318 : BitVec 32 := Scalar.addi v2 c1_i32_2055
  let c2_i32_2056 : BitVec 32 := 2#32
  let v2319 : BitVec 32 := Scalar.addi v2318 c2_i32_2056
  let c16_i32_2057 : BitVec 32 := 16#32
  let c0_i32_2058 : BitVec 32 := 0#32
  let v2320 : BitVec 1 := Scalar.cmpi .eq c16_i32_2057 c0_i32_2058
  let c1_i32_2059 : BitVec 32 := 1#32
  let v2321 : BitVec 32 := Scalar.select v2320 c1_i32_2059 c16_i32_2057
  let v2322 : BitVec 32 := Scalar.remsi v2319 v2321
  let c0_i32_2061 : BitVec 32 := 0#32
  let v2324 : BitVec 1 := Scalar.cmpi .slt v2322 c0_i32_2061
  let c0_i32_2062 : BitVec 32 := 0#32
  let v2325 : BitVec 1 := Scalar.cmpi .slt v2321 c0_i32_2062
  let v2326 : BitVec 1 := Scalar.xori v2324 v2325
  let c0_i32_2060 : BitVec 32 := 0#32
  let v2323 : BitVec 1 := Scalar.cmpi .ne v2322 c0_i32_2060
  let v2327 : BitVec 1 := Scalar.andi v2326 v2323
  let v2328 : BitVec 32 := Scalar.addi v2322 v2321
  let v2329 : BitVec 32 := Scalar.select v2327 v2328 v2322
  let c1_i32_2066 : BitVec 32 := 1#32
  let v2331 : BitVec 32 := Scalar.muli v2329 c1_i32_2066
  let v2332 : BitVec 32 := Scalar.addi c0_i32_2067 v2331
  v2332.toNat
def k0_dev79 (d0 : Dev nD) : Nat :=
  let c0_i32_2085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2073 : BitVec 32 := 1#32
  let v2341 : BitVec 32 := Scalar.addi v2 c1_i32_2073
  let c3_i32_2074 : BitVec 32 := 3#32
  let v2342 : BitVec 32 := Scalar.addi v2341 c3_i32_2074
  let c16_i32_2075 : BitVec 32 := 16#32
  let c0_i32_2076 : BitVec 32 := 0#32
  let v2343 : BitVec 1 := Scalar.cmpi .eq c16_i32_2075 c0_i32_2076
  let c1_i32_2077 : BitVec 32 := 1#32
  let v2344 : BitVec 32 := Scalar.select v2343 c1_i32_2077 c16_i32_2075
  let v2345 : BitVec 32 := Scalar.remsi v2342 v2344
  let c0_i32_2079 : BitVec 32 := 0#32
  let v2347 : BitVec 1 := Scalar.cmpi .slt v2345 c0_i32_2079
  let c0_i32_2080 : BitVec 32 := 0#32
  let v2348 : BitVec 1 := Scalar.cmpi .slt v2344 c0_i32_2080
  let v2349 : BitVec 1 := Scalar.xori v2347 v2348
  let c0_i32_2078 : BitVec 32 := 0#32
  let v2346 : BitVec 1 := Scalar.cmpi .ne v2345 c0_i32_2078
  let v2350 : BitVec 1 := Scalar.andi v2349 v2346
  let v2351 : BitVec 32 := Scalar.addi v2345 v2344
  let v2352 : BitVec 32 := Scalar.select v2350 v2351 v2345
  let c1_i32_2084 : BitVec 32 := 1#32
  let v2354 : BitVec 32 := Scalar.muli v2352 c1_i32_2084
  let v2355 : BitVec 32 := Scalar.addi c0_i32_2085 v2354
  v2355.toNat
def k0_dev80 (d0 : Dev nD) : Nat :=
  let c0_i32_2103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2091 : BitVec 32 := 1#32
  let v2364 : BitVec 32 := Scalar.addi v2 c1_i32_2091
  let c4_i32_2092 : BitVec 32 := 4#32
  let v2365 : BitVec 32 := Scalar.addi v2364 c4_i32_2092
  let c16_i32_2093 : BitVec 32 := 16#32
  let c0_i32_2094 : BitVec 32 := 0#32
  let v2366 : BitVec 1 := Scalar.cmpi .eq c16_i32_2093 c0_i32_2094
  let c1_i32_2095 : BitVec 32 := 1#32
  let v2367 : BitVec 32 := Scalar.select v2366 c1_i32_2095 c16_i32_2093
  let v2368 : BitVec 32 := Scalar.remsi v2365 v2367
  let c0_i32_2097 : BitVec 32 := 0#32
  let v2370 : BitVec 1 := Scalar.cmpi .slt v2368 c0_i32_2097
  let c0_i32_2098 : BitVec 32 := 0#32
  let v2371 : BitVec 1 := Scalar.cmpi .slt v2367 c0_i32_2098
  let v2372 : BitVec 1 := Scalar.xori v2370 v2371
  let c0_i32_2096 : BitVec 32 := 0#32
  let v2369 : BitVec 1 := Scalar.cmpi .ne v2368 c0_i32_2096
  let v2373 : BitVec 1 := Scalar.andi v2372 v2369
  let v2374 : BitVec 32 := Scalar.addi v2368 v2367
  let v2375 : BitVec 32 := Scalar.select v2373 v2374 v2368
  let c1_i32_2102 : BitVec 32 := 1#32
  let v2377 : BitVec 32 := Scalar.muli v2375 c1_i32_2102
  let v2378 : BitVec 32 := Scalar.addi c0_i32_2103 v2377
  v2378.toNat
def k0_dev81 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2109 : BitVec 32 := 1#32
  let v2387 : BitVec 32 := Scalar.addi v2 c1_i32_2109
  let c5_i32_2110 : BitVec 32 := 5#32
  let v2388 : BitVec 32 := Scalar.addi v2387 c5_i32_2110
  let c16_i32_2111 : BitVec 32 := 16#32
  let c0_i32_2112 : BitVec 32 := 0#32
  let v2389 : BitVec 1 := Scalar.cmpi .eq c16_i32_2111 c0_i32_2112
  let c1_i32_2113 : BitVec 32 := 1#32
  let v2390 : BitVec 32 := Scalar.select v2389 c1_i32_2113 c16_i32_2111
  let v2391 : BitVec 32 := Scalar.remsi v2388 v2390
  let c0_i32_2115 : BitVec 32 := 0#32
  let v2393 : BitVec 1 := Scalar.cmpi .slt v2391 c0_i32_2115
  let c0_i32_2116 : BitVec 32 := 0#32
  let v2394 : BitVec 1 := Scalar.cmpi .slt v2390 c0_i32_2116
  let v2395 : BitVec 1 := Scalar.xori v2393 v2394
  let c0_i32_2114 : BitVec 32 := 0#32
  let v2392 : BitVec 1 := Scalar.cmpi .ne v2391 c0_i32_2114
  let v2396 : BitVec 1 := Scalar.andi v2395 v2392
  let v2397 : BitVec 32 := Scalar.addi v2391 v2390
  let v2398 : BitVec 32 := Scalar.select v2396 v2397 v2391
  let c1_i32_2120 : BitVec 32 := 1#32
  let v2400 : BitVec 32 := Scalar.muli v2398 c1_i32_2120
  let v2401 : BitVec 32 := Scalar.addi c0_i32_2121 v2400
  v2401.toNat
def k0_dev82 (d0 : Dev nD) : Nat :=
  let c0_i32_2139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2127 : BitVec 32 := 1#32
  let v2410 : BitVec 32 := Scalar.addi v2 c1_i32_2127
  let c6_i32_2128 : BitVec 32 := 6#32
  let v2411 : BitVec 32 := Scalar.addi v2410 c6_i32_2128
  let c16_i32_2129 : BitVec 32 := 16#32
  let c0_i32_2130 : BitVec 32 := 0#32
  let v2412 : BitVec 1 := Scalar.cmpi .eq c16_i32_2129 c0_i32_2130
  let c1_i32_2131 : BitVec 32 := 1#32
  let v2413 : BitVec 32 := Scalar.select v2412 c1_i32_2131 c16_i32_2129
  let v2414 : BitVec 32 := Scalar.remsi v2411 v2413
  let c0_i32_2133 : BitVec 32 := 0#32
  let v2416 : BitVec 1 := Scalar.cmpi .slt v2414 c0_i32_2133
  let c0_i32_2134 : BitVec 32 := 0#32
  let v2417 : BitVec 1 := Scalar.cmpi .slt v2413 c0_i32_2134
  let v2418 : BitVec 1 := Scalar.xori v2416 v2417
  let c0_i32_2132 : BitVec 32 := 0#32
  let v2415 : BitVec 1 := Scalar.cmpi .ne v2414 c0_i32_2132
  let v2419 : BitVec 1 := Scalar.andi v2418 v2415
  let v2420 : BitVec 32 := Scalar.addi v2414 v2413
  let v2421 : BitVec 32 := Scalar.select v2419 v2420 v2414
  let c1_i32_2138 : BitVec 32 := 1#32
  let v2423 : BitVec 32 := Scalar.muli v2421 c1_i32_2138
  let v2424 : BitVec 32 := Scalar.addi c0_i32_2139 v2423
  v2424.toNat
def k0_dev83 (d0 : Dev nD) : Nat :=
  let c0_i32_2157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2145 : BitVec 32 := 1#32
  let v2433 : BitVec 32 := Scalar.addi v2 c1_i32_2145
  let c7_i32_2146 : BitVec 32 := 7#32
  let v2434 : BitVec 32 := Scalar.addi v2433 c7_i32_2146
  let c16_i32_2147 : BitVec 32 := 16#32
  let c0_i32_2148 : BitVec 32 := 0#32
  let v2435 : BitVec 1 := Scalar.cmpi .eq c16_i32_2147 c0_i32_2148
  let c1_i32_2149 : BitVec 32 := 1#32
  let v2436 : BitVec 32 := Scalar.select v2435 c1_i32_2149 c16_i32_2147
  let v2437 : BitVec 32 := Scalar.remsi v2434 v2436
  let c0_i32_2151 : BitVec 32 := 0#32
  let v2439 : BitVec 1 := Scalar.cmpi .slt v2437 c0_i32_2151
  let c0_i32_2152 : BitVec 32 := 0#32
  let v2440 : BitVec 1 := Scalar.cmpi .slt v2436 c0_i32_2152
  let v2441 : BitVec 1 := Scalar.xori v2439 v2440
  let c0_i32_2150 : BitVec 32 := 0#32
  let v2438 : BitVec 1 := Scalar.cmpi .ne v2437 c0_i32_2150
  let v2442 : BitVec 1 := Scalar.andi v2441 v2438
  let v2443 : BitVec 32 := Scalar.addi v2437 v2436
  let v2444 : BitVec 32 := Scalar.select v2442 v2443 v2437
  let c1_i32_2156 : BitVec 32 := 1#32
  let v2446 : BitVec 32 := Scalar.muli v2444 c1_i32_2156
  let v2447 : BitVec 32 := Scalar.addi c0_i32_2157 v2446
  v2447.toNat
def k0_dev84 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2163 : BitVec 32 := 1#32
  let v2456 : BitVec 32 := Scalar.addi v2 c1_i32_2163
  let c8_i32_2164 : BitVec 32 := 8#32
  let v2457 : BitVec 32 := Scalar.addi v2456 c8_i32_2164
  let c16_i32_2165 : BitVec 32 := 16#32
  let c0_i32_2166 : BitVec 32 := 0#32
  let v2458 : BitVec 1 := Scalar.cmpi .eq c16_i32_2165 c0_i32_2166
  let c1_i32_2167 : BitVec 32 := 1#32
  let v2459 : BitVec 32 := Scalar.select v2458 c1_i32_2167 c16_i32_2165
  let v2460 : BitVec 32 := Scalar.remsi v2457 v2459
  let c0_i32_2169 : BitVec 32 := 0#32
  let v2462 : BitVec 1 := Scalar.cmpi .slt v2460 c0_i32_2169
  let c0_i32_2170 : BitVec 32 := 0#32
  let v2463 : BitVec 1 := Scalar.cmpi .slt v2459 c0_i32_2170
  let v2464 : BitVec 1 := Scalar.xori v2462 v2463
  let c0_i32_2168 : BitVec 32 := 0#32
  let v2461 : BitVec 1 := Scalar.cmpi .ne v2460 c0_i32_2168
  let v2465 : BitVec 1 := Scalar.andi v2464 v2461
  let v2466 : BitVec 32 := Scalar.addi v2460 v2459
  let v2467 : BitVec 32 := Scalar.select v2465 v2466 v2460
  let c1_i32_2174 : BitVec 32 := 1#32
  let v2469 : BitVec 32 := Scalar.muli v2467 c1_i32_2174
  let v2470 : BitVec 32 := Scalar.addi c0_i32_2175 v2469
  v2470.toNat
def k0_dev85 (d0 : Dev nD) : Nat :=
  let c0_i32_2193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2181 : BitVec 32 := 1#32
  let v2479 : BitVec 32 := Scalar.addi v2 c1_i32_2181
  let c9_i32_2182 : BitVec 32 := 9#32
  let v2480 : BitVec 32 := Scalar.addi v2479 c9_i32_2182
  let c16_i32_2183 : BitVec 32 := 16#32
  let c0_i32_2184 : BitVec 32 := 0#32
  let v2481 : BitVec 1 := Scalar.cmpi .eq c16_i32_2183 c0_i32_2184
  let c1_i32_2185 : BitVec 32 := 1#32
  let v2482 : BitVec 32 := Scalar.select v2481 c1_i32_2185 c16_i32_2183
  let v2483 : BitVec 32 := Scalar.remsi v2480 v2482
  let c0_i32_2187 : BitVec 32 := 0#32
  let v2485 : BitVec 1 := Scalar.cmpi .slt v2483 c0_i32_2187
  let c0_i32_2188 : BitVec 32 := 0#32
  let v2486 : BitVec 1 := Scalar.cmpi .slt v2482 c0_i32_2188
  let v2487 : BitVec 1 := Scalar.xori v2485 v2486
  let c0_i32_2186 : BitVec 32 := 0#32
  let v2484 : BitVec 1 := Scalar.cmpi .ne v2483 c0_i32_2186
  let v2488 : BitVec 1 := Scalar.andi v2487 v2484
  let v2489 : BitVec 32 := Scalar.addi v2483 v2482
  let v2490 : BitVec 32 := Scalar.select v2488 v2489 v2483
  let c1_i32_2192 : BitVec 32 := 1#32
  let v2492 : BitVec 32 := Scalar.muli v2490 c1_i32_2192
  let v2493 : BitVec 32 := Scalar.addi c0_i32_2193 v2492
  v2493.toNat
def k0_dev86 (d0 : Dev nD) : Nat :=
  let c0_i32_2211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2199 : BitVec 32 := 1#32
  let v2502 : BitVec 32 := Scalar.addi v2 c1_i32_2199
  let c10_i32_2200 : BitVec 32 := 10#32
  let v2503 : BitVec 32 := Scalar.addi v2502 c10_i32_2200
  let c16_i32_2201 : BitVec 32 := 16#32
  let c0_i32_2202 : BitVec 32 := 0#32
  let v2504 : BitVec 1 := Scalar.cmpi .eq c16_i32_2201 c0_i32_2202
  let c1_i32_2203 : BitVec 32 := 1#32
  let v2505 : BitVec 32 := Scalar.select v2504 c1_i32_2203 c16_i32_2201
  let v2506 : BitVec 32 := Scalar.remsi v2503 v2505
  let c0_i32_2205 : BitVec 32 := 0#32
  let v2508 : BitVec 1 := Scalar.cmpi .slt v2506 c0_i32_2205
  let c0_i32_2206 : BitVec 32 := 0#32
  let v2509 : BitVec 1 := Scalar.cmpi .slt v2505 c0_i32_2206
  let v2510 : BitVec 1 := Scalar.xori v2508 v2509
  let c0_i32_2204 : BitVec 32 := 0#32
  let v2507 : BitVec 1 := Scalar.cmpi .ne v2506 c0_i32_2204
  let v2511 : BitVec 1 := Scalar.andi v2510 v2507
  let v2512 : BitVec 32 := Scalar.addi v2506 v2505
  let v2513 : BitVec 32 := Scalar.select v2511 v2512 v2506
  let c1_i32_2210 : BitVec 32 := 1#32
  let v2515 : BitVec 32 := Scalar.muli v2513 c1_i32_2210
  let v2516 : BitVec 32 := Scalar.addi c0_i32_2211 v2515
  v2516.toNat
def k0_dev87 (d0 : Dev nD) : Nat :=
  let c0_i32_2229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2217 : BitVec 32 := 1#32
  let v2525 : BitVec 32 := Scalar.addi v2 c1_i32_2217
  let c11_i32_2218 : BitVec 32 := 11#32
  let v2526 : BitVec 32 := Scalar.addi v2525 c11_i32_2218
  let c16_i32_2219 : BitVec 32 := 16#32
  let c0_i32_2220 : BitVec 32 := 0#32
  let v2527 : BitVec 1 := Scalar.cmpi .eq c16_i32_2219 c0_i32_2220
  let c1_i32_2221 : BitVec 32 := 1#32
  let v2528 : BitVec 32 := Scalar.select v2527 c1_i32_2221 c16_i32_2219
  let v2529 : BitVec 32 := Scalar.remsi v2526 v2528
  let c0_i32_2223 : BitVec 32 := 0#32
  let v2531 : BitVec 1 := Scalar.cmpi .slt v2529 c0_i32_2223
  let c0_i32_2224 : BitVec 32 := 0#32
  let v2532 : BitVec 1 := Scalar.cmpi .slt v2528 c0_i32_2224
  let v2533 : BitVec 1 := Scalar.xori v2531 v2532
  let c0_i32_2222 : BitVec 32 := 0#32
  let v2530 : BitVec 1 := Scalar.cmpi .ne v2529 c0_i32_2222
  let v2534 : BitVec 1 := Scalar.andi v2533 v2530
  let v2535 : BitVec 32 := Scalar.addi v2529 v2528
  let v2536 : BitVec 32 := Scalar.select v2534 v2535 v2529
  let c1_i32_2228 : BitVec 32 := 1#32
  let v2538 : BitVec 32 := Scalar.muli v2536 c1_i32_2228
  let v2539 : BitVec 32 := Scalar.addi c0_i32_2229 v2538
  v2539.toNat
def k0_dev88 (d0 : Dev nD) : Nat :=
  let c0_i32_2247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2235 : BitVec 32 := 1#32
  let v2548 : BitVec 32 := Scalar.addi v2 c1_i32_2235
  let c12_i32_2236 : BitVec 32 := 12#32
  let v2549 : BitVec 32 := Scalar.addi v2548 c12_i32_2236
  let c16_i32_2237 : BitVec 32 := 16#32
  let c0_i32_2238 : BitVec 32 := 0#32
  let v2550 : BitVec 1 := Scalar.cmpi .eq c16_i32_2237 c0_i32_2238
  let c1_i32_2239 : BitVec 32 := 1#32
  let v2551 : BitVec 32 := Scalar.select v2550 c1_i32_2239 c16_i32_2237
  let v2552 : BitVec 32 := Scalar.remsi v2549 v2551
  let c0_i32_2241 : BitVec 32 := 0#32
  let v2554 : BitVec 1 := Scalar.cmpi .slt v2552 c0_i32_2241
  let c0_i32_2242 : BitVec 32 := 0#32
  let v2555 : BitVec 1 := Scalar.cmpi .slt v2551 c0_i32_2242
  let v2556 : BitVec 1 := Scalar.xori v2554 v2555
  let c0_i32_2240 : BitVec 32 := 0#32
  let v2553 : BitVec 1 := Scalar.cmpi .ne v2552 c0_i32_2240
  let v2557 : BitVec 1 := Scalar.andi v2556 v2553
  let v2558 : BitVec 32 := Scalar.addi v2552 v2551
  let v2559 : BitVec 32 := Scalar.select v2557 v2558 v2552
  let c1_i32_2246 : BitVec 32 := 1#32
  let v2561 : BitVec 32 := Scalar.muli v2559 c1_i32_2246
  let v2562 : BitVec 32 := Scalar.addi c0_i32_2247 v2561
  v2562.toNat
def k0_dev89 (d0 : Dev nD) : Nat :=
  let c0_i32_2265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2253 : BitVec 32 := 1#32
  let v2571 : BitVec 32 := Scalar.addi v2 c1_i32_2253
  let c13_i32_2254 : BitVec 32 := 13#32
  let v2572 : BitVec 32 := Scalar.addi v2571 c13_i32_2254
  let c16_i32_2255 : BitVec 32 := 16#32
  let c0_i32_2256 : BitVec 32 := 0#32
  let v2573 : BitVec 1 := Scalar.cmpi .eq c16_i32_2255 c0_i32_2256
  let c1_i32_2257 : BitVec 32 := 1#32
  let v2574 : BitVec 32 := Scalar.select v2573 c1_i32_2257 c16_i32_2255
  let v2575 : BitVec 32 := Scalar.remsi v2572 v2574
  let c0_i32_2259 : BitVec 32 := 0#32
  let v2577 : BitVec 1 := Scalar.cmpi .slt v2575 c0_i32_2259
  let c0_i32_2260 : BitVec 32 := 0#32
  let v2578 : BitVec 1 := Scalar.cmpi .slt v2574 c0_i32_2260
  let v2579 : BitVec 1 := Scalar.xori v2577 v2578
  let c0_i32_2258 : BitVec 32 := 0#32
  let v2576 : BitVec 1 := Scalar.cmpi .ne v2575 c0_i32_2258
  let v2580 : BitVec 1 := Scalar.andi v2579 v2576
  let v2581 : BitVec 32 := Scalar.addi v2575 v2574
  let v2582 : BitVec 32 := Scalar.select v2580 v2581 v2575
  let c1_i32_2264 : BitVec 32 := 1#32
  let v2584 : BitVec 32 := Scalar.muli v2582 c1_i32_2264
  let v2585 : BitVec 32 := Scalar.addi c0_i32_2265 v2584
  v2585.toNat
def k0_dev90 (d0 : Dev nD) : Nat :=
  let c0_i32_2283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2271 : BitVec 32 := 1#32
  let v2594 : BitVec 32 := Scalar.addi v2 c1_i32_2271
  let c14_i32_2272 : BitVec 32 := 14#32
  let v2595 : BitVec 32 := Scalar.addi v2594 c14_i32_2272
  let c16_i32_2273 : BitVec 32 := 16#32
  let c0_i32_2274 : BitVec 32 := 0#32
  let v2596 : BitVec 1 := Scalar.cmpi .eq c16_i32_2273 c0_i32_2274
  let c1_i32_2275 : BitVec 32 := 1#32
  let v2597 : BitVec 32 := Scalar.select v2596 c1_i32_2275 c16_i32_2273
  let v2598 : BitVec 32 := Scalar.remsi v2595 v2597
  let c0_i32_2277 : BitVec 32 := 0#32
  let v2600 : BitVec 1 := Scalar.cmpi .slt v2598 c0_i32_2277
  let c0_i32_2278 : BitVec 32 := 0#32
  let v2601 : BitVec 1 := Scalar.cmpi .slt v2597 c0_i32_2278
  let v2602 : BitVec 1 := Scalar.xori v2600 v2601
  let c0_i32_2276 : BitVec 32 := 0#32
  let v2599 : BitVec 1 := Scalar.cmpi .ne v2598 c0_i32_2276
  let v2603 : BitVec 1 := Scalar.andi v2602 v2599
  let v2604 : BitVec 32 := Scalar.addi v2598 v2597
  let v2605 : BitVec 32 := Scalar.select v2603 v2604 v2598
  let c1_i32_2282 : BitVec 32 := 1#32
  let v2607 : BitVec 32 := Scalar.muli v2605 c1_i32_2282
  let v2608 : BitVec 32 := Scalar.addi c0_i32_2283 v2607
  v2608.toNat
def k0_dev91 (d0 : Dev nD) : Nat :=
  let c0_i32_2544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2532 : BitVec 32 := 1#32
  let v2820 : BitVec 32 := Scalar.addi v2 c1_i32_2532
  let c0_i32_2533 : BitVec 32 := 0#32
  let v2821 : BitVec 32 := Scalar.addi v2820 c0_i32_2533
  let c16_i32_2534 : BitVec 32 := 16#32
  let c0_i32_2535 : BitVec 32 := 0#32
  let v2822 : BitVec 1 := Scalar.cmpi .eq c16_i32_2534 c0_i32_2535
  let c1_i32_2536 : BitVec 32 := 1#32
  let v2823 : BitVec 32 := Scalar.select v2822 c1_i32_2536 c16_i32_2534
  let v2824 : BitVec 32 := Scalar.remsi v2821 v2823
  let c0_i32_2538 : BitVec 32 := 0#32
  let v2826 : BitVec 1 := Scalar.cmpi .slt v2824 c0_i32_2538
  let c0_i32_2539 : BitVec 32 := 0#32
  let v2827 : BitVec 1 := Scalar.cmpi .slt v2823 c0_i32_2539
  let v2828 : BitVec 1 := Scalar.xori v2826 v2827
  let c0_i32_2537 : BitVec 32 := 0#32
  let v2825 : BitVec 1 := Scalar.cmpi .ne v2824 c0_i32_2537
  let v2829 : BitVec 1 := Scalar.andi v2828 v2825
  let v2830 : BitVec 32 := Scalar.addi v2824 v2823
  let v2831 : BitVec 32 := Scalar.select v2829 v2830 v2824
  let c1_i32_2543 : BitVec 32 := 1#32
  let v2833 : BitVec 32 := Scalar.muli v2831 c1_i32_2543
  let v2834 : BitVec 32 := Scalar.addi c0_i32_2544 v2833
  v2834.toNat
def k0_dev92 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2550 : BitVec 32 := 1#32
  let v2843 : BitVec 32 := Scalar.addi v2 c1_i32_2550
  let c1_i32_2551 : BitVec 32 := 1#32
  let v2844 : BitVec 32 := Scalar.addi v2843 c1_i32_2551
  let c16_i32_2552 : BitVec 32 := 16#32
  let c0_i32_2553 : BitVec 32 := 0#32
  let v2845 : BitVec 1 := Scalar.cmpi .eq c16_i32_2552 c0_i32_2553
  let c1_i32_2554 : BitVec 32 := 1#32
  let v2846 : BitVec 32 := Scalar.select v2845 c1_i32_2554 c16_i32_2552
  let v2847 : BitVec 32 := Scalar.remsi v2844 v2846
  let c0_i32_2556 : BitVec 32 := 0#32
  let v2849 : BitVec 1 := Scalar.cmpi .slt v2847 c0_i32_2556
  let c0_i32_2557 : BitVec 32 := 0#32
  let v2850 : BitVec 1 := Scalar.cmpi .slt v2846 c0_i32_2557
  let v2851 : BitVec 1 := Scalar.xori v2849 v2850
  let c0_i32_2555 : BitVec 32 := 0#32
  let v2848 : BitVec 1 := Scalar.cmpi .ne v2847 c0_i32_2555
  let v2852 : BitVec 1 := Scalar.andi v2851 v2848
  let v2853 : BitVec 32 := Scalar.addi v2847 v2846
  let v2854 : BitVec 32 := Scalar.select v2852 v2853 v2847
  let c1_i32_2561 : BitVec 32 := 1#32
  let v2856 : BitVec 32 := Scalar.muli v2854 c1_i32_2561
  let v2857 : BitVec 32 := Scalar.addi c0_i32_2562 v2856
  v2857.toNat
def k0_dev93 (d0 : Dev nD) : Nat :=
  let c0_i32_2580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2568 : BitVec 32 := 1#32
  let v2866 : BitVec 32 := Scalar.addi v2 c1_i32_2568
  let c2_i32_2569 : BitVec 32 := 2#32
  let v2867 : BitVec 32 := Scalar.addi v2866 c2_i32_2569
  let c16_i32_2570 : BitVec 32 := 16#32
  let c0_i32_2571 : BitVec 32 := 0#32
  let v2868 : BitVec 1 := Scalar.cmpi .eq c16_i32_2570 c0_i32_2571
  let c1_i32_2572 : BitVec 32 := 1#32
  let v2869 : BitVec 32 := Scalar.select v2868 c1_i32_2572 c16_i32_2570
  let v2870 : BitVec 32 := Scalar.remsi v2867 v2869
  let c0_i32_2574 : BitVec 32 := 0#32
  let v2872 : BitVec 1 := Scalar.cmpi .slt v2870 c0_i32_2574
  let c0_i32_2575 : BitVec 32 := 0#32
  let v2873 : BitVec 1 := Scalar.cmpi .slt v2869 c0_i32_2575
  let v2874 : BitVec 1 := Scalar.xori v2872 v2873
  let c0_i32_2573 : BitVec 32 := 0#32
  let v2871 : BitVec 1 := Scalar.cmpi .ne v2870 c0_i32_2573
  let v2875 : BitVec 1 := Scalar.andi v2874 v2871
  let v2876 : BitVec 32 := Scalar.addi v2870 v2869
  let v2877 : BitVec 32 := Scalar.select v2875 v2876 v2870
  let c1_i32_2579 : BitVec 32 := 1#32
  let v2879 : BitVec 32 := Scalar.muli v2877 c1_i32_2579
  let v2880 : BitVec 32 := Scalar.addi c0_i32_2580 v2879
  v2880.toNat
def k0_dev94 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2586 : BitVec 32 := 1#32
  let v2889 : BitVec 32 := Scalar.addi v2 c1_i32_2586
  let c3_i32_2587 : BitVec 32 := 3#32
  let v2890 : BitVec 32 := Scalar.addi v2889 c3_i32_2587
  let c16_i32_2588 : BitVec 32 := 16#32
  let c0_i32_2589 : BitVec 32 := 0#32
  let v2891 : BitVec 1 := Scalar.cmpi .eq c16_i32_2588 c0_i32_2589
  let c1_i32_2590 : BitVec 32 := 1#32
  let v2892 : BitVec 32 := Scalar.select v2891 c1_i32_2590 c16_i32_2588
  let v2893 : BitVec 32 := Scalar.remsi v2890 v2892
  let c0_i32_2592 : BitVec 32 := 0#32
  let v2895 : BitVec 1 := Scalar.cmpi .slt v2893 c0_i32_2592
  let c0_i32_2593 : BitVec 32 := 0#32
  let v2896 : BitVec 1 := Scalar.cmpi .slt v2892 c0_i32_2593
  let v2897 : BitVec 1 := Scalar.xori v2895 v2896
  let c0_i32_2591 : BitVec 32 := 0#32
  let v2894 : BitVec 1 := Scalar.cmpi .ne v2893 c0_i32_2591
  let v2898 : BitVec 1 := Scalar.andi v2897 v2894
  let v2899 : BitVec 32 := Scalar.addi v2893 v2892
  let v2900 : BitVec 32 := Scalar.select v2898 v2899 v2893
  let c1_i32_2597 : BitVec 32 := 1#32
  let v2902 : BitVec 32 := Scalar.muli v2900 c1_i32_2597
  let v2903 : BitVec 32 := Scalar.addi c0_i32_2598 v2902
  v2903.toNat
def k0_dev95 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2604 : BitVec 32 := 1#32
  let v2912 : BitVec 32 := Scalar.addi v2 c1_i32_2604
  let c4_i32_2605 : BitVec 32 := 4#32
  let v2913 : BitVec 32 := Scalar.addi v2912 c4_i32_2605
  let c16_i32_2606 : BitVec 32 := 16#32
  let c0_i32_2607 : BitVec 32 := 0#32
  let v2914 : BitVec 1 := Scalar.cmpi .eq c16_i32_2606 c0_i32_2607
  let c1_i32_2608 : BitVec 32 := 1#32
  let v2915 : BitVec 32 := Scalar.select v2914 c1_i32_2608 c16_i32_2606
  let v2916 : BitVec 32 := Scalar.remsi v2913 v2915
  let c0_i32_2610 : BitVec 32 := 0#32
  let v2918 : BitVec 1 := Scalar.cmpi .slt v2916 c0_i32_2610
  let c0_i32_2611 : BitVec 32 := 0#32
  let v2919 : BitVec 1 := Scalar.cmpi .slt v2915 c0_i32_2611
  let v2920 : BitVec 1 := Scalar.xori v2918 v2919
  let c0_i32_2609 : BitVec 32 := 0#32
  let v2917 : BitVec 1 := Scalar.cmpi .ne v2916 c0_i32_2609
  let v2921 : BitVec 1 := Scalar.andi v2920 v2917
  let v2922 : BitVec 32 := Scalar.addi v2916 v2915
  let v2923 : BitVec 32 := Scalar.select v2921 v2922 v2916
  let c1_i32_2615 : BitVec 32 := 1#32
  let v2925 : BitVec 32 := Scalar.muli v2923 c1_i32_2615
  let v2926 : BitVec 32 := Scalar.addi c0_i32_2616 v2925
  v2926.toNat
def k0_dev96 (d0 : Dev nD) : Nat :=
  let c0_i32_2634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2622 : BitVec 32 := 1#32
  let v2935 : BitVec 32 := Scalar.addi v2 c1_i32_2622
  let c5_i32_2623 : BitVec 32 := 5#32
  let v2936 : BitVec 32 := Scalar.addi v2935 c5_i32_2623
  let c16_i32_2624 : BitVec 32 := 16#32
  let c0_i32_2625 : BitVec 32 := 0#32
  let v2937 : BitVec 1 := Scalar.cmpi .eq c16_i32_2624 c0_i32_2625
  let c1_i32_2626 : BitVec 32 := 1#32
  let v2938 : BitVec 32 := Scalar.select v2937 c1_i32_2626 c16_i32_2624
  let v2939 : BitVec 32 := Scalar.remsi v2936 v2938
  let c0_i32_2628 : BitVec 32 := 0#32
  let v2941 : BitVec 1 := Scalar.cmpi .slt v2939 c0_i32_2628
  let c0_i32_2629 : BitVec 32 := 0#32
  let v2942 : BitVec 1 := Scalar.cmpi .slt v2938 c0_i32_2629
  let v2943 : BitVec 1 := Scalar.xori v2941 v2942
  let c0_i32_2627 : BitVec 32 := 0#32
  let v2940 : BitVec 1 := Scalar.cmpi .ne v2939 c0_i32_2627
  let v2944 : BitVec 1 := Scalar.andi v2943 v2940
  let v2945 : BitVec 32 := Scalar.addi v2939 v2938
  let v2946 : BitVec 32 := Scalar.select v2944 v2945 v2939
  let c1_i32_2633 : BitVec 32 := 1#32
  let v2948 : BitVec 32 := Scalar.muli v2946 c1_i32_2633
  let v2949 : BitVec 32 := Scalar.addi c0_i32_2634 v2948
  v2949.toNat
def k0_dev97 (d0 : Dev nD) : Nat :=
  let c0_i32_2652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2640 : BitVec 32 := 1#32
  let v2958 : BitVec 32 := Scalar.addi v2 c1_i32_2640
  let c6_i32_2641 : BitVec 32 := 6#32
  let v2959 : BitVec 32 := Scalar.addi v2958 c6_i32_2641
  let c16_i32_2642 : BitVec 32 := 16#32
  let c0_i32_2643 : BitVec 32 := 0#32
  let v2960 : BitVec 1 := Scalar.cmpi .eq c16_i32_2642 c0_i32_2643
  let c1_i32_2644 : BitVec 32 := 1#32
  let v2961 : BitVec 32 := Scalar.select v2960 c1_i32_2644 c16_i32_2642
  let v2962 : BitVec 32 := Scalar.remsi v2959 v2961
  let c0_i32_2646 : BitVec 32 := 0#32
  let v2964 : BitVec 1 := Scalar.cmpi .slt v2962 c0_i32_2646
  let c0_i32_2647 : BitVec 32 := 0#32
  let v2965 : BitVec 1 := Scalar.cmpi .slt v2961 c0_i32_2647
  let v2966 : BitVec 1 := Scalar.xori v2964 v2965
  let c0_i32_2645 : BitVec 32 := 0#32
  let v2963 : BitVec 1 := Scalar.cmpi .ne v2962 c0_i32_2645
  let v2967 : BitVec 1 := Scalar.andi v2966 v2963
  let v2968 : BitVec 32 := Scalar.addi v2962 v2961
  let v2969 : BitVec 32 := Scalar.select v2967 v2968 v2962
  let c1_i32_2651 : BitVec 32 := 1#32
  let v2971 : BitVec 32 := Scalar.muli v2969 c1_i32_2651
  let v2972 : BitVec 32 := Scalar.addi c0_i32_2652 v2971
  v2972.toNat
def k0_dev98 (d0 : Dev nD) : Nat :=
  let c0_i32_2670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2658 : BitVec 32 := 1#32
  let v2981 : BitVec 32 := Scalar.addi v2 c1_i32_2658
  let c7_i32_2659 : BitVec 32 := 7#32
  let v2982 : BitVec 32 := Scalar.addi v2981 c7_i32_2659
  let c16_i32_2660 : BitVec 32 := 16#32
  let c0_i32_2661 : BitVec 32 := 0#32
  let v2983 : BitVec 1 := Scalar.cmpi .eq c16_i32_2660 c0_i32_2661
  let c1_i32_2662 : BitVec 32 := 1#32
  let v2984 : BitVec 32 := Scalar.select v2983 c1_i32_2662 c16_i32_2660
  let v2985 : BitVec 32 := Scalar.remsi v2982 v2984
  let c0_i32_2664 : BitVec 32 := 0#32
  let v2987 : BitVec 1 := Scalar.cmpi .slt v2985 c0_i32_2664
  let c0_i32_2665 : BitVec 32 := 0#32
  let v2988 : BitVec 1 := Scalar.cmpi .slt v2984 c0_i32_2665
  let v2989 : BitVec 1 := Scalar.xori v2987 v2988
  let c0_i32_2663 : BitVec 32 := 0#32
  let v2986 : BitVec 1 := Scalar.cmpi .ne v2985 c0_i32_2663
  let v2990 : BitVec 1 := Scalar.andi v2989 v2986
  let v2991 : BitVec 32 := Scalar.addi v2985 v2984
  let v2992 : BitVec 32 := Scalar.select v2990 v2991 v2985
  let c1_i32_2669 : BitVec 32 := 1#32
  let v2994 : BitVec 32 := Scalar.muli v2992 c1_i32_2669
  let v2995 : BitVec 32 := Scalar.addi c0_i32_2670 v2994
  v2995.toNat
def k0_dev99 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2676 : BitVec 32 := 1#32
  let v3004 : BitVec 32 := Scalar.addi v2 c1_i32_2676
  let c8_i32_2677 : BitVec 32 := 8#32
  let v3005 : BitVec 32 := Scalar.addi v3004 c8_i32_2677
  let c16_i32_2678 : BitVec 32 := 16#32
  let c0_i32_2679 : BitVec 32 := 0#32
  let v3006 : BitVec 1 := Scalar.cmpi .eq c16_i32_2678 c0_i32_2679
  let c1_i32_2680 : BitVec 32 := 1#32
  let v3007 : BitVec 32 := Scalar.select v3006 c1_i32_2680 c16_i32_2678
  let v3008 : BitVec 32 := Scalar.remsi v3005 v3007
  let c0_i32_2682 : BitVec 32 := 0#32
  let v3010 : BitVec 1 := Scalar.cmpi .slt v3008 c0_i32_2682
  let c0_i32_2683 : BitVec 32 := 0#32
  let v3011 : BitVec 1 := Scalar.cmpi .slt v3007 c0_i32_2683
  let v3012 : BitVec 1 := Scalar.xori v3010 v3011
  let c0_i32_2681 : BitVec 32 := 0#32
  let v3009 : BitVec 1 := Scalar.cmpi .ne v3008 c0_i32_2681
  let v3013 : BitVec 1 := Scalar.andi v3012 v3009
  let v3014 : BitVec 32 := Scalar.addi v3008 v3007
  let v3015 : BitVec 32 := Scalar.select v3013 v3014 v3008
  let c1_i32_2687 : BitVec 32 := 1#32
  let v3017 : BitVec 32 := Scalar.muli v3015 c1_i32_2687
  let v3018 : BitVec 32 := Scalar.addi c0_i32_2688 v3017
  v3018.toNat
def k0_dev100 (d0 : Dev nD) : Nat :=
  let c0_i32_2706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2694 : BitVec 32 := 1#32
  let v3027 : BitVec 32 := Scalar.addi v2 c1_i32_2694
  let c9_i32_2695 : BitVec 32 := 9#32
  let v3028 : BitVec 32 := Scalar.addi v3027 c9_i32_2695
  let c16_i32_2696 : BitVec 32 := 16#32
  let c0_i32_2697 : BitVec 32 := 0#32
  let v3029 : BitVec 1 := Scalar.cmpi .eq c16_i32_2696 c0_i32_2697
  let c1_i32_2698 : BitVec 32 := 1#32
  let v3030 : BitVec 32 := Scalar.select v3029 c1_i32_2698 c16_i32_2696
  let v3031 : BitVec 32 := Scalar.remsi v3028 v3030
  let c0_i32_2700 : BitVec 32 := 0#32
  let v3033 : BitVec 1 := Scalar.cmpi .slt v3031 c0_i32_2700
  let c0_i32_2701 : BitVec 32 := 0#32
  let v3034 : BitVec 1 := Scalar.cmpi .slt v3030 c0_i32_2701
  let v3035 : BitVec 1 := Scalar.xori v3033 v3034
  let c0_i32_2699 : BitVec 32 := 0#32
  let v3032 : BitVec 1 := Scalar.cmpi .ne v3031 c0_i32_2699
  let v3036 : BitVec 1 := Scalar.andi v3035 v3032
  let v3037 : BitVec 32 := Scalar.addi v3031 v3030
  let v3038 : BitVec 32 := Scalar.select v3036 v3037 v3031
  let c1_i32_2705 : BitVec 32 := 1#32
  let v3040 : BitVec 32 := Scalar.muli v3038 c1_i32_2705
  let v3041 : BitVec 32 := Scalar.addi c0_i32_2706 v3040
  v3041.toNat
def k0_dev101 (d0 : Dev nD) : Nat :=
  let c0_i32_2724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2712 : BitVec 32 := 1#32
  let v3050 : BitVec 32 := Scalar.addi v2 c1_i32_2712
  let c10_i32_2713 : BitVec 32 := 10#32
  let v3051 : BitVec 32 := Scalar.addi v3050 c10_i32_2713
  let c16_i32_2714 : BitVec 32 := 16#32
  let c0_i32_2715 : BitVec 32 := 0#32
  let v3052 : BitVec 1 := Scalar.cmpi .eq c16_i32_2714 c0_i32_2715
  let c1_i32_2716 : BitVec 32 := 1#32
  let v3053 : BitVec 32 := Scalar.select v3052 c1_i32_2716 c16_i32_2714
  let v3054 : BitVec 32 := Scalar.remsi v3051 v3053
  let c0_i32_2718 : BitVec 32 := 0#32
  let v3056 : BitVec 1 := Scalar.cmpi .slt v3054 c0_i32_2718
  let c0_i32_2719 : BitVec 32 := 0#32
  let v3057 : BitVec 1 := Scalar.cmpi .slt v3053 c0_i32_2719
  let v3058 : BitVec 1 := Scalar.xori v3056 v3057
  let c0_i32_2717 : BitVec 32 := 0#32
  let v3055 : BitVec 1 := Scalar.cmpi .ne v3054 c0_i32_2717
  let v3059 : BitVec 1 := Scalar.andi v3058 v3055
  let v3060 : BitVec 32 := Scalar.addi v3054 v3053
  let v3061 : BitVec 32 := Scalar.select v3059 v3060 v3054
  let c1_i32_2723 : BitVec 32 := 1#32
  let v3063 : BitVec 32 := Scalar.muli v3061 c1_i32_2723
  let v3064 : BitVec 32 := Scalar.addi c0_i32_2724 v3063
  v3064.toNat
def k0_dev102 (d0 : Dev nD) : Nat :=
  let c0_i32_2742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2730 : BitVec 32 := 1#32
  let v3073 : BitVec 32 := Scalar.addi v2 c1_i32_2730
  let c11_i32_2731 : BitVec 32 := 11#32
  let v3074 : BitVec 32 := Scalar.addi v3073 c11_i32_2731
  let c16_i32_2732 : BitVec 32 := 16#32
  let c0_i32_2733 : BitVec 32 := 0#32
  let v3075 : BitVec 1 := Scalar.cmpi .eq c16_i32_2732 c0_i32_2733
  let c1_i32_2734 : BitVec 32 := 1#32
  let v3076 : BitVec 32 := Scalar.select v3075 c1_i32_2734 c16_i32_2732
  let v3077 : BitVec 32 := Scalar.remsi v3074 v3076
  let c0_i32_2736 : BitVec 32 := 0#32
  let v3079 : BitVec 1 := Scalar.cmpi .slt v3077 c0_i32_2736
  let c0_i32_2737 : BitVec 32 := 0#32
  let v3080 : BitVec 1 := Scalar.cmpi .slt v3076 c0_i32_2737
  let v3081 : BitVec 1 := Scalar.xori v3079 v3080
  let c0_i32_2735 : BitVec 32 := 0#32
  let v3078 : BitVec 1 := Scalar.cmpi .ne v3077 c0_i32_2735
  let v3082 : BitVec 1 := Scalar.andi v3081 v3078
  let v3083 : BitVec 32 := Scalar.addi v3077 v3076
  let v3084 : BitVec 32 := Scalar.select v3082 v3083 v3077
  let c1_i32_2741 : BitVec 32 := 1#32
  let v3086 : BitVec 32 := Scalar.muli v3084 c1_i32_2741
  let v3087 : BitVec 32 := Scalar.addi c0_i32_2742 v3086
  v3087.toNat
def k0_dev103 (d0 : Dev nD) : Nat :=
  let c0_i32_2760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2748 : BitVec 32 := 1#32
  let v3096 : BitVec 32 := Scalar.addi v2 c1_i32_2748
  let c12_i32_2749 : BitVec 32 := 12#32
  let v3097 : BitVec 32 := Scalar.addi v3096 c12_i32_2749
  let c16_i32_2750 : BitVec 32 := 16#32
  let c0_i32_2751 : BitVec 32 := 0#32
  let v3098 : BitVec 1 := Scalar.cmpi .eq c16_i32_2750 c0_i32_2751
  let c1_i32_2752 : BitVec 32 := 1#32
  let v3099 : BitVec 32 := Scalar.select v3098 c1_i32_2752 c16_i32_2750
  let v3100 : BitVec 32 := Scalar.remsi v3097 v3099
  let c0_i32_2754 : BitVec 32 := 0#32
  let v3102 : BitVec 1 := Scalar.cmpi .slt v3100 c0_i32_2754
  let c0_i32_2755 : BitVec 32 := 0#32
  let v3103 : BitVec 1 := Scalar.cmpi .slt v3099 c0_i32_2755
  let v3104 : BitVec 1 := Scalar.xori v3102 v3103
  let c0_i32_2753 : BitVec 32 := 0#32
  let v3101 : BitVec 1 := Scalar.cmpi .ne v3100 c0_i32_2753
  let v3105 : BitVec 1 := Scalar.andi v3104 v3101
  let v3106 : BitVec 32 := Scalar.addi v3100 v3099
  let v3107 : BitVec 32 := Scalar.select v3105 v3106 v3100
  let c1_i32_2759 : BitVec 32 := 1#32
  let v3109 : BitVec 32 := Scalar.muli v3107 c1_i32_2759
  let v3110 : BitVec 32 := Scalar.addi c0_i32_2760 v3109
  v3110.toNat
def k0_dev104 (d0 : Dev nD) : Nat :=
  let c0_i32_2778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2766 : BitVec 32 := 1#32
  let v3119 : BitVec 32 := Scalar.addi v2 c1_i32_2766
  let c13_i32_2767 : BitVec 32 := 13#32
  let v3120 : BitVec 32 := Scalar.addi v3119 c13_i32_2767
  let c16_i32_2768 : BitVec 32 := 16#32
  let c0_i32_2769 : BitVec 32 := 0#32
  let v3121 : BitVec 1 := Scalar.cmpi .eq c16_i32_2768 c0_i32_2769
  let c1_i32_2770 : BitVec 32 := 1#32
  let v3122 : BitVec 32 := Scalar.select v3121 c1_i32_2770 c16_i32_2768
  let v3123 : BitVec 32 := Scalar.remsi v3120 v3122
  let c0_i32_2772 : BitVec 32 := 0#32
  let v3125 : BitVec 1 := Scalar.cmpi .slt v3123 c0_i32_2772
  let c0_i32_2773 : BitVec 32 := 0#32
  let v3126 : BitVec 1 := Scalar.cmpi .slt v3122 c0_i32_2773
  let v3127 : BitVec 1 := Scalar.xori v3125 v3126
  let c0_i32_2771 : BitVec 32 := 0#32
  let v3124 : BitVec 1 := Scalar.cmpi .ne v3123 c0_i32_2771
  let v3128 : BitVec 1 := Scalar.andi v3127 v3124
  let v3129 : BitVec 32 := Scalar.addi v3123 v3122
  let v3130 : BitVec 32 := Scalar.select v3128 v3129 v3123
  let c1_i32_2777 : BitVec 32 := 1#32
  let v3132 : BitVec 32 := Scalar.muli v3130 c1_i32_2777
  let v3133 : BitVec 32 := Scalar.addi c0_i32_2778 v3132
  v3133.toNat
def k0_dev105 (d0 : Dev nD) : Nat :=
  let c0_i32_2796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2784 : BitVec 32 := 1#32
  let v3142 : BitVec 32 := Scalar.addi v2 c1_i32_2784
  let c14_i32_2785 : BitVec 32 := 14#32
  let v3143 : BitVec 32 := Scalar.addi v3142 c14_i32_2785
  let c16_i32_2786 : BitVec 32 := 16#32
  let c0_i32_2787 : BitVec 32 := 0#32
  let v3144 : BitVec 1 := Scalar.cmpi .eq c16_i32_2786 c0_i32_2787
  let c1_i32_2788 : BitVec 32 := 1#32
  let v3145 : BitVec 32 := Scalar.select v3144 c1_i32_2788 c16_i32_2786
  let v3146 : BitVec 32 := Scalar.remsi v3143 v3145
  let c0_i32_2790 : BitVec 32 := 0#32
  let v3148 : BitVec 1 := Scalar.cmpi .slt v3146 c0_i32_2790
  let c0_i32_2791 : BitVec 32 := 0#32
  let v3149 : BitVec 1 := Scalar.cmpi .slt v3145 c0_i32_2791
  let v3150 : BitVec 1 := Scalar.xori v3148 v3149
  let c0_i32_2789 : BitVec 32 := 0#32
  let v3147 : BitVec 1 := Scalar.cmpi .ne v3146 c0_i32_2789
  let v3151 : BitVec 1 := Scalar.andi v3150 v3147
  let v3152 : BitVec 32 := Scalar.addi v3146 v3145
  let v3153 : BitVec 32 := Scalar.select v3151 v3152 v3146
  let c1_i32_2795 : BitVec 32 := 1#32
  let v3155 : BitVec 32 := Scalar.muli v3153 c1_i32_2795
  let v3156 : BitVec 32 := Scalar.addi c0_i32_2796 v3155
  v3156.toNat
def k0_dev106 (d0 : Dev nD) : Nat :=
  let c0_i32_2975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2963 : BitVec 32 := 1#32
  let v3316 : BitVec 32 := Scalar.addi v2 c1_i32_2963
  let c0_i32_2964 : BitVec 32 := 0#32
  let v3317 : BitVec 32 := Scalar.addi v3316 c0_i32_2964
  let c16_i32_2965 : BitVec 32 := 16#32
  let c0_i32_2966 : BitVec 32 := 0#32
  let v3318 : BitVec 1 := Scalar.cmpi .eq c16_i32_2965 c0_i32_2966
  let c1_i32_2967 : BitVec 32 := 1#32
  let v3319 : BitVec 32 := Scalar.select v3318 c1_i32_2967 c16_i32_2965
  let v3320 : BitVec 32 := Scalar.remsi v3317 v3319
  let c0_i32_2969 : BitVec 32 := 0#32
  let v3322 : BitVec 1 := Scalar.cmpi .slt v3320 c0_i32_2969
  let c0_i32_2970 : BitVec 32 := 0#32
  let v3323 : BitVec 1 := Scalar.cmpi .slt v3319 c0_i32_2970
  let v3324 : BitVec 1 := Scalar.xori v3322 v3323
  let c0_i32_2968 : BitVec 32 := 0#32
  let v3321 : BitVec 1 := Scalar.cmpi .ne v3320 c0_i32_2968
  let v3325 : BitVec 1 := Scalar.andi v3324 v3321
  let v3326 : BitVec 32 := Scalar.addi v3320 v3319
  let v3327 : BitVec 32 := Scalar.select v3325 v3326 v3320
  let c1_i32_2974 : BitVec 32 := 1#32
  let v3329 : BitVec 32 := Scalar.muli v3327 c1_i32_2974
  let v3330 : BitVec 32 := Scalar.addi c0_i32_2975 v3329
  v3330.toNat
def k0_dev107 (d0 : Dev nD) : Nat :=
  let c0_i32_2991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2979 : BitVec 32 := 1#32
  let v3337 : BitVec 32 := Scalar.addi v2 c1_i32_2979
  let c1_i32_2980 : BitVec 32 := 1#32
  let v3338 : BitVec 32 := Scalar.addi v3337 c1_i32_2980
  let c16_i32_2981 : BitVec 32 := 16#32
  let c0_i32_2982 : BitVec 32 := 0#32
  let v3339 : BitVec 1 := Scalar.cmpi .eq c16_i32_2981 c0_i32_2982
  let c1_i32_2983 : BitVec 32 := 1#32
  let v3340 : BitVec 32 := Scalar.select v3339 c1_i32_2983 c16_i32_2981
  let v3341 : BitVec 32 := Scalar.remsi v3338 v3340
  let c0_i32_2985 : BitVec 32 := 0#32
  let v3343 : BitVec 1 := Scalar.cmpi .slt v3341 c0_i32_2985
  let c0_i32_2986 : BitVec 32 := 0#32
  let v3344 : BitVec 1 := Scalar.cmpi .slt v3340 c0_i32_2986
  let v3345 : BitVec 1 := Scalar.xori v3343 v3344
  let c0_i32_2984 : BitVec 32 := 0#32
  let v3342 : BitVec 1 := Scalar.cmpi .ne v3341 c0_i32_2984
  let v3346 : BitVec 1 := Scalar.andi v3345 v3342
  let v3347 : BitVec 32 := Scalar.addi v3341 v3340
  let v3348 : BitVec 32 := Scalar.select v3346 v3347 v3341
  let c1_i32_2990 : BitVec 32 := 1#32
  let v3350 : BitVec 32 := Scalar.muli v3348 c1_i32_2990
  let v3351 : BitVec 32 := Scalar.addi c0_i32_2991 v3350
  v3351.toNat
def k0_dev108 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2995 : BitVec 32 := 1#32
  let v3358 : BitVec 32 := Scalar.addi v2 c1_i32_2995
  let c2_i32_2996 : BitVec 32 := 2#32
  let v3359 : BitVec 32 := Scalar.addi v3358 c2_i32_2996
  let c16_i32_2997 : BitVec 32 := 16#32
  let c0_i32_2998 : BitVec 32 := 0#32
  let v3360 : BitVec 1 := Scalar.cmpi .eq c16_i32_2997 c0_i32_2998
  let c1_i32_2999 : BitVec 32 := 1#32
  let v3361 : BitVec 32 := Scalar.select v3360 c1_i32_2999 c16_i32_2997
  let v3362 : BitVec 32 := Scalar.remsi v3359 v3361
  let c0_i32_3001 : BitVec 32 := 0#32
  let v3364 : BitVec 1 := Scalar.cmpi .slt v3362 c0_i32_3001
  let c0_i32_3002 : BitVec 32 := 0#32
  let v3365 : BitVec 1 := Scalar.cmpi .slt v3361 c0_i32_3002
  let v3366 : BitVec 1 := Scalar.xori v3364 v3365
  let c0_i32_3000 : BitVec 32 := 0#32
  let v3363 : BitVec 1 := Scalar.cmpi .ne v3362 c0_i32_3000
  let v3367 : BitVec 1 := Scalar.andi v3366 v3363
  let v3368 : BitVec 32 := Scalar.addi v3362 v3361
  let v3369 : BitVec 32 := Scalar.select v3367 v3368 v3362
  let c1_i32_3006 : BitVec 32 := 1#32
  let v3371 : BitVec 32 := Scalar.muli v3369 c1_i32_3006
  let v3372 : BitVec 32 := Scalar.addi c0_i32_3007 v3371
  v3372.toNat
def k0_dev109 (d0 : Dev nD) : Nat :=
  let c0_i32_3023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3011 : BitVec 32 := 1#32
  let v3379 : BitVec 32 := Scalar.addi v2 c1_i32_3011
  let c3_i32_3012 : BitVec 32 := 3#32
  let v3380 : BitVec 32 := Scalar.addi v3379 c3_i32_3012
  let c16_i32_3013 : BitVec 32 := 16#32
  let c0_i32_3014 : BitVec 32 := 0#32
  let v3381 : BitVec 1 := Scalar.cmpi .eq c16_i32_3013 c0_i32_3014
  let c1_i32_3015 : BitVec 32 := 1#32
  let v3382 : BitVec 32 := Scalar.select v3381 c1_i32_3015 c16_i32_3013
  let v3383 : BitVec 32 := Scalar.remsi v3380 v3382
  let c0_i32_3017 : BitVec 32 := 0#32
  let v3385 : BitVec 1 := Scalar.cmpi .slt v3383 c0_i32_3017
  let c0_i32_3018 : BitVec 32 := 0#32
  let v3386 : BitVec 1 := Scalar.cmpi .slt v3382 c0_i32_3018
  let v3387 : BitVec 1 := Scalar.xori v3385 v3386
  let c0_i32_3016 : BitVec 32 := 0#32
  let v3384 : BitVec 1 := Scalar.cmpi .ne v3383 c0_i32_3016
  let v3388 : BitVec 1 := Scalar.andi v3387 v3384
  let v3389 : BitVec 32 := Scalar.addi v3383 v3382
  let v3390 : BitVec 32 := Scalar.select v3388 v3389 v3383
  let c1_i32_3022 : BitVec 32 := 1#32
  let v3392 : BitVec 32 := Scalar.muli v3390 c1_i32_3022
  let v3393 : BitVec 32 := Scalar.addi c0_i32_3023 v3392
  v3393.toNat
def k0_dev110 (d0 : Dev nD) : Nat :=
  let c0_i32_3039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3027 : BitVec 32 := 1#32
  let v3400 : BitVec 32 := Scalar.addi v2 c1_i32_3027
  let c4_i32_3028 : BitVec 32 := 4#32
  let v3401 : BitVec 32 := Scalar.addi v3400 c4_i32_3028
  let c16_i32_3029 : BitVec 32 := 16#32
  let c0_i32_3030 : BitVec 32 := 0#32
  let v3402 : BitVec 1 := Scalar.cmpi .eq c16_i32_3029 c0_i32_3030
  let c1_i32_3031 : BitVec 32 := 1#32
  let v3403 : BitVec 32 := Scalar.select v3402 c1_i32_3031 c16_i32_3029
  let v3404 : BitVec 32 := Scalar.remsi v3401 v3403
  let c0_i32_3033 : BitVec 32 := 0#32
  let v3406 : BitVec 1 := Scalar.cmpi .slt v3404 c0_i32_3033
  let c0_i32_3034 : BitVec 32 := 0#32
  let v3407 : BitVec 1 := Scalar.cmpi .slt v3403 c0_i32_3034
  let v3408 : BitVec 1 := Scalar.xori v3406 v3407
  let c0_i32_3032 : BitVec 32 := 0#32
  let v3405 : BitVec 1 := Scalar.cmpi .ne v3404 c0_i32_3032
  let v3409 : BitVec 1 := Scalar.andi v3408 v3405
  let v3410 : BitVec 32 := Scalar.addi v3404 v3403
  let v3411 : BitVec 32 := Scalar.select v3409 v3410 v3404
  let c1_i32_3038 : BitVec 32 := 1#32
  let v3413 : BitVec 32 := Scalar.muli v3411 c1_i32_3038
  let v3414 : BitVec 32 := Scalar.addi c0_i32_3039 v3413
  v3414.toNat
def k0_dev111 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3043 : BitVec 32 := 1#32
  let v3421 : BitVec 32 := Scalar.addi v2 c1_i32_3043
  let c5_i32_3044 : BitVec 32 := 5#32
  let v3422 : BitVec 32 := Scalar.addi v3421 c5_i32_3044
  let c16_i32_3045 : BitVec 32 := 16#32
  let c0_i32_3046 : BitVec 32 := 0#32
  let v3423 : BitVec 1 := Scalar.cmpi .eq c16_i32_3045 c0_i32_3046
  let c1_i32_3047 : BitVec 32 := 1#32
  let v3424 : BitVec 32 := Scalar.select v3423 c1_i32_3047 c16_i32_3045
  let v3425 : BitVec 32 := Scalar.remsi v3422 v3424
  let c0_i32_3049 : BitVec 32 := 0#32
  let v3427 : BitVec 1 := Scalar.cmpi .slt v3425 c0_i32_3049
  let c0_i32_3050 : BitVec 32 := 0#32
  let v3428 : BitVec 1 := Scalar.cmpi .slt v3424 c0_i32_3050
  let v3429 : BitVec 1 := Scalar.xori v3427 v3428
  let c0_i32_3048 : BitVec 32 := 0#32
  let v3426 : BitVec 1 := Scalar.cmpi .ne v3425 c0_i32_3048
  let v3430 : BitVec 1 := Scalar.andi v3429 v3426
  let v3431 : BitVec 32 := Scalar.addi v3425 v3424
  let v3432 : BitVec 32 := Scalar.select v3430 v3431 v3425
  let c1_i32_3054 : BitVec 32 := 1#32
  let v3434 : BitVec 32 := Scalar.muli v3432 c1_i32_3054
  let v3435 : BitVec 32 := Scalar.addi c0_i32_3055 v3434
  v3435.toNat
def k0_dev112 (d0 : Dev nD) : Nat :=
  let c0_i32_3071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3059 : BitVec 32 := 1#32
  let v3442 : BitVec 32 := Scalar.addi v2 c1_i32_3059
  let c6_i32_3060 : BitVec 32 := 6#32
  let v3443 : BitVec 32 := Scalar.addi v3442 c6_i32_3060
  let c16_i32_3061 : BitVec 32 := 16#32
  let c0_i32_3062 : BitVec 32 := 0#32
  let v3444 : BitVec 1 := Scalar.cmpi .eq c16_i32_3061 c0_i32_3062
  let c1_i32_3063 : BitVec 32 := 1#32
  let v3445 : BitVec 32 := Scalar.select v3444 c1_i32_3063 c16_i32_3061
  let v3446 : BitVec 32 := Scalar.remsi v3443 v3445
  let c0_i32_3065 : BitVec 32 := 0#32
  let v3448 : BitVec 1 := Scalar.cmpi .slt v3446 c0_i32_3065
  let c0_i32_3066 : BitVec 32 := 0#32
  let v3449 : BitVec 1 := Scalar.cmpi .slt v3445 c0_i32_3066
  let v3450 : BitVec 1 := Scalar.xori v3448 v3449
  let c0_i32_3064 : BitVec 32 := 0#32
  let v3447 : BitVec 1 := Scalar.cmpi .ne v3446 c0_i32_3064
  let v3451 : BitVec 1 := Scalar.andi v3450 v3447
  let v3452 : BitVec 32 := Scalar.addi v3446 v3445
  let v3453 : BitVec 32 := Scalar.select v3451 v3452 v3446
  let c1_i32_3070 : BitVec 32 := 1#32
  let v3455 : BitVec 32 := Scalar.muli v3453 c1_i32_3070
  let v3456 : BitVec 32 := Scalar.addi c0_i32_3071 v3455
  v3456.toNat
def k0_dev113 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3075 : BitVec 32 := 1#32
  let v3463 : BitVec 32 := Scalar.addi v2 c1_i32_3075
  let c7_i32_3076 : BitVec 32 := 7#32
  let v3464 : BitVec 32 := Scalar.addi v3463 c7_i32_3076
  let c16_i32_3077 : BitVec 32 := 16#32
  let c0_i32_3078 : BitVec 32 := 0#32
  let v3465 : BitVec 1 := Scalar.cmpi .eq c16_i32_3077 c0_i32_3078
  let c1_i32_3079 : BitVec 32 := 1#32
  let v3466 : BitVec 32 := Scalar.select v3465 c1_i32_3079 c16_i32_3077
  let v3467 : BitVec 32 := Scalar.remsi v3464 v3466
  let c0_i32_3081 : BitVec 32 := 0#32
  let v3469 : BitVec 1 := Scalar.cmpi .slt v3467 c0_i32_3081
  let c0_i32_3082 : BitVec 32 := 0#32
  let v3470 : BitVec 1 := Scalar.cmpi .slt v3466 c0_i32_3082
  let v3471 : BitVec 1 := Scalar.xori v3469 v3470
  let c0_i32_3080 : BitVec 32 := 0#32
  let v3468 : BitVec 1 := Scalar.cmpi .ne v3467 c0_i32_3080
  let v3472 : BitVec 1 := Scalar.andi v3471 v3468
  let v3473 : BitVec 32 := Scalar.addi v3467 v3466
  let v3474 : BitVec 32 := Scalar.select v3472 v3473 v3467
  let c1_i32_3086 : BitVec 32 := 1#32
  let v3476 : BitVec 32 := Scalar.muli v3474 c1_i32_3086
  let v3477 : BitVec 32 := Scalar.addi c0_i32_3087 v3476
  v3477.toNat
def k0_dev114 (d0 : Dev nD) : Nat :=
  let c0_i32_3103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3091 : BitVec 32 := 1#32
  let v3484 : BitVec 32 := Scalar.addi v2 c1_i32_3091
  let c8_i32_3092 : BitVec 32 := 8#32
  let v3485 : BitVec 32 := Scalar.addi v3484 c8_i32_3092
  let c16_i32_3093 : BitVec 32 := 16#32
  let c0_i32_3094 : BitVec 32 := 0#32
  let v3486 : BitVec 1 := Scalar.cmpi .eq c16_i32_3093 c0_i32_3094
  let c1_i32_3095 : BitVec 32 := 1#32
  let v3487 : BitVec 32 := Scalar.select v3486 c1_i32_3095 c16_i32_3093
  let v3488 : BitVec 32 := Scalar.remsi v3485 v3487
  let c0_i32_3097 : BitVec 32 := 0#32
  let v3490 : BitVec 1 := Scalar.cmpi .slt v3488 c0_i32_3097
  let c0_i32_3098 : BitVec 32 := 0#32
  let v3491 : BitVec 1 := Scalar.cmpi .slt v3487 c0_i32_3098
  let v3492 : BitVec 1 := Scalar.xori v3490 v3491
  let c0_i32_3096 : BitVec 32 := 0#32
  let v3489 : BitVec 1 := Scalar.cmpi .ne v3488 c0_i32_3096
  let v3493 : BitVec 1 := Scalar.andi v3492 v3489
  let v3494 : BitVec 32 := Scalar.addi v3488 v3487
  let v3495 : BitVec 32 := Scalar.select v3493 v3494 v3488
  let c1_i32_3102 : BitVec 32 := 1#32
  let v3497 : BitVec 32 := Scalar.muli v3495 c1_i32_3102
  let v3498 : BitVec 32 := Scalar.addi c0_i32_3103 v3497
  v3498.toNat
def k0_dev115 (d0 : Dev nD) : Nat :=
  let c0_i32_3119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3107 : BitVec 32 := 1#32
  let v3505 : BitVec 32 := Scalar.addi v2 c1_i32_3107
  let c9_i32_3108 : BitVec 32 := 9#32
  let v3506 : BitVec 32 := Scalar.addi v3505 c9_i32_3108
  let c16_i32_3109 : BitVec 32 := 16#32
  let c0_i32_3110 : BitVec 32 := 0#32
  let v3507 : BitVec 1 := Scalar.cmpi .eq c16_i32_3109 c0_i32_3110
  let c1_i32_3111 : BitVec 32 := 1#32
  let v3508 : BitVec 32 := Scalar.select v3507 c1_i32_3111 c16_i32_3109
  let v3509 : BitVec 32 := Scalar.remsi v3506 v3508
  let c0_i32_3113 : BitVec 32 := 0#32
  let v3511 : BitVec 1 := Scalar.cmpi .slt v3509 c0_i32_3113
  let c0_i32_3114 : BitVec 32 := 0#32
  let v3512 : BitVec 1 := Scalar.cmpi .slt v3508 c0_i32_3114
  let v3513 : BitVec 1 := Scalar.xori v3511 v3512
  let c0_i32_3112 : BitVec 32 := 0#32
  let v3510 : BitVec 1 := Scalar.cmpi .ne v3509 c0_i32_3112
  let v3514 : BitVec 1 := Scalar.andi v3513 v3510
  let v3515 : BitVec 32 := Scalar.addi v3509 v3508
  let v3516 : BitVec 32 := Scalar.select v3514 v3515 v3509
  let c1_i32_3118 : BitVec 32 := 1#32
  let v3518 : BitVec 32 := Scalar.muli v3516 c1_i32_3118
  let v3519 : BitVec 32 := Scalar.addi c0_i32_3119 v3518
  v3519.toNat
def k0_dev116 (d0 : Dev nD) : Nat :=
  let c0_i32_3135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3123 : BitVec 32 := 1#32
  let v3526 : BitVec 32 := Scalar.addi v2 c1_i32_3123
  let c10_i32_3124 : BitVec 32 := 10#32
  let v3527 : BitVec 32 := Scalar.addi v3526 c10_i32_3124
  let c16_i32_3125 : BitVec 32 := 16#32
  let c0_i32_3126 : BitVec 32 := 0#32
  let v3528 : BitVec 1 := Scalar.cmpi .eq c16_i32_3125 c0_i32_3126
  let c1_i32_3127 : BitVec 32 := 1#32
  let v3529 : BitVec 32 := Scalar.select v3528 c1_i32_3127 c16_i32_3125
  let v3530 : BitVec 32 := Scalar.remsi v3527 v3529
  let c0_i32_3129 : BitVec 32 := 0#32
  let v3532 : BitVec 1 := Scalar.cmpi .slt v3530 c0_i32_3129
  let c0_i32_3130 : BitVec 32 := 0#32
  let v3533 : BitVec 1 := Scalar.cmpi .slt v3529 c0_i32_3130
  let v3534 : BitVec 1 := Scalar.xori v3532 v3533
  let c0_i32_3128 : BitVec 32 := 0#32
  let v3531 : BitVec 1 := Scalar.cmpi .ne v3530 c0_i32_3128
  let v3535 : BitVec 1 := Scalar.andi v3534 v3531
  let v3536 : BitVec 32 := Scalar.addi v3530 v3529
  let v3537 : BitVec 32 := Scalar.select v3535 v3536 v3530
  let c1_i32_3134 : BitVec 32 := 1#32
  let v3539 : BitVec 32 := Scalar.muli v3537 c1_i32_3134
  let v3540 : BitVec 32 := Scalar.addi c0_i32_3135 v3539
  v3540.toNat
def k0_dev117 (d0 : Dev nD) : Nat :=
  let c0_i32_3151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3139 : BitVec 32 := 1#32
  let v3547 : BitVec 32 := Scalar.addi v2 c1_i32_3139
  let c11_i32_3140 : BitVec 32 := 11#32
  let v3548 : BitVec 32 := Scalar.addi v3547 c11_i32_3140
  let c16_i32_3141 : BitVec 32 := 16#32
  let c0_i32_3142 : BitVec 32 := 0#32
  let v3549 : BitVec 1 := Scalar.cmpi .eq c16_i32_3141 c0_i32_3142
  let c1_i32_3143 : BitVec 32 := 1#32
  let v3550 : BitVec 32 := Scalar.select v3549 c1_i32_3143 c16_i32_3141
  let v3551 : BitVec 32 := Scalar.remsi v3548 v3550
  let c0_i32_3145 : BitVec 32 := 0#32
  let v3553 : BitVec 1 := Scalar.cmpi .slt v3551 c0_i32_3145
  let c0_i32_3146 : BitVec 32 := 0#32
  let v3554 : BitVec 1 := Scalar.cmpi .slt v3550 c0_i32_3146
  let v3555 : BitVec 1 := Scalar.xori v3553 v3554
  let c0_i32_3144 : BitVec 32 := 0#32
  let v3552 : BitVec 1 := Scalar.cmpi .ne v3551 c0_i32_3144
  let v3556 : BitVec 1 := Scalar.andi v3555 v3552
  let v3557 : BitVec 32 := Scalar.addi v3551 v3550
  let v3558 : BitVec 32 := Scalar.select v3556 v3557 v3551
  let c1_i32_3150 : BitVec 32 := 1#32
  let v3560 : BitVec 32 := Scalar.muli v3558 c1_i32_3150
  let v3561 : BitVec 32 := Scalar.addi c0_i32_3151 v3560
  v3561.toNat
def k0_dev118 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3155 : BitVec 32 := 1#32
  let v3568 : BitVec 32 := Scalar.addi v2 c1_i32_3155
  let c12_i32_3156 : BitVec 32 := 12#32
  let v3569 : BitVec 32 := Scalar.addi v3568 c12_i32_3156
  let c16_i32_3157 : BitVec 32 := 16#32
  let c0_i32_3158 : BitVec 32 := 0#32
  let v3570 : BitVec 1 := Scalar.cmpi .eq c16_i32_3157 c0_i32_3158
  let c1_i32_3159 : BitVec 32 := 1#32
  let v3571 : BitVec 32 := Scalar.select v3570 c1_i32_3159 c16_i32_3157
  let v3572 : BitVec 32 := Scalar.remsi v3569 v3571
  let c0_i32_3161 : BitVec 32 := 0#32
  let v3574 : BitVec 1 := Scalar.cmpi .slt v3572 c0_i32_3161
  let c0_i32_3162 : BitVec 32 := 0#32
  let v3575 : BitVec 1 := Scalar.cmpi .slt v3571 c0_i32_3162
  let v3576 : BitVec 1 := Scalar.xori v3574 v3575
  let c0_i32_3160 : BitVec 32 := 0#32
  let v3573 : BitVec 1 := Scalar.cmpi .ne v3572 c0_i32_3160
  let v3577 : BitVec 1 := Scalar.andi v3576 v3573
  let v3578 : BitVec 32 := Scalar.addi v3572 v3571
  let v3579 : BitVec 32 := Scalar.select v3577 v3578 v3572
  let c1_i32_3166 : BitVec 32 := 1#32
  let v3581 : BitVec 32 := Scalar.muli v3579 c1_i32_3166
  let v3582 : BitVec 32 := Scalar.addi c0_i32_3167 v3581
  v3582.toNat
def k0_dev119 (d0 : Dev nD) : Nat :=
  let c0_i32_3183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3171 : BitVec 32 := 1#32
  let v3589 : BitVec 32 := Scalar.addi v2 c1_i32_3171
  let c13_i32_3172 : BitVec 32 := 13#32
  let v3590 : BitVec 32 := Scalar.addi v3589 c13_i32_3172
  let c16_i32_3173 : BitVec 32 := 16#32
  let c0_i32_3174 : BitVec 32 := 0#32
  let v3591 : BitVec 1 := Scalar.cmpi .eq c16_i32_3173 c0_i32_3174
  let c1_i32_3175 : BitVec 32 := 1#32
  let v3592 : BitVec 32 := Scalar.select v3591 c1_i32_3175 c16_i32_3173
  let v3593 : BitVec 32 := Scalar.remsi v3590 v3592
  let c0_i32_3177 : BitVec 32 := 0#32
  let v3595 : BitVec 1 := Scalar.cmpi .slt v3593 c0_i32_3177
  let c0_i32_3178 : BitVec 32 := 0#32
  let v3596 : BitVec 1 := Scalar.cmpi .slt v3592 c0_i32_3178
  let v3597 : BitVec 1 := Scalar.xori v3595 v3596
  let c0_i32_3176 : BitVec 32 := 0#32
  let v3594 : BitVec 1 := Scalar.cmpi .ne v3593 c0_i32_3176
  let v3598 : BitVec 1 := Scalar.andi v3597 v3594
  let v3599 : BitVec 32 := Scalar.addi v3593 v3592
  let v3600 : BitVec 32 := Scalar.select v3598 v3599 v3593
  let c1_i32_3182 : BitVec 32 := 1#32
  let v3602 : BitVec 32 := Scalar.muli v3600 c1_i32_3182
  let v3603 : BitVec 32 := Scalar.addi c0_i32_3183 v3602
  v3603.toNat
def k0_dev120 (d0 : Dev nD) : Nat :=
  let c0_i32_3199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3187 : BitVec 32 := 1#32
  let v3610 : BitVec 32 := Scalar.addi v2 c1_i32_3187
  let c14_i32_3188 : BitVec 32 := 14#32
  let v3611 : BitVec 32 := Scalar.addi v3610 c14_i32_3188
  let c16_i32_3189 : BitVec 32 := 16#32
  let c0_i32_3190 : BitVec 32 := 0#32
  let v3612 : BitVec 1 := Scalar.cmpi .eq c16_i32_3189 c0_i32_3190
  let c1_i32_3191 : BitVec 32 := 1#32
  let v3613 : BitVec 32 := Scalar.select v3612 c1_i32_3191 c16_i32_3189
  let v3614 : BitVec 32 := Scalar.remsi v3611 v3613
  let c0_i32_3193 : BitVec 32 := 0#32
  let v3616 : BitVec 1 := Scalar.cmpi .slt v3614 c0_i32_3193
  let c0_i32_3194 : BitVec 32 := 0#32
  let v3617 : BitVec 1 := Scalar.cmpi .slt v3613 c0_i32_3194
  let v3618 : BitVec 1 := Scalar.xori v3616 v3617
  let c0_i32_3192 : BitVec 32 := 0#32
  let v3615 : BitVec 1 := Scalar.cmpi .ne v3614 c0_i32_3192
  let v3619 : BitVec 1 := Scalar.andi v3618 v3615
  let v3620 : BitVec 32 := Scalar.addi v3614 v3613
  let v3621 : BitVec 32 := Scalar.select v3619 v3620 v3614
  let c1_i32_3198 : BitVec 32 := 1#32
  let v3623 : BitVec 32 := Scalar.muli v3621 c1_i32_3198
  let v3624 : BitVec 32 := Scalar.addi c0_i32_3199 v3623
  v3624.toNat
def k0_dev121 (d0 : Dev nD) : Nat :=
  let c0_i32_3511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3499 : BitVec 32 := 1#32
  let v3886 : BitVec 32 := Scalar.addi v2 c1_i32_3499
  let c0_i32_3500 : BitVec 32 := 0#32
  let v3887 : BitVec 32 := Scalar.addi v3886 c0_i32_3500
  let c16_i32_3501 : BitVec 32 := 16#32
  let c0_i32_3502 : BitVec 32 := 0#32
  let v3888 : BitVec 1 := Scalar.cmpi .eq c16_i32_3501 c0_i32_3502
  let c1_i32_3503 : BitVec 32 := 1#32
  let v3889 : BitVec 32 := Scalar.select v3888 c1_i32_3503 c16_i32_3501
  let v3890 : BitVec 32 := Scalar.remsi v3887 v3889
  let c0_i32_3505 : BitVec 32 := 0#32
  let v3892 : BitVec 1 := Scalar.cmpi .slt v3890 c0_i32_3505
  let c0_i32_3506 : BitVec 32 := 0#32
  let v3893 : BitVec 1 := Scalar.cmpi .slt v3889 c0_i32_3506
  let v3894 : BitVec 1 := Scalar.xori v3892 v3893
  let c0_i32_3504 : BitVec 32 := 0#32
  let v3891 : BitVec 1 := Scalar.cmpi .ne v3890 c0_i32_3504
  let v3895 : BitVec 1 := Scalar.andi v3894 v3891
  let v3896 : BitVec 32 := Scalar.addi v3890 v3889
  let v3897 : BitVec 32 := Scalar.select v3895 v3896 v3890
  let c1_i32_3510 : BitVec 32 := 1#32
  let v3899 : BitVec 32 := Scalar.muli v3897 c1_i32_3510
  let v3900 : BitVec 32 := Scalar.addi c0_i32_3511 v3899
  v3900.toNat
def k0_dev122 (d0 : Dev nD) : Nat :=
  let c0_i32_3527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3515 : BitVec 32 := 1#32
  let v3907 : BitVec 32 := Scalar.addi v2 c1_i32_3515
  let c1_i32_3516 : BitVec 32 := 1#32
  let v3908 : BitVec 32 := Scalar.addi v3907 c1_i32_3516
  let c16_i32_3517 : BitVec 32 := 16#32
  let c0_i32_3518 : BitVec 32 := 0#32
  let v3909 : BitVec 1 := Scalar.cmpi .eq c16_i32_3517 c0_i32_3518
  let c1_i32_3519 : BitVec 32 := 1#32
  let v3910 : BitVec 32 := Scalar.select v3909 c1_i32_3519 c16_i32_3517
  let v3911 : BitVec 32 := Scalar.remsi v3908 v3910
  let c0_i32_3521 : BitVec 32 := 0#32
  let v3913 : BitVec 1 := Scalar.cmpi .slt v3911 c0_i32_3521
  let c0_i32_3522 : BitVec 32 := 0#32
  let v3914 : BitVec 1 := Scalar.cmpi .slt v3910 c0_i32_3522
  let v3915 : BitVec 1 := Scalar.xori v3913 v3914
  let c0_i32_3520 : BitVec 32 := 0#32
  let v3912 : BitVec 1 := Scalar.cmpi .ne v3911 c0_i32_3520
  let v3916 : BitVec 1 := Scalar.andi v3915 v3912
  let v3917 : BitVec 32 := Scalar.addi v3911 v3910
  let v3918 : BitVec 32 := Scalar.select v3916 v3917 v3911
  let c1_i32_3526 : BitVec 32 := 1#32
  let v3920 : BitVec 32 := Scalar.muli v3918 c1_i32_3526
  let v3921 : BitVec 32 := Scalar.addi c0_i32_3527 v3920
  v3921.toNat
def k0_dev123 (d0 : Dev nD) : Nat :=
  let c0_i32_3543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3531 : BitVec 32 := 1#32
  let v3928 : BitVec 32 := Scalar.addi v2 c1_i32_3531
  let c2_i32_3532 : BitVec 32 := 2#32
  let v3929 : BitVec 32 := Scalar.addi v3928 c2_i32_3532
  let c16_i32_3533 : BitVec 32 := 16#32
  let c0_i32_3534 : BitVec 32 := 0#32
  let v3930 : BitVec 1 := Scalar.cmpi .eq c16_i32_3533 c0_i32_3534
  let c1_i32_3535 : BitVec 32 := 1#32
  let v3931 : BitVec 32 := Scalar.select v3930 c1_i32_3535 c16_i32_3533
  let v3932 : BitVec 32 := Scalar.remsi v3929 v3931
  let c0_i32_3537 : BitVec 32 := 0#32
  let v3934 : BitVec 1 := Scalar.cmpi .slt v3932 c0_i32_3537
  let c0_i32_3538 : BitVec 32 := 0#32
  let v3935 : BitVec 1 := Scalar.cmpi .slt v3931 c0_i32_3538
  let v3936 : BitVec 1 := Scalar.xori v3934 v3935
  let c0_i32_3536 : BitVec 32 := 0#32
  let v3933 : BitVec 1 := Scalar.cmpi .ne v3932 c0_i32_3536
  let v3937 : BitVec 1 := Scalar.andi v3936 v3933
  let v3938 : BitVec 32 := Scalar.addi v3932 v3931
  let v3939 : BitVec 32 := Scalar.select v3937 v3938 v3932
  let c1_i32_3542 : BitVec 32 := 1#32
  let v3941 : BitVec 32 := Scalar.muli v3939 c1_i32_3542
  let v3942 : BitVec 32 := Scalar.addi c0_i32_3543 v3941
  v3942.toNat
def k0_dev124 (d0 : Dev nD) : Nat :=
  let c0_i32_3559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3547 : BitVec 32 := 1#32
  let v3949 : BitVec 32 := Scalar.addi v2 c1_i32_3547
  let c3_i32_3548 : BitVec 32 := 3#32
  let v3950 : BitVec 32 := Scalar.addi v3949 c3_i32_3548
  let c16_i32_3549 : BitVec 32 := 16#32
  let c0_i32_3550 : BitVec 32 := 0#32
  let v3951 : BitVec 1 := Scalar.cmpi .eq c16_i32_3549 c0_i32_3550
  let c1_i32_3551 : BitVec 32 := 1#32
  let v3952 : BitVec 32 := Scalar.select v3951 c1_i32_3551 c16_i32_3549
  let v3953 : BitVec 32 := Scalar.remsi v3950 v3952
  let c0_i32_3553 : BitVec 32 := 0#32
  let v3955 : BitVec 1 := Scalar.cmpi .slt v3953 c0_i32_3553
  let c0_i32_3554 : BitVec 32 := 0#32
  let v3956 : BitVec 1 := Scalar.cmpi .slt v3952 c0_i32_3554
  let v3957 : BitVec 1 := Scalar.xori v3955 v3956
  let c0_i32_3552 : BitVec 32 := 0#32
  let v3954 : BitVec 1 := Scalar.cmpi .ne v3953 c0_i32_3552
  let v3958 : BitVec 1 := Scalar.andi v3957 v3954
  let v3959 : BitVec 32 := Scalar.addi v3953 v3952
  let v3960 : BitVec 32 := Scalar.select v3958 v3959 v3953
  let c1_i32_3558 : BitVec 32 := 1#32
  let v3962 : BitVec 32 := Scalar.muli v3960 c1_i32_3558
  let v3963 : BitVec 32 := Scalar.addi c0_i32_3559 v3962
  v3963.toNat
def k0_dev125 (d0 : Dev nD) : Nat :=
  let c0_i32_3575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3563 : BitVec 32 := 1#32
  let v3970 : BitVec 32 := Scalar.addi v2 c1_i32_3563
  let c4_i32_3564 : BitVec 32 := 4#32
  let v3971 : BitVec 32 := Scalar.addi v3970 c4_i32_3564
  let c16_i32_3565 : BitVec 32 := 16#32
  let c0_i32_3566 : BitVec 32 := 0#32
  let v3972 : BitVec 1 := Scalar.cmpi .eq c16_i32_3565 c0_i32_3566
  let c1_i32_3567 : BitVec 32 := 1#32
  let v3973 : BitVec 32 := Scalar.select v3972 c1_i32_3567 c16_i32_3565
  let v3974 : BitVec 32 := Scalar.remsi v3971 v3973
  let c0_i32_3569 : BitVec 32 := 0#32
  let v3976 : BitVec 1 := Scalar.cmpi .slt v3974 c0_i32_3569
  let c0_i32_3570 : BitVec 32 := 0#32
  let v3977 : BitVec 1 := Scalar.cmpi .slt v3973 c0_i32_3570
  let v3978 : BitVec 1 := Scalar.xori v3976 v3977
  let c0_i32_3568 : BitVec 32 := 0#32
  let v3975 : BitVec 1 := Scalar.cmpi .ne v3974 c0_i32_3568
  let v3979 : BitVec 1 := Scalar.andi v3978 v3975
  let v3980 : BitVec 32 := Scalar.addi v3974 v3973
  let v3981 : BitVec 32 := Scalar.select v3979 v3980 v3974
  let c1_i32_3574 : BitVec 32 := 1#32
  let v3983 : BitVec 32 := Scalar.muli v3981 c1_i32_3574
  let v3984 : BitVec 32 := Scalar.addi c0_i32_3575 v3983
  v3984.toNat
def k0_dev126 (d0 : Dev nD) : Nat :=
  let c0_i32_3591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3579 : BitVec 32 := 1#32
  let v3991 : BitVec 32 := Scalar.addi v2 c1_i32_3579
  let c5_i32_3580 : BitVec 32 := 5#32
  let v3992 : BitVec 32 := Scalar.addi v3991 c5_i32_3580
  let c16_i32_3581 : BitVec 32 := 16#32
  let c0_i32_3582 : BitVec 32 := 0#32
  let v3993 : BitVec 1 := Scalar.cmpi .eq c16_i32_3581 c0_i32_3582
  let c1_i32_3583 : BitVec 32 := 1#32
  let v3994 : BitVec 32 := Scalar.select v3993 c1_i32_3583 c16_i32_3581
  let v3995 : BitVec 32 := Scalar.remsi v3992 v3994
  let c0_i32_3585 : BitVec 32 := 0#32
  let v3997 : BitVec 1 := Scalar.cmpi .slt v3995 c0_i32_3585
  let c0_i32_3586 : BitVec 32 := 0#32
  let v3998 : BitVec 1 := Scalar.cmpi .slt v3994 c0_i32_3586
  let v3999 : BitVec 1 := Scalar.xori v3997 v3998
  let c0_i32_3584 : BitVec 32 := 0#32
  let v3996 : BitVec 1 := Scalar.cmpi .ne v3995 c0_i32_3584
  let v4000 : BitVec 1 := Scalar.andi v3999 v3996
  let v4001 : BitVec 32 := Scalar.addi v3995 v3994
  let v4002 : BitVec 32 := Scalar.select v4000 v4001 v3995
  let c1_i32_3590 : BitVec 32 := 1#32
  let v4004 : BitVec 32 := Scalar.muli v4002 c1_i32_3590
  let v4005 : BitVec 32 := Scalar.addi c0_i32_3591 v4004
  v4005.toNat
def k0_dev127 (d0 : Dev nD) : Nat :=
  let c0_i32_3607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3595 : BitVec 32 := 1#32
  let v4012 : BitVec 32 := Scalar.addi v2 c1_i32_3595
  let c6_i32_3596 : BitVec 32 := 6#32
  let v4013 : BitVec 32 := Scalar.addi v4012 c6_i32_3596
  let c16_i32_3597 : BitVec 32 := 16#32
  let c0_i32_3598 : BitVec 32 := 0#32
  let v4014 : BitVec 1 := Scalar.cmpi .eq c16_i32_3597 c0_i32_3598
  let c1_i32_3599 : BitVec 32 := 1#32
  let v4015 : BitVec 32 := Scalar.select v4014 c1_i32_3599 c16_i32_3597
  let v4016 : BitVec 32 := Scalar.remsi v4013 v4015
  let c0_i32_3601 : BitVec 32 := 0#32
  let v4018 : BitVec 1 := Scalar.cmpi .slt v4016 c0_i32_3601
  let c0_i32_3602 : BitVec 32 := 0#32
  let v4019 : BitVec 1 := Scalar.cmpi .slt v4015 c0_i32_3602
  let v4020 : BitVec 1 := Scalar.xori v4018 v4019
  let c0_i32_3600 : BitVec 32 := 0#32
  let v4017 : BitVec 1 := Scalar.cmpi .ne v4016 c0_i32_3600
  let v4021 : BitVec 1 := Scalar.andi v4020 v4017
  let v4022 : BitVec 32 := Scalar.addi v4016 v4015
  let v4023 : BitVec 32 := Scalar.select v4021 v4022 v4016
  let c1_i32_3606 : BitVec 32 := 1#32
  let v4025 : BitVec 32 := Scalar.muli v4023 c1_i32_3606
  let v4026 : BitVec 32 := Scalar.addi c0_i32_3607 v4025
  v4026.toNat
def k0_dev128 (d0 : Dev nD) : Nat :=
  let c0_i32_3623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3611 : BitVec 32 := 1#32
  let v4033 : BitVec 32 := Scalar.addi v2 c1_i32_3611
  let c7_i32_3612 : BitVec 32 := 7#32
  let v4034 : BitVec 32 := Scalar.addi v4033 c7_i32_3612
  let c16_i32_3613 : BitVec 32 := 16#32
  let c0_i32_3614 : BitVec 32 := 0#32
  let v4035 : BitVec 1 := Scalar.cmpi .eq c16_i32_3613 c0_i32_3614
  let c1_i32_3615 : BitVec 32 := 1#32
  let v4036 : BitVec 32 := Scalar.select v4035 c1_i32_3615 c16_i32_3613
  let v4037 : BitVec 32 := Scalar.remsi v4034 v4036
  let c0_i32_3617 : BitVec 32 := 0#32
  let v4039 : BitVec 1 := Scalar.cmpi .slt v4037 c0_i32_3617
  let c0_i32_3618 : BitVec 32 := 0#32
  let v4040 : BitVec 1 := Scalar.cmpi .slt v4036 c0_i32_3618
  let v4041 : BitVec 1 := Scalar.xori v4039 v4040
  let c0_i32_3616 : BitVec 32 := 0#32
  let v4038 : BitVec 1 := Scalar.cmpi .ne v4037 c0_i32_3616
  let v4042 : BitVec 1 := Scalar.andi v4041 v4038
  let v4043 : BitVec 32 := Scalar.addi v4037 v4036
  let v4044 : BitVec 32 := Scalar.select v4042 v4043 v4037
  let c1_i32_3622 : BitVec 32 := 1#32
  let v4046 : BitVec 32 := Scalar.muli v4044 c1_i32_3622
  let v4047 : BitVec 32 := Scalar.addi c0_i32_3623 v4046
  v4047.toNat
def k0_dev129 (d0 : Dev nD) : Nat :=
  let c0_i32_3639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3627 : BitVec 32 := 1#32
  let v4054 : BitVec 32 := Scalar.addi v2 c1_i32_3627
  let c8_i32_3628 : BitVec 32 := 8#32
  let v4055 : BitVec 32 := Scalar.addi v4054 c8_i32_3628
  let c16_i32_3629 : BitVec 32 := 16#32
  let c0_i32_3630 : BitVec 32 := 0#32
  let v4056 : BitVec 1 := Scalar.cmpi .eq c16_i32_3629 c0_i32_3630
  let c1_i32_3631 : BitVec 32 := 1#32
  let v4057 : BitVec 32 := Scalar.select v4056 c1_i32_3631 c16_i32_3629
  let v4058 : BitVec 32 := Scalar.remsi v4055 v4057
  let c0_i32_3633 : BitVec 32 := 0#32
  let v4060 : BitVec 1 := Scalar.cmpi .slt v4058 c0_i32_3633
  let c0_i32_3634 : BitVec 32 := 0#32
  let v4061 : BitVec 1 := Scalar.cmpi .slt v4057 c0_i32_3634
  let v4062 : BitVec 1 := Scalar.xori v4060 v4061
  let c0_i32_3632 : BitVec 32 := 0#32
  let v4059 : BitVec 1 := Scalar.cmpi .ne v4058 c0_i32_3632
  let v4063 : BitVec 1 := Scalar.andi v4062 v4059
  let v4064 : BitVec 32 := Scalar.addi v4058 v4057
  let v4065 : BitVec 32 := Scalar.select v4063 v4064 v4058
  let c1_i32_3638 : BitVec 32 := 1#32
  let v4067 : BitVec 32 := Scalar.muli v4065 c1_i32_3638
  let v4068 : BitVec 32 := Scalar.addi c0_i32_3639 v4067
  v4068.toNat
def k0_dev130 (d0 : Dev nD) : Nat :=
  let c0_i32_3655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3643 : BitVec 32 := 1#32
  let v4075 : BitVec 32 := Scalar.addi v2 c1_i32_3643
  let c9_i32_3644 : BitVec 32 := 9#32
  let v4076 : BitVec 32 := Scalar.addi v4075 c9_i32_3644
  let c16_i32_3645 : BitVec 32 := 16#32
  let c0_i32_3646 : BitVec 32 := 0#32
  let v4077 : BitVec 1 := Scalar.cmpi .eq c16_i32_3645 c0_i32_3646
  let c1_i32_3647 : BitVec 32 := 1#32
  let v4078 : BitVec 32 := Scalar.select v4077 c1_i32_3647 c16_i32_3645
  let v4079 : BitVec 32 := Scalar.remsi v4076 v4078
  let c0_i32_3649 : BitVec 32 := 0#32
  let v4081 : BitVec 1 := Scalar.cmpi .slt v4079 c0_i32_3649
  let c0_i32_3650 : BitVec 32 := 0#32
  let v4082 : BitVec 1 := Scalar.cmpi .slt v4078 c0_i32_3650
  let v4083 : BitVec 1 := Scalar.xori v4081 v4082
  let c0_i32_3648 : BitVec 32 := 0#32
  let v4080 : BitVec 1 := Scalar.cmpi .ne v4079 c0_i32_3648
  let v4084 : BitVec 1 := Scalar.andi v4083 v4080
  let v4085 : BitVec 32 := Scalar.addi v4079 v4078
  let v4086 : BitVec 32 := Scalar.select v4084 v4085 v4079
  let c1_i32_3654 : BitVec 32 := 1#32
  let v4088 : BitVec 32 := Scalar.muli v4086 c1_i32_3654
  let v4089 : BitVec 32 := Scalar.addi c0_i32_3655 v4088
  v4089.toNat
def k0_dev131 (d0 : Dev nD) : Nat :=
  let c0_i32_3671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3659 : BitVec 32 := 1#32
  let v4096 : BitVec 32 := Scalar.addi v2 c1_i32_3659
  let c10_i32_3660 : BitVec 32 := 10#32
  let v4097 : BitVec 32 := Scalar.addi v4096 c10_i32_3660
  let c16_i32_3661 : BitVec 32 := 16#32
  let c0_i32_3662 : BitVec 32 := 0#32
  let v4098 : BitVec 1 := Scalar.cmpi .eq c16_i32_3661 c0_i32_3662
  let c1_i32_3663 : BitVec 32 := 1#32
  let v4099 : BitVec 32 := Scalar.select v4098 c1_i32_3663 c16_i32_3661
  let v4100 : BitVec 32 := Scalar.remsi v4097 v4099
  let c0_i32_3665 : BitVec 32 := 0#32
  let v4102 : BitVec 1 := Scalar.cmpi .slt v4100 c0_i32_3665
  let c0_i32_3666 : BitVec 32 := 0#32
  let v4103 : BitVec 1 := Scalar.cmpi .slt v4099 c0_i32_3666
  let v4104 : BitVec 1 := Scalar.xori v4102 v4103
  let c0_i32_3664 : BitVec 32 := 0#32
  let v4101 : BitVec 1 := Scalar.cmpi .ne v4100 c0_i32_3664
  let v4105 : BitVec 1 := Scalar.andi v4104 v4101
  let v4106 : BitVec 32 := Scalar.addi v4100 v4099
  let v4107 : BitVec 32 := Scalar.select v4105 v4106 v4100
  let c1_i32_3670 : BitVec 32 := 1#32
  let v4109 : BitVec 32 := Scalar.muli v4107 c1_i32_3670
  let v4110 : BitVec 32 := Scalar.addi c0_i32_3671 v4109
  v4110.toNat
def k0_dev132 (d0 : Dev nD) : Nat :=
  let c0_i32_3687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3675 : BitVec 32 := 1#32
  let v4117 : BitVec 32 := Scalar.addi v2 c1_i32_3675
  let c11_i32_3676 : BitVec 32 := 11#32
  let v4118 : BitVec 32 := Scalar.addi v4117 c11_i32_3676
  let c16_i32_3677 : BitVec 32 := 16#32
  let c0_i32_3678 : BitVec 32 := 0#32
  let v4119 : BitVec 1 := Scalar.cmpi .eq c16_i32_3677 c0_i32_3678
  let c1_i32_3679 : BitVec 32 := 1#32
  let v4120 : BitVec 32 := Scalar.select v4119 c1_i32_3679 c16_i32_3677
  let v4121 : BitVec 32 := Scalar.remsi v4118 v4120
  let c0_i32_3681 : BitVec 32 := 0#32
  let v4123 : BitVec 1 := Scalar.cmpi .slt v4121 c0_i32_3681
  let c0_i32_3682 : BitVec 32 := 0#32
  let v4124 : BitVec 1 := Scalar.cmpi .slt v4120 c0_i32_3682
  let v4125 : BitVec 1 := Scalar.xori v4123 v4124
  let c0_i32_3680 : BitVec 32 := 0#32
  let v4122 : BitVec 1 := Scalar.cmpi .ne v4121 c0_i32_3680
  let v4126 : BitVec 1 := Scalar.andi v4125 v4122
  let v4127 : BitVec 32 := Scalar.addi v4121 v4120
  let v4128 : BitVec 32 := Scalar.select v4126 v4127 v4121
  let c1_i32_3686 : BitVec 32 := 1#32
  let v4130 : BitVec 32 := Scalar.muli v4128 c1_i32_3686
  let v4131 : BitVec 32 := Scalar.addi c0_i32_3687 v4130
  v4131.toNat
def k0_dev133 (d0 : Dev nD) : Nat :=
  let c0_i32_3703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3691 : BitVec 32 := 1#32
  let v4138 : BitVec 32 := Scalar.addi v2 c1_i32_3691
  let c12_i32_3692 : BitVec 32 := 12#32
  let v4139 : BitVec 32 := Scalar.addi v4138 c12_i32_3692
  let c16_i32_3693 : BitVec 32 := 16#32
  let c0_i32_3694 : BitVec 32 := 0#32
  let v4140 : BitVec 1 := Scalar.cmpi .eq c16_i32_3693 c0_i32_3694
  let c1_i32_3695 : BitVec 32 := 1#32
  let v4141 : BitVec 32 := Scalar.select v4140 c1_i32_3695 c16_i32_3693
  let v4142 : BitVec 32 := Scalar.remsi v4139 v4141
  let c0_i32_3697 : BitVec 32 := 0#32
  let v4144 : BitVec 1 := Scalar.cmpi .slt v4142 c0_i32_3697
  let c0_i32_3698 : BitVec 32 := 0#32
  let v4145 : BitVec 1 := Scalar.cmpi .slt v4141 c0_i32_3698
  let v4146 : BitVec 1 := Scalar.xori v4144 v4145
  let c0_i32_3696 : BitVec 32 := 0#32
  let v4143 : BitVec 1 := Scalar.cmpi .ne v4142 c0_i32_3696
  let v4147 : BitVec 1 := Scalar.andi v4146 v4143
  let v4148 : BitVec 32 := Scalar.addi v4142 v4141
  let v4149 : BitVec 32 := Scalar.select v4147 v4148 v4142
  let c1_i32_3702 : BitVec 32 := 1#32
  let v4151 : BitVec 32 := Scalar.muli v4149 c1_i32_3702
  let v4152 : BitVec 32 := Scalar.addi c0_i32_3703 v4151
  v4152.toNat
def k0_dev134 (d0 : Dev nD) : Nat :=
  let c0_i32_3719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3707 : BitVec 32 := 1#32
  let v4159 : BitVec 32 := Scalar.addi v2 c1_i32_3707
  let c13_i32_3708 : BitVec 32 := 13#32
  let v4160 : BitVec 32 := Scalar.addi v4159 c13_i32_3708
  let c16_i32_3709 : BitVec 32 := 16#32
  let c0_i32_3710 : BitVec 32 := 0#32
  let v4161 : BitVec 1 := Scalar.cmpi .eq c16_i32_3709 c0_i32_3710
  let c1_i32_3711 : BitVec 32 := 1#32
  let v4162 : BitVec 32 := Scalar.select v4161 c1_i32_3711 c16_i32_3709
  let v4163 : BitVec 32 := Scalar.remsi v4160 v4162
  let c0_i32_3713 : BitVec 32 := 0#32
  let v4165 : BitVec 1 := Scalar.cmpi .slt v4163 c0_i32_3713
  let c0_i32_3714 : BitVec 32 := 0#32
  let v4166 : BitVec 1 := Scalar.cmpi .slt v4162 c0_i32_3714
  let v4167 : BitVec 1 := Scalar.xori v4165 v4166
  let c0_i32_3712 : BitVec 32 := 0#32
  let v4164 : BitVec 1 := Scalar.cmpi .ne v4163 c0_i32_3712
  let v4168 : BitVec 1 := Scalar.andi v4167 v4164
  let v4169 : BitVec 32 := Scalar.addi v4163 v4162
  let v4170 : BitVec 32 := Scalar.select v4168 v4169 v4163
  let c1_i32_3718 : BitVec 32 := 1#32
  let v4172 : BitVec 32 := Scalar.muli v4170 c1_i32_3718
  let v4173 : BitVec 32 := Scalar.addi c0_i32_3719 v4172
  v4173.toNat
def k0_dev135 (d0 : Dev nD) : Nat :=
  let c0_i32_3735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3723 : BitVec 32 := 1#32
  let v4180 : BitVec 32 := Scalar.addi v2 c1_i32_3723
  let c14_i32_3724 : BitVec 32 := 14#32
  let v4181 : BitVec 32 := Scalar.addi v4180 c14_i32_3724
  let c16_i32_3725 : BitVec 32 := 16#32
  let c0_i32_3726 : BitVec 32 := 0#32
  let v4182 : BitVec 1 := Scalar.cmpi .eq c16_i32_3725 c0_i32_3726
  let c1_i32_3727 : BitVec 32 := 1#32
  let v4183 : BitVec 32 := Scalar.select v4182 c1_i32_3727 c16_i32_3725
  let v4184 : BitVec 32 := Scalar.remsi v4181 v4183
  let c0_i32_3729 : BitVec 32 := 0#32
  let v4186 : BitVec 1 := Scalar.cmpi .slt v4184 c0_i32_3729
  let c0_i32_3730 : BitVec 32 := 0#32
  let v4187 : BitVec 1 := Scalar.cmpi .slt v4183 c0_i32_3730
  let v4188 : BitVec 1 := Scalar.xori v4186 v4187
  let c0_i32_3728 : BitVec 32 := 0#32
  let v4185 : BitVec 1 := Scalar.cmpi .ne v4184 c0_i32_3728
  let v4189 : BitVec 1 := Scalar.andi v4188 v4185
  let v4190 : BitVec 32 := Scalar.addi v4184 v4183
  let v4191 : BitVec 32 := Scalar.select v4189 v4190 v4184
  let c1_i32_3734 : BitVec 32 := 1#32
  let v4193 : BitVec 32 := Scalar.muli v4191 c1_i32_3734
  let v4194 : BitVec 32 := Scalar.addi c0_i32_3735 v4193
  v4194.toNat
def k0_dev136 (d0 : Dev nD) : Nat :=
  let c0_i32_4129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4117 : BitVec 32 := 1#32
  let v4508 : BitVec 32 := Scalar.addi v2 c1_i32_4117
  let c0_i32_4118 : BitVec 32 := 0#32
  let v4509 : BitVec 32 := Scalar.addi v4508 c0_i32_4118
  let c16_i32_4119 : BitVec 32 := 16#32
  let c0_i32_4120 : BitVec 32 := 0#32
  let v4510 : BitVec 1 := Scalar.cmpi .eq c16_i32_4119 c0_i32_4120
  let c1_i32_4121 : BitVec 32 := 1#32
  let v4511 : BitVec 32 := Scalar.select v4510 c1_i32_4121 c16_i32_4119
  let v4512 : BitVec 32 := Scalar.remsi v4509 v4511
  let c0_i32_4123 : BitVec 32 := 0#32
  let v4514 : BitVec 1 := Scalar.cmpi .slt v4512 c0_i32_4123
  let c0_i32_4124 : BitVec 32 := 0#32
  let v4515 : BitVec 1 := Scalar.cmpi .slt v4511 c0_i32_4124
  let v4516 : BitVec 1 := Scalar.xori v4514 v4515
  let c0_i32_4122 : BitVec 32 := 0#32
  let v4513 : BitVec 1 := Scalar.cmpi .ne v4512 c0_i32_4122
  let v4517 : BitVec 1 := Scalar.andi v4516 v4513
  let v4518 : BitVec 32 := Scalar.addi v4512 v4511
  let v4519 : BitVec 32 := Scalar.select v4517 v4518 v4512
  let c1_i32_4128 : BitVec 32 := 1#32
  let v4521 : BitVec 32 := Scalar.muli v4519 c1_i32_4128
  let v4522 : BitVec 32 := Scalar.addi c0_i32_4129 v4521
  v4522.toNat
def k0_dev137 (d0 : Dev nD) : Nat :=
  let c0_i32_4147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4135 : BitVec 32 := 1#32
  let v4531 : BitVec 32 := Scalar.addi v2 c1_i32_4135
  let c1_i32_4136 : BitVec 32 := 1#32
  let v4532 : BitVec 32 := Scalar.addi v4531 c1_i32_4136
  let c16_i32_4137 : BitVec 32 := 16#32
  let c0_i32_4138 : BitVec 32 := 0#32
  let v4533 : BitVec 1 := Scalar.cmpi .eq c16_i32_4137 c0_i32_4138
  let c1_i32_4139 : BitVec 32 := 1#32
  let v4534 : BitVec 32 := Scalar.select v4533 c1_i32_4139 c16_i32_4137
  let v4535 : BitVec 32 := Scalar.remsi v4532 v4534
  let c0_i32_4141 : BitVec 32 := 0#32
  let v4537 : BitVec 1 := Scalar.cmpi .slt v4535 c0_i32_4141
  let c0_i32_4142 : BitVec 32 := 0#32
  let v4538 : BitVec 1 := Scalar.cmpi .slt v4534 c0_i32_4142
  let v4539 : BitVec 1 := Scalar.xori v4537 v4538
  let c0_i32_4140 : BitVec 32 := 0#32
  let v4536 : BitVec 1 := Scalar.cmpi .ne v4535 c0_i32_4140
  let v4540 : BitVec 1 := Scalar.andi v4539 v4536
  let v4541 : BitVec 32 := Scalar.addi v4535 v4534
  let v4542 : BitVec 32 := Scalar.select v4540 v4541 v4535
  let c1_i32_4146 : BitVec 32 := 1#32
  let v4544 : BitVec 32 := Scalar.muli v4542 c1_i32_4146
  let v4545 : BitVec 32 := Scalar.addi c0_i32_4147 v4544
  v4545.toNat
def k0_dev138 (d0 : Dev nD) : Nat :=
  let c0_i32_4165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4153 : BitVec 32 := 1#32
  let v4554 : BitVec 32 := Scalar.addi v2 c1_i32_4153
  let c2_i32_4154 : BitVec 32 := 2#32
  let v4555 : BitVec 32 := Scalar.addi v4554 c2_i32_4154
  let c16_i32_4155 : BitVec 32 := 16#32
  let c0_i32_4156 : BitVec 32 := 0#32
  let v4556 : BitVec 1 := Scalar.cmpi .eq c16_i32_4155 c0_i32_4156
  let c1_i32_4157 : BitVec 32 := 1#32
  let v4557 : BitVec 32 := Scalar.select v4556 c1_i32_4157 c16_i32_4155
  let v4558 : BitVec 32 := Scalar.remsi v4555 v4557
  let c0_i32_4159 : BitVec 32 := 0#32
  let v4560 : BitVec 1 := Scalar.cmpi .slt v4558 c0_i32_4159
  let c0_i32_4160 : BitVec 32 := 0#32
  let v4561 : BitVec 1 := Scalar.cmpi .slt v4557 c0_i32_4160
  let v4562 : BitVec 1 := Scalar.xori v4560 v4561
  let c0_i32_4158 : BitVec 32 := 0#32
  let v4559 : BitVec 1 := Scalar.cmpi .ne v4558 c0_i32_4158
  let v4563 : BitVec 1 := Scalar.andi v4562 v4559
  let v4564 : BitVec 32 := Scalar.addi v4558 v4557
  let v4565 : BitVec 32 := Scalar.select v4563 v4564 v4558
  let c1_i32_4164 : BitVec 32 := 1#32
  let v4567 : BitVec 32 := Scalar.muli v4565 c1_i32_4164
  let v4568 : BitVec 32 := Scalar.addi c0_i32_4165 v4567
  v4568.toNat
def k0_dev139 (d0 : Dev nD) : Nat :=
  let c0_i32_4183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4171 : BitVec 32 := 1#32
  let v4577 : BitVec 32 := Scalar.addi v2 c1_i32_4171
  let c3_i32_4172 : BitVec 32 := 3#32
  let v4578 : BitVec 32 := Scalar.addi v4577 c3_i32_4172
  let c16_i32_4173 : BitVec 32 := 16#32
  let c0_i32_4174 : BitVec 32 := 0#32
  let v4579 : BitVec 1 := Scalar.cmpi .eq c16_i32_4173 c0_i32_4174
  let c1_i32_4175 : BitVec 32 := 1#32
  let v4580 : BitVec 32 := Scalar.select v4579 c1_i32_4175 c16_i32_4173
  let v4581 : BitVec 32 := Scalar.remsi v4578 v4580
  let c0_i32_4177 : BitVec 32 := 0#32
  let v4583 : BitVec 1 := Scalar.cmpi .slt v4581 c0_i32_4177
  let c0_i32_4178 : BitVec 32 := 0#32
  let v4584 : BitVec 1 := Scalar.cmpi .slt v4580 c0_i32_4178
  let v4585 : BitVec 1 := Scalar.xori v4583 v4584
  let c0_i32_4176 : BitVec 32 := 0#32
  let v4582 : BitVec 1 := Scalar.cmpi .ne v4581 c0_i32_4176
  let v4586 : BitVec 1 := Scalar.andi v4585 v4582
  let v4587 : BitVec 32 := Scalar.addi v4581 v4580
  let v4588 : BitVec 32 := Scalar.select v4586 v4587 v4581
  let c1_i32_4182 : BitVec 32 := 1#32
  let v4590 : BitVec 32 := Scalar.muli v4588 c1_i32_4182
  let v4591 : BitVec 32 := Scalar.addi c0_i32_4183 v4590
  v4591.toNat
def k0_dev140 (d0 : Dev nD) : Nat :=
  let c0_i32_4201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4189 : BitVec 32 := 1#32
  let v4600 : BitVec 32 := Scalar.addi v2 c1_i32_4189
  let c4_i32_4190 : BitVec 32 := 4#32
  let v4601 : BitVec 32 := Scalar.addi v4600 c4_i32_4190
  let c16_i32_4191 : BitVec 32 := 16#32
  let c0_i32_4192 : BitVec 32 := 0#32
  let v4602 : BitVec 1 := Scalar.cmpi .eq c16_i32_4191 c0_i32_4192
  let c1_i32_4193 : BitVec 32 := 1#32
  let v4603 : BitVec 32 := Scalar.select v4602 c1_i32_4193 c16_i32_4191
  let v4604 : BitVec 32 := Scalar.remsi v4601 v4603
  let c0_i32_4195 : BitVec 32 := 0#32
  let v4606 : BitVec 1 := Scalar.cmpi .slt v4604 c0_i32_4195
  let c0_i32_4196 : BitVec 32 := 0#32
  let v4607 : BitVec 1 := Scalar.cmpi .slt v4603 c0_i32_4196
  let v4608 : BitVec 1 := Scalar.xori v4606 v4607
  let c0_i32_4194 : BitVec 32 := 0#32
  let v4605 : BitVec 1 := Scalar.cmpi .ne v4604 c0_i32_4194
  let v4609 : BitVec 1 := Scalar.andi v4608 v4605
  let v4610 : BitVec 32 := Scalar.addi v4604 v4603
  let v4611 : BitVec 32 := Scalar.select v4609 v4610 v4604
  let c1_i32_4200 : BitVec 32 := 1#32
  let v4613 : BitVec 32 := Scalar.muli v4611 c1_i32_4200
  let v4614 : BitVec 32 := Scalar.addi c0_i32_4201 v4613
  v4614.toNat
def k0_dev141 (d0 : Dev nD) : Nat :=
  let c0_i32_4219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4207 : BitVec 32 := 1#32
  let v4623 : BitVec 32 := Scalar.addi v2 c1_i32_4207
  let c5_i32_4208 : BitVec 32 := 5#32
  let v4624 : BitVec 32 := Scalar.addi v4623 c5_i32_4208
  let c16_i32_4209 : BitVec 32 := 16#32
  let c0_i32_4210 : BitVec 32 := 0#32
  let v4625 : BitVec 1 := Scalar.cmpi .eq c16_i32_4209 c0_i32_4210
  let c1_i32_4211 : BitVec 32 := 1#32
  let v4626 : BitVec 32 := Scalar.select v4625 c1_i32_4211 c16_i32_4209
  let v4627 : BitVec 32 := Scalar.remsi v4624 v4626
  let c0_i32_4213 : BitVec 32 := 0#32
  let v4629 : BitVec 1 := Scalar.cmpi .slt v4627 c0_i32_4213
  let c0_i32_4214 : BitVec 32 := 0#32
  let v4630 : BitVec 1 := Scalar.cmpi .slt v4626 c0_i32_4214
  let v4631 : BitVec 1 := Scalar.xori v4629 v4630
  let c0_i32_4212 : BitVec 32 := 0#32
  let v4628 : BitVec 1 := Scalar.cmpi .ne v4627 c0_i32_4212
  let v4632 : BitVec 1 := Scalar.andi v4631 v4628
  let v4633 : BitVec 32 := Scalar.addi v4627 v4626
  let v4634 : BitVec 32 := Scalar.select v4632 v4633 v4627
  let c1_i32_4218 : BitVec 32 := 1#32
  let v4636 : BitVec 32 := Scalar.muli v4634 c1_i32_4218
  let v4637 : BitVec 32 := Scalar.addi c0_i32_4219 v4636
  v4637.toNat
def k0_dev142 (d0 : Dev nD) : Nat :=
  let c0_i32_4237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4225 : BitVec 32 := 1#32
  let v4646 : BitVec 32 := Scalar.addi v2 c1_i32_4225
  let c6_i32_4226 : BitVec 32 := 6#32
  let v4647 : BitVec 32 := Scalar.addi v4646 c6_i32_4226
  let c16_i32_4227 : BitVec 32 := 16#32
  let c0_i32_4228 : BitVec 32 := 0#32
  let v4648 : BitVec 1 := Scalar.cmpi .eq c16_i32_4227 c0_i32_4228
  let c1_i32_4229 : BitVec 32 := 1#32
  let v4649 : BitVec 32 := Scalar.select v4648 c1_i32_4229 c16_i32_4227
  let v4650 : BitVec 32 := Scalar.remsi v4647 v4649
  let c0_i32_4231 : BitVec 32 := 0#32
  let v4652 : BitVec 1 := Scalar.cmpi .slt v4650 c0_i32_4231
  let c0_i32_4232 : BitVec 32 := 0#32
  let v4653 : BitVec 1 := Scalar.cmpi .slt v4649 c0_i32_4232
  let v4654 : BitVec 1 := Scalar.xori v4652 v4653
  let c0_i32_4230 : BitVec 32 := 0#32
  let v4651 : BitVec 1 := Scalar.cmpi .ne v4650 c0_i32_4230
  let v4655 : BitVec 1 := Scalar.andi v4654 v4651
  let v4656 : BitVec 32 := Scalar.addi v4650 v4649
  let v4657 : BitVec 32 := Scalar.select v4655 v4656 v4650
  let c1_i32_4236 : BitVec 32 := 1#32
  let v4659 : BitVec 32 := Scalar.muli v4657 c1_i32_4236
  let v4660 : BitVec 32 := Scalar.addi c0_i32_4237 v4659
  v4660.toNat
def k0_dev143 (d0 : Dev nD) : Nat :=
  let c0_i32_4255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4243 : BitVec 32 := 1#32
  let v4669 : BitVec 32 := Scalar.addi v2 c1_i32_4243
  let c7_i32_4244 : BitVec 32 := 7#32
  let v4670 : BitVec 32 := Scalar.addi v4669 c7_i32_4244
  let c16_i32_4245 : BitVec 32 := 16#32
  let c0_i32_4246 : BitVec 32 := 0#32
  let v4671 : BitVec 1 := Scalar.cmpi .eq c16_i32_4245 c0_i32_4246
  let c1_i32_4247 : BitVec 32 := 1#32
  let v4672 : BitVec 32 := Scalar.select v4671 c1_i32_4247 c16_i32_4245
  let v4673 : BitVec 32 := Scalar.remsi v4670 v4672
  let c0_i32_4249 : BitVec 32 := 0#32
  let v4675 : BitVec 1 := Scalar.cmpi .slt v4673 c0_i32_4249
  let c0_i32_4250 : BitVec 32 := 0#32
  let v4676 : BitVec 1 := Scalar.cmpi .slt v4672 c0_i32_4250
  let v4677 : BitVec 1 := Scalar.xori v4675 v4676
  let c0_i32_4248 : BitVec 32 := 0#32
  let v4674 : BitVec 1 := Scalar.cmpi .ne v4673 c0_i32_4248
  let v4678 : BitVec 1 := Scalar.andi v4677 v4674
  let v4679 : BitVec 32 := Scalar.addi v4673 v4672
  let v4680 : BitVec 32 := Scalar.select v4678 v4679 v4673
  let c1_i32_4254 : BitVec 32 := 1#32
  let v4682 : BitVec 32 := Scalar.muli v4680 c1_i32_4254
  let v4683 : BitVec 32 := Scalar.addi c0_i32_4255 v4682
  v4683.toNat
def k0_dev144 (d0 : Dev nD) : Nat :=
  let c0_i32_4273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4261 : BitVec 32 := 1#32
  let v4692 : BitVec 32 := Scalar.addi v2 c1_i32_4261
  let c8_i32_4262 : BitVec 32 := 8#32
  let v4693 : BitVec 32 := Scalar.addi v4692 c8_i32_4262
  let c16_i32_4263 : BitVec 32 := 16#32
  let c0_i32_4264 : BitVec 32 := 0#32
  let v4694 : BitVec 1 := Scalar.cmpi .eq c16_i32_4263 c0_i32_4264
  let c1_i32_4265 : BitVec 32 := 1#32
  let v4695 : BitVec 32 := Scalar.select v4694 c1_i32_4265 c16_i32_4263
  let v4696 : BitVec 32 := Scalar.remsi v4693 v4695
  let c0_i32_4267 : BitVec 32 := 0#32
  let v4698 : BitVec 1 := Scalar.cmpi .slt v4696 c0_i32_4267
  let c0_i32_4268 : BitVec 32 := 0#32
  let v4699 : BitVec 1 := Scalar.cmpi .slt v4695 c0_i32_4268
  let v4700 : BitVec 1 := Scalar.xori v4698 v4699
  let c0_i32_4266 : BitVec 32 := 0#32
  let v4697 : BitVec 1 := Scalar.cmpi .ne v4696 c0_i32_4266
  let v4701 : BitVec 1 := Scalar.andi v4700 v4697
  let v4702 : BitVec 32 := Scalar.addi v4696 v4695
  let v4703 : BitVec 32 := Scalar.select v4701 v4702 v4696
  let c1_i32_4272 : BitVec 32 := 1#32
  let v4705 : BitVec 32 := Scalar.muli v4703 c1_i32_4272
  let v4706 : BitVec 32 := Scalar.addi c0_i32_4273 v4705
  v4706.toNat
def k0_dev145 (d0 : Dev nD) : Nat :=
  let c0_i32_4291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4279 : BitVec 32 := 1#32
  let v4715 : BitVec 32 := Scalar.addi v2 c1_i32_4279
  let c9_i32_4280 : BitVec 32 := 9#32
  let v4716 : BitVec 32 := Scalar.addi v4715 c9_i32_4280
  let c16_i32_4281 : BitVec 32 := 16#32
  let c0_i32_4282 : BitVec 32 := 0#32
  let v4717 : BitVec 1 := Scalar.cmpi .eq c16_i32_4281 c0_i32_4282
  let c1_i32_4283 : BitVec 32 := 1#32
  let v4718 : BitVec 32 := Scalar.select v4717 c1_i32_4283 c16_i32_4281
  let v4719 : BitVec 32 := Scalar.remsi v4716 v4718
  let c0_i32_4285 : BitVec 32 := 0#32
  let v4721 : BitVec 1 := Scalar.cmpi .slt v4719 c0_i32_4285
  let c0_i32_4286 : BitVec 32 := 0#32
  let v4722 : BitVec 1 := Scalar.cmpi .slt v4718 c0_i32_4286
  let v4723 : BitVec 1 := Scalar.xori v4721 v4722
  let c0_i32_4284 : BitVec 32 := 0#32
  let v4720 : BitVec 1 := Scalar.cmpi .ne v4719 c0_i32_4284
  let v4724 : BitVec 1 := Scalar.andi v4723 v4720
  let v4725 : BitVec 32 := Scalar.addi v4719 v4718
  let v4726 : BitVec 32 := Scalar.select v4724 v4725 v4719
  let c1_i32_4290 : BitVec 32 := 1#32
  let v4728 : BitVec 32 := Scalar.muli v4726 c1_i32_4290
  let v4729 : BitVec 32 := Scalar.addi c0_i32_4291 v4728
  v4729.toNat
def k0_dev146 (d0 : Dev nD) : Nat :=
  let c0_i32_4309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4297 : BitVec 32 := 1#32
  let v4738 : BitVec 32 := Scalar.addi v2 c1_i32_4297
  let c10_i32_4298 : BitVec 32 := 10#32
  let v4739 : BitVec 32 := Scalar.addi v4738 c10_i32_4298
  let c16_i32_4299 : BitVec 32 := 16#32
  let c0_i32_4300 : BitVec 32 := 0#32
  let v4740 : BitVec 1 := Scalar.cmpi .eq c16_i32_4299 c0_i32_4300
  let c1_i32_4301 : BitVec 32 := 1#32
  let v4741 : BitVec 32 := Scalar.select v4740 c1_i32_4301 c16_i32_4299
  let v4742 : BitVec 32 := Scalar.remsi v4739 v4741
  let c0_i32_4303 : BitVec 32 := 0#32
  let v4744 : BitVec 1 := Scalar.cmpi .slt v4742 c0_i32_4303
  let c0_i32_4304 : BitVec 32 := 0#32
  let v4745 : BitVec 1 := Scalar.cmpi .slt v4741 c0_i32_4304
  let v4746 : BitVec 1 := Scalar.xori v4744 v4745
  let c0_i32_4302 : BitVec 32 := 0#32
  let v4743 : BitVec 1 := Scalar.cmpi .ne v4742 c0_i32_4302
  let v4747 : BitVec 1 := Scalar.andi v4746 v4743
  let v4748 : BitVec 32 := Scalar.addi v4742 v4741
  let v4749 : BitVec 32 := Scalar.select v4747 v4748 v4742
  let c1_i32_4308 : BitVec 32 := 1#32
  let v4751 : BitVec 32 := Scalar.muli v4749 c1_i32_4308
  let v4752 : BitVec 32 := Scalar.addi c0_i32_4309 v4751
  v4752.toNat
def k0_dev147 (d0 : Dev nD) : Nat :=
  let c0_i32_4327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4315 : BitVec 32 := 1#32
  let v4761 : BitVec 32 := Scalar.addi v2 c1_i32_4315
  let c11_i32_4316 : BitVec 32 := 11#32
  let v4762 : BitVec 32 := Scalar.addi v4761 c11_i32_4316
  let c16_i32_4317 : BitVec 32 := 16#32
  let c0_i32_4318 : BitVec 32 := 0#32
  let v4763 : BitVec 1 := Scalar.cmpi .eq c16_i32_4317 c0_i32_4318
  let c1_i32_4319 : BitVec 32 := 1#32
  let v4764 : BitVec 32 := Scalar.select v4763 c1_i32_4319 c16_i32_4317
  let v4765 : BitVec 32 := Scalar.remsi v4762 v4764
  let c0_i32_4321 : BitVec 32 := 0#32
  let v4767 : BitVec 1 := Scalar.cmpi .slt v4765 c0_i32_4321
  let c0_i32_4322 : BitVec 32 := 0#32
  let v4768 : BitVec 1 := Scalar.cmpi .slt v4764 c0_i32_4322
  let v4769 : BitVec 1 := Scalar.xori v4767 v4768
  let c0_i32_4320 : BitVec 32 := 0#32
  let v4766 : BitVec 1 := Scalar.cmpi .ne v4765 c0_i32_4320
  let v4770 : BitVec 1 := Scalar.andi v4769 v4766
  let v4771 : BitVec 32 := Scalar.addi v4765 v4764
  let v4772 : BitVec 32 := Scalar.select v4770 v4771 v4765
  let c1_i32_4326 : BitVec 32 := 1#32
  let v4774 : BitVec 32 := Scalar.muli v4772 c1_i32_4326
  let v4775 : BitVec 32 := Scalar.addi c0_i32_4327 v4774
  v4775.toNat
def k0_dev148 (d0 : Dev nD) : Nat :=
  let c0_i32_4345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4333 : BitVec 32 := 1#32
  let v4784 : BitVec 32 := Scalar.addi v2 c1_i32_4333
  let c12_i32_4334 : BitVec 32 := 12#32
  let v4785 : BitVec 32 := Scalar.addi v4784 c12_i32_4334
  let c16_i32_4335 : BitVec 32 := 16#32
  let c0_i32_4336 : BitVec 32 := 0#32
  let v4786 : BitVec 1 := Scalar.cmpi .eq c16_i32_4335 c0_i32_4336
  let c1_i32_4337 : BitVec 32 := 1#32
  let v4787 : BitVec 32 := Scalar.select v4786 c1_i32_4337 c16_i32_4335
  let v4788 : BitVec 32 := Scalar.remsi v4785 v4787
  let c0_i32_4339 : BitVec 32 := 0#32
  let v4790 : BitVec 1 := Scalar.cmpi .slt v4788 c0_i32_4339
  let c0_i32_4340 : BitVec 32 := 0#32
  let v4791 : BitVec 1 := Scalar.cmpi .slt v4787 c0_i32_4340
  let v4792 : BitVec 1 := Scalar.xori v4790 v4791
  let c0_i32_4338 : BitVec 32 := 0#32
  let v4789 : BitVec 1 := Scalar.cmpi .ne v4788 c0_i32_4338
  let v4793 : BitVec 1 := Scalar.andi v4792 v4789
  let v4794 : BitVec 32 := Scalar.addi v4788 v4787
  let v4795 : BitVec 32 := Scalar.select v4793 v4794 v4788
  let c1_i32_4344 : BitVec 32 := 1#32
  let v4797 : BitVec 32 := Scalar.muli v4795 c1_i32_4344
  let v4798 : BitVec 32 := Scalar.addi c0_i32_4345 v4797
  v4798.toNat
def k0_dev149 (d0 : Dev nD) : Nat :=
  let c0_i32_4363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4351 : BitVec 32 := 1#32
  let v4807 : BitVec 32 := Scalar.addi v2 c1_i32_4351
  let c13_i32_4352 : BitVec 32 := 13#32
  let v4808 : BitVec 32 := Scalar.addi v4807 c13_i32_4352
  let c16_i32_4353 : BitVec 32 := 16#32
  let c0_i32_4354 : BitVec 32 := 0#32
  let v4809 : BitVec 1 := Scalar.cmpi .eq c16_i32_4353 c0_i32_4354
  let c1_i32_4355 : BitVec 32 := 1#32
  let v4810 : BitVec 32 := Scalar.select v4809 c1_i32_4355 c16_i32_4353
  let v4811 : BitVec 32 := Scalar.remsi v4808 v4810
  let c0_i32_4357 : BitVec 32 := 0#32
  let v4813 : BitVec 1 := Scalar.cmpi .slt v4811 c0_i32_4357
  let c0_i32_4358 : BitVec 32 := 0#32
  let v4814 : BitVec 1 := Scalar.cmpi .slt v4810 c0_i32_4358
  let v4815 : BitVec 1 := Scalar.xori v4813 v4814
  let c0_i32_4356 : BitVec 32 := 0#32
  let v4812 : BitVec 1 := Scalar.cmpi .ne v4811 c0_i32_4356
  let v4816 : BitVec 1 := Scalar.andi v4815 v4812
  let v4817 : BitVec 32 := Scalar.addi v4811 v4810
  let v4818 : BitVec 32 := Scalar.select v4816 v4817 v4811
  let c1_i32_4362 : BitVec 32 := 1#32
  let v4820 : BitVec 32 := Scalar.muli v4818 c1_i32_4362
  let v4821 : BitVec 32 := Scalar.addi c0_i32_4363 v4820
  v4821.toNat
def k0_dev150 (d0 : Dev nD) : Nat :=
  let c0_i32_4381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4369 : BitVec 32 := 1#32
  let v4830 : BitVec 32 := Scalar.addi v2 c1_i32_4369
  let c14_i32_4370 : BitVec 32 := 14#32
  let v4831 : BitVec 32 := Scalar.addi v4830 c14_i32_4370
  let c16_i32_4371 : BitVec 32 := 16#32
  let c0_i32_4372 : BitVec 32 := 0#32
  let v4832 : BitVec 1 := Scalar.cmpi .eq c16_i32_4371 c0_i32_4372
  let c1_i32_4373 : BitVec 32 := 1#32
  let v4833 : BitVec 32 := Scalar.select v4832 c1_i32_4373 c16_i32_4371
  let v4834 : BitVec 32 := Scalar.remsi v4831 v4833
  let c0_i32_4375 : BitVec 32 := 0#32
  let v4836 : BitVec 1 := Scalar.cmpi .slt v4834 c0_i32_4375
  let c0_i32_4376 : BitVec 32 := 0#32
  let v4837 : BitVec 1 := Scalar.cmpi .slt v4833 c0_i32_4376
  let v4838 : BitVec 1 := Scalar.xori v4836 v4837
  let c0_i32_4374 : BitVec 32 := 0#32
  let v4835 : BitVec 1 := Scalar.cmpi .ne v4834 c0_i32_4374
  let v4839 : BitVec 1 := Scalar.andi v4838 v4835
  let v4840 : BitVec 32 := Scalar.addi v4834 v4833
  let v4841 : BitVec 32 := Scalar.select v4839 v4840 v4834
  let c1_i32_4380 : BitVec 32 := 1#32
  let v4843 : BitVec 32 := Scalar.muli v4841 c1_i32_4380
  let v4844 : BitVec 32 := Scalar.addi c0_i32_4381 v4843
  v4844.toNat
def k0_dev151 (d0 : Dev nD) : Nat :=
  let c0_i32_4642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4630 : BitVec 32 := 1#32
  let v5056 : BitVec 32 := Scalar.addi v2 c1_i32_4630
  let c0_i32_4631 : BitVec 32 := 0#32
  let v5057 : BitVec 32 := Scalar.addi v5056 c0_i32_4631
  let c16_i32_4632 : BitVec 32 := 16#32
  let c0_i32_4633 : BitVec 32 := 0#32
  let v5058 : BitVec 1 := Scalar.cmpi .eq c16_i32_4632 c0_i32_4633
  let c1_i32_4634 : BitVec 32 := 1#32
  let v5059 : BitVec 32 := Scalar.select v5058 c1_i32_4634 c16_i32_4632
  let v5060 : BitVec 32 := Scalar.remsi v5057 v5059
  let c0_i32_4636 : BitVec 32 := 0#32
  let v5062 : BitVec 1 := Scalar.cmpi .slt v5060 c0_i32_4636
  let c0_i32_4637 : BitVec 32 := 0#32
  let v5063 : BitVec 1 := Scalar.cmpi .slt v5059 c0_i32_4637
  let v5064 : BitVec 1 := Scalar.xori v5062 v5063
  let c0_i32_4635 : BitVec 32 := 0#32
  let v5061 : BitVec 1 := Scalar.cmpi .ne v5060 c0_i32_4635
  let v5065 : BitVec 1 := Scalar.andi v5064 v5061
  let v5066 : BitVec 32 := Scalar.addi v5060 v5059
  let v5067 : BitVec 32 := Scalar.select v5065 v5066 v5060
  let c1_i32_4641 : BitVec 32 := 1#32
  let v5069 : BitVec 32 := Scalar.muli v5067 c1_i32_4641
  let v5070 : BitVec 32 := Scalar.addi c0_i32_4642 v5069
  v5070.toNat
def k0_dev152 (d0 : Dev nD) : Nat :=
  let c0_i32_4660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4648 : BitVec 32 := 1#32
  let v5079 : BitVec 32 := Scalar.addi v2 c1_i32_4648
  let c1_i32_4649 : BitVec 32 := 1#32
  let v5080 : BitVec 32 := Scalar.addi v5079 c1_i32_4649
  let c16_i32_4650 : BitVec 32 := 16#32
  let c0_i32_4651 : BitVec 32 := 0#32
  let v5081 : BitVec 1 := Scalar.cmpi .eq c16_i32_4650 c0_i32_4651
  let c1_i32_4652 : BitVec 32 := 1#32
  let v5082 : BitVec 32 := Scalar.select v5081 c1_i32_4652 c16_i32_4650
  let v5083 : BitVec 32 := Scalar.remsi v5080 v5082
  let c0_i32_4654 : BitVec 32 := 0#32
  let v5085 : BitVec 1 := Scalar.cmpi .slt v5083 c0_i32_4654
  let c0_i32_4655 : BitVec 32 := 0#32
  let v5086 : BitVec 1 := Scalar.cmpi .slt v5082 c0_i32_4655
  let v5087 : BitVec 1 := Scalar.xori v5085 v5086
  let c0_i32_4653 : BitVec 32 := 0#32
  let v5084 : BitVec 1 := Scalar.cmpi .ne v5083 c0_i32_4653
  let v5088 : BitVec 1 := Scalar.andi v5087 v5084
  let v5089 : BitVec 32 := Scalar.addi v5083 v5082
  let v5090 : BitVec 32 := Scalar.select v5088 v5089 v5083
  let c1_i32_4659 : BitVec 32 := 1#32
  let v5092 : BitVec 32 := Scalar.muli v5090 c1_i32_4659
  let v5093 : BitVec 32 := Scalar.addi c0_i32_4660 v5092
  v5093.toNat
def k0_dev153 (d0 : Dev nD) : Nat :=
  let c0_i32_4678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4666 : BitVec 32 := 1#32
  let v5102 : BitVec 32 := Scalar.addi v2 c1_i32_4666
  let c2_i32_4667 : BitVec 32 := 2#32
  let v5103 : BitVec 32 := Scalar.addi v5102 c2_i32_4667
  let c16_i32_4668 : BitVec 32 := 16#32
  let c0_i32_4669 : BitVec 32 := 0#32
  let v5104 : BitVec 1 := Scalar.cmpi .eq c16_i32_4668 c0_i32_4669
  let c1_i32_4670 : BitVec 32 := 1#32
  let v5105 : BitVec 32 := Scalar.select v5104 c1_i32_4670 c16_i32_4668
  let v5106 : BitVec 32 := Scalar.remsi v5103 v5105
  let c0_i32_4672 : BitVec 32 := 0#32
  let v5108 : BitVec 1 := Scalar.cmpi .slt v5106 c0_i32_4672
  let c0_i32_4673 : BitVec 32 := 0#32
  let v5109 : BitVec 1 := Scalar.cmpi .slt v5105 c0_i32_4673
  let v5110 : BitVec 1 := Scalar.xori v5108 v5109
  let c0_i32_4671 : BitVec 32 := 0#32
  let v5107 : BitVec 1 := Scalar.cmpi .ne v5106 c0_i32_4671
  let v5111 : BitVec 1 := Scalar.andi v5110 v5107
  let v5112 : BitVec 32 := Scalar.addi v5106 v5105
  let v5113 : BitVec 32 := Scalar.select v5111 v5112 v5106
  let c1_i32_4677 : BitVec 32 := 1#32
  let v5115 : BitVec 32 := Scalar.muli v5113 c1_i32_4677
  let v5116 : BitVec 32 := Scalar.addi c0_i32_4678 v5115
  v5116.toNat
def k0_dev154 (d0 : Dev nD) : Nat :=
  let c0_i32_4696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4684 : BitVec 32 := 1#32
  let v5125 : BitVec 32 := Scalar.addi v2 c1_i32_4684
  let c3_i32_4685 : BitVec 32 := 3#32
  let v5126 : BitVec 32 := Scalar.addi v5125 c3_i32_4685
  let c16_i32_4686 : BitVec 32 := 16#32
  let c0_i32_4687 : BitVec 32 := 0#32
  let v5127 : BitVec 1 := Scalar.cmpi .eq c16_i32_4686 c0_i32_4687
  let c1_i32_4688 : BitVec 32 := 1#32
  let v5128 : BitVec 32 := Scalar.select v5127 c1_i32_4688 c16_i32_4686
  let v5129 : BitVec 32 := Scalar.remsi v5126 v5128
  let c0_i32_4690 : BitVec 32 := 0#32
  let v5131 : BitVec 1 := Scalar.cmpi .slt v5129 c0_i32_4690
  let c0_i32_4691 : BitVec 32 := 0#32
  let v5132 : BitVec 1 := Scalar.cmpi .slt v5128 c0_i32_4691
  let v5133 : BitVec 1 := Scalar.xori v5131 v5132
  let c0_i32_4689 : BitVec 32 := 0#32
  let v5130 : BitVec 1 := Scalar.cmpi .ne v5129 c0_i32_4689
  let v5134 : BitVec 1 := Scalar.andi v5133 v5130
  let v5135 : BitVec 32 := Scalar.addi v5129 v5128
  let v5136 : BitVec 32 := Scalar.select v5134 v5135 v5129
  let c1_i32_4695 : BitVec 32 := 1#32
  let v5138 : BitVec 32 := Scalar.muli v5136 c1_i32_4695
  let v5139 : BitVec 32 := Scalar.addi c0_i32_4696 v5138
  v5139.toNat
def k0_dev155 (d0 : Dev nD) : Nat :=
  let c0_i32_4714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4702 : BitVec 32 := 1#32
  let v5148 : BitVec 32 := Scalar.addi v2 c1_i32_4702
  let c4_i32_4703 : BitVec 32 := 4#32
  let v5149 : BitVec 32 := Scalar.addi v5148 c4_i32_4703
  let c16_i32_4704 : BitVec 32 := 16#32
  let c0_i32_4705 : BitVec 32 := 0#32
  let v5150 : BitVec 1 := Scalar.cmpi .eq c16_i32_4704 c0_i32_4705
  let c1_i32_4706 : BitVec 32 := 1#32
  let v5151 : BitVec 32 := Scalar.select v5150 c1_i32_4706 c16_i32_4704
  let v5152 : BitVec 32 := Scalar.remsi v5149 v5151
  let c0_i32_4708 : BitVec 32 := 0#32
  let v5154 : BitVec 1 := Scalar.cmpi .slt v5152 c0_i32_4708
  let c0_i32_4709 : BitVec 32 := 0#32
  let v5155 : BitVec 1 := Scalar.cmpi .slt v5151 c0_i32_4709
  let v5156 : BitVec 1 := Scalar.xori v5154 v5155
  let c0_i32_4707 : BitVec 32 := 0#32
  let v5153 : BitVec 1 := Scalar.cmpi .ne v5152 c0_i32_4707
  let v5157 : BitVec 1 := Scalar.andi v5156 v5153
  let v5158 : BitVec 32 := Scalar.addi v5152 v5151
  let v5159 : BitVec 32 := Scalar.select v5157 v5158 v5152
  let c1_i32_4713 : BitVec 32 := 1#32
  let v5161 : BitVec 32 := Scalar.muli v5159 c1_i32_4713
  let v5162 : BitVec 32 := Scalar.addi c0_i32_4714 v5161
  v5162.toNat
def k0_dev156 (d0 : Dev nD) : Nat :=
  let c0_i32_4732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4720 : BitVec 32 := 1#32
  let v5171 : BitVec 32 := Scalar.addi v2 c1_i32_4720
  let c5_i32_4721 : BitVec 32 := 5#32
  let v5172 : BitVec 32 := Scalar.addi v5171 c5_i32_4721
  let c16_i32_4722 : BitVec 32 := 16#32
  let c0_i32_4723 : BitVec 32 := 0#32
  let v5173 : BitVec 1 := Scalar.cmpi .eq c16_i32_4722 c0_i32_4723
  let c1_i32_4724 : BitVec 32 := 1#32
  let v5174 : BitVec 32 := Scalar.select v5173 c1_i32_4724 c16_i32_4722
  let v5175 : BitVec 32 := Scalar.remsi v5172 v5174
  let c0_i32_4726 : BitVec 32 := 0#32
  let v5177 : BitVec 1 := Scalar.cmpi .slt v5175 c0_i32_4726
  let c0_i32_4727 : BitVec 32 := 0#32
  let v5178 : BitVec 1 := Scalar.cmpi .slt v5174 c0_i32_4727
  let v5179 : BitVec 1 := Scalar.xori v5177 v5178
  let c0_i32_4725 : BitVec 32 := 0#32
  let v5176 : BitVec 1 := Scalar.cmpi .ne v5175 c0_i32_4725
  let v5180 : BitVec 1 := Scalar.andi v5179 v5176
  let v5181 : BitVec 32 := Scalar.addi v5175 v5174
  let v5182 : BitVec 32 := Scalar.select v5180 v5181 v5175
  let c1_i32_4731 : BitVec 32 := 1#32
  let v5184 : BitVec 32 := Scalar.muli v5182 c1_i32_4731
  let v5185 : BitVec 32 := Scalar.addi c0_i32_4732 v5184
  v5185.toNat
def k0_dev157 (d0 : Dev nD) : Nat :=
  let c0_i32_4750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4738 : BitVec 32 := 1#32
  let v5194 : BitVec 32 := Scalar.addi v2 c1_i32_4738
  let c6_i32_4739 : BitVec 32 := 6#32
  let v5195 : BitVec 32 := Scalar.addi v5194 c6_i32_4739
  let c16_i32_4740 : BitVec 32 := 16#32
  let c0_i32_4741 : BitVec 32 := 0#32
  let v5196 : BitVec 1 := Scalar.cmpi .eq c16_i32_4740 c0_i32_4741
  let c1_i32_4742 : BitVec 32 := 1#32
  let v5197 : BitVec 32 := Scalar.select v5196 c1_i32_4742 c16_i32_4740
  let v5198 : BitVec 32 := Scalar.remsi v5195 v5197
  let c0_i32_4744 : BitVec 32 := 0#32
  let v5200 : BitVec 1 := Scalar.cmpi .slt v5198 c0_i32_4744
  let c0_i32_4745 : BitVec 32 := 0#32
  let v5201 : BitVec 1 := Scalar.cmpi .slt v5197 c0_i32_4745
  let v5202 : BitVec 1 := Scalar.xori v5200 v5201
  let c0_i32_4743 : BitVec 32 := 0#32
  let v5199 : BitVec 1 := Scalar.cmpi .ne v5198 c0_i32_4743
  let v5203 : BitVec 1 := Scalar.andi v5202 v5199
  let v5204 : BitVec 32 := Scalar.addi v5198 v5197
  let v5205 : BitVec 32 := Scalar.select v5203 v5204 v5198
  let c1_i32_4749 : BitVec 32 := 1#32
  let v5207 : BitVec 32 := Scalar.muli v5205 c1_i32_4749
  let v5208 : BitVec 32 := Scalar.addi c0_i32_4750 v5207
  v5208.toNat
def k0_dev158 (d0 : Dev nD) : Nat :=
  let c0_i32_4768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4756 : BitVec 32 := 1#32
  let v5217 : BitVec 32 := Scalar.addi v2 c1_i32_4756
  let c7_i32_4757 : BitVec 32 := 7#32
  let v5218 : BitVec 32 := Scalar.addi v5217 c7_i32_4757
  let c16_i32_4758 : BitVec 32 := 16#32
  let c0_i32_4759 : BitVec 32 := 0#32
  let v5219 : BitVec 1 := Scalar.cmpi .eq c16_i32_4758 c0_i32_4759
  let c1_i32_4760 : BitVec 32 := 1#32
  let v5220 : BitVec 32 := Scalar.select v5219 c1_i32_4760 c16_i32_4758
  let v5221 : BitVec 32 := Scalar.remsi v5218 v5220
  let c0_i32_4762 : BitVec 32 := 0#32
  let v5223 : BitVec 1 := Scalar.cmpi .slt v5221 c0_i32_4762
  let c0_i32_4763 : BitVec 32 := 0#32
  let v5224 : BitVec 1 := Scalar.cmpi .slt v5220 c0_i32_4763
  let v5225 : BitVec 1 := Scalar.xori v5223 v5224
  let c0_i32_4761 : BitVec 32 := 0#32
  let v5222 : BitVec 1 := Scalar.cmpi .ne v5221 c0_i32_4761
  let v5226 : BitVec 1 := Scalar.andi v5225 v5222
  let v5227 : BitVec 32 := Scalar.addi v5221 v5220
  let v5228 : BitVec 32 := Scalar.select v5226 v5227 v5221
  let c1_i32_4767 : BitVec 32 := 1#32
  let v5230 : BitVec 32 := Scalar.muli v5228 c1_i32_4767
  let v5231 : BitVec 32 := Scalar.addi c0_i32_4768 v5230
  v5231.toNat
def k0_dev159 (d0 : Dev nD) : Nat :=
  let c0_i32_4786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4774 : BitVec 32 := 1#32
  let v5240 : BitVec 32 := Scalar.addi v2 c1_i32_4774
  let c8_i32_4775 : BitVec 32 := 8#32
  let v5241 : BitVec 32 := Scalar.addi v5240 c8_i32_4775
  let c16_i32_4776 : BitVec 32 := 16#32
  let c0_i32_4777 : BitVec 32 := 0#32
  let v5242 : BitVec 1 := Scalar.cmpi .eq c16_i32_4776 c0_i32_4777
  let c1_i32_4778 : BitVec 32 := 1#32
  let v5243 : BitVec 32 := Scalar.select v5242 c1_i32_4778 c16_i32_4776
  let v5244 : BitVec 32 := Scalar.remsi v5241 v5243
  let c0_i32_4780 : BitVec 32 := 0#32
  let v5246 : BitVec 1 := Scalar.cmpi .slt v5244 c0_i32_4780
  let c0_i32_4781 : BitVec 32 := 0#32
  let v5247 : BitVec 1 := Scalar.cmpi .slt v5243 c0_i32_4781
  let v5248 : BitVec 1 := Scalar.xori v5246 v5247
  let c0_i32_4779 : BitVec 32 := 0#32
  let v5245 : BitVec 1 := Scalar.cmpi .ne v5244 c0_i32_4779
  let v5249 : BitVec 1 := Scalar.andi v5248 v5245
  let v5250 : BitVec 32 := Scalar.addi v5244 v5243
  let v5251 : BitVec 32 := Scalar.select v5249 v5250 v5244
  let c1_i32_4785 : BitVec 32 := 1#32
  let v5253 : BitVec 32 := Scalar.muli v5251 c1_i32_4785
  let v5254 : BitVec 32 := Scalar.addi c0_i32_4786 v5253
  v5254.toNat
def k0_dev160 (d0 : Dev nD) : Nat :=
  let c0_i32_4804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4792 : BitVec 32 := 1#32
  let v5263 : BitVec 32 := Scalar.addi v2 c1_i32_4792
  let c9_i32_4793 : BitVec 32 := 9#32
  let v5264 : BitVec 32 := Scalar.addi v5263 c9_i32_4793
  let c16_i32_4794 : BitVec 32 := 16#32
  let c0_i32_4795 : BitVec 32 := 0#32
  let v5265 : BitVec 1 := Scalar.cmpi .eq c16_i32_4794 c0_i32_4795
  let c1_i32_4796 : BitVec 32 := 1#32
  let v5266 : BitVec 32 := Scalar.select v5265 c1_i32_4796 c16_i32_4794
  let v5267 : BitVec 32 := Scalar.remsi v5264 v5266
  let c0_i32_4798 : BitVec 32 := 0#32
  let v5269 : BitVec 1 := Scalar.cmpi .slt v5267 c0_i32_4798
  let c0_i32_4799 : BitVec 32 := 0#32
  let v5270 : BitVec 1 := Scalar.cmpi .slt v5266 c0_i32_4799
  let v5271 : BitVec 1 := Scalar.xori v5269 v5270
  let c0_i32_4797 : BitVec 32 := 0#32
  let v5268 : BitVec 1 := Scalar.cmpi .ne v5267 c0_i32_4797
  let v5272 : BitVec 1 := Scalar.andi v5271 v5268
  let v5273 : BitVec 32 := Scalar.addi v5267 v5266
  let v5274 : BitVec 32 := Scalar.select v5272 v5273 v5267
  let c1_i32_4803 : BitVec 32 := 1#32
  let v5276 : BitVec 32 := Scalar.muli v5274 c1_i32_4803
  let v5277 : BitVec 32 := Scalar.addi c0_i32_4804 v5276
  v5277.toNat
def k0_dev161 (d0 : Dev nD) : Nat :=
  let c0_i32_4822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4810 : BitVec 32 := 1#32
  let v5286 : BitVec 32 := Scalar.addi v2 c1_i32_4810
  let c10_i32_4811 : BitVec 32 := 10#32
  let v5287 : BitVec 32 := Scalar.addi v5286 c10_i32_4811
  let c16_i32_4812 : BitVec 32 := 16#32
  let c0_i32_4813 : BitVec 32 := 0#32
  let v5288 : BitVec 1 := Scalar.cmpi .eq c16_i32_4812 c0_i32_4813
  let c1_i32_4814 : BitVec 32 := 1#32
  let v5289 : BitVec 32 := Scalar.select v5288 c1_i32_4814 c16_i32_4812
  let v5290 : BitVec 32 := Scalar.remsi v5287 v5289
  let c0_i32_4816 : BitVec 32 := 0#32
  let v5292 : BitVec 1 := Scalar.cmpi .slt v5290 c0_i32_4816
  let c0_i32_4817 : BitVec 32 := 0#32
  let v5293 : BitVec 1 := Scalar.cmpi .slt v5289 c0_i32_4817
  let v5294 : BitVec 1 := Scalar.xori v5292 v5293
  let c0_i32_4815 : BitVec 32 := 0#32
  let v5291 : BitVec 1 := Scalar.cmpi .ne v5290 c0_i32_4815
  let v5295 : BitVec 1 := Scalar.andi v5294 v5291
  let v5296 : BitVec 32 := Scalar.addi v5290 v5289
  let v5297 : BitVec 32 := Scalar.select v5295 v5296 v5290
  let c1_i32_4821 : BitVec 32 := 1#32
  let v5299 : BitVec 32 := Scalar.muli v5297 c1_i32_4821
  let v5300 : BitVec 32 := Scalar.addi c0_i32_4822 v5299
  v5300.toNat
def k0_dev162 (d0 : Dev nD) : Nat :=
  let c0_i32_4840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4828 : BitVec 32 := 1#32
  let v5309 : BitVec 32 := Scalar.addi v2 c1_i32_4828
  let c11_i32_4829 : BitVec 32 := 11#32
  let v5310 : BitVec 32 := Scalar.addi v5309 c11_i32_4829
  let c16_i32_4830 : BitVec 32 := 16#32
  let c0_i32_4831 : BitVec 32 := 0#32
  let v5311 : BitVec 1 := Scalar.cmpi .eq c16_i32_4830 c0_i32_4831
  let c1_i32_4832 : BitVec 32 := 1#32
  let v5312 : BitVec 32 := Scalar.select v5311 c1_i32_4832 c16_i32_4830
  let v5313 : BitVec 32 := Scalar.remsi v5310 v5312
  let c0_i32_4834 : BitVec 32 := 0#32
  let v5315 : BitVec 1 := Scalar.cmpi .slt v5313 c0_i32_4834
  let c0_i32_4835 : BitVec 32 := 0#32
  let v5316 : BitVec 1 := Scalar.cmpi .slt v5312 c0_i32_4835
  let v5317 : BitVec 1 := Scalar.xori v5315 v5316
  let c0_i32_4833 : BitVec 32 := 0#32
  let v5314 : BitVec 1 := Scalar.cmpi .ne v5313 c0_i32_4833
  let v5318 : BitVec 1 := Scalar.andi v5317 v5314
  let v5319 : BitVec 32 := Scalar.addi v5313 v5312
  let v5320 : BitVec 32 := Scalar.select v5318 v5319 v5313
  let c1_i32_4839 : BitVec 32 := 1#32
  let v5322 : BitVec 32 := Scalar.muli v5320 c1_i32_4839
  let v5323 : BitVec 32 := Scalar.addi c0_i32_4840 v5322
  v5323.toNat
def k0_dev163 (d0 : Dev nD) : Nat :=
  let c0_i32_4858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4846 : BitVec 32 := 1#32
  let v5332 : BitVec 32 := Scalar.addi v2 c1_i32_4846
  let c12_i32_4847 : BitVec 32 := 12#32
  let v5333 : BitVec 32 := Scalar.addi v5332 c12_i32_4847
  let c16_i32_4848 : BitVec 32 := 16#32
  let c0_i32_4849 : BitVec 32 := 0#32
  let v5334 : BitVec 1 := Scalar.cmpi .eq c16_i32_4848 c0_i32_4849
  let c1_i32_4850 : BitVec 32 := 1#32
  let v5335 : BitVec 32 := Scalar.select v5334 c1_i32_4850 c16_i32_4848
  let v5336 : BitVec 32 := Scalar.remsi v5333 v5335
  let c0_i32_4852 : BitVec 32 := 0#32
  let v5338 : BitVec 1 := Scalar.cmpi .slt v5336 c0_i32_4852
  let c0_i32_4853 : BitVec 32 := 0#32
  let v5339 : BitVec 1 := Scalar.cmpi .slt v5335 c0_i32_4853
  let v5340 : BitVec 1 := Scalar.xori v5338 v5339
  let c0_i32_4851 : BitVec 32 := 0#32
  let v5337 : BitVec 1 := Scalar.cmpi .ne v5336 c0_i32_4851
  let v5341 : BitVec 1 := Scalar.andi v5340 v5337
  let v5342 : BitVec 32 := Scalar.addi v5336 v5335
  let v5343 : BitVec 32 := Scalar.select v5341 v5342 v5336
  let c1_i32_4857 : BitVec 32 := 1#32
  let v5345 : BitVec 32 := Scalar.muli v5343 c1_i32_4857
  let v5346 : BitVec 32 := Scalar.addi c0_i32_4858 v5345
  v5346.toNat
def k0_dev164 (d0 : Dev nD) : Nat :=
  let c0_i32_4876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4864 : BitVec 32 := 1#32
  let v5355 : BitVec 32 := Scalar.addi v2 c1_i32_4864
  let c13_i32_4865 : BitVec 32 := 13#32
  let v5356 : BitVec 32 := Scalar.addi v5355 c13_i32_4865
  let c16_i32_4866 : BitVec 32 := 16#32
  let c0_i32_4867 : BitVec 32 := 0#32
  let v5357 : BitVec 1 := Scalar.cmpi .eq c16_i32_4866 c0_i32_4867
  let c1_i32_4868 : BitVec 32 := 1#32
  let v5358 : BitVec 32 := Scalar.select v5357 c1_i32_4868 c16_i32_4866
  let v5359 : BitVec 32 := Scalar.remsi v5356 v5358
  let c0_i32_4870 : BitVec 32 := 0#32
  let v5361 : BitVec 1 := Scalar.cmpi .slt v5359 c0_i32_4870
  let c0_i32_4871 : BitVec 32 := 0#32
  let v5362 : BitVec 1 := Scalar.cmpi .slt v5358 c0_i32_4871
  let v5363 : BitVec 1 := Scalar.xori v5361 v5362
  let c0_i32_4869 : BitVec 32 := 0#32
  let v5360 : BitVec 1 := Scalar.cmpi .ne v5359 c0_i32_4869
  let v5364 : BitVec 1 := Scalar.andi v5363 v5360
  let v5365 : BitVec 32 := Scalar.addi v5359 v5358
  let v5366 : BitVec 32 := Scalar.select v5364 v5365 v5359
  let c1_i32_4875 : BitVec 32 := 1#32
  let v5368 : BitVec 32 := Scalar.muli v5366 c1_i32_4875
  let v5369 : BitVec 32 := Scalar.addi c0_i32_4876 v5368
  v5369.toNat
def k0_dev165 (d0 : Dev nD) : Nat :=
  let c0_i32_4894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4882 : BitVec 32 := 1#32
  let v5378 : BitVec 32 := Scalar.addi v2 c1_i32_4882
  let c14_i32_4883 : BitVec 32 := 14#32
  let v5379 : BitVec 32 := Scalar.addi v5378 c14_i32_4883
  let c16_i32_4884 : BitVec 32 := 16#32
  let c0_i32_4885 : BitVec 32 := 0#32
  let v5380 : BitVec 1 := Scalar.cmpi .eq c16_i32_4884 c0_i32_4885
  let c1_i32_4886 : BitVec 32 := 1#32
  let v5381 : BitVec 32 := Scalar.select v5380 c1_i32_4886 c16_i32_4884
  let v5382 : BitVec 32 := Scalar.remsi v5379 v5381
  let c0_i32_4888 : BitVec 32 := 0#32
  let v5384 : BitVec 1 := Scalar.cmpi .slt v5382 c0_i32_4888
  let c0_i32_4889 : BitVec 32 := 0#32
  let v5385 : BitVec 1 := Scalar.cmpi .slt v5381 c0_i32_4889
  let v5386 : BitVec 1 := Scalar.xori v5384 v5385
  let c0_i32_4887 : BitVec 32 := 0#32
  let v5383 : BitVec 1 := Scalar.cmpi .ne v5382 c0_i32_4887
  let v5387 : BitVec 1 := Scalar.andi v5386 v5383
  let v5388 : BitVec 32 := Scalar.addi v5382 v5381
  let v5389 : BitVec 32 := Scalar.select v5387 v5388 v5382
  let c1_i32_4893 : BitVec 32 := 1#32
  let v5391 : BitVec 32 := Scalar.muli v5389 c1_i32_4893
  let v5392 : BitVec 32 := Scalar.addi c0_i32_4894 v5391
  v5392.toNat
def k0_dev166 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5061 : BitVec 32 := 1#32
  let v5552 : BitVec 32 := Scalar.addi v2 c1_i32_5061
  let c0_i32_5062 : BitVec 32 := 0#32
  let v5553 : BitVec 32 := Scalar.addi v5552 c0_i32_5062
  let c16_i32_5063 : BitVec 32 := 16#32
  let c0_i32_5064 : BitVec 32 := 0#32
  let v5554 : BitVec 1 := Scalar.cmpi .eq c16_i32_5063 c0_i32_5064
  let c1_i32_5065 : BitVec 32 := 1#32
  let v5555 : BitVec 32 := Scalar.select v5554 c1_i32_5065 c16_i32_5063
  let v5556 : BitVec 32 := Scalar.remsi v5553 v5555
  let c0_i32_5067 : BitVec 32 := 0#32
  let v5558 : BitVec 1 := Scalar.cmpi .slt v5556 c0_i32_5067
  let c0_i32_5068 : BitVec 32 := 0#32
  let v5559 : BitVec 1 := Scalar.cmpi .slt v5555 c0_i32_5068
  let v5560 : BitVec 1 := Scalar.xori v5558 v5559
  let c0_i32_5066 : BitVec 32 := 0#32
  let v5557 : BitVec 1 := Scalar.cmpi .ne v5556 c0_i32_5066
  let v5561 : BitVec 1 := Scalar.andi v5560 v5557
  let v5562 : BitVec 32 := Scalar.addi v5556 v5555
  let v5563 : BitVec 32 := Scalar.select v5561 v5562 v5556
  let c1_i32_5072 : BitVec 32 := 1#32
  let v5565 : BitVec 32 := Scalar.muli v5563 c1_i32_5072
  let v5566 : BitVec 32 := Scalar.addi c0_i32_5073 v5565
  v5566.toNat
def k0_dev167 (d0 : Dev nD) : Nat :=
  let c0_i32_5089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5077 : BitVec 32 := 1#32
  let v5573 : BitVec 32 := Scalar.addi v2 c1_i32_5077
  let c1_i32_5078 : BitVec 32 := 1#32
  let v5574 : BitVec 32 := Scalar.addi v5573 c1_i32_5078
  let c16_i32_5079 : BitVec 32 := 16#32
  let c0_i32_5080 : BitVec 32 := 0#32
  let v5575 : BitVec 1 := Scalar.cmpi .eq c16_i32_5079 c0_i32_5080
  let c1_i32_5081 : BitVec 32 := 1#32
  let v5576 : BitVec 32 := Scalar.select v5575 c1_i32_5081 c16_i32_5079
  let v5577 : BitVec 32 := Scalar.remsi v5574 v5576
  let c0_i32_5083 : BitVec 32 := 0#32
  let v5579 : BitVec 1 := Scalar.cmpi .slt v5577 c0_i32_5083
  let c0_i32_5084 : BitVec 32 := 0#32
  let v5580 : BitVec 1 := Scalar.cmpi .slt v5576 c0_i32_5084
  let v5581 : BitVec 1 := Scalar.xori v5579 v5580
  let c0_i32_5082 : BitVec 32 := 0#32
  let v5578 : BitVec 1 := Scalar.cmpi .ne v5577 c0_i32_5082
  let v5582 : BitVec 1 := Scalar.andi v5581 v5578
  let v5583 : BitVec 32 := Scalar.addi v5577 v5576
  let v5584 : BitVec 32 := Scalar.select v5582 v5583 v5577
  let c1_i32_5088 : BitVec 32 := 1#32
  let v5586 : BitVec 32 := Scalar.muli v5584 c1_i32_5088
  let v5587 : BitVec 32 := Scalar.addi c0_i32_5089 v5586
  v5587.toNat
def k0_dev168 (d0 : Dev nD) : Nat :=
  let c0_i32_5105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5093 : BitVec 32 := 1#32
  let v5594 : BitVec 32 := Scalar.addi v2 c1_i32_5093
  let c2_i32_5094 : BitVec 32 := 2#32
  let v5595 : BitVec 32 := Scalar.addi v5594 c2_i32_5094
  let c16_i32_5095 : BitVec 32 := 16#32
  let c0_i32_5096 : BitVec 32 := 0#32
  let v5596 : BitVec 1 := Scalar.cmpi .eq c16_i32_5095 c0_i32_5096
  let c1_i32_5097 : BitVec 32 := 1#32
  let v5597 : BitVec 32 := Scalar.select v5596 c1_i32_5097 c16_i32_5095
  let v5598 : BitVec 32 := Scalar.remsi v5595 v5597
  let c0_i32_5099 : BitVec 32 := 0#32
  let v5600 : BitVec 1 := Scalar.cmpi .slt v5598 c0_i32_5099
  let c0_i32_5100 : BitVec 32 := 0#32
  let v5601 : BitVec 1 := Scalar.cmpi .slt v5597 c0_i32_5100
  let v5602 : BitVec 1 := Scalar.xori v5600 v5601
  let c0_i32_5098 : BitVec 32 := 0#32
  let v5599 : BitVec 1 := Scalar.cmpi .ne v5598 c0_i32_5098
  let v5603 : BitVec 1 := Scalar.andi v5602 v5599
  let v5604 : BitVec 32 := Scalar.addi v5598 v5597
  let v5605 : BitVec 32 := Scalar.select v5603 v5604 v5598
  let c1_i32_5104 : BitVec 32 := 1#32
  let v5607 : BitVec 32 := Scalar.muli v5605 c1_i32_5104
  let v5608 : BitVec 32 := Scalar.addi c0_i32_5105 v5607
  v5608.toNat
def k0_dev169 (d0 : Dev nD) : Nat :=
  let c0_i32_5121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5109 : BitVec 32 := 1#32
  let v5615 : BitVec 32 := Scalar.addi v2 c1_i32_5109
  let c3_i32_5110 : BitVec 32 := 3#32
  let v5616 : BitVec 32 := Scalar.addi v5615 c3_i32_5110
  let c16_i32_5111 : BitVec 32 := 16#32
  let c0_i32_5112 : BitVec 32 := 0#32
  let v5617 : BitVec 1 := Scalar.cmpi .eq c16_i32_5111 c0_i32_5112
  let c1_i32_5113 : BitVec 32 := 1#32
  let v5618 : BitVec 32 := Scalar.select v5617 c1_i32_5113 c16_i32_5111
  let v5619 : BitVec 32 := Scalar.remsi v5616 v5618
  let c0_i32_5115 : BitVec 32 := 0#32
  let v5621 : BitVec 1 := Scalar.cmpi .slt v5619 c0_i32_5115
  let c0_i32_5116 : BitVec 32 := 0#32
  let v5622 : BitVec 1 := Scalar.cmpi .slt v5618 c0_i32_5116
  let v5623 : BitVec 1 := Scalar.xori v5621 v5622
  let c0_i32_5114 : BitVec 32 := 0#32
  let v5620 : BitVec 1 := Scalar.cmpi .ne v5619 c0_i32_5114
  let v5624 : BitVec 1 := Scalar.andi v5623 v5620
  let v5625 : BitVec 32 := Scalar.addi v5619 v5618
  let v5626 : BitVec 32 := Scalar.select v5624 v5625 v5619
  let c1_i32_5120 : BitVec 32 := 1#32
  let v5628 : BitVec 32 := Scalar.muli v5626 c1_i32_5120
  let v5629 : BitVec 32 := Scalar.addi c0_i32_5121 v5628
  v5629.toNat
def k0_dev170 (d0 : Dev nD) : Nat :=
  let c0_i32_5137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5125 : BitVec 32 := 1#32
  let v5636 : BitVec 32 := Scalar.addi v2 c1_i32_5125
  let c4_i32_5126 : BitVec 32 := 4#32
  let v5637 : BitVec 32 := Scalar.addi v5636 c4_i32_5126
  let c16_i32_5127 : BitVec 32 := 16#32
  let c0_i32_5128 : BitVec 32 := 0#32
  let v5638 : BitVec 1 := Scalar.cmpi .eq c16_i32_5127 c0_i32_5128
  let c1_i32_5129 : BitVec 32 := 1#32
  let v5639 : BitVec 32 := Scalar.select v5638 c1_i32_5129 c16_i32_5127
  let v5640 : BitVec 32 := Scalar.remsi v5637 v5639
  let c0_i32_5131 : BitVec 32 := 0#32
  let v5642 : BitVec 1 := Scalar.cmpi .slt v5640 c0_i32_5131
  let c0_i32_5132 : BitVec 32 := 0#32
  let v5643 : BitVec 1 := Scalar.cmpi .slt v5639 c0_i32_5132
  let v5644 : BitVec 1 := Scalar.xori v5642 v5643
  let c0_i32_5130 : BitVec 32 := 0#32
  let v5641 : BitVec 1 := Scalar.cmpi .ne v5640 c0_i32_5130
  let v5645 : BitVec 1 := Scalar.andi v5644 v5641
  let v5646 : BitVec 32 := Scalar.addi v5640 v5639
  let v5647 : BitVec 32 := Scalar.select v5645 v5646 v5640
  let c1_i32_5136 : BitVec 32 := 1#32
  let v5649 : BitVec 32 := Scalar.muli v5647 c1_i32_5136
  let v5650 : BitVec 32 := Scalar.addi c0_i32_5137 v5649
  v5650.toNat
def k0_dev171 (d0 : Dev nD) : Nat :=
  let c0_i32_5153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5141 : BitVec 32 := 1#32
  let v5657 : BitVec 32 := Scalar.addi v2 c1_i32_5141
  let c5_i32_5142 : BitVec 32 := 5#32
  let v5658 : BitVec 32 := Scalar.addi v5657 c5_i32_5142
  let c16_i32_5143 : BitVec 32 := 16#32
  let c0_i32_5144 : BitVec 32 := 0#32
  let v5659 : BitVec 1 := Scalar.cmpi .eq c16_i32_5143 c0_i32_5144
  let c1_i32_5145 : BitVec 32 := 1#32
  let v5660 : BitVec 32 := Scalar.select v5659 c1_i32_5145 c16_i32_5143
  let v5661 : BitVec 32 := Scalar.remsi v5658 v5660
  let c0_i32_5147 : BitVec 32 := 0#32
  let v5663 : BitVec 1 := Scalar.cmpi .slt v5661 c0_i32_5147
  let c0_i32_5148 : BitVec 32 := 0#32
  let v5664 : BitVec 1 := Scalar.cmpi .slt v5660 c0_i32_5148
  let v5665 : BitVec 1 := Scalar.xori v5663 v5664
  let c0_i32_5146 : BitVec 32 := 0#32
  let v5662 : BitVec 1 := Scalar.cmpi .ne v5661 c0_i32_5146
  let v5666 : BitVec 1 := Scalar.andi v5665 v5662
  let v5667 : BitVec 32 := Scalar.addi v5661 v5660
  let v5668 : BitVec 32 := Scalar.select v5666 v5667 v5661
  let c1_i32_5152 : BitVec 32 := 1#32
  let v5670 : BitVec 32 := Scalar.muli v5668 c1_i32_5152
  let v5671 : BitVec 32 := Scalar.addi c0_i32_5153 v5670
  v5671.toNat
def k0_dev172 (d0 : Dev nD) : Nat :=
  let c0_i32_5169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5157 : BitVec 32 := 1#32
  let v5678 : BitVec 32 := Scalar.addi v2 c1_i32_5157
  let c6_i32_5158 : BitVec 32 := 6#32
  let v5679 : BitVec 32 := Scalar.addi v5678 c6_i32_5158
  let c16_i32_5159 : BitVec 32 := 16#32
  let c0_i32_5160 : BitVec 32 := 0#32
  let v5680 : BitVec 1 := Scalar.cmpi .eq c16_i32_5159 c0_i32_5160
  let c1_i32_5161 : BitVec 32 := 1#32
  let v5681 : BitVec 32 := Scalar.select v5680 c1_i32_5161 c16_i32_5159
  let v5682 : BitVec 32 := Scalar.remsi v5679 v5681
  let c0_i32_5163 : BitVec 32 := 0#32
  let v5684 : BitVec 1 := Scalar.cmpi .slt v5682 c0_i32_5163
  let c0_i32_5164 : BitVec 32 := 0#32
  let v5685 : BitVec 1 := Scalar.cmpi .slt v5681 c0_i32_5164
  let v5686 : BitVec 1 := Scalar.xori v5684 v5685
  let c0_i32_5162 : BitVec 32 := 0#32
  let v5683 : BitVec 1 := Scalar.cmpi .ne v5682 c0_i32_5162
  let v5687 : BitVec 1 := Scalar.andi v5686 v5683
  let v5688 : BitVec 32 := Scalar.addi v5682 v5681
  let v5689 : BitVec 32 := Scalar.select v5687 v5688 v5682
  let c1_i32_5168 : BitVec 32 := 1#32
  let v5691 : BitVec 32 := Scalar.muli v5689 c1_i32_5168
  let v5692 : BitVec 32 := Scalar.addi c0_i32_5169 v5691
  v5692.toNat
def k0_dev173 (d0 : Dev nD) : Nat :=
  let c0_i32_5185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5173 : BitVec 32 := 1#32
  let v5699 : BitVec 32 := Scalar.addi v2 c1_i32_5173
  let c7_i32_5174 : BitVec 32 := 7#32
  let v5700 : BitVec 32 := Scalar.addi v5699 c7_i32_5174
  let c16_i32_5175 : BitVec 32 := 16#32
  let c0_i32_5176 : BitVec 32 := 0#32
  let v5701 : BitVec 1 := Scalar.cmpi .eq c16_i32_5175 c0_i32_5176
  let c1_i32_5177 : BitVec 32 := 1#32
  let v5702 : BitVec 32 := Scalar.select v5701 c1_i32_5177 c16_i32_5175
  let v5703 : BitVec 32 := Scalar.remsi v5700 v5702
  let c0_i32_5179 : BitVec 32 := 0#32
  let v5705 : BitVec 1 := Scalar.cmpi .slt v5703 c0_i32_5179
  let c0_i32_5180 : BitVec 32 := 0#32
  let v5706 : BitVec 1 := Scalar.cmpi .slt v5702 c0_i32_5180
  let v5707 : BitVec 1 := Scalar.xori v5705 v5706
  let c0_i32_5178 : BitVec 32 := 0#32
  let v5704 : BitVec 1 := Scalar.cmpi .ne v5703 c0_i32_5178
  let v5708 : BitVec 1 := Scalar.andi v5707 v5704
  let v5709 : BitVec 32 := Scalar.addi v5703 v5702
  let v5710 : BitVec 32 := Scalar.select v5708 v5709 v5703
  let c1_i32_5184 : BitVec 32 := 1#32
  let v5712 : BitVec 32 := Scalar.muli v5710 c1_i32_5184
  let v5713 : BitVec 32 := Scalar.addi c0_i32_5185 v5712
  v5713.toNat
def k0_dev174 (d0 : Dev nD) : Nat :=
  let c0_i32_5201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5189 : BitVec 32 := 1#32
  let v5720 : BitVec 32 := Scalar.addi v2 c1_i32_5189
  let c8_i32_5190 : BitVec 32 := 8#32
  let v5721 : BitVec 32 := Scalar.addi v5720 c8_i32_5190
  let c16_i32_5191 : BitVec 32 := 16#32
  let c0_i32_5192 : BitVec 32 := 0#32
  let v5722 : BitVec 1 := Scalar.cmpi .eq c16_i32_5191 c0_i32_5192
  let c1_i32_5193 : BitVec 32 := 1#32
  let v5723 : BitVec 32 := Scalar.select v5722 c1_i32_5193 c16_i32_5191
  let v5724 : BitVec 32 := Scalar.remsi v5721 v5723
  let c0_i32_5195 : BitVec 32 := 0#32
  let v5726 : BitVec 1 := Scalar.cmpi .slt v5724 c0_i32_5195
  let c0_i32_5196 : BitVec 32 := 0#32
  let v5727 : BitVec 1 := Scalar.cmpi .slt v5723 c0_i32_5196
  let v5728 : BitVec 1 := Scalar.xori v5726 v5727
  let c0_i32_5194 : BitVec 32 := 0#32
  let v5725 : BitVec 1 := Scalar.cmpi .ne v5724 c0_i32_5194
  let v5729 : BitVec 1 := Scalar.andi v5728 v5725
  let v5730 : BitVec 32 := Scalar.addi v5724 v5723
  let v5731 : BitVec 32 := Scalar.select v5729 v5730 v5724
  let c1_i32_5200 : BitVec 32 := 1#32
  let v5733 : BitVec 32 := Scalar.muli v5731 c1_i32_5200
  let v5734 : BitVec 32 := Scalar.addi c0_i32_5201 v5733
  v5734.toNat
def k0_dev175 (d0 : Dev nD) : Nat :=
  let c0_i32_5217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5205 : BitVec 32 := 1#32
  let v5741 : BitVec 32 := Scalar.addi v2 c1_i32_5205
  let c9_i32_5206 : BitVec 32 := 9#32
  let v5742 : BitVec 32 := Scalar.addi v5741 c9_i32_5206
  let c16_i32_5207 : BitVec 32 := 16#32
  let c0_i32_5208 : BitVec 32 := 0#32
  let v5743 : BitVec 1 := Scalar.cmpi .eq c16_i32_5207 c0_i32_5208
  let c1_i32_5209 : BitVec 32 := 1#32
  let v5744 : BitVec 32 := Scalar.select v5743 c1_i32_5209 c16_i32_5207
  let v5745 : BitVec 32 := Scalar.remsi v5742 v5744
  let c0_i32_5211 : BitVec 32 := 0#32
  let v5747 : BitVec 1 := Scalar.cmpi .slt v5745 c0_i32_5211
  let c0_i32_5212 : BitVec 32 := 0#32
  let v5748 : BitVec 1 := Scalar.cmpi .slt v5744 c0_i32_5212
  let v5749 : BitVec 1 := Scalar.xori v5747 v5748
  let c0_i32_5210 : BitVec 32 := 0#32
  let v5746 : BitVec 1 := Scalar.cmpi .ne v5745 c0_i32_5210
  let v5750 : BitVec 1 := Scalar.andi v5749 v5746
  let v5751 : BitVec 32 := Scalar.addi v5745 v5744
  let v5752 : BitVec 32 := Scalar.select v5750 v5751 v5745
  let c1_i32_5216 : BitVec 32 := 1#32
  let v5754 : BitVec 32 := Scalar.muli v5752 c1_i32_5216
  let v5755 : BitVec 32 := Scalar.addi c0_i32_5217 v5754
  v5755.toNat
def k0_dev176 (d0 : Dev nD) : Nat :=
  let c0_i32_5233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5221 : BitVec 32 := 1#32
  let v5762 : BitVec 32 := Scalar.addi v2 c1_i32_5221
  let c10_i32_5222 : BitVec 32 := 10#32
  let v5763 : BitVec 32 := Scalar.addi v5762 c10_i32_5222
  let c16_i32_5223 : BitVec 32 := 16#32
  let c0_i32_5224 : BitVec 32 := 0#32
  let v5764 : BitVec 1 := Scalar.cmpi .eq c16_i32_5223 c0_i32_5224
  let c1_i32_5225 : BitVec 32 := 1#32
  let v5765 : BitVec 32 := Scalar.select v5764 c1_i32_5225 c16_i32_5223
  let v5766 : BitVec 32 := Scalar.remsi v5763 v5765
  let c0_i32_5227 : BitVec 32 := 0#32
  let v5768 : BitVec 1 := Scalar.cmpi .slt v5766 c0_i32_5227
  let c0_i32_5228 : BitVec 32 := 0#32
  let v5769 : BitVec 1 := Scalar.cmpi .slt v5765 c0_i32_5228
  let v5770 : BitVec 1 := Scalar.xori v5768 v5769
  let c0_i32_5226 : BitVec 32 := 0#32
  let v5767 : BitVec 1 := Scalar.cmpi .ne v5766 c0_i32_5226
  let v5771 : BitVec 1 := Scalar.andi v5770 v5767
  let v5772 : BitVec 32 := Scalar.addi v5766 v5765
  let v5773 : BitVec 32 := Scalar.select v5771 v5772 v5766
  let c1_i32_5232 : BitVec 32 := 1#32
  let v5775 : BitVec 32 := Scalar.muli v5773 c1_i32_5232
  let v5776 : BitVec 32 := Scalar.addi c0_i32_5233 v5775
  v5776.toNat
def k0_dev177 (d0 : Dev nD) : Nat :=
  let c0_i32_5249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5237 : BitVec 32 := 1#32
  let v5783 : BitVec 32 := Scalar.addi v2 c1_i32_5237
  let c11_i32_5238 : BitVec 32 := 11#32
  let v5784 : BitVec 32 := Scalar.addi v5783 c11_i32_5238
  let c16_i32_5239 : BitVec 32 := 16#32
  let c0_i32_5240 : BitVec 32 := 0#32
  let v5785 : BitVec 1 := Scalar.cmpi .eq c16_i32_5239 c0_i32_5240
  let c1_i32_5241 : BitVec 32 := 1#32
  let v5786 : BitVec 32 := Scalar.select v5785 c1_i32_5241 c16_i32_5239
  let v5787 : BitVec 32 := Scalar.remsi v5784 v5786
  let c0_i32_5243 : BitVec 32 := 0#32
  let v5789 : BitVec 1 := Scalar.cmpi .slt v5787 c0_i32_5243
  let c0_i32_5244 : BitVec 32 := 0#32
  let v5790 : BitVec 1 := Scalar.cmpi .slt v5786 c0_i32_5244
  let v5791 : BitVec 1 := Scalar.xori v5789 v5790
  let c0_i32_5242 : BitVec 32 := 0#32
  let v5788 : BitVec 1 := Scalar.cmpi .ne v5787 c0_i32_5242
  let v5792 : BitVec 1 := Scalar.andi v5791 v5788
  let v5793 : BitVec 32 := Scalar.addi v5787 v5786
  let v5794 : BitVec 32 := Scalar.select v5792 v5793 v5787
  let c1_i32_5248 : BitVec 32 := 1#32
  let v5796 : BitVec 32 := Scalar.muli v5794 c1_i32_5248
  let v5797 : BitVec 32 := Scalar.addi c0_i32_5249 v5796
  v5797.toNat
def k0_dev178 (d0 : Dev nD) : Nat :=
  let c0_i32_5265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5253 : BitVec 32 := 1#32
  let v5804 : BitVec 32 := Scalar.addi v2 c1_i32_5253
  let c12_i32_5254 : BitVec 32 := 12#32
  let v5805 : BitVec 32 := Scalar.addi v5804 c12_i32_5254
  let c16_i32_5255 : BitVec 32 := 16#32
  let c0_i32_5256 : BitVec 32 := 0#32
  let v5806 : BitVec 1 := Scalar.cmpi .eq c16_i32_5255 c0_i32_5256
  let c1_i32_5257 : BitVec 32 := 1#32
  let v5807 : BitVec 32 := Scalar.select v5806 c1_i32_5257 c16_i32_5255
  let v5808 : BitVec 32 := Scalar.remsi v5805 v5807
  let c0_i32_5259 : BitVec 32 := 0#32
  let v5810 : BitVec 1 := Scalar.cmpi .slt v5808 c0_i32_5259
  let c0_i32_5260 : BitVec 32 := 0#32
  let v5811 : BitVec 1 := Scalar.cmpi .slt v5807 c0_i32_5260
  let v5812 : BitVec 1 := Scalar.xori v5810 v5811
  let c0_i32_5258 : BitVec 32 := 0#32
  let v5809 : BitVec 1 := Scalar.cmpi .ne v5808 c0_i32_5258
  let v5813 : BitVec 1 := Scalar.andi v5812 v5809
  let v5814 : BitVec 32 := Scalar.addi v5808 v5807
  let v5815 : BitVec 32 := Scalar.select v5813 v5814 v5808
  let c1_i32_5264 : BitVec 32 := 1#32
  let v5817 : BitVec 32 := Scalar.muli v5815 c1_i32_5264
  let v5818 : BitVec 32 := Scalar.addi c0_i32_5265 v5817
  v5818.toNat
def k0_dev179 (d0 : Dev nD) : Nat :=
  let c0_i32_5281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5269 : BitVec 32 := 1#32
  let v5825 : BitVec 32 := Scalar.addi v2 c1_i32_5269
  let c13_i32_5270 : BitVec 32 := 13#32
  let v5826 : BitVec 32 := Scalar.addi v5825 c13_i32_5270
  let c16_i32_5271 : BitVec 32 := 16#32
  let c0_i32_5272 : BitVec 32 := 0#32
  let v5827 : BitVec 1 := Scalar.cmpi .eq c16_i32_5271 c0_i32_5272
  let c1_i32_5273 : BitVec 32 := 1#32
  let v5828 : BitVec 32 := Scalar.select v5827 c1_i32_5273 c16_i32_5271
  let v5829 : BitVec 32 := Scalar.remsi v5826 v5828
  let c0_i32_5275 : BitVec 32 := 0#32
  let v5831 : BitVec 1 := Scalar.cmpi .slt v5829 c0_i32_5275
  let c0_i32_5276 : BitVec 32 := 0#32
  let v5832 : BitVec 1 := Scalar.cmpi .slt v5828 c0_i32_5276
  let v5833 : BitVec 1 := Scalar.xori v5831 v5832
  let c0_i32_5274 : BitVec 32 := 0#32
  let v5830 : BitVec 1 := Scalar.cmpi .ne v5829 c0_i32_5274
  let v5834 : BitVec 1 := Scalar.andi v5833 v5830
  let v5835 : BitVec 32 := Scalar.addi v5829 v5828
  let v5836 : BitVec 32 := Scalar.select v5834 v5835 v5829
  let c1_i32_5280 : BitVec 32 := 1#32
  let v5838 : BitVec 32 := Scalar.muli v5836 c1_i32_5280
  let v5839 : BitVec 32 := Scalar.addi c0_i32_5281 v5838
  v5839.toNat
def k0_dev180 (d0 : Dev nD) : Nat :=
  let c0_i32_5297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5285 : BitVec 32 := 1#32
  let v5846 : BitVec 32 := Scalar.addi v2 c1_i32_5285
  let c14_i32_5286 : BitVec 32 := 14#32
  let v5847 : BitVec 32 := Scalar.addi v5846 c14_i32_5286
  let c16_i32_5287 : BitVec 32 := 16#32
  let c0_i32_5288 : BitVec 32 := 0#32
  let v5848 : BitVec 1 := Scalar.cmpi .eq c16_i32_5287 c0_i32_5288
  let c1_i32_5289 : BitVec 32 := 1#32
  let v5849 : BitVec 32 := Scalar.select v5848 c1_i32_5289 c16_i32_5287
  let v5850 : BitVec 32 := Scalar.remsi v5847 v5849
  let c0_i32_5291 : BitVec 32 := 0#32
  let v5852 : BitVec 1 := Scalar.cmpi .slt v5850 c0_i32_5291
  let c0_i32_5292 : BitVec 32 := 0#32
  let v5853 : BitVec 1 := Scalar.cmpi .slt v5849 c0_i32_5292
  let v5854 : BitVec 1 := Scalar.xori v5852 v5853
  let c0_i32_5290 : BitVec 32 := 0#32
  let v5851 : BitVec 1 := Scalar.cmpi .ne v5850 c0_i32_5290
  let v5855 : BitVec 1 := Scalar.andi v5854 v5851
  let v5856 : BitVec 32 := Scalar.addi v5850 v5849
  let v5857 : BitVec 32 := Scalar.select v5855 v5856 v5850
  let c1_i32_5296 : BitVec 32 := 1#32
  let v5859 : BitVec 32 := Scalar.muli v5857 c1_i32_5296
  let v5860 : BitVec 32 := Scalar.addi c0_i32_5297 v5859
  v5860.toNat
def k0_dev181 (d0 : Dev nD) : Nat :=
  let c0_i32_5609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5597 : BitVec 32 := 1#32
  let v6122 : BitVec 32 := Scalar.addi v2 c1_i32_5597
  let c0_i32_5598 : BitVec 32 := 0#32
  let v6123 : BitVec 32 := Scalar.addi v6122 c0_i32_5598
  let c16_i32_5599 : BitVec 32 := 16#32
  let c0_i32_5600 : BitVec 32 := 0#32
  let v6124 : BitVec 1 := Scalar.cmpi .eq c16_i32_5599 c0_i32_5600
  let c1_i32_5601 : BitVec 32 := 1#32
  let v6125 : BitVec 32 := Scalar.select v6124 c1_i32_5601 c16_i32_5599
  let v6126 : BitVec 32 := Scalar.remsi v6123 v6125
  let c0_i32_5603 : BitVec 32 := 0#32
  let v6128 : BitVec 1 := Scalar.cmpi .slt v6126 c0_i32_5603
  let c0_i32_5604 : BitVec 32 := 0#32
  let v6129 : BitVec 1 := Scalar.cmpi .slt v6125 c0_i32_5604
  let v6130 : BitVec 1 := Scalar.xori v6128 v6129
  let c0_i32_5602 : BitVec 32 := 0#32
  let v6127 : BitVec 1 := Scalar.cmpi .ne v6126 c0_i32_5602
  let v6131 : BitVec 1 := Scalar.andi v6130 v6127
  let v6132 : BitVec 32 := Scalar.addi v6126 v6125
  let v6133 : BitVec 32 := Scalar.select v6131 v6132 v6126
  let c1_i32_5608 : BitVec 32 := 1#32
  let v6135 : BitVec 32 := Scalar.muli v6133 c1_i32_5608
  let v6136 : BitVec 32 := Scalar.addi c0_i32_5609 v6135
  v6136.toNat
def k0_dev182 (d0 : Dev nD) : Nat :=
  let c0_i32_5625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5613 : BitVec 32 := 1#32
  let v6143 : BitVec 32 := Scalar.addi v2 c1_i32_5613
  let c1_i32_5614 : BitVec 32 := 1#32
  let v6144 : BitVec 32 := Scalar.addi v6143 c1_i32_5614
  let c16_i32_5615 : BitVec 32 := 16#32
  let c0_i32_5616 : BitVec 32 := 0#32
  let v6145 : BitVec 1 := Scalar.cmpi .eq c16_i32_5615 c0_i32_5616
  let c1_i32_5617 : BitVec 32 := 1#32
  let v6146 : BitVec 32 := Scalar.select v6145 c1_i32_5617 c16_i32_5615
  let v6147 : BitVec 32 := Scalar.remsi v6144 v6146
  let c0_i32_5619 : BitVec 32 := 0#32
  let v6149 : BitVec 1 := Scalar.cmpi .slt v6147 c0_i32_5619
  let c0_i32_5620 : BitVec 32 := 0#32
  let v6150 : BitVec 1 := Scalar.cmpi .slt v6146 c0_i32_5620
  let v6151 : BitVec 1 := Scalar.xori v6149 v6150
  let c0_i32_5618 : BitVec 32 := 0#32
  let v6148 : BitVec 1 := Scalar.cmpi .ne v6147 c0_i32_5618
  let v6152 : BitVec 1 := Scalar.andi v6151 v6148
  let v6153 : BitVec 32 := Scalar.addi v6147 v6146
  let v6154 : BitVec 32 := Scalar.select v6152 v6153 v6147
  let c1_i32_5624 : BitVec 32 := 1#32
  let v6156 : BitVec 32 := Scalar.muli v6154 c1_i32_5624
  let v6157 : BitVec 32 := Scalar.addi c0_i32_5625 v6156
  v6157.toNat
def k0_dev183 (d0 : Dev nD) : Nat :=
  let c0_i32_5641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5629 : BitVec 32 := 1#32
  let v6164 : BitVec 32 := Scalar.addi v2 c1_i32_5629
  let c2_i32_5630 : BitVec 32 := 2#32
  let v6165 : BitVec 32 := Scalar.addi v6164 c2_i32_5630
  let c16_i32_5631 : BitVec 32 := 16#32
  let c0_i32_5632 : BitVec 32 := 0#32
  let v6166 : BitVec 1 := Scalar.cmpi .eq c16_i32_5631 c0_i32_5632
  let c1_i32_5633 : BitVec 32 := 1#32
  let v6167 : BitVec 32 := Scalar.select v6166 c1_i32_5633 c16_i32_5631
  let v6168 : BitVec 32 := Scalar.remsi v6165 v6167
  let c0_i32_5635 : BitVec 32 := 0#32
  let v6170 : BitVec 1 := Scalar.cmpi .slt v6168 c0_i32_5635
  let c0_i32_5636 : BitVec 32 := 0#32
  let v6171 : BitVec 1 := Scalar.cmpi .slt v6167 c0_i32_5636
  let v6172 : BitVec 1 := Scalar.xori v6170 v6171
  let c0_i32_5634 : BitVec 32 := 0#32
  let v6169 : BitVec 1 := Scalar.cmpi .ne v6168 c0_i32_5634
  let v6173 : BitVec 1 := Scalar.andi v6172 v6169
  let v6174 : BitVec 32 := Scalar.addi v6168 v6167
  let v6175 : BitVec 32 := Scalar.select v6173 v6174 v6168
  let c1_i32_5640 : BitVec 32 := 1#32
  let v6177 : BitVec 32 := Scalar.muli v6175 c1_i32_5640
  let v6178 : BitVec 32 := Scalar.addi c0_i32_5641 v6177
  v6178.toNat
def k0_dev184 (d0 : Dev nD) : Nat :=
  let c0_i32_5657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5645 : BitVec 32 := 1#32
  let v6185 : BitVec 32 := Scalar.addi v2 c1_i32_5645
  let c3_i32_5646 : BitVec 32 := 3#32
  let v6186 : BitVec 32 := Scalar.addi v6185 c3_i32_5646
  let c16_i32_5647 : BitVec 32 := 16#32
  let c0_i32_5648 : BitVec 32 := 0#32
  let v6187 : BitVec 1 := Scalar.cmpi .eq c16_i32_5647 c0_i32_5648
  let c1_i32_5649 : BitVec 32 := 1#32
  let v6188 : BitVec 32 := Scalar.select v6187 c1_i32_5649 c16_i32_5647
  let v6189 : BitVec 32 := Scalar.remsi v6186 v6188
  let c0_i32_5651 : BitVec 32 := 0#32
  let v6191 : BitVec 1 := Scalar.cmpi .slt v6189 c0_i32_5651
  let c0_i32_5652 : BitVec 32 := 0#32
  let v6192 : BitVec 1 := Scalar.cmpi .slt v6188 c0_i32_5652
  let v6193 : BitVec 1 := Scalar.xori v6191 v6192
  let c0_i32_5650 : BitVec 32 := 0#32
  let v6190 : BitVec 1 := Scalar.cmpi .ne v6189 c0_i32_5650
  let v6194 : BitVec 1 := Scalar.andi v6193 v6190
  let v6195 : BitVec 32 := Scalar.addi v6189 v6188
  let v6196 : BitVec 32 := Scalar.select v6194 v6195 v6189
  let c1_i32_5656 : BitVec 32 := 1#32
  let v6198 : BitVec 32 := Scalar.muli v6196 c1_i32_5656
  let v6199 : BitVec 32 := Scalar.addi c0_i32_5657 v6198
  v6199.toNat
def k0_dev185 (d0 : Dev nD) : Nat :=
  let c0_i32_5673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5661 : BitVec 32 := 1#32
  let v6206 : BitVec 32 := Scalar.addi v2 c1_i32_5661
  let c4_i32_5662 : BitVec 32 := 4#32
  let v6207 : BitVec 32 := Scalar.addi v6206 c4_i32_5662
  let c16_i32_5663 : BitVec 32 := 16#32
  let c0_i32_5664 : BitVec 32 := 0#32
  let v6208 : BitVec 1 := Scalar.cmpi .eq c16_i32_5663 c0_i32_5664
  let c1_i32_5665 : BitVec 32 := 1#32
  let v6209 : BitVec 32 := Scalar.select v6208 c1_i32_5665 c16_i32_5663
  let v6210 : BitVec 32 := Scalar.remsi v6207 v6209
  let c0_i32_5667 : BitVec 32 := 0#32
  let v6212 : BitVec 1 := Scalar.cmpi .slt v6210 c0_i32_5667
  let c0_i32_5668 : BitVec 32 := 0#32
  let v6213 : BitVec 1 := Scalar.cmpi .slt v6209 c0_i32_5668
  let v6214 : BitVec 1 := Scalar.xori v6212 v6213
  let c0_i32_5666 : BitVec 32 := 0#32
  let v6211 : BitVec 1 := Scalar.cmpi .ne v6210 c0_i32_5666
  let v6215 : BitVec 1 := Scalar.andi v6214 v6211
  let v6216 : BitVec 32 := Scalar.addi v6210 v6209
  let v6217 : BitVec 32 := Scalar.select v6215 v6216 v6210
  let c1_i32_5672 : BitVec 32 := 1#32
  let v6219 : BitVec 32 := Scalar.muli v6217 c1_i32_5672
  let v6220 : BitVec 32 := Scalar.addi c0_i32_5673 v6219
  v6220.toNat
def k0_dev186 (d0 : Dev nD) : Nat :=
  let c0_i32_5689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5677 : BitVec 32 := 1#32
  let v6227 : BitVec 32 := Scalar.addi v2 c1_i32_5677
  let c5_i32_5678 : BitVec 32 := 5#32
  let v6228 : BitVec 32 := Scalar.addi v6227 c5_i32_5678
  let c16_i32_5679 : BitVec 32 := 16#32
  let c0_i32_5680 : BitVec 32 := 0#32
  let v6229 : BitVec 1 := Scalar.cmpi .eq c16_i32_5679 c0_i32_5680
  let c1_i32_5681 : BitVec 32 := 1#32
  let v6230 : BitVec 32 := Scalar.select v6229 c1_i32_5681 c16_i32_5679
  let v6231 : BitVec 32 := Scalar.remsi v6228 v6230
  let c0_i32_5683 : BitVec 32 := 0#32
  let v6233 : BitVec 1 := Scalar.cmpi .slt v6231 c0_i32_5683
  let c0_i32_5684 : BitVec 32 := 0#32
  let v6234 : BitVec 1 := Scalar.cmpi .slt v6230 c0_i32_5684
  let v6235 : BitVec 1 := Scalar.xori v6233 v6234
  let c0_i32_5682 : BitVec 32 := 0#32
  let v6232 : BitVec 1 := Scalar.cmpi .ne v6231 c0_i32_5682
  let v6236 : BitVec 1 := Scalar.andi v6235 v6232
  let v6237 : BitVec 32 := Scalar.addi v6231 v6230
  let v6238 : BitVec 32 := Scalar.select v6236 v6237 v6231
  let c1_i32_5688 : BitVec 32 := 1#32
  let v6240 : BitVec 32 := Scalar.muli v6238 c1_i32_5688
  let v6241 : BitVec 32 := Scalar.addi c0_i32_5689 v6240
  v6241.toNat
def k0_dev187 (d0 : Dev nD) : Nat :=
  let c0_i32_5705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5693 : BitVec 32 := 1#32
  let v6248 : BitVec 32 := Scalar.addi v2 c1_i32_5693
  let c6_i32_5694 : BitVec 32 := 6#32
  let v6249 : BitVec 32 := Scalar.addi v6248 c6_i32_5694
  let c16_i32_5695 : BitVec 32 := 16#32
  let c0_i32_5696 : BitVec 32 := 0#32
  let v6250 : BitVec 1 := Scalar.cmpi .eq c16_i32_5695 c0_i32_5696
  let c1_i32_5697 : BitVec 32 := 1#32
  let v6251 : BitVec 32 := Scalar.select v6250 c1_i32_5697 c16_i32_5695
  let v6252 : BitVec 32 := Scalar.remsi v6249 v6251
  let c0_i32_5699 : BitVec 32 := 0#32
  let v6254 : BitVec 1 := Scalar.cmpi .slt v6252 c0_i32_5699
  let c0_i32_5700 : BitVec 32 := 0#32
  let v6255 : BitVec 1 := Scalar.cmpi .slt v6251 c0_i32_5700
  let v6256 : BitVec 1 := Scalar.xori v6254 v6255
  let c0_i32_5698 : BitVec 32 := 0#32
  let v6253 : BitVec 1 := Scalar.cmpi .ne v6252 c0_i32_5698
  let v6257 : BitVec 1 := Scalar.andi v6256 v6253
  let v6258 : BitVec 32 := Scalar.addi v6252 v6251
  let v6259 : BitVec 32 := Scalar.select v6257 v6258 v6252
  let c1_i32_5704 : BitVec 32 := 1#32
  let v6261 : BitVec 32 := Scalar.muli v6259 c1_i32_5704
  let v6262 : BitVec 32 := Scalar.addi c0_i32_5705 v6261
  v6262.toNat
def k0_dev188 (d0 : Dev nD) : Nat :=
  let c0_i32_5721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5709 : BitVec 32 := 1#32
  let v6269 : BitVec 32 := Scalar.addi v2 c1_i32_5709
  let c7_i32_5710 : BitVec 32 := 7#32
  let v6270 : BitVec 32 := Scalar.addi v6269 c7_i32_5710
  let c16_i32_5711 : BitVec 32 := 16#32
  let c0_i32_5712 : BitVec 32 := 0#32
  let v6271 : BitVec 1 := Scalar.cmpi .eq c16_i32_5711 c0_i32_5712
  let c1_i32_5713 : BitVec 32 := 1#32
  let v6272 : BitVec 32 := Scalar.select v6271 c1_i32_5713 c16_i32_5711
  let v6273 : BitVec 32 := Scalar.remsi v6270 v6272
  let c0_i32_5715 : BitVec 32 := 0#32
  let v6275 : BitVec 1 := Scalar.cmpi .slt v6273 c0_i32_5715
  let c0_i32_5716 : BitVec 32 := 0#32
  let v6276 : BitVec 1 := Scalar.cmpi .slt v6272 c0_i32_5716
  let v6277 : BitVec 1 := Scalar.xori v6275 v6276
  let c0_i32_5714 : BitVec 32 := 0#32
  let v6274 : BitVec 1 := Scalar.cmpi .ne v6273 c0_i32_5714
  let v6278 : BitVec 1 := Scalar.andi v6277 v6274
  let v6279 : BitVec 32 := Scalar.addi v6273 v6272
  let v6280 : BitVec 32 := Scalar.select v6278 v6279 v6273
  let c1_i32_5720 : BitVec 32 := 1#32
  let v6282 : BitVec 32 := Scalar.muli v6280 c1_i32_5720
  let v6283 : BitVec 32 := Scalar.addi c0_i32_5721 v6282
  v6283.toNat
def k0_dev189 (d0 : Dev nD) : Nat :=
  let c0_i32_5737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5725 : BitVec 32 := 1#32
  let v6290 : BitVec 32 := Scalar.addi v2 c1_i32_5725
  let c8_i32_5726 : BitVec 32 := 8#32
  let v6291 : BitVec 32 := Scalar.addi v6290 c8_i32_5726
  let c16_i32_5727 : BitVec 32 := 16#32
  let c0_i32_5728 : BitVec 32 := 0#32
  let v6292 : BitVec 1 := Scalar.cmpi .eq c16_i32_5727 c0_i32_5728
  let c1_i32_5729 : BitVec 32 := 1#32
  let v6293 : BitVec 32 := Scalar.select v6292 c1_i32_5729 c16_i32_5727
  let v6294 : BitVec 32 := Scalar.remsi v6291 v6293
  let c0_i32_5731 : BitVec 32 := 0#32
  let v6296 : BitVec 1 := Scalar.cmpi .slt v6294 c0_i32_5731
  let c0_i32_5732 : BitVec 32 := 0#32
  let v6297 : BitVec 1 := Scalar.cmpi .slt v6293 c0_i32_5732
  let v6298 : BitVec 1 := Scalar.xori v6296 v6297
  let c0_i32_5730 : BitVec 32 := 0#32
  let v6295 : BitVec 1 := Scalar.cmpi .ne v6294 c0_i32_5730
  let v6299 : BitVec 1 := Scalar.andi v6298 v6295
  let v6300 : BitVec 32 := Scalar.addi v6294 v6293
  let v6301 : BitVec 32 := Scalar.select v6299 v6300 v6294
  let c1_i32_5736 : BitVec 32 := 1#32
  let v6303 : BitVec 32 := Scalar.muli v6301 c1_i32_5736
  let v6304 : BitVec 32 := Scalar.addi c0_i32_5737 v6303
  v6304.toNat
def k0_dev190 (d0 : Dev nD) : Nat :=
  let c0_i32_5753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5741 : BitVec 32 := 1#32
  let v6311 : BitVec 32 := Scalar.addi v2 c1_i32_5741
  let c9_i32_5742 : BitVec 32 := 9#32
  let v6312 : BitVec 32 := Scalar.addi v6311 c9_i32_5742
  let c16_i32_5743 : BitVec 32 := 16#32
  let c0_i32_5744 : BitVec 32 := 0#32
  let v6313 : BitVec 1 := Scalar.cmpi .eq c16_i32_5743 c0_i32_5744
  let c1_i32_5745 : BitVec 32 := 1#32
  let v6314 : BitVec 32 := Scalar.select v6313 c1_i32_5745 c16_i32_5743
  let v6315 : BitVec 32 := Scalar.remsi v6312 v6314
  let c0_i32_5747 : BitVec 32 := 0#32
  let v6317 : BitVec 1 := Scalar.cmpi .slt v6315 c0_i32_5747
  let c0_i32_5748 : BitVec 32 := 0#32
  let v6318 : BitVec 1 := Scalar.cmpi .slt v6314 c0_i32_5748
  let v6319 : BitVec 1 := Scalar.xori v6317 v6318
  let c0_i32_5746 : BitVec 32 := 0#32
  let v6316 : BitVec 1 := Scalar.cmpi .ne v6315 c0_i32_5746
  let v6320 : BitVec 1 := Scalar.andi v6319 v6316
  let v6321 : BitVec 32 := Scalar.addi v6315 v6314
  let v6322 : BitVec 32 := Scalar.select v6320 v6321 v6315
  let c1_i32_5752 : BitVec 32 := 1#32
  let v6324 : BitVec 32 := Scalar.muli v6322 c1_i32_5752
  let v6325 : BitVec 32 := Scalar.addi c0_i32_5753 v6324
  v6325.toNat
def k0_dev191 (d0 : Dev nD) : Nat :=
  let c0_i32_5769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5757 : BitVec 32 := 1#32
  let v6332 : BitVec 32 := Scalar.addi v2 c1_i32_5757
  let c10_i32_5758 : BitVec 32 := 10#32
  let v6333 : BitVec 32 := Scalar.addi v6332 c10_i32_5758
  let c16_i32_5759 : BitVec 32 := 16#32
  let c0_i32_5760 : BitVec 32 := 0#32
  let v6334 : BitVec 1 := Scalar.cmpi .eq c16_i32_5759 c0_i32_5760
  let c1_i32_5761 : BitVec 32 := 1#32
  let v6335 : BitVec 32 := Scalar.select v6334 c1_i32_5761 c16_i32_5759
  let v6336 : BitVec 32 := Scalar.remsi v6333 v6335
  let c0_i32_5763 : BitVec 32 := 0#32
  let v6338 : BitVec 1 := Scalar.cmpi .slt v6336 c0_i32_5763
  let c0_i32_5764 : BitVec 32 := 0#32
  let v6339 : BitVec 1 := Scalar.cmpi .slt v6335 c0_i32_5764
  let v6340 : BitVec 1 := Scalar.xori v6338 v6339
  let c0_i32_5762 : BitVec 32 := 0#32
  let v6337 : BitVec 1 := Scalar.cmpi .ne v6336 c0_i32_5762
  let v6341 : BitVec 1 := Scalar.andi v6340 v6337
  let v6342 : BitVec 32 := Scalar.addi v6336 v6335
  let v6343 : BitVec 32 := Scalar.select v6341 v6342 v6336
  let c1_i32_5768 : BitVec 32 := 1#32
  let v6345 : BitVec 32 := Scalar.muli v6343 c1_i32_5768
  let v6346 : BitVec 32 := Scalar.addi c0_i32_5769 v6345
  v6346.toNat
def k0_dev192 (d0 : Dev nD) : Nat :=
  let c0_i32_5785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5773 : BitVec 32 := 1#32
  let v6353 : BitVec 32 := Scalar.addi v2 c1_i32_5773
  let c11_i32_5774 : BitVec 32 := 11#32
  let v6354 : BitVec 32 := Scalar.addi v6353 c11_i32_5774
  let c16_i32_5775 : BitVec 32 := 16#32
  let c0_i32_5776 : BitVec 32 := 0#32
  let v6355 : BitVec 1 := Scalar.cmpi .eq c16_i32_5775 c0_i32_5776
  let c1_i32_5777 : BitVec 32 := 1#32
  let v6356 : BitVec 32 := Scalar.select v6355 c1_i32_5777 c16_i32_5775
  let v6357 : BitVec 32 := Scalar.remsi v6354 v6356
  let c0_i32_5779 : BitVec 32 := 0#32
  let v6359 : BitVec 1 := Scalar.cmpi .slt v6357 c0_i32_5779
  let c0_i32_5780 : BitVec 32 := 0#32
  let v6360 : BitVec 1 := Scalar.cmpi .slt v6356 c0_i32_5780
  let v6361 : BitVec 1 := Scalar.xori v6359 v6360
  let c0_i32_5778 : BitVec 32 := 0#32
  let v6358 : BitVec 1 := Scalar.cmpi .ne v6357 c0_i32_5778
  let v6362 : BitVec 1 := Scalar.andi v6361 v6358
  let v6363 : BitVec 32 := Scalar.addi v6357 v6356
  let v6364 : BitVec 32 := Scalar.select v6362 v6363 v6357
  let c1_i32_5784 : BitVec 32 := 1#32
  let v6366 : BitVec 32 := Scalar.muli v6364 c1_i32_5784
  let v6367 : BitVec 32 := Scalar.addi c0_i32_5785 v6366
  v6367.toNat
def k0_dev193 (d0 : Dev nD) : Nat :=
  let c0_i32_5801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5789 : BitVec 32 := 1#32
  let v6374 : BitVec 32 := Scalar.addi v2 c1_i32_5789
  let c12_i32_5790 : BitVec 32 := 12#32
  let v6375 : BitVec 32 := Scalar.addi v6374 c12_i32_5790
  let c16_i32_5791 : BitVec 32 := 16#32
  let c0_i32_5792 : BitVec 32 := 0#32
  let v6376 : BitVec 1 := Scalar.cmpi .eq c16_i32_5791 c0_i32_5792
  let c1_i32_5793 : BitVec 32 := 1#32
  let v6377 : BitVec 32 := Scalar.select v6376 c1_i32_5793 c16_i32_5791
  let v6378 : BitVec 32 := Scalar.remsi v6375 v6377
  let c0_i32_5795 : BitVec 32 := 0#32
  let v6380 : BitVec 1 := Scalar.cmpi .slt v6378 c0_i32_5795
  let c0_i32_5796 : BitVec 32 := 0#32
  let v6381 : BitVec 1 := Scalar.cmpi .slt v6377 c0_i32_5796
  let v6382 : BitVec 1 := Scalar.xori v6380 v6381
  let c0_i32_5794 : BitVec 32 := 0#32
  let v6379 : BitVec 1 := Scalar.cmpi .ne v6378 c0_i32_5794
  let v6383 : BitVec 1 := Scalar.andi v6382 v6379
  let v6384 : BitVec 32 := Scalar.addi v6378 v6377
  let v6385 : BitVec 32 := Scalar.select v6383 v6384 v6378
  let c1_i32_5800 : BitVec 32 := 1#32
  let v6387 : BitVec 32 := Scalar.muli v6385 c1_i32_5800
  let v6388 : BitVec 32 := Scalar.addi c0_i32_5801 v6387
  v6388.toNat
def k0_dev194 (d0 : Dev nD) : Nat :=
  let c0_i32_5817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5805 : BitVec 32 := 1#32
  let v6395 : BitVec 32 := Scalar.addi v2 c1_i32_5805
  let c13_i32_5806 : BitVec 32 := 13#32
  let v6396 : BitVec 32 := Scalar.addi v6395 c13_i32_5806
  let c16_i32_5807 : BitVec 32 := 16#32
  let c0_i32_5808 : BitVec 32 := 0#32
  let v6397 : BitVec 1 := Scalar.cmpi .eq c16_i32_5807 c0_i32_5808
  let c1_i32_5809 : BitVec 32 := 1#32
  let v6398 : BitVec 32 := Scalar.select v6397 c1_i32_5809 c16_i32_5807
  let v6399 : BitVec 32 := Scalar.remsi v6396 v6398
  let c0_i32_5811 : BitVec 32 := 0#32
  let v6401 : BitVec 1 := Scalar.cmpi .slt v6399 c0_i32_5811
  let c0_i32_5812 : BitVec 32 := 0#32
  let v6402 : BitVec 1 := Scalar.cmpi .slt v6398 c0_i32_5812
  let v6403 : BitVec 1 := Scalar.xori v6401 v6402
  let c0_i32_5810 : BitVec 32 := 0#32
  let v6400 : BitVec 1 := Scalar.cmpi .ne v6399 c0_i32_5810
  let v6404 : BitVec 1 := Scalar.andi v6403 v6400
  let v6405 : BitVec 32 := Scalar.addi v6399 v6398
  let v6406 : BitVec 32 := Scalar.select v6404 v6405 v6399
  let c1_i32_5816 : BitVec 32 := 1#32
  let v6408 : BitVec 32 := Scalar.muli v6406 c1_i32_5816
  let v6409 : BitVec 32 := Scalar.addi c0_i32_5817 v6408
  v6409.toNat
def k0_dev195 (d0 : Dev nD) : Nat :=
  let c0_i32_5833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5821 : BitVec 32 := 1#32
  let v6416 : BitVec 32 := Scalar.addi v2 c1_i32_5821
  let c14_i32_5822 : BitVec 32 := 14#32
  let v6417 : BitVec 32 := Scalar.addi v6416 c14_i32_5822
  let c16_i32_5823 : BitVec 32 := 16#32
  let c0_i32_5824 : BitVec 32 := 0#32
  let v6418 : BitVec 1 := Scalar.cmpi .eq c16_i32_5823 c0_i32_5824
  let c1_i32_5825 : BitVec 32 := 1#32
  let v6419 : BitVec 32 := Scalar.select v6418 c1_i32_5825 c16_i32_5823
  let v6420 : BitVec 32 := Scalar.remsi v6417 v6419
  let c0_i32_5827 : BitVec 32 := 0#32
  let v6422 : BitVec 1 := Scalar.cmpi .slt v6420 c0_i32_5827
  let c0_i32_5828 : BitVec 32 := 0#32
  let v6423 : BitVec 1 := Scalar.cmpi .slt v6419 c0_i32_5828
  let v6424 : BitVec 1 := Scalar.xori v6422 v6423
  let c0_i32_5826 : BitVec 32 := 0#32
  let v6421 : BitVec 1 := Scalar.cmpi .ne v6420 c0_i32_5826
  let v6425 : BitVec 1 := Scalar.andi v6424 v6421
  let v6426 : BitVec 32 := Scalar.addi v6420 v6419
  let v6427 : BitVec 32 := Scalar.select v6425 v6426 v6420
  let c1_i32_5832 : BitVec 32 := 1#32
  let v6429 : BitVec 32 := Scalar.muli v6427 c1_i32_5832
  let v6430 : BitVec 32 := Scalar.addi c0_i32_5833 v6429
  v6430.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x16384 : Shape := ⟨2, ![64, 16384]⟩
abbrev S16384x2048 : Shape := ⟨2, ![16384, 2048]⟩
abbrev S2048x16384 : Shape := ⟨2, ![2048, 16384]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S16384x2048, .f32⟩
  | .hbm, ⟨2, _⟩ => ⟨S2048x16384, .f32⟩
  | .hbm, ⟨3, _⟩ => ⟨S16384x2048, .f32⟩
  | .hbm, ⟨4, _⟩ => ⟨S2048x16384, .f32⟩
  | .hbm, ⟨5, _⟩ => ⟨S16384x2048, .f32⟩
  | .hbm, ⟨6, _⟩ => ⟨S2048x16384, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x16384, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x16384, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.ProgIdeal.lean ====
/-
The kernel's program once more, its repeated stretches written as lists: fifteen signals, fifteen sends, fifteen
waits, and the three steps of a layer over one half of the rows. `body_eq` says the printed program is this one.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Hand

open Cert.KernelIdeal Cert.KernelIdeal.Gen
open Idealize.ShloMosaic Idealize.SL.Sem
open Idealize.ShloMosaic.TcCoe

variable {F : FTy → Type} [FloatOps F]

abbrev Ef (F : FTy → Type) : Type → Type := TpuEff nD τ sig (Elt F) Λ₀ .tc
abbrev Pg (F : FTy → Type) : Type 1 := Prog (TpuEff nD τ sig (Elt F) Λ₀ .tc) PUnit

/-- The offsets `0, …, 14` of a device's fifteen peers. -/
def offs : List (Fin 15) := [0, 1, 2, 3, 4, 5, 6, 7, 8, 9, 10, 11, 12, 13, 14]

/-- One effect per member of a list, then the rest of the program. -/
def each {ι : Type} : List ι → (ι → Ef F PUnit) → Pg F → Pg F
  | [], _, K => K
  | i :: l, e, K => Prog.op (e i) fun _ => each l e K

/-- The same effect once per member of a list, then the rest. -/
abbrev again {ι : Type} (l : List ι) (e : Ef F PUnit) (K : Pg F) : Pg F := each l (fun _ => e) K

/-! ## Buffers -/

abbrev accM : Memref sig .tc .vmem S64x2048 .bf16 := Memref.whole cc0_scratch0
abbrev rsM : Memref sig .tc .vmem S16x64x128 .bf16 := Memref.whole cc0_scratch1
abbrev hcM : Memref sig .tc .vmem S64x128 .bf16 := Memref.whole cc0_scratch2
abbrev hfM : Memref sig .tc .vmem S64x2048 .bf16 := Memref.whole cc0_scratch3
abbrev xbM : Memref sig .tc .vmem S64x1024 .f32 := Memref.whole cc0_scratch4
abbrev xM : Memref sig .tc .vmem S64x1024 .f32 := Memref.whole cc0_stg0_0
abbrev oM : Memref sig .tc .vmem S64x1024 .f32 := Memref.whole cc0_stg7_0

/-! ## The words of the program -/

/-- The peer at offset `i`, as the program computes it. -/
def devW (d0 : Dev nD) (k : BitVec 32) : ℕ :=
  let v0 : BitVec 32 := Dev.word d0
  let v2 : BitVec 32 := Scalar.remsi (Scalar.divsi v0 1#32) 16#32
  let u : BitVec 32 := Scalar.addi (Scalar.addi v2 1#32) k
  let n : BitVec 32 := Scalar.select (Scalar.cmpi .eq 16#32 0#32) 1#32 16#32
  let r : BitVec 32 := Scalar.remsi u n
  let b : BitVec 1 := Scalar.andi (Scalar.xori (Scalar.cmpi .slt r 0#32) (Scalar.cmpi .slt n 0#32)) (Scalar.cmpi .ne r 0#32)
  (Scalar.addi 0#32 (Scalar.muli (Scalar.select b (Scalar.addi r n) r) 1#32)).toNat

theorem devW_lt (d0 : Dev nD) (i : Fin 15) : devW d0 (BitVec.ofNat 32 i.val) < nD := by revert d0 i; decide +kernel
def devP (d0 : Dev nD) (i : Fin 15) : Dev nD := ⟨devW d0 (BitVec.ofNat 32 i.val), devW_lt d0 i⟩

def offA (h : Bool) (d0 : Dev nD) (i : Fin 15) : Fin 2 → ℕ :=
  match h with | false => k0_off2 d0 (BitVec.ofNat 32 i.val) | true => k0_off6 d0 (BitVec.ofNat 32 i.val)
theorem offA_inb (h : Bool) (d0 : Dev nD) (i : Fin 15) : ∀ a, offA h d0 i a + S32x128.size a ≤ S64x2048.size a :=
  match h with | false => k0_off2_inb d0 i | true => k0_off6_inb d0 i
def offR (h : Bool) (d0 : Dev nD) : Fin 3 → ℕ := match h with | false => k0_off3 d0 | true => k0_off7 d0
theorem offR_inb (h : Bool) (d0 : Dev nD) : ∀ a, offR h d0 a + S1x32x128.size a ≤ S16x64x128.size a :=
  match h with | false => k0_off3_inb d0 | true => k0_off7_inb d0
def offS (h : Bool) (d0 : Dev nD) : Fin 3 → ℕ := match h with | false => k0_off5 d0 | true => k0_off9 d0
theorem offS_inb (h : Bool) (d0 : Dev nD) : ∀ a, offS h d0 a + S1x32x128.size a ≤ S16x64x128.size a :=
  match h with | false => k0_off5_inb d0 | true => k0_off9_inb d0
def offM (h : Bool) (d0 : Dev nD) : Fin 2 → ℕ := match h with | false => k0_off4 d0 | true => k0_off8 d0
theorem offM_inb (h : Bool) (d0 : Dev nD) : ∀ a, offM h d0 a + S32x128.size a ≤ S64x2048.size a :=
  match h with | false => k0_off4_inb d0 | true => k0_off8_inb d0
def offW (h : Bool) (d0 : Dev nD) : Fin 2 → ℕ := match h with | false => k0_off10 d0 | true => k0_off11 d0
theorem offW_inb (h : Bool) (d0 : Dev nD) : ∀ a, offW h d0 a + S32x128.size a ≤ S64x2048.size a :=
  match h with | false => k0_off10_inb d0 | true => k0_off11_inb d0
/-- The first row of a half. -/
def off2 (h : Bool) : Fin 2 → ℕ := match h with | false => ![0, 0] | true => ![32, 0]
def off3 (h : Bool) : Fin 3 → ℕ := match h with | false => ![0, 0, 0] | true => ![0, 32, 0]
theorem off2_x (h : Bool) : ∀ a, off2 h a + S32x1024.size a ≤ S64x1024.size a :=
  match h with | false => inb_S64x1024_S32x1024_0_0 | true => inb_S64x1024_S32x1024_32_0
theorem off2_a (h : Bool) : ∀ a, off2 h a + S32x2048.size a ≤ S64x2048.size a :=
  match h with | false => inb_S64x2048_S32x2048_0_0 | true => inb_S64x2048_S32x2048_32_0
theorem off2_c (h : Bool) : ∀ a, off2 h a + S32x128.size a ≤ S64x128.size a :=
  match h with | false => inb_S64x128_S32x128_0_0 | true => inb_S64x128_S32x128_32_0
theorem off3_r (h : Bool) : ∀ a, off3 h a + S16x32x128.size a ≤ S16x64x128.size a :=
  match h with | false => inb_S16x64x128_S16x32x128_0_0_0 | true => inb_S16x64x128_S16x32x128_0_32_0

/-! ## Semaphores -/

def semA (arr : DmaSems sig S2) (h : Bool) : DmaSem sig :=
  match h with
  | false => ((arr.slice (Rect.unit (s := S2) ![0] S1.size inb_S2_S1_0)).squeeze S_ squeezes_S1_S_).sem
  | true => ((arr.slice (Rect.unit (s := S2) ![1] S1.size inb_S2_S1_1)).squeeze S_ squeezes_S1_S_).sem
/-- The semaphore a transfer's source completes on: `false` the partial products, `true` the gathered chunks. -/
def sS (kd h : Bool) : DmaSem sig := match kd with | false => semA cc0_scratch5 h | true => semA cc0_scratch7 h
/-- The one its landing completes on. -/
def sR (kd h : Bool) : DmaSem sig := match kd with | false => semA cc0_scratch6 h | true => semA cc0_scratch8 h
abbrev barS : Sem sig := (SemArray.scalar (sig.barrier 0 rfl) : Sems sig S_).sem

/-! ## The views of a transfer, at the program's words -/

/-- A column block of a half of the sum buffer. -/
abbrev accV (off : Fin 2 → ℕ) (h : ∀ a, off a + S32x128.size a ≤ S64x2048.size a) : Memref sig .tc .vmem S32x128 .bf16 :=
  accM.slice (Rect.unit (s := S64x2048) off S32x128.size h) (fun _ => rfl)
abbrev hfV (off : Fin 2 → ℕ) (h : ∀ a, off a + S32x128.size a ≤ S64x2048.size a) : Memref sig .tc .vmem S32x128 .bf16 :=
  hfM.slice (Rect.unit (s := S64x2048) off S32x128.size h) (fun _ => rfl)
abbrev hcV (off : Fin 2 → ℕ) (h : ∀ a, off a + S32x128.size a ≤ S64x128.size a) : Memref sig .tc .vmem S32x128 .bf16 :=
  hcM.slice (Rect.unit (s := S64x128) off S32x128.size h) (fun _ => rfl)
abbrev rsV (off : Fin 3 → ℕ) (h : ∀ a, off a + S1x32x128.size a ≤ S16x64x128.size a) : Memref sig .tc .vmem S32x128 .bf16 :=
  (rsM.slice (Rect.unit (s := S16x64x128) off S1x32x128.size h) (fun _ => rfl)).squeeze S32x128 squeezes_S1x32x128_S32x128

def srcP (kd h : Bool) (d0 : Dev nD) (i : Fin 15) : Memref sig .tc .vmem S32x128 .bf16 :=
  match kd with | false => accV (offA h d0 i) (offA_inb h d0 i) | true => hcV (off2 h) (off2_c h)
def dstP (kd h : Bool) (d0 : Dev nD) : Memref sig .tc .vmem S32x128 .bf16 :=
  match kd with | false => rsV (offR h d0) (offR_inb h d0) | true => hfV (offW h d0) (offW_inb h d0)
/-- The view a wait names for the source's side. -/
def wsrcP (kd h : Bool) (d0 : Dev nD) : Memref sig .tc .vmem S32x128 .bf16 :=
  match kd with | false => accV (offW h d0) (offW_inb h d0) | true => hcV (off2 h) (off2_c h)

theorem srcP_ok (kd h : Bool) (d0 : Dev nD) (i : Fin 15) : (srcP kd h d0 i).view.WordExact :=
  match kd, h with
  | false, false => (Memref.isWhole_whole _).wordExact_slice rfl _ (k0_off2_wordsbf16 d0 i)
  | false, true => (Memref.isWhole_whole _).wordExact_slice rfl _ (k0_off6_wordsbf16 d0 i)
  | true, false => (Memref.isWhole_whole _).wordExact_slice rfl _ wordsbf16_S64x128_S32x128_0_0
  | true, true => (Memref.isWhole_whole _).wordExact_slice rfl _ wordsbf16_S64x128_S32x128_32_0
theorem dstP_ok (kd h : Bool) (d0 : Dev nD) : (dstP kd h d0).view.WordExact :=
  match kd, h with
  | false, false => ((Memref.isWhole_whole _).wordExact_slice rfl _ (k0_off3_wordsbf16 d0)).reshape _ _
  | false, true => ((Memref.isWhole_whole _).wordExact_slice rfl _ (k0_off7_wordsbf16 d0)).reshape _ _
  | true, false => (Memref.isWhole_whole _).wordExact_slice rfl _ (k0_off10_wordsbf16 d0)
  | true, true => (Memref.isWhole_whole _).wordExact_slice rfl _ (k0_off11_wordsbf16 d0)
theorem wsrcP_ok (kd h : Bool) (d0 : Dev nD) : (wsrcP kd h d0).view.WordExact :=
  match kd, h with
  | false, false => (Memref.isWhole_whole _).wordExact_slice rfl _ (k0_off10_wordsbf16 d0)
  | false, true => (Memref.isWhole_whole _).wordExact_slice rfl _ (k0_off11_wordsbf16 d0)
  | true, false => (Memref.isWhole_whole _).wordExact_slice rfl _ wordsbf16_S64x128_S32x128_0_0
  | true, true => (Memref.isWhole_whole _).wordExact_slice rfl _ wordsbf16_S64x128_S32x128_32_0
theorem dstP_sc (kd h : Bool) (d0 : Dev nD) : (dstP kd h d0).view.ref.isScScratch = false := by cases kd <;> rfl

/-! ## The effects -/

def sigE (d0 : Dev nD) (i : Fin 15) : Ef F PUnit := .semSignal (devP d0 i, .tc) barS (1#32 : BitVec 32).toInt
def sendE (kd h : Bool) (d0 : Dev nD) (i : Fin 15) : Ef F PUnit :=
  .enqueueDma (srcP kd h d0 i) (.remote (Dev.tc (devP d0 i)) (dstP kd h d0) (.dma (sS kd h)) (dstP_sc kd h d0)) (.dma (sR kd h))
    (srcP_ok kd h d0 i) (dstP_ok kd h d0) ⟨⟨rfl, Or.inl rfl⟩, trivial⟩
/-- A wait for one landing. -/
def wrE (kd h : Bool) (d0 : Dev nD) : Ef F PUnit :=
  .waitDma2 (sR kd h) (wsrcP kd h d0) (dstP kd h d0) (wsrcP_ok kd h d0) (dstP_ok kd h d0)
/-- A wait for one source to be free. -/
def wsE (kd h : Bool) (d0 : Dev nD) : Ef F PUnit :=
  .waitDma2 (sS kd h) (dstP kd h d0) (wsrcP kd h d0) (dstP_ok kd h d0) (wsrcP_ok kd h d0)

/-! ## The steps of a layer, over half `h` -/

theorem packed_a (h : Bool) : (Rect.unit (s := S64x2048) (off2 h) S32x2048.size (off2_a h)).PackedRows (EltTy.packing .bf16) :=
  match h with | false => packedbf16_S64x2048_S32x2048_0_0 | true => packedbf16_S64x2048_S32x2048_32_0
theorem packed_s (h : Bool) (d0 : Dev nD) : (Rect.unit (s := S16x64x128) (offS h d0) S1x32x128.size (offS_inb h d0)).PackedRows (EltTy.packing .bf16) :=
  match h with | false => k0_off5_packedbf16 d0 | true => k0_off9_packedbf16 d0
theorem packed_c (h : Bool) : (Rect.unit (s := S64x128) (off2 h) S32x128.size (off2_c h)).PackedRows (EltTy.packing .bf16) :=
  match h with | false => packedbf16_S64x128_S32x128_0_0 | true => packedbf16_S64x128_S32x128_32_0
theorem packed_m (h : Bool) (d0 : Dev nD) : (Rect.unit (s := S64x2048) (offM h d0) S32x128.size (offM_inb h d0)).PackedRows (EltTy.packing .bf16) :=
  match h with | false => k0_off4_packedbf16 d0 | true => k0_off8_packedbf16 d0

abbrev rX (h : Bool) : Rect S64x1024 := Rect.unit (s := S64x1024) (off2 h) S32x1024.size (off2_x h)
abbrev rA (h : Bool) : Rect S64x2048 := Rect.unit (s := S64x2048) (off2 h) S32x2048.size (off2_a h)
abbrev rC (h : Bool) : Rect S64x128 := Rect.unit (s := S64x128) (off2 h) S32x128.size (off2_c h)
abbrev rR (h : Bool) : Rect S16x64x128 := Rect.unit (s := S16x64x128) (off3 h) S16x32x128.size (off3_r h)
abbrev rM (h : Bool) (d0 : Dev nD) : Rect S64x2048 := Rect.unit (s := S64x2048) (offM h d0) S32x128.size (offM_inb h d0)
abbrev rS (h : Bool) (d0 : Dev nD) : Rect S16x64x128 := Rect.unit (s := S16x64x128) (offS h d0) S1x32x128.size (offS_inb h d0)
abbrev rWi : Rect S1024x2048 := Rect.unit (s := S1024x2048) ![0, 0] S1024x2048.size inb_S1024x2048_S1024x2048_0_0
abbrev rWo : Rect S2048x1024 := Rect.unit (s := S2048x1024) ![0, 0] S2048x1024.size inb_S2048x1024_S2048x1024_0_0

/-- The product of a half with the device's rows of the first weights, stored and sent out block by block; the
    device's own block goes to its own place. -/
def step1 (p : Vec F S32x1024 .f32 → Vec F S1024x2048 .f32 → FVec F S32x2048 .bf16) (h : Bool) (x : Memref sig .tc .vmem S64x1024 .f32) (w : Memref sig .tc .vmem S1024x2048 .f32) (d0 : Dev nD) (K : Pg F) : Pg F :=
  Prog.op (.load x (rX h).toLoadRect (View.loadsAt_vmem h_S32x1024)) fun v1 =>
  Prog.op (.load w rWi.toLoadRect (View.loadsAt_vmem h_S1024x2048)) fun v2 =>
  Prog.op (.load accM (rA h).toLoadRect (View.loadsAt_vmem h_S32x2048)) fun _ =>
  Prog.op (.store accM (rA h) (p v1 v2) Finset.univ (View.stores_vmem h_S32x2048 ((Memref.isWhole_whole _).storeExact_slice rfl _ (packed_a h)) (fun _ => rfl)) (.inl rfl)) fun _ =>
  each offs (sendE false h d0) <|
  Prog.op (.load accM (rM h d0).toLoadRect (View.loadsAt_vmem h_S32x128)) fun v3 =>
  Prog.op (.load rsM (rS h d0).toLoadRect (View.loadsAt_vmem h_S1x32x128)) fun _ =>
  Prog.op (.store rsM (rS h d0) (k0_pay2 v3) Finset.univ (View.stores_vmem h_S1x32x128 ((Memref.isWhole_whole _).storeExact_slice rfl _ (packed_s h d0)) (fun _ => rfl)) (.inl rfl)) fun _ =>
  K

/-- The sum of the sixteen blocks received, its positive part stored, sent to every peer and put in its own place. -/
def step2 (h : Bool) (d0 : Dev nD) (K : Pg F) : Pg F :=
  again offs (wrE false h d0) <|
  Prog.op (.load rsM (rR h).toLoadRect (View.loadsAt_vmem h_S16x32x128)) fun v1 =>
  Prog.op (.load hcM (rC h).toLoadRect (View.loadsAt_vmem h_S32x128)) fun _ =>
  Prog.op (.store hcM (rC h) (k0_pay5 v1) Finset.univ (View.stores_vmem h_S32x128 ((Memref.isWhole_whole _).storeExact_slice rfl _ (packed_c h)) (fun _ => rfl)) (.inl rfl)) fun _ =>
  each offs (sendE true h d0) <|
  Prog.op (.load hcM (rC h).toLoadRect (View.loadsAt_vmem h_S32x128)) fun v2 =>
  Prog.op (.load hfM (rM h d0).toLoadRect (View.loadsAt_vmem h_S32x128)) fun _ =>
  Prog.op (.store hfM (rM h d0) (k0_pay6 v2) Finset.univ (View.stores_vmem h_S32x128 ((Memref.isWhole_whole _).storeExact_slice rfl _ (packed_m h d0)) (fun _ => rfl)) (.inl rfl)) fun _ =>
  again offs (wsE false h d0) K

/-- The product of the gathered half with the device's columns of the second weights. -/
def step3 (p : Vec F S32x2048 .bf16 → Vec F S2048x1024 .f32 → FVec F S32x1024 .f32) (h : Bool) (w : Memref sig .tc .vmem S2048x1024 .f32) (o : Memref sig .tc .vmem S64x1024 .f32) (d0 : Dev nD) (K : Pg F) : Pg F :=
  again offs (wrE true h d0) <|
  Prog.op (.load hfM (rA h).toLoadRect (View.loadsAt_vmem h_S32x2048)) fun v1 =>
  Prog.op (.load w rWo.toLoadRect (View.loadsAt_vmem h_S2048x1024)) fun v2 =>
  Prog.op (.load o (rX h).toLoadRect (View.loadsAt_vmem h_S32x1024)) fun _ =>
  Prog.op (.store o (rX h) (p v1 v2) Finset.univ (View.stores_vmem_bits_univ h_S32x1024 rfl) (.inl rfl)) fun _ =>
  again offs (wsE true h d0) K

/-- Every device tells every other that it has entered, and waits for the fifteen others. -/
def enter (d0 : Dev nD) (K : Pg F) : Pg F :=
  each offs (sigE d0) <| Prog.op (.semWait barS (15#32 : BitVec 32).toInt) fun _ => K

abbrev wi0 : Memref sig .tc .vmem S1024x2048 .f32 := Memref.whole cc0_stg1_0
abbrev wo0 : Memref sig .tc .vmem S2048x1024 .f32 := Memref.whole cc0_stg2_0
abbrev wi1 : Memref sig .tc .vmem S1024x2048 .f32 := Memref.whole cc0_stg3_0
abbrev wo1 : Memref sig .tc .vmem S2048x1024 .f32 := Memref.whole cc0_stg4_0
abbrev wi2 : Memref sig .tc .vmem S1024x2048 .f32 := Memref.whole cc0_stg5_0
abbrev wo2 : Memref sig .tc .vmem S2048x1024 .f32 := Memref.whole cc0_stg6_0

def prog : Pg F :=
  Prog.op .deviceId fun d0 =>
  enter d0 <|
  step1 k0_pay1 false xM wi0 d0 <| step1 k0_pay1 true xM wi0 d0 <|
  step2 false d0 <| step2 true d0 <|
  step3 k0_pay11 false wo0 xbM d0 <| step1 k0_pay12 false xbM wi1 d0 <|
  step3 k0_pay11 true wo0 xbM d0 <| step1 k0_pay12 true xbM wi1 d0 <|
  step2 false d0 <| step2 true d0 <|
  step3 k0_pay11 false wo1 xbM d0 <| step1 k0_pay12 false xbM wi2 d0 <|
  step3 k0_pay11 true wo1 xbM d0 <| step1 k0_pay12 true xbM wi2 d0 <|
  step2 false d0 <| step2 true d0 <|
  step3 k0_pay34 false wo2 oM d0 <| step3 k0_pay34 true wo2 oM d0 <|
  .ret ⟨⟩

abbrev printed : Pg F :=
  cc0_body xM (Memref.isWhole_whole _) wi0 (Memref.isWhole_whole _) wo0 (Memref.isWhole_whole _) wi1 (Memref.isWhole_whole _) wo1 (Memref.isWhole_whole _)
    wi2 (Memref.isWhole_whole _) wo2 (Memref.isWhole_whole _) oM (Memref.isWhole_whole _) accM (Memref.isWhole_whole _) rsM (Memref.isWhole_whole _)
    hcM (Memref.isWhole_whole _) hfM (Memref.isWhole_whole _) xbM (Memref.isWhole_whole _) cc0_scratch5 cc0_scratch6 cc0_scratch7 cc0_scratch8

theorem body_eq : (printed : Pg F) = prog := by chain_rfl

end Cert.KernelIdeal.Hand

end
-- ==== Proof.BaseIdeal.lean ====
/-
The protocol of the kernel: its cells, what a landing and a freed source hand over, what each device still owes, and
the order in which the cells are waited for.
-/
module

public import proofs.«01_k».proof.Proof.ProgIdeal
public import proofs.«01_k».proof.Proof.Gen.KernelIdeal.Launch
public import Idealize.ShloMosaic.Lib.Pipeline.Launch
public import Idealize.ShloMosaic.Lib.Pipeline.Kit
public import Idealize.ShloMosaic.Lib.SparseCore.ProtocolKit
public import Idealize.ShloMosaic.Lib.ShareLeaves
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- Weakest precondition of a program of device `c`'s core. -/
abbrev WP (c : Dev nD) (K : Pg F) (Q : PUnit → sProp 𝕄) : sProp 𝕄 :=
  wp frame (wpE (defs₀ (F := F)) 𝒱₀ (c : Thread nD τ) none) Set.univ K Q

/-! ## Peers -/

set_option backward.proofsInPublic true in
/-- The peer at offset `i`. -/
def pr (c : Dev nD) (i : Fin 15) : Dev nD := ⟨(c.val + 1 + i.val) % 16, Nat.mod_lt _ (by decide)⟩

theorem devP_eq (c : Dev nD) (i : Fin 15) : devP c i = pr c i := Fin.ext (by revert c i; decide +kernel)
theorem peers (c : Dev nD) : (Finset.univ.erase c : Finset (Dev nD)) = (offs.map (pr c)).toFinset := by revert c; decide +kernel
theorem peers_nodup (c : Dev nD) : (offs.map (pr c)).Nodup := by revert c; decide +kernel
theorem pr_ne (c : Dev nD) (i : Fin 15) : pr c i ≠ c := by revert c i; decide +kernel
theorem mem_offs (i : Fin 15) : i ∈ offs := by revert i; decide

/-! ## Lists of resources -/

/-- One resource per member of a list. -/
def sepL {ι : Type} : List ι → (ι → sProp 𝕄) → sProp 𝕄
  | [], _ => iprop(emp)
  | i :: l, Φ => iprop(Φ i ∗ sepL l Φ)

omit [FloatOps F] in
theorem sepL_eq {ι : Type} [DecidableEq ι] (l : List ι) (hl : l.Nodup) (Φ : ι → sProp 𝕄) : bigSep l.toFinset Φ = sepL l Φ := by
  rw [bigSep_eq_bigSepL l hl]
  clear hl
  induction l with
  | nil => rfl
  | cons i l ih => rw [sepL, bigSepL_cons, ih]; rfl

omit [FloatOps F] in
theorem sepL_map {ι κ : Type} (f : ι → κ) (l : List ι) (Φ : κ → sProp 𝕄) : sepL (l.map f) Φ = sepL l (fun i => Φ (f i)) := by
  induction l with
  | nil => rfl
  | cons i l ih => rw [List.map_cons, sepL, sepL, ih]

/-- One resource per peer of device `c`. -/
abbrev allP (c : Dev nD) (Φ : Dev nD → sProp 𝕄) : sProp 𝕄 := bigSep (Finset.univ.erase c) Φ

omit [FloatOps F] in
theorem allP_eq (c : Dev nD) (Φ : Dev nD → sProp 𝕄) : allP c Φ = sepL offs (fun i => Φ (pr c i)) := by
  unfold allP
  rw [peers c, sepL_eq _ (peers_nodup c), sepL_map]

omit [FloatOps F] in
theorem univ_allP (c : Dev nD) (Φ : Dev nD → sProp 𝕄) : bigSep Finset.univ Φ = iprop(Φ c ∗ allP c Φ) := bigSep_univ_at _ c

/-! ## Holding a view -/

/-- Device `c` holds the view `M` at share `q`, reading `X`. -/
def has (c : Dev nD) {sh : Shape} {e : EltTy} (M : Memref sig .tc .vmem sh e) (q : PosShare TreeShare) (X : sh.Idx → Elt F e) : sProp 𝕄 :=
  owns (c : Thread nD τ) M q X
/-- Device `c` holds the view `M` outright, reading anything. -/
def any (c : Dev nD) {sh : Shape} {e : EltTy} (M : Memref sig .tc .vmem sh e) : sProp 𝕄 := iprop(∃ X : sh.Idx → Elt F e, has c M fullShare X)

omit [FloatOps F] in
theorem has_any (c : Dev nD) {sh : Shape} {e : EltTy} (M : Memref sig .tc .vmem sh e) (X : sh.Idx → Elt F e) :
    (has c M fullShare X : sProp 𝕄) ⊢ any c M := by
  unfold any; iintro H; iexists X; iexact H

instance has_storable (c : Dev nD) {sh : Shape} {e : EltTy} (M : Memref sig .tc .vmem sh e) (q : PosShare TreeShare) (X : sh.Idx → Elt F e) :
    BI.Storable (upEmb : UEmb _ 𝕄) (has c M q X) := by unfold has; infer_instance
instance any_storable (c : Dev nD) {sh : Shape} {e : EltTy} (M : Memref sig .tc .vmem sh e) :
    BI.Storable (upEmb : UEmb _ 𝕄) (any (F := F) c M) := by unfold any; infer_instance

/-! ## The views of a transfer, by number -/

def row (h : Bool) : ℕ := match h with | false => 0 | true => 32

theorem inb_blk (h : Bool) (t : Dev nD) : ∀ a, (![row h, 128 * t.val] : Fin 2 → ℕ) a + S32x128.size a ≤ S64x2048.size a := by
  revert h t; decide +kernel
theorem inb_slt (h : Bool) (t : Dev nD) : ∀ a, (![t.val, row h, 0] : Fin 3 → ℕ) a + S1x32x128.size a ≤ S16x64x128.size a := by
  revert h t; decide +kernel

/-- What is sent to `t`: `false` its block of the product, `true` the device's chunk. -/
def srcV (kd h : Bool) (t : Dev nD) : Memref sig .tc .vmem S32x128 .bf16 :=
  match kd with | false => accV ![row h, 128 * t.val] (inb_blk h t) | true => hcV (off2 h) (off2_c h)
/-- Where what `s` sends lands. -/
def slotV (kd h : Bool) (s : Dev nD) : Memref sig .tc .vmem S32x128 .bf16 :=
  match kd with | false => rsV ![s.val, row h, 0] (inb_slt h s) | true => hfV ![row h, 128 * s.val] (inb_blk h s)

theorem offA_eq (h : Bool) (c : Dev nD) (i : Fin 15) : offA h c i = ![row h, 128 * (pr c i).val] := by revert h c i; decide +kernel
theorem offR_eq (h : Bool) (c : Dev nD) : offR h c = ![c.val, row h, 0] := by revert h c; decide +kernel
theorem offS_eq (h : Bool) (c : Dev nD) : offS h c = ![c.val, row h, 0] := by revert h c; decide +kernel
theorem offM_eq (h : Bool) (c : Dev nD) : offM h c = ![row h, 128 * c.val] := by revert h c; decide +kernel
theorem offW_eq (h : Bool) (c : Dev nD) : offW h c = ![row h, 128 * c.val] := by revert h c; decide +kernel

theorem accV_congr {o o' : Fin 2 → ℕ} (e : o = o') (p p') : accV o p = accV o' p' := by subst e; rfl
theorem hfV_congr {o o' : Fin 2 → ℕ} (e : o = o') (p p') : hfV o p = hfV o' p' := by subst e; rfl
theorem rsV_congr {o o' : Fin 3 → ℕ} (e : o = o') (p p') : rsV o p = rsV o' p' := by subst e; rfl

theorem srcP_eq (kd h : Bool) (c : Dev nD) (i : Fin 15) : srcP kd h c i = srcV kd h (pr c i) :=
  match kd with | false => accV_congr (offA_eq h c i) _ _ | true => rfl
theorem dstP_eq (kd h : Bool) (c : Dev nD) : dstP kd h c = slotV kd h c :=
  match kd with | false => rsV_congr (offR_eq h c) _ _ | true => hfV_congr (offW_eq h c) _ _
theorem wsrcP_eq (kd h : Bool) (c : Dev nD) : wsrcP kd h c = srcV kd h c :=
  match kd with | false => accV_congr (offW_eq h c) _ _ | true => rfl

/-- The units one transfer adds to a counter. -/
abbrev N : ℕ := (slotV false false 0).view.dmaCredit
theorem N_pos : 0 < N := View.dmaCredit_pos _ (by decide)
theorem N_slot (kd h : Bool) (s : Dev nD) : (slotV kd h s).view.dmaCredit = N := by cases kd <;> cases h <;> rfl
theorem N_src (kd h : Bool) (s : Dev nD) : (srcV kd h s).view.dmaCredit = N := by cases kd <;> cases h <;> rfl

/-! ## Cells -/

/-- A device's cells: the barrier, and for each kind and half one for the sources (`false`) and one for the landings. -/
abbrev CI : Type := Option (Bool × Bool × Bool)
abbrev csem : CI → SemLoc sig
  | none => .reg barS
  | some (false, kd, h) => .dma (sS kd h)
  | some (true, kd, h) => .dma (sR kd h)
theorem csem_injective : Function.Injective csem := by decide +kernel
def cell (c : Dev nD) (x : CI) : GSem nD τ sig := ((c : Thread nD τ), csem x)
abbrev snd (kd h : Bool) (c : Dev nD) : GSem nD τ sig := cell c (some (false, kd, h))
abbrev rcv (kd h : Bool) (c : Dev nD) : GSem nD τ sig := cell c (some (true, kd, h))
abbrev bar (c : Dev nD) : GSem nD τ sig := cell c none

open Classical in
/-- Which of a device's cells a semaphore is. -/
def kindOf (sm : SemLoc sig) : Option CI := if h : ∃ x, csem x = sm then some h.choose else none
theorem kindOf_csem (x : CI) : kindOf (csem x) = some x := by
  have h : ∃ y, csem y = csem x := ⟨x, rfl⟩
  unfold kindOf; rw [dif_pos h]; exact congrArg some (csem_injective h.choose_spec)
theorem kindOf_cell (c : Dev nD) (x : CI) : kindOf (cell c x).2 = some x := kindOf_csem x
theorem kindOf_none {sm : SemLoc sig} (h : ∀ x, csem x ≠ sm) : kindOf sm = none := by
  unfold kindOf; rw [dif_neg]; rintro ⟨x, hx⟩; exact h x hx

/-! ## What a landing hands over -/

section Sched

-- `val kd h r s t` is what `s` sends `t` in round `r`
variable (val : Bool → Bool → ℕ → Dev nD → Dev nD → Vec F S32x128 .bf16)

/-- A chunk is sent to every peer at once, so each transfer holds a sixteenth of it. -/
def shr (kd : Bool) (t : Dev nD) : PosShare TreeShare := match kd with | false => fullShare | true => ShareLeaves.leaf 4 fullShare t

/-- With a landing, the sender lends the receiver the place the receiver's next transfer to it lands in. -/
def give (kd h : Bool) (r : ℕ) (s c : Dev nD) : sProp 𝕄 :=
  match kd with
  | false => iprop(any s (slotV true h c) ∗ reached ER (rcv true h s) r)
  | true => if r < 2 then iprop(any s (slotV false h c) ∗ reached ER (rcv false h s) (r + 1)) else iprop(emp)
def rcvPay (kd h : Bool) (r : ℕ) (s c : Dev nD) : sProp 𝕄 :=
  iprop(has c (slotV kd h s) fullShare (val kd h r s c) ∗ give kd h r s c)
def sndPay (kd h : Bool) (r : ℕ) (t c : Dev nD) : sProp 𝕄 := has c (srcV kd h t) (shr kd t) (val kd h r c t)
/-- On entering, `s` lends `c` the two places `c`'s first transfers to it land in. -/
def barPay (s c : Dev nD) : sProp 𝕄 :=
  iprop((any s (slotV false false c) ∗ reached ER (rcv false false s) 0) ∗ any s (slotV false true c) ∗ reached ER (rcv false true s) 0)

instance give_storable (kd h : Bool) (r : ℕ) (s c : Dev nD) : BI.Storable (upEmb : UEmb _ 𝕄) (give (F := F) kd h r s c) := by
  cases kd <;> unfold give <;> dsimp only <;> (try split) <;> infer_instance

def rd : Rounds.Schedule (GSem nD τ sig) (Dev nD) 𝕄 where
  duties g r :=
    match kindOf g.2 with
    | none => ∅
    | some none => if g.1.2 = .tc ∧ r < 1 then Finset.univ.erase g.1.1 else ∅
    | some (some _) => if g.1.2 = .tc ∧ r < 3 then Finset.univ.erase g.1.1 else ∅
  unitless _ := False
  amount g _ _ := match kindOf g.2 with | some none => 1 | _ => N
  payload g r d :=
    match kindOf g.2 with
    | none => iprop(emp)
    | some none => barPay d g.1.1
    | some (some (false, kd, h)) => sndPay val kd h r d g.1.1
    | some (some (true, kd, h)) => rcvPay val kd h r d g.1.1
  amount_pos g _ _ _ := by split; exacts [Nat.one_pos, N_pos]

instance rd_payload_storable (g : GSem nD τ sig) (r : ℕ) (d : Dev nD) : BI.Storable (upEmb : UEmb _ 𝕄) ((rd (F := F) val).payload g r d) := by
  dsimp only [rd]
  split
  · infer_instance
  · unfold barPay; infer_instance
  · unfold sndPay; infer_instance
  · unfold rcvPay; infer_instance

variable (c : Dev nD)

omit [FloatOps F] in
theorem duties_bar : (rd (F := F) val).duties (bar c) 0 = Finset.univ.erase c := by
  dsimp only [rd]; rw [kindOf_cell]; exact if_pos ⟨rfl, by decide⟩
omit [FloatOps F] in
theorem duties_some (x : Bool × Bool × Bool) {r : ℕ} (hr : r < 3) : (rd (F := F) val).duties (cell c (some x)) r = Finset.univ.erase c := by
  dsimp only [rd]; rw [kindOf_cell]; exact if_pos ⟨rfl, hr⟩
omit [FloatOps F] in
theorem duties_later (x : CI) (R : ℕ) (hR : (match x with | none => 1 | some _ => 3) ≤ R) : ∀ r, R ≤ r → (rd (F := F) val).duties (cell c x) r = ∅ := fun r h => by
  dsimp only [rd]; rw [kindOf_cell]
  cases x <;> exact if_neg fun h' => by have := h'.2; dsimp only at hR; omega
omit [FloatOps F] in
theorem amount_bar (r : ℕ) (d : Dev nD) : (rd (F := F) val).amount (bar c) r d = 1 := by dsimp only [rd]; rw [kindOf_cell]
omit [FloatOps F] in
theorem amount_some (x : Bool × Bool × Bool) (r : ℕ) (d : Dev nD) : (rd (F := F) val).amount (cell c (some x)) r d = N := by
  dsimp only [rd]; rw [kindOf_cell]
omit [FloatOps F] in
theorem payload_bar (r : ℕ) (d : Dev nD) : (rd (F := F) val).payload (bar c) r d = barPay d c := by dsimp only [rd]; rw [kindOf_cell]; rfl
omit [FloatOps F] in
theorem payload_snd (kd h : Bool) (r : ℕ) (d : Dev nD) : (rd (F := F) val).payload (snd kd h c) r d = sndPay val kd h r d c := by
  dsimp only [rd]; rw [kindOf_cell]; rfl
omit [FloatOps F] in
theorem payload_rcv (kd h : Bool) (r : ℕ) (d : Dev nD) : (rd (F := F) val).payload (rcv kd h c) r d = rcvPay val kd h r d c := by
  dsimp only [rd]; rw [kindOf_cell]; rfl
omit [FloatOps F] in
theorem expect_bar : (rd (F := F) val).expect (bar c) 0 = 15 := by
  unfold Schedule.expect Schedule.amountOf
  rw [duties_bar, Finset.sum_congr rfl fun d _ => amount_bar val c 0 d, Finset.sum_const, Finset.card_erase_of_mem (Finset.mem_univ _), Finset.card_univ]; rfl
omit [FloatOps F] in
theorem expect_some (x : Bool × Bool × Bool) {r : ℕ} (hr : r < 3) : (rd (F := F) val).expect (cell c (some x)) r = 15 * N := by
  unfold Schedule.expect Schedule.amountOf
  rw [duties_some val c x hr, Finset.sum_congr rfl fun d _ => amount_some val c x r d, Finset.sum_const, Finset.card_erase_of_mem (Finset.mem_univ _), Finset.card_univ]; rfl

end Sched

/-! ## What a device owes -/

/-- Units owed, one entry per transfer or signal still to be made. -/
def oweL : List (GSem nD τ sig × ℕ × ℕ) → CellTallies nD τ sig ℕ
  | [] => 0
  | x :: l => oweL l + tallyAt x.1 x.2.1 x.2.2

/-- The transfers of one step of round `p.1`, kind `p.2.1`, half `p.2.2`. -/
def dueP (c : Dev nD) (p : ℕ × Bool × Bool) : List (GSem nD τ sig × ℕ × ℕ) := offs.map fun i => (rcv p.2.1 p.2.2 (pr c i), p.1, N)
def dues (c : Dev nD) : List (ℕ × Bool × Bool) → List (GSem nD τ sig × ℕ × ℕ)
  | [] => []
  | p :: ps => dueP c p ++ dues c ps
def dueB (c : Dev nD) : List (GSem nD τ sig × ℕ × ℕ) := offs.map fun i => (bar (pr c i), 0, 1)

def phases : List (ℕ × Bool × Bool) :=
  [(0, false, false), (0, false, true), (0, true, false), (0, true, true), (1, false, false), (1, false, true), (1, true, false), (1, true, true),
    (2, false, false), (2, false, true), (2, true, false), (2, true, true)]
def O₀ (c : Dev nD) : CellTallies nD τ sig ℕ := oweL (dueB c ++ dues c phases)

def L (g : GSem nD τ sig) : Finset ℕ := if g.1.2 = .tc then {0, 1, 2} else ∅
theorem L_of_ne (g : GSem nD τ sig) (h : g.1.2 ≠ .tc) : L g = ∅ := if_neg h
theorem L_tc (c : Dev nD) (sm : SemLoc sig) : L ((c : Thread nD τ), sm) = {0, 1, 2} := if_pos rfl

def plev (p : ℕ × Bool × Bool) : ℕ := 2 + 4 * p.1 + (if p.2.1 then 2 else 0) + (if p.2.2 then 1 else 0)
/-- The order of the waits. -/
def lv (g : GSem nD τ sig) (r : ℕ) : ℕ :=
  match kindOf g.2 with
  | some none => 1
  | some (some (true, kd, h)) => plev (r, kd, h)
  | _ => 0
theorem lv_bar (c : Dev nD) (r : ℕ) : lv (bar c) r = 1 := by dsimp only [lv]; rw [kindOf_cell]
theorem lv_snd (kd h : Bool) (c : Dev nD) (r : ℕ) : lv (snd kd h c) r = 0 := by dsimp only [lv]; rw [kindOf_cell]
theorem lv_rcv (kd h : Bool) (c : Dev nD) (r : ℕ) : lv (rcv kd h c) r = plev (r, kd, h) := by dsimp only [lv]; rw [kindOf_cell]
theorem lv_other {g : GSem nD τ sig} (h : ∀ x, csem x ≠ g.2) (r : ℕ) : lv g r = 0 := by dsimp only [lv]; rw [kindOf_none h]

theorem oweL_pos {l : List (GSem nD τ sig × ℕ × ℕ)} {g : GSem nD τ sig} {u : ℕ} (h : 0 < oweL l g u) : ∃ x ∈ l, x.1 = g ∧ x.2.1 = u := by
  induction l with
  | nil => exact absurd h (Nat.lt_irrefl 0)
  | cons x l ih =>
    rw [oweL, Pi.add_apply, Finsupp.add_apply, tallyAt_apply] at h
    by_cases hx : g = x.1 ∧ u = x.2.1
    · exact ⟨x, List.mem_cons_self, hx.1.symm, hx.2.symm⟩
    · rw [if_neg hx, Nat.add_zero] at h
      obtain ⟨y, hy, e⟩ := ih h
      exact ⟨y, List.mem_cons_of_mem _ hy, e⟩

theorem mem_dues {c : Dev nD} {ps : List (ℕ × Bool × Bool)} {x : GSem nD τ sig × ℕ × ℕ} (h : x ∈ dues c ps) :
    ∃ p ∈ ps, ∃ i, x = (rcv p.2.1 p.2.2 (pr c i), p.1, N) := by
  induction ps with
  | nil => exact absurd h (by rw [dues]; exact List.not_mem_nil)
  | cons p ps ih =>
    rw [dues, List.mem_append] at h
    rcases h with h | h
    · obtain ⟨i, -, e⟩ := List.mem_map.mp h; exact ⟨p, List.mem_cons_self, i, e.symm⟩
    · obtain ⟨q, hq, e⟩ := ih h; exact ⟨q, List.mem_cons_of_mem _ hq, e⟩

/-- A wait is allowed when all that is owed lies above it. -/
theorem mayWait {b : ℕ} (c : Dev nD) (sm : SemLoc sig) (u : ℕ) (l : List (GSem nD τ sig × ℕ × ℕ)) (hu : u < 3) (hb : lv ((c : Thread nD τ), sm) u ≤ b)
    (hl : ∀ x ∈ l, x.1.1.2 = .tc ∧ x.2.1 < 3 ∧ b < lv x.1 x.2.1) :
    (levAts L lv : sProp 𝕄) ⊢ MayWait (c : Thread nD τ) sm u (oweL l) := by
  have mem (g : GSem nD τ sig) (hg : g.1.2 = .tc) (u : ℕ) (h : u < 3) : u ∈ L g := by
    unfold L; rw [if_pos hg]; simp only [Finset.mem_insert, Finset.mem_singleton]; omega
  refine MayOwe.of_cut (L := L) (lev := lv) b (fun p hp => ?_) (fun g u hg => ?_) (fun p hp => ?_) (fun g u hg => ?_)
  · rw [Finset.mem_singleton.mp hp]; exact mem _ rfl _ hu
  · obtain ⟨x, hx, rfl, rfl⟩ := oweL_pos hg; exact mem _ (hl x hx).1 _ (hl x hx).2.1
  · rw [Finset.mem_singleton.mp hp]; exact hb
  · obtain ⟨x, hx, rfl, rfl⟩ := oweL_pos hg; exact (hl x hx).2.2

theorem dues_above {b : ℕ} (c : Dev nD) (ps : List (ℕ × Bool × Bool)) (h : ∀ p ∈ ps, p.1 < 3 ∧ b < plev p) :
    ∀ x ∈ dues c ps, x.1.1.2 = .tc ∧ x.2.1 < 3 ∧ b < lv x.1 x.2.1 := fun x hx => by
  obtain ⟨p, hp, i, rfl⟩ := mem_dues hx
  exact ⟨rfl, (h p hp).1, by rw [lv_rcv]; exact (h p hp).2⟩

end Cert.KernelIdeal.Hand

end
-- ==== Proof.MovesIdeal.lean ====
/-
The rules for the stretches of the program: a load and a store of a held view, a list of signals, a list of sends, and
fifteen waits on one cell.
-/
module

public import proofs.«01_k».proof.Proof.BaseIdeal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Loads and stores -/

theorem wp_get (c : Dev nD) {s : Shape} {e : EltTy} {M : Memref sig .tc .vmem s e} {r : Rect s} {hs : ∀ a, r.stride a = 1}
    {hl : M.view.LoadsAt r.toLoadRect} {k : (r.shape.Idx → Elt F e) → Pg F} {Q : PUnit → sProp 𝕄} {q : PosShare TreeShare} (X : r.shape.Idx → Elt F e) :
    has c (M.slice r hs) q X ⊢ iprop((has c (M.slice r hs) q X -∗ WP c (k X) Q) -∗ WP c (.op (.load M r.toLoadRect hl) k) Q) := by
  unfold has owns
  iintro ⟨%f, %hf, H⟩ Hk
  subst hf
  iapply (wp_load_rect 𝒱₀ (c : Thread nD τ) none Set.univ (m := M) (r := r) (hl := hl) (k := k) (S := (M.slice r hs).view.set) (q := q) (f := f) (Finset.Subset.refl _)) $$ H
  iintro H
  iapply Hk
  iexists f
  isplitr; · ipureintro; rfl
  iexact H

theorem wp_put (c : Dev nD) {s : Shape} {e : EltTy} {M : Memref sig .tc .vmem s e} {r : Rect s} {hs : ∀ a, r.stride a = 1}
    (w : r.shape.Idx → Elt F e) {hx : (M.access r).Stores Finset.univ} {hm : Finset.univ = Finset.univ ∨ ∀ a, r.stride a = 1}
    {k : PUnit → Pg F} {Q : PUnit → sProp 𝕄} :
    any c (M.slice r hs) ⊢ iprop((has c (M.slice r hs) fullShare w -∗ WP c (k ⟨⟩) Q) -∗ WP c (.op (.store M r w Finset.univ hx hm) k) Q) := by
  unfold any has owns
  iintro ⟨%X, %f, %hf, H⟩ Hk
  iapply (wp_store 𝒱₀ (c : Thread nD τ) none Set.univ (m := M) (r := r) (w := w) (Mk := Finset.univ) (hx := hx) (hm := hm) (k := k)
    (S := (M.slice r hs).view.set) (f := f) (Finset.Subset.refl _)) $$ H
  iintro H
  iapply Hk
  iexists ((M.access r).write (Elt F) f w Finset.univ)
  isplitr; · ipureintro; exact View.read_write_univ _ _
  iexact H

/-- A load whose value is not used. -/
theorem wp_peek (c : Dev nD) {s : Shape} {e : EltTy} {M : Memref sig .tc .vmem s e} {r : Rect s} {hs : ∀ a, r.stride a = 1}
    {hl : M.view.LoadsAt r.toLoadRect} {K : Pg F} {Q : PUnit → sProp 𝕄} :
    any c (M.slice r hs) ⊢ iprop((any c (M.slice r hs) -∗ WP c K Q) -∗ WP c (.op (.load M r.toLoadRect hl) fun _ => K) Q) := by
  unfold any
  iintro ⟨%X, H⟩ Hk
  iapply (wp_get c (hl := hl) X) $$ H
  iintro H
  iapply Hk
  iexists X; iexact H

/-! ## The records every step reads -/

section Steps

variable (val : Bool → Bool → ℕ → Dev nD → Dev nD → Vec F S32x128 .bf16) (nm : Dev nD × CI → ℕ)

/-- Every cell's invariant, and that every cell has reached its first round. -/
def recs : sProp 𝕄 :=
  iprop((bigSep Finset.univ fun x : Dev nD × CI => cellInv ER (rd val) (nm x) (cell x.1 x.2)) ∗ bigSep Finset.univ fun x : Dev nD × CI => reached ER (cell x.1 x.2) 0)

instance recs_persistent : BI.Persistent (recs (F := F) val nm) := by unfold recs; infer_instance

omit [FloatOps F] in
theorem inv_at (x : Dev nD × CI) :
    (bigSep Finset.univ fun x : Dev nD × CI => (cellInv ER (rd val) (nm x) (cell x.1 x.2) : sProp 𝕄)) ⊢ cellInv ER (rd val) (nm x) (cell x.1 x.2) :=
  bigSep_elim (Finset.mem_univ x)
omit [FloatOps F] in
theorem reached_at (x : Dev nD × CI) :
    (bigSep Finset.univ fun x : Dev nD × CI => (reached ER (cell x.1 x.2) 0 : sProp 𝕄)) ⊢ reached ER (cell x.1 x.2) 0 :=
  bigSep_elim (Finset.mem_univ x)

omit [FloatOps F] in
theorem recs_inv (c : Dev nD) (x : CI) : (recs val nm : sProp 𝕄) ⊢ cellInv ER (rd val) (nm (c, x)) (cell c x) := by
  have h := inv_at val nm (c, x)
  unfold recs; iintro ⟨H, -⟩
  iapply h; iexact H
omit [FloatOps F] in
theorem recs_reached (c : Dev nD) (x : CI) : (recs val nm : sProp 𝕄) ⊢ reached ER (cell c x) 0 := by
  have h := reached_at (F := F) (c, x)
  unfold recs; iintro ⟨-, H⟩
  iapply h; iexact H

/-! ## Signals -/

/-- What device `c` needs to signal `t`. -/
def sigPre (c t : Dev nD) : sProp 𝕄 := iprop(dutyTok ER (bar t) 0 c ∗ barPay c t)

theorem wp_signals (c : Dev nD) (K : Pg F) (Q : PUnit → sProp 𝕄) (rest : List (GSem nD τ sig × ℕ × ℕ)) (W : Waits sig ℕ) : ∀ l : List (Fin 15),
    iprop(recs val nm ∗ sepL l (fun i => sigPre c (pr c i)) ∗ owes (c : Thread nD τ) (oweL (l.map (fun i => (bar (pr c i), 0, 1)) ++ rest)) W)
      ⊢ iprop((owes (c : Thread nD τ) (oweL rest) W -∗ WP c K Q) -∗ WP c (each l (sigE c) K) Q)
  | [] => by
    iintro ⟨-, -, HO⟩ Hk
    iapply Hk; iexact HO
  | i :: l => by
    have hi : pr c i ∈ (Finset.univ : Finset (Dev nD)) := Finset.mem_univ _
    simp only [sepL, each, sigE]
    rw [devP_eq c i]
    unfold sigPre
    iintro ⟨#HI, ⟨⟨Ht, Hp⟩, Hl⟩, HO⟩ Hk
    iapply (Rounds.wp_signal 𝒱₀ ER (rd val) (c : Thread nD τ) none (dst := (pr c i : Thread nD τ)) (sem := barS) (κ := nm (pr c i, none)) (r := 0) (d := c)
      (by rw [show (((pr c i : Dev nD) : Thread nD τ), SemLoc.reg barS) = bar (pr c i) from rfl, duties_bar]; exact Finset.mem_erase.mpr ⟨(pr_ne c i).symm, Finset.mem_univ _⟩)
      ((amount_bar val (pr c i) 0 c).trans (by decide)) 0 (oweL (l.map (fun i => (bar (pr c i), 0, 1)) ++ rest)) rfl (W := W)) $$ [HO Ht Hp]
    · isplitr; · iapply (recs_inv val nm (pr c i) none); iexact HI
      isplitl [HO]; · iexact HO
      isplitl [Ht]; · iexact Ht
      isplitl [Hp]
      · iapply (show (barPay c (pr c i) : sProp 𝕄) ⊢ (rd val).payload (((pr c i : Dev nD) : Thread nD τ), SemLoc.reg barS) 0 c from Entails.of_eq (payload_bar val (pr c i) 0 c).symm); iexact Hp
      iapply (recs_reached val nm (pr c i) none); iexact HI
    iintro HO
    iapply (wp_signals c K Q rest W l) $$ [Hl HO]
    · isplitr; · iexact HI
      isplitl [Hl]; · iexact Hl
      iexact HO
    iexact Hk

/-! ## Sends -/

/-- What device `c` needs to send `t` its transfer of round `r`. -/
def sendPre (kd h : Bool) (r : ℕ) (c t : Dev nD) : sProp 𝕄 :=
  iprop(has c (srcV kd h t) (shr kd t) (val kd h r c t) ∗ (any t (slotV kd h c) ∗ reached ER (rcv kd h t) r) ∗ give kd h r c t
    ∗ dutyTok ER (snd kd h c) r t ∗ dutyTok ER (rcv kd h t) r c)

theorem wp_send1 (kd h : Bool) {r : ℕ} (hr : r < 3) (c t n : Dev nD) (htc : t ≠ c) (hn : t = n) (src dst : Memref sig .tc .vmem S32x128 .bf16) (hsrc : src = srcV kd h t) (hdst : dst = slotV kd h c)
    {hsc : dst.view.ref.isScScratch = false} {h1 : src.view.WordExact} {h2 : dst.view.WordExact}
    {h3 : DmaTarget.Typed .vmem (.dma (sR kd h)) (.remote (Dev.tc n : Thread nD τ) dst (.dma (sS kd h)) hsc)}
    (k : PUnit → Pg F) (Q : PUnit → sProp 𝕄) (rest : List (GSem nD τ sig × ℕ × ℕ)) (W : Waits sig ℕ) :
    iprop(recs val nm ∗ reached ER (snd kd h c) r ∗ sendPre val kd h r c t ∗ owes (c : Thread nD τ) (oweL ((rcv kd h t, r, N) :: rest)) W)
      ⊢ iprop(((cred (tallyAt (snd kd h c) r N) ∗ owes (c : Thread nD τ) (oweL rest) W) -∗ WP c (k ⟨⟩) Q)
        -∗ WP c (.op (.enqueueDma src (.remote (Dev.tc n : Thread nD τ) dst (.dma (sS kd h)) hsc) (.dma (sR kd h)) h1 h2 h3) k) Q) := by
  subst hsrc hdst hn
  unfold sendPre has any has owns
  iintro ⟨#HI, #HrS, ⟨⟨%fs, %hfs, Hs⟩, ⟨⟨%X, %fd, %hfd, Hd⟩, #HrR⟩, Hg, HtS, HtR⟩, HO⟩
  iapply (Rounds.wp_send_pointsTo_with 𝒱₀ ER (rd val) (c : Thread nD τ) none (c' := (t : Thread nD τ)) (src := srcV kd h t) (dst := slotV kd h c)
    (κ₁ := nm (c, some (false, kd, h))) (κ₂ := nm (t, some (true, kd, h))) (r₁ := r) (r₂ := r) (d₁ := t) (d₂ := c) (fs := fs) (fd := fd) (q := shr kd t) (F := give kd h r c t)
    (by have := duties_some val c (false, kd, h) hr; exact this ▸ Finset.mem_erase.mpr ⟨htc, Finset.mem_univ _⟩)
    (by have := duties_some val t (true, kd, h) hr; exact this ▸ Finset.mem_erase.mpr ⟨htc.symm, Finset.mem_univ _⟩)
    r r N (show (slotV kd h c).view.amount (.dma (sR kd h)) = N from N_slot kd h c) (amount_some val c (false, kd, h) r t) (amount_some val t (true, kd, h) r c) (oweL rest) rfl (W := W)
    (by
      refine BIBase.Entails.trans ?_ (Entails.of_eq (payload_snd val c kd h r t).symm)
      unfold sndPay has owns
      iintro H; iexists fs; isplitr; · ipureintro; exact hfs
      iexact H)
    (by
      refine BIBase.Entails.trans ?_ (Entails.of_eq (payload_rcv val t kd h r c).symm)
      unfold rcvPay has owns
      iintro ⟨H, Hg⟩
      isplitl [H]
      · iexists ((slotV kd h c).view.write (Elt F) fd ((srcV kd h t).view.read (Elt F) fs) Finset.univ); isplitr; · ipureintro; exact (View.read_write_univ _ _).trans hfs
        iexact H
      iexact Hg)) $$ [Hs Hd Hg HtS HtR HO]
  isplitr; · iapply (recs_inv val nm c (some (false, kd, h))); iexact HI
  isplitr; · iapply (recs_inv val nm t (some (true, kd, h))); iexact HI
  isplitl [Hs]; · iexact Hs
  isplitl [Hd Hg]
  · isplitl [Hd]; · iexact Hd
    iexact Hg
  isplitl [HO]; · iexact HO
  isplitl [HtS]; · iexact HtS
  isplitr; · iexact HrS
  isplitl [HtR]; · iexact HtR
  iexact HrR

theorem wp_sends (kd h : Bool) {r : ℕ} (hr : r < 3) (c : Dev nD) (K : Pg F) (Q : PUnit → sProp 𝕄) (rest : List (GSem nD τ sig × ℕ × ℕ)) (W : Waits sig ℕ) :
    ∀ (l : List (Fin 15)) (n : ℕ),
    iprop(recs val nm ∗ reached ER (snd kd h c) r ∗ sepL l (fun i => sendPre val kd h r c (pr c i)) ∗ cred (tallyAt (snd kd h c) r (n * N))
        ∗ owes (c : Thread nD τ) (oweL (l.map (fun i => (rcv kd h (pr c i), r, N)) ++ rest)) W)
      ⊢ iprop(((cred (tallyAt (snd kd h c) r ((n + l.length) * N)) ∗ owes (c : Thread nD τ) (oweL rest) W) -∗ WP c K Q) -∗ WP c (each l (sendE kd h c) K) Q)
  | [], n => by
    iintro ⟨-, -, -, Hc, HO⟩ Hk
    iapply Hk; isplitl [Hc]; · iexact Hc
    iexact HO
  | i :: l, n => by
    simp only [sepL, each, sendE]
    rw [List.length_cons, show n + (l.length + 1) = (n + 1) + l.length by omega]
    iintro ⟨#HI, #Hr, ⟨Hp, Hl⟩, Hc, HO⟩ Hk
    iapply (wp_send1 val nm kd h hr c (pr c i) (devP c i) (pr_ne c i) (devP_eq c i).symm _ _ (srcP_eq kd h c i) (dstP_eq kd h c) _ Q (l.map (fun i => (rcv kd h (pr c i), r, N)) ++ rest) W) $$ [Hp HO]
    · isplitr; · iexact HI
      isplitr; · iexact Hr
      isplitl [Hp]; · iexact Hp
      iexact HO
    iintro ⟨Hc1, HO⟩
    iapply (wp_sends kd h hr c K Q rest W l (n + 1)) $$ [Hl Hc Hc1 HO]
    · isplitr; · iexact HI
      isplitr; · iexact Hr
      isplitl [Hl]; · iexact Hl
      isplitl [Hc Hc1]
      · iapply (Entails.of_eq (cred_tallyAt_succ (snd kd h c) r N n).symm)
        isplitl [Hc]; · iexact Hc
        iexact Hc1
      iexact HO
    iexact Hk

/-! ## Waits -/

theorem wp_drain (c : Dev nD) (x : Bool × Bool × Bool) {r : ℕ} (hr : r < 3) (e : Ef F PUnit)
    (hw : ∀ K : PUnit → sProp 𝕄, wpE (defs₀ (F := F)) 𝒱₀ (c : Thread nD τ) none Set.univ e K = waitSpec (c : Thread nD τ) Set.univ (csem (some x)) N K)
    (O : CellTallies nD τ sig ℕ) (W : Waits sig ℕ) (K : Pg F) (Q : PUnit → sProp 𝕄) [BI.Persistent (MayWait (c : Thread nD τ) (csem (some x)) r O : sProp 𝕄)] :
    ∀ (l : List (Fin 15)) (k : ℕ), k + l.length = 15 →
    iprop(recs val nm ∗ MayWait (c : Thread nD τ) (csem (some x)) r O ∗ drainInv ER (rd val) (c : Thread nD τ) O W (csem (some x)) (cell c (some x)) r r N 15 k)
      ⊢ iprop((drainInv ER (rd val) (c : Thread nD τ) O W (csem (some x)) (cell c (some x)) r r N 15 (k + l.length) -∗ WP c K Q) -∗ WP c (again l e K) Q)
  | [], k, _ => by
    iintro ⟨-, -, HD⟩ Hk
    iapply Hk; iexact HD
  | i :: l, k, hk => by
    simp only [again, each]
    rw [List.length_cons] at hk ⊢
    rw [show k + (l.length + 1) = (k + 1) + l.length by omega]
    iintro ⟨#HI, #HM, HD⟩ Hk
    iapply (wp_drainInv_step (E := ER) (Rd := rd val) (thr := (c : Thread nD τ)) (O := O) (W := W) (sm := csem (some x)) (g := cell c (some x)) (ι := r) (R := r) (N := N) (n := 15) (k := k)
      (by omega) (A := cellInv ER (rd val) (nm (c, some x)) (cell c (some x))) (M := MayWait (c : Thread nD τ) (csem (some x)) r O)
      (fun W' T => by
        have := Rounds.wp_wait (Q := Q) 𝒱₀ ER (rd val) (c : Thread nD τ) none (κ := nm (c, some x)) hw (Set.mem_univ _) (k := fun _ => each l (fun _ => e) K)
          (cr := Finsupp.single r N) (O := O) (W := W') {(csem (some x), r)} (R := r) (m := k * N) (T := T) (by simp [Util.total_single])
          (by exact Finset.image_subset_iff.mpr fun y hy => by
                rw [Finset.mem_singleton]; rw [Finset.mem_singleton.mp (Finsupp.support_single_subset hy)])
        rw [Finset.union_comm, ← Finset.insert_eq] at this
        exact this)) $$ [HD]
    · isplitr; · iapply (recs_inv val nm c (some x)); iexact HI
      isplitr; · iexact HM
      iexact HD
    iintro HD
    iapply (wp_drain c x hr e hw O W K Q l (k + 1) (by omega)) $$ [HD]
    · isplitr; · iexact HI
      isplitr; · iexact HM
      iexact HD
    iexact Hk

/-- Fifteen waits on a cell end its round. -/
theorem wp_drained (c : Dev nD) (x : Bool × Bool × Bool) {r : ℕ} (hr : r < 3) (e : Ef F PUnit)
    (hw : ∀ K : PUnit → sProp 𝕄, wpE (defs₀ (F := F)) 𝒱₀ (c : Thread nD τ) none Set.univ e K = waitSpec (c : Thread nD τ) Set.univ (csem (some x)) N K)
    (l : List (GSem nD τ sig × ℕ × ℕ)) (hM : (levAts L lv : sProp 𝕄) ⊢ MayWait (c : Thread nD τ) (csem (some x)) r (oweL l))
    (W : Waits sig ℕ) (K : Pg F) (Q : PUnit → sProp 𝕄) :
    iprop(recs val nm ∗ levAts L lv ∗ owes (c : Thread nD τ) (oweL l) W ∗ cred (tallyAt (cell c (some x)) r (15 * N)) ∗ atPos ER (cell c (some x)) r ∅ 0)
      ⊢ iprop(((owes (c : Thread nD τ) (oweL l) (insert (csem (some x), r) W) ∗ atPos ER (cell c (some x)) (r + 1) ∅ 0 ∗ reached ER (cell c (some x)) (r + 1)
            ∗ allP c fun d => (rd val).payload (cell c (some x)) r d) -∗ WP c K Q) -∗ WP c (again offs e K) Q) := by
  iintro ⟨#HI, #HL, HO, Hc, Hat⟩ Hk
  ihave HD := (drainInv_zero (E := ER) (Rd := rd val) (thr := (c : Thread nD τ)) (O := oweL l) (W := W) (sm := csem (some x)) (g := cell c (some x)) (ι := r) (R := r) (N := N) (n := 15)) $$ [HO Hc Hat]
  · isplitl [HO]; · iexact HO
    isplitl [Hc]; · iexact Hc
    iexact Hat
  ihave #HM := hM $$ HL
  iapply (wp_drain val nm c x hr e hw (oweL l) W K Q offs 0 rfl) $$ [HD]
  · isplitr; · iexact HI
    isplitr; · iexact HM
    iexact HD
  iintro HD
  imod (drainInv_done (E := ER) (Rd := rd val) (thr := (c : Thread nD τ)) (O := oweL l) (W := W) (sm := csem (some x)) (g := cell c (some x)) (ι := r) (R := r) (N := N) (n := 15)
    (κ := nm (c, some x)) (Es := Set.univ) (Set.mem_univ _) (k := 0 + offs.length) rfl (by decide) (expect_some val c x hr)) $$ [HD] with ⟨HO, Hat, Hre, Hp⟩
  · isplitr; · iapply (recs_inv val nm c (some x)); iexact HI
    iexact HD
  iapply Hk
  isplitl [HO]; · iexact HO
  isplitl [Hat]; · iexact Hat
  isplitl [Hre]; · iexact Hre
  rw [duties_some val c x hr]
  iexact Hp

end Steps

end Cert.KernelIdeal.Hand

end
-- ==== Proof.BufsIdeal.lean ====
/-
Cutting a held buffer into pieces and joining held pieces: a half of the sum buffer and its sixteen column blocks, a
half of the receive buffer and its sixteen places, a buffer and its two halves, a chunk and its sixteen shares.
-/
module

public import proofs.«01_k».proof.Proof.MovesIdeal
public import Idealize.ShloMosaic.Lib.Pipeline.Value

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cutting and joining, at any buffer -/

/-- The elements `K` of a buffer held at some contents that read `x`. -/
def raw (ℓ : Loc nD τ sig) (K : Finset (Idx ℓ)) (q : PosShare TreeShare) {X : Type} (rd : Buf (Elt F) ℓ → X) (x : X) : sProp 𝕄 :=
  iprop(∃ f, ⌜rd f = x⌝ ∗ (ℓ ↦[K]{q} f))

omit [FloatOps F] in
theorem has_raw (c : Dev nD) {sh : Shape} {e : EltTy} (M : Memref sig .tc .vmem sh e) (q : PosShare TreeShare) (X : sh.Idx → Elt F e) :
    (has c M q X : sProp 𝕄) = raw (M.view.loc (c : Thread nD τ)) M.view.set q (M.view.read (Elt F)) X := rfl

omit [FloatOps F] in
theorem raw_split {ℓ : Loc nD τ sig} {K : Finset (Idx ℓ)} {q : PosShare TreeShare} {J X Y : Type} [Fintype J] [DecidableEq J]
    (Kj : J → Finset (Idx ℓ)) (hK : K = Finset.univ.biUnion Kj) (hd : ∀ j j', j ≠ j' → Disjoint (Kj j) (Kj j'))
    (rd : Buf (Elt F) ℓ → X) (rdj : J → Buf (Elt F) ℓ → Y) (g : J → X → Y) (hr : ∀ j f, rdj j f = g j (rd f)) (x : X) :
    (raw ℓ K q rd x : sProp 𝕄) ⊢ bigSep Finset.univ fun j => raw ℓ (Kj j) q (rdj j) (g j x) := by
  unfold raw
  iintro ⟨%f, %hf, H⟩
  subst hf
  have e : (ℓ ↦[K]{q} f : sProp 𝕄) ⊢ bigSep Finset.univ fun j => iprop(∃ f', ⌜rdj j f' = g j (rd f)⌝ ∗ (ℓ ↦[Kj j]{q} f')) := by
    rw [hK, pointsTo_biUnion Finset.univ Kj (fun j _ j' _ h => hd j j' h)]
    refine bigSep_mono fun j _ => ?_
    show (ℓ ↦[Kj j]{q} f : sProp 𝕄) ⊢ iprop(∃ f', ⌜rdj j f' = g j (rd f)⌝ ∗ (ℓ ↦[Kj j]{q} f'))
    iintro H; iexists f; isplitr; · ipureintro; exact hr j f
    iexact H
  iapply e; iexact H

omit [FloatOps F] in
/-- The pieces joined at contents that read what each piece read. -/
theorem raw_join0 {ℓ : Loc nD τ sig} {K : Finset (Idx ℓ)} {q : PosShare TreeShare} {J Y : Type} [Fintype J] [DecidableEq J] [Nonempty J]
    (Kj : J → Finset (Idx ℓ)) (hK : K = Finset.univ.biUnion Kj) (hd : ∀ j j', j ≠ j' → Disjoint (Kj j) (Kj j'))
    (rdj : J → Buf (Elt F) ℓ → Y) (hc : ∀ j f f', (∀ i ∈ Kj j, f i = f' i) → rdj j f = rdj j f') :
    (bigSep Finset.univ fun j => iprop(∃ y, raw ℓ (Kj j) q (rdj j) y) : sProp 𝕄) ⊢ iprop(∃ f, ℓ ↦[K]{q} f) := by
  by_cases hn : Nonempty (Buf (Elt F) ℓ)
  · have e : (bigSep Finset.univ fun j => iprop(∃ y, raw ℓ (Kj j) q (rdj j) y) : sProp 𝕄) ⊢ bigSep Finset.univ fun j => iprop(∃ f, ℓ ↦[Kj j]{q} f) := by
      refine bigSep_mono fun j _ => ?_
      show iprop(∃ y, raw ℓ (Kj j) q (rdj j) y) ⊢ iprop(∃ f, ℓ ↦[Kj j]{q} f)
      unfold raw
      iintro ⟨%y, %f, %hf, H⟩; iexists f; iexact H
    iintro H
    ihave H := e $$ H
    ihave ⟨%fs, H⟩ := (bigSep_exists_pi Finset.univ fun j (f : Buf (Elt F) ℓ) => (ℓ ↦[Kj j]{q} f : sProp 𝕄)) $$ H
    ihave ⟨%g, -, H⟩ := (pointsTo_biUnion_join (q := q) Finset.univ Kj fs (Classical.choice hn) (fun j _ j' _ h => hd j j' h)) $$ H
    rw [hK]
    iexists g; iexact H
  · obtain ⟨j0⟩ := (inferInstance : Nonempty J)
    have e : (bigSep Finset.univ fun j => iprop(∃ y, raw ℓ (Kj j) q (rdj j) y) : sProp 𝕄) ⊢ iprop(∃ y, raw ℓ (Kj j0) q (rdj j0) y) := bigSep_elim (Finset.mem_univ j0)
    iintro H
    ihave H := e $$ H
    unfold raw
    icases H with ⟨%y, %f, -, H⟩
    exact absurd ⟨f⟩ hn

omit [FloatOps F] in
/-- The pieces joined at contents that read `x`, when reading what each piece reads is enough for that. -/
theorem raw_join {ℓ : Loc nD τ sig} {K : Finset (Idx ℓ)} {q : PosShare TreeShare} {J X Y : Type} [Fintype J] [DecidableEq J] [Nonempty J]
    (Kj : J → Finset (Idx ℓ)) (hK : K = Finset.univ.biUnion Kj) (hd : ∀ j j', j ≠ j' → Disjoint (Kj j) (Kj j'))
    (rd : Buf (Elt F) ℓ → X) (rdj : J → Buf (Elt F) ℓ → Y) (hc : ∀ j f f', (∀ i ∈ Kj j, f i = f' i) → rdj j f = rdj j f')
    (x : X) (y : J → Y) (hx : ∀ f, (∀ j, rdj j f = y j) → rd f = x) :
    (bigSep Finset.univ fun j => raw ℓ (Kj j) q (rdj j) (y j) : sProp 𝕄) ⊢ raw ℓ K q rd x := by
  by_cases hn : Nonempty (Buf (Elt F) ℓ)
  · unfold raw
    iintro H
    ihave ⟨%fs, H⟩ := (bigSep_exists_pi Finset.univ fun j (f : Buf (Elt F) ℓ) => (iprop(⌜rdj j f = y j⌝ ∗ (ℓ ↦[Kj j]{q} f)) : sProp 𝕄)) $$ H
    ihave ⟨%hy, H⟩ := (bigSep_pure_sep Finset.univ (fun j => rdj j (fs j) = y j) fun j => (ℓ ↦[Kj j]{q} fs j : sProp 𝕄)) $$ H
    ihave ⟨%g, %hg, H⟩ := (pointsTo_biUnion_join (q := q) Finset.univ Kj fs (Classical.choice hn) (fun j _ j' _ h => hd j j' h)) $$ H
    rw [hK]
    iexists g
    isplitr
    · ipureintro
      exact hx g fun j => (hc j g (fs j) (hg j (Finset.mem_univ j))).trans (hy j (Finset.mem_univ j))
    iexact H
  · obtain ⟨j0⟩ := (inferInstance : Nonempty J)
    have e : (bigSep Finset.univ fun j => raw ℓ (Kj j) q (rdj j) (y j) : sProp 𝕄) ⊢ raw ℓ (Kj j0) q (rdj j0) (y j0) := bigSep_elim (Finset.mem_univ j0)
    iintro H
    ihave H := e $$ H
    unfold raw
    icases H with ⟨%f, -, H⟩
    exact absurd ⟨f⟩ hn

/-! ## The sets of the pieces -/

theorem off2_eq (h : Bool) : off2 h = ![row h, 0] := by cases h <;> rfl
theorem off3_eq (h : Bool) : off3 h = ![0, row h, 0] := by cases h <;> rfl
theorem row_le (h : Bool) : row h ≤ 32 := by cases h <;> decide

abbrev rB (h : Bool) (t : Dev nD) : Rect S64x2048 := Rect.unit (s := S64x2048) ![row h, 128 * t.val] S32x128.size (inb_blk h t)
abbrev rT (h : Bool) (t : Dev nD) : Rect S16x64x128 := Rect.unit (s := S16x64x128) ![t.val, row h, 0] S1x32x128.size (inb_slt h t)

theorem rA_set (h : Bool) : (rA h).set = Finset.univ.biUnion fun t : Dev nD => (rB h t).set := by
  ext i
  have h0 : (i 0).val < 64 := (i 0).isLt
  have h1 : (i 1).val < 2048 := (i 1).isLt
  simp only [Finset.mem_biUnion, Finset.mem_univ, true_and, Rect.mem_set_unit, Fin.forall_fin_two, off2_eq]
  show (row h ≤ (i 0).val ∧ (i 0).val < row h + 32) ∧ 0 ≤ (i 1).val ∧ (i 1).val < 0 + 2048
    ↔ ∃ t : Dev nD, (row h ≤ (i 0).val ∧ (i 0).val < row h + 32) ∧ 128 * t.val ≤ (i 1).val ∧ (i 1).val < 128 * t.val + 128
  constructor
  · rintro ⟨a, -, -⟩
    exact ⟨⟨(i 1).val / 128, by show _ < 16; omega⟩, a, by show 128 * ((i 1).val / 128) ≤ _; omega, by show _ < 128 * ((i 1).val / 128) + 128; omega⟩
  · rintro ⟨t, a, -, -⟩; exact ⟨a, by omega, by omega⟩
theorem rB_disj (h : Bool) (t t' : Dev nD) (hne : t ≠ t') : Disjoint (rB h t).set (rB h t').set := by
  refine Rect.unit_disjoint 1 ?_
  show 128 * t.val + 128 ≤ 128 * t'.val ∨ 128 * t'.val + 128 ≤ 128 * t.val
  have hv : t.val ≠ t'.val := fun e => hne (Fin.ext e)
  omega

theorem rR_set (h : Bool) : (rR h).set = Finset.univ.biUnion fun t : Dev nD => (rT h t).set := by
  ext i
  have h0 : (i 0).val < 16 := (i 0).isLt
  have h2 : (i 2).val < 128 := (i 2).isLt
  simp only [Finset.mem_biUnion, Finset.mem_univ, true_and, Rect.mem_set_unit, off3_eq]
  constructor
  · intro a
    refine ⟨⟨(i 0).val, h0⟩, fun b => ?_⟩
    match b with
    | 0 => exact ⟨le_rfl, Nat.lt_succ_self _⟩
    | 1 => exact a 1
    | 2 => exact a 2
  · rintro ⟨t, a⟩ b
    match b with
    | 0 => exact ⟨Nat.zero_le _, by show (i 0).val < 0 + 16; omega⟩
    | 1 => exact a 1
    | 2 => exact a 2
theorem rT_disj (h : Bool) (t t' : Dev nD) (hne : t ≠ t') : Disjoint (rT h t).set (rT h t').set := by
  refine Rect.unit_disjoint 0 ?_
  show t.val + 1 ≤ t'.val ∨ t'.val + 1 ≤ t.val
  have hv : t.val ≠ t'.val := fun e => hne (Fin.ext e)
  omega

/-- A half of the rows of a rank-2 buffer of 64 rows. -/
theorem halves_set {n : ℕ} (inb : ∀ h, ∀ a, off2 h a + (![32, n] : Fin 2 → ℕ) a ≤ (⟨2, ![64, n]⟩ : Shape).size a) :
    (Finset.univ : Finset (⟨2, ![64, n]⟩ : Shape).Idx) = Finset.univ.biUnion fun h : Bool => (Rect.unit (s := ⟨2, ![64, n]⟩) (off2 h) ![32, n] (inb h)).set := by
  ext i
  have h0 : (i 0).val < 64 := (i 0).isLt
  have h1 : (i 1).val < n := (i 1).isLt
  simp only [Finset.mem_biUnion, Finset.mem_univ, true_and, true_iff, Rect.mem_set_unit, Fin.forall_fin_two, off2_eq]
  show ∃ h : Bool, (row h ≤ (i 0).val ∧ (i 0).val < row h + 32) ∧ 0 ≤ (i 1).val ∧ (i 1).val < 0 + n
  by_cases hi : (i 0).val < 32
  · exact ⟨false, ⟨Nat.zero_le _, by show _ < 0 + 32; omega⟩, by omega, by omega⟩
  · exact ⟨true, ⟨by show 32 ≤ _; omega, by show _ < 32 + 32; omega⟩, by omega, by omega⟩
theorem halves_disj {n : ℕ} (inb : ∀ h, ∀ a, off2 h a + (![32, n] : Fin 2 → ℕ) a ≤ (⟨2, ![64, n]⟩ : Shape).size a) (h h' : Bool) (hne : h ≠ h') :
    Disjoint (Rect.unit (s := ⟨2, ![64, n]⟩) (off2 h) ![32, n] (inb h)).set (Rect.unit (s := ⟨2, ![64, n]⟩) (off2 h') ![32, n] (inb h')).set := by
  refine Rect.unit_disjoint 0 ?_
  rw [off2_eq, off2_eq]
  show row h + 32 ≤ row h' ∨ row h' + 32 ≤ row h
  cases h <;> cases h' <;> first | exact absurd rfl hne | decide
theorem rR_all : (Finset.univ : Finset S16x64x128.Idx) = Finset.univ.biUnion fun h : Bool => (rR h).set := by
  ext i
  have h0 : (i 0).val < 16 := (i 0).isLt
  have h1 : (i 1).val < 64 := (i 1).isLt
  have h2 : (i 2).val < 128 := (i 2).isLt
  simp only [Finset.mem_biUnion, Finset.mem_univ, true_and, true_iff, Rect.mem_set_unit, off3_eq]
  by_cases hi : (i 1).val < 32
  · refine ⟨false, fun b => ?_⟩
    match b with
    | 0 => exact ⟨Nat.zero_le _, by show (i 0).val < 0 + 16; omega⟩
    | 1 => exact ⟨Nat.zero_le _, by show (i 1).val < 0 + 32; omega⟩
    | 2 => exact ⟨Nat.zero_le _, by show (i 2).val < 0 + 128; omega⟩
  · refine ⟨true, fun b => ?_⟩
    match b with
    | 0 => exact ⟨Nat.zero_le _, by show (i 0).val < 0 + 16; omega⟩
    | 1 => exact ⟨by show 32 ≤ (i 1).val; omega, by show (i 1).val < 32 + 32; omega⟩
    | 2 => exact ⟨Nat.zero_le _, by show (i 2).val < 0 + 128; omega⟩
theorem rR_disj (h h' : Bool) (hne : h ≠ h') : Disjoint (rR h).set (rR h').set := by
  refine Rect.unit_disjoint 1 ?_
  rw [off3_eq, off3_eq]
  show row h + 32 ≤ row h' ∨ row h' + 32 ≤ row h
  cases h <;> cases h' <;> first | exact absurd rfl hne | decide

/-! ## What the pieces read -/

/-- Column block `t` of a row of 2048. -/
def inBlk (t : Dev nD) (x : S32x128.Idx) : S32x2048.Idx :=
  Shape.pair (d := ![32, 2048]) (x 0) ⟨128 * t.val + (x 1).val, by have h1 : (x 1).val < 128 := (x 1).isLt; have := t.isLt; change _ < 16 at this; show _ < 2048; omega⟩
def blkOf (i : S32x2048.Idx) : Dev nD := ⟨(i 1).val / 128, by have h1 : (i 1).val < 2048 := (i 1).isLt; show _ < 16; omega⟩
def ofBlk (i : S32x2048.Idx) : S32x128.Idx := Shape.pair (d := ![32, 128]) (i 0) ⟨(i 1).val % 128, Nat.mod_lt _ (by decide)⟩
theorem inBlk_ofBlk (i : S32x2048.Idx) : inBlk (blkOf i) (ofBlk i) = i :=
  Shape.idx_ext₂ rfl (by show 128 * ((i 1).val / 128) + (i 1).val % 128 = (i 1).val; omega)
/-- Sixteen blocks side by side. -/
def cat {α : Type} (y : Dev nD → S32x128.Idx → α) : S32x2048.Idx → α := fun i => y (blkOf i) (ofBlk i)
/-- Block `t` of a row. -/
def blk {α : Type} (t : Dev nD) (X : S32x2048.Idx → α) : S32x128.Idx → α := fun x => X (inBlk t x)
/-- Sixteen blocks one behind the other. -/
def stack {α : Type} (y : Dev nD → S32x128.Idx → α) : S16x32x128.Idx → α := fun i => y (i 0) (Shape.pair (d := ![32, 128]) (i 1) (i 2))

theorem rB_emb (h : Bool) (t : Dev nD) (x : S32x128.Idx) : (rB h t).emb x = (rA h).emb (inBlk t x) := by
  refine Shape.idx_ext₂ (n := ![64, 2048]) ?_ ?_
  · show (![row h, 128 * t.val] : Fin 2 → ℕ) 0 + 1 * (x 0).val = off2 h 0 + 1 * (x 0).val
    rw [off2_eq]; rfl
  · show 128 * t.val + 1 * (x 1).val = off2 h 1 + 1 * (128 * t.val + (x 1).val)
    rw [off2_eq]; show _ = 0 + 1 * _; omega
theorem rT_emb (h : Bool) (i : S16x32x128.Idx) : (rR h).emb i = (rT h (i 0)).emb (Fin.cons ⟨0, Nat.one_pos⟩ (Shape.pair (d := ![32, 128]) (i 1) (i 2))) := by
  refine funext fun b => Fin.ext ?_
  rw [Rect.emb_apply, Rect.emb_apply]
  match b with
  | 0 => show off3 h 0 + 1 * (i 0).val = (i 0).val + 1 * 0; rw [off3_eq]; show 0 + _ = _; omega
  | 1 => show off3 h 1 + 1 * (i 1).val = row h + 1 * (i 1).val; rw [off3_eq]; rfl
  | 2 => show off3 h 2 + 1 * (i 2).val = 0 + 1 * (i 2).val; rw [off3_eq]; rfl

/-! ## A half of the sum buffer -/

theorem acc_set (h : Bool) (t : Dev nD) : (srcV false h t).view.set = (rB h t).set := View.set_slice_whole _ _
theorem accR_set (h : Bool) (hs : ∀ a, (rA h).stride a = 1) : (accM.slice (rA h) hs).view.set = (rA h).set := View.set_slice_whole _ _
theorem hf_set (h : Bool) (t : Dev nD) : (slotV true h t).view.set = (rB h t).set := View.set_slice_whole _ _
theorem hfR_set (h : Bool) (hs : ∀ a, (rA h).stride a = 1) : (hfM.slice (rA h) hs).view.set = (rA h).set := View.set_slice_whole _ _
theorem rs_set (h : Bool) (t : Dev nD) : (slotV false h t).view.set = (rT h t).set := (View.set_reshape _ _).trans (View.set_slice_whole _ _)
theorem rsR_set (h : Bool) (hs : ∀ a, (rR h).stride a = 1) : (rsM.slice (rR h) hs).view.set = (rR h).set := View.set_slice_whole _ _

abbrev accR (h : Bool) : Memref sig .tc .vmem S32x2048 .bf16 := accM.slice (rA h) (fun _ => rfl)
abbrev hfR (h : Bool) : Memref sig .tc .vmem S32x2048 .bf16 := hfM.slice (rA h) (fun _ => rfl)
abbrev rsR (h : Bool) : Memref sig .tc .vmem S16x32x128 .bf16 := rsM.slice (rR h) (fun _ => rfl)

omit [FloatOps F] in
theorem acc_split (c : Dev nD) (h : Bool) (X : Vec F S32x2048 .bf16) :
    (has c (accR h) fullShare X : sProp 𝕄) ⊢ bigSep Finset.univ fun t => has c (srcV false h t) fullShare (blk t X) := by
  have := raw_split (F := F) (ℓ := accM.view.loc (c : Thread nD τ)) (K := (accR h).view.set) (q := fullShare) (fun t : Dev nD => (srcV false h t).view.set)
    ((accR_set h _).trans ((rA_set h).trans (congrArg _ (funext fun t => (acc_set h t).symm))))
    (fun t t' hne => by rw [acc_set, acc_set]; exact rB_disj h t t' hne)
    ((accR h).view.read (Elt F)) (fun t => (srcV false h t).view.read (Elt F)) blk
    (fun t f => funext fun x => congrArg f (rB_emb h t x)) X
  exact this

omit [FloatOps F] in
theorem acc_join (c : Dev nD) (h : Bool) :
    (bigSep Finset.univ fun t => any c (srcV false h t) : sProp 𝕄) ⊢ any c (accR h) := by
  have := raw_join0 (F := F) (ℓ := accM.view.loc (c : Thread nD τ)) (K := (accR h).view.set) (q := fullShare) (fun t : Dev nD => (srcV false h t).view.set)
    ((accR_set h _).trans ((rA_set h).trans (congrArg _ (funext fun t => (acc_set h t).symm))))
    (fun t t' hne => by rw [acc_set, acc_set]; exact rB_disj h t t' hne)
    (fun t => (srcV false h t).view.read (Elt F)) (fun t f f' hf => View.read_congr hf)
  refine BIBase.Entails.trans this ?_
  unfold any has owns
  iintro ⟨%f, H⟩
  iexists _; iexists f; isplitr; · ipureintro; rfl
  iexact H

/-! ## A half of the gathered chunks -/

omit [FloatOps F] in
theorem hf_split (c : Dev nD) (h : Bool) (X : Vec F S32x2048 .bf16) :
    (has c (hfR h) fullShare X : sProp 𝕄) ⊢ bigSep Finset.univ fun t => any c (slotV true h t) := by
  have := raw_split (F := F) (ℓ := hfM.view.loc (c : Thread nD τ)) (K := (hfR h).view.set) (q := fullShare) (fun t : Dev nD => (slotV true h t).view.set)
    ((hfR_set h _).trans ((rA_set h).trans (congrArg _ (funext fun t => (hf_set h t).symm))))
    (fun t t' hne => by rw [hf_set, hf_set]; exact rB_disj h t t' hne)
    ((hfR h).view.read (Elt F)) (fun t => (slotV true h t).view.read (Elt F)) blk
    (fun t f => funext fun x => congrArg f (rB_emb h t x)) X
  exact BIBase.Entails.trans this (bigSep_mono fun t _ => has_any c (slotV true h t) (blk t X))

omit [FloatOps F] in
theorem hf_join (c : Dev nD) (h : Bool) (y : Dev nD → Vec F S32x128 .bf16) :
    (bigSep Finset.univ fun t => has c (slotV true h t) fullShare (y t) : sProp 𝕄) ⊢ has c (hfR h) fullShare (cat y) := by
  have := raw_join (F := F) (ℓ := hfM.view.loc (c : Thread nD τ)) (K := (hfR h).view.set) (q := fullShare) (fun t : Dev nD => (slotV true h t).view.set)
    ((hfR_set h _).trans ((rA_set h).trans (congrArg _ (funext fun t => (hf_set h t).symm))))
    (fun t t' hne => by rw [hf_set, hf_set]; exact rB_disj h t t' hne)
    ((hfR h).view.read (Elt F)) (fun t => (slotV true h t).view.read (Elt F)) (fun t f f' hf => View.read_congr hf) (cat y) y
    (fun f hf => funext fun i => by
      rw [cat, ← hf]; exact congrArg f ((rB_emb h _ _).trans (congrArg _ (inBlk_ofBlk i))).symm)
  exact this

omit [FloatOps F] in
theorem hf_join_any (c : Dev nD) (h : Bool) :
    (bigSep Finset.univ fun t => any c (slotV true h t) : sProp 𝕄) ⊢ any c (hfR h) := by
  have := raw_join0 (F := F) (ℓ := hfM.view.loc (c : Thread nD τ)) (K := (hfR h).view.set) (q := fullShare) (fun t : Dev nD => (slotV true h t).view.set)
    ((hfR_set h _).trans ((rA_set h).trans (congrArg _ (funext fun t => (hf_set h t).symm))))
    (fun t t' hne => by rw [hf_set, hf_set]; exact rB_disj h t t' hne)
    (fun t => (slotV true h t).view.read (Elt F)) (fun t f f' hf => View.read_congr hf)
  refine BIBase.Entails.trans this ?_
  unfold any has owns
  iintro ⟨%f, H⟩
  iexists _; iexists f; isplitr; · ipureintro; rfl
  iexact H

/-! ## A half of the receive buffer -/

theorem squeeze_apply (x : S32x128.Idx) :
    Shape.reshapeEquiv (s := S1x32x128) (s' := S32x128) squeezes_S1x32x128_S32x128.numel_eq x = (Fin.cons ⟨0, Nat.one_pos⟩ x : S1x32x128.Idx) :=
  Shape.reshapeEquiv_cons_one (d := ![32, 128]) _ x

omit [FloatOps F] in
theorem slot_read (h : Bool) (t : Dev nD) (f : rsM.view.ty.Contents (Elt F)) (x : S32x128.Idx) :
    (slotV false h t).view.read (Elt F) f x = f ((rT h t).emb (Fin.cons ⟨0, Nat.one_pos⟩ x)) :=
  congrArg (fun z => f ((rT h t).emb z)) (squeeze_apply x)

theorem rT_emb_in (h : Bool) (t : Dev nD) (x : S32x128.Idx) :
    (rT h t).emb (Fin.cons ⟨0, Nat.one_pos⟩ x) = (rR h).emb (fun | 0 => t | 1 => x 0 | 2 => x 1 : S16x32x128.Idx) := by
  rw [rT_emb]
  exact congrArg (fun z => (rT h t).emb (Fin.cons ⟨0, Nat.one_pos⟩ z)) (Shape.pair_eta (d := ![32, 128]) x).symm

omit [FloatOps F] in
theorem rs_split (c : Dev nD) (h : Bool) (X : Vec F S16x32x128 .bf16) :
    (has c (rsR h) fullShare X : sProp 𝕄) ⊢ bigSep Finset.univ fun t => any c (slotV false h t) := by
  have := raw_split (F := F) (ℓ := rsM.view.loc (c : Thread nD τ)) (K := (rsR h).view.set) (q := fullShare) (fun t : Dev nD => (slotV false h t).view.set)
    ((rsR_set h _).trans ((rR_set h).trans (congrArg _ (funext fun t => (rs_set h t).symm))))
    (fun t t' hne => by rw [rs_set, rs_set]; exact rT_disj h t t' hne)
    ((rsR h).view.read (Elt F)) (fun t => (slotV false h t).view.read (Elt F)) (fun t X x => X (fun | 0 => t | 1 => x 0 | 2 => x 1 : S16x32x128.Idx))
    (fun t f => funext fun x => (slot_read h t f x).trans (congrArg f (rT_emb_in h t x))) X
  exact BIBase.Entails.trans this (bigSep_mono fun t _ => has_any c (slotV false h t) _)

omit [FloatOps F] in
theorem rs_join (c : Dev nD) (h : Bool) (y : Dev nD → Vec F S32x128 .bf16) :
    (bigSep Finset.univ fun t => has c (slotV false h t) fullShare (y t) : sProp 𝕄) ⊢ has c (rsR h) fullShare (stack y) := by
  have := raw_join (F := F) (ℓ := rsM.view.loc (c : Thread nD τ)) (K := (rsR h).view.set) (q := fullShare) (fun t : Dev nD => (slotV false h t).view.set)
    ((rsR_set h _).trans ((rR_set h).trans (congrArg _ (funext fun t => (rs_set h t).symm))))
    (fun t t' hne => by rw [rs_set, rs_set]; exact rT_disj h t t' hne)
    ((rsR h).view.read (Elt F)) (fun t => (slotV false h t).view.read (Elt F)) (fun t f f' hf => View.read_congr hf) (stack y) y
    (fun f hf => funext fun i => by
      exact (congrArg f (rT_emb h i)).trans ((slot_read h _ f _).symm.trans (congrFun (hf _) _)))
  exact this

omit [FloatOps F] in
theorem rs_join_any (c : Dev nD) (h : Bool) :
    (bigSep Finset.univ fun t => any c (slotV false h t) : sProp 𝕄) ⊢ any c (rsR h) := by
  have := raw_join0 (F := F) (ℓ := rsM.view.loc (c : Thread nD τ)) (K := (rsR h).view.set) (q := fullShare) (fun t : Dev nD => (slotV false h t).view.set)
    ((rsR_set h _).trans ((rR_set h).trans (congrArg _ (funext fun t => (rs_set h t).symm))))
    (fun t t' hne => by rw [rs_set, rs_set]; exact rT_disj h t t' hne)
    (fun t => (slotV false h t).view.read (Elt F)) (fun t f f' hf => View.read_congr hf)
  refine BIBase.Entails.trans this ?_
  unfold any has owns
  iintro ⟨%f, H⟩
  iexists _; iexists f; isplitr; · ipureintro; rfl
  iexact H

/-! ## A device's own pieces, at the program's offsets -/

theorem accOwn (h : Bool) (c : Dev nD) (hs : ∀ a, (rM h c).stride a = 1) : accM.slice (rM h c) hs = srcV false h c := accV_congr (offM_eq h c) _ _
theorem hfOwn (h : Bool) (c : Dev nD) (hs : ∀ a, (rM h c).stride a = 1) : hfM.slice (rM h c) hs = slotV true h c := hfV_congr (offM_eq h c) _ _

theorem rsOwn (h : Bool) (c : Dev nD) : rsV (offS h c) (offS_inb h c) = slotV false h c := rsV_congr (offS_eq h c) _ _

omit [FloatOps F] in
theorem rsOwn_any (h : Bool) (c : Dev nD) :
    (any c (slotV false h c) : sProp 𝕄) ⊢ any c (rsM.slice (rS h c) (fun _ => rfl)) := by
  rw [← rsOwn]
  unfold any has owns
  iintro ⟨%X, %f, -, H⟩
  iexists _; iexists f; isplitr; · ipureintro; rfl
  rw [show (rsV (offS h c) (offS_inb h c)).view.set = (rsM.slice (rS h c) (fun _ => rfl)).view.set from View.set_reshape _ _]
  iexact H

theorem rsOwn_has (h : Bool) (c : Dev nD) (v : Vec F S32x128 .bf16) :
    (has c (rsM.slice (rS h c) (fun _ => rfl)) fullShare (k0_pay2 v) : sProp 𝕄) ⊢ has c (slotV false h c) fullShare v := by
  rw [← rsOwn]
  unfold has owns
  iintro ⟨%f, %hf, H⟩
  iexists f; isplitr
  · ipureintro
    funext x
    have e : (rsV (offS h c) (offS_inb h c)).view.read (Elt F) f
        = shapeCast S32x128 ((rsM.slice (rS h c) (fun _ => rfl)).view.read (Elt F) f) (by decide : S1x32x128.ShapeCasts S32x128) := rfl
    rw [e, hf]
    exact congrFun (shapeCast_shapeCast v shapeCasts_S32x128_S1x32x128 _) x
  rw [show (rsV (offS h c) (offS_inb h c)).view.set = (rsM.slice (rS h c) (fun _ => rfl)).view.set from View.set_reshape _ _]
  iexact H

/-! ## A chunk and its shares -/

abbrev hcR (h : Bool) : Memref sig .tc .vmem S32x128 .bf16 := hcM.slice (rC h) (fun _ => rfl)

omit [FloatOps F] in
theorem hc_split (c : Dev nD) (h : Bool) (X : Vec F S32x128 .bf16) :
    (has c (hcR h) fullShare X : sProp 𝕄) ⊢ bigSep Finset.univ fun t => has c (srcV true h t) (shr true t) X := by
  unfold has owns
  iintro ⟨%f, %hf, H⟩
  have e : ((hcR h).view.loc (c : Thread nD τ) ↦[(hcR h).view.set]{fullShare} f : sProp 𝕄)
      ⊢ bigSep Finset.univ fun t : Dev nD => iprop(∃ f, ⌜(srcV true h t).view.read (Elt F) f = X⌝ ∗ ((srcV true h t).view.loc (c : Thread nD τ) ↦[(srcV true h t).view.set]{shr true t} f)) := by
    rw [ShareLeaves.pointsTo_leaves (ℓ := (hcR h).view.loc (c : Thread nD τ)) (hcR h).view.set f 4 fullShare]
    refine bigSep_mono fun t _ => ?_
    show ((hcR h).view.loc (c : Thread nD τ) ↦[(hcR h).view.set]{ShareLeaves.leaf 4 fullShare t} f : sProp 𝕄)
      ⊢ iprop(∃ f, ⌜(srcV true h t).view.read (Elt F) f = X⌝ ∗ ((srcV true h t).view.loc (c : Thread nD τ) ↦[(srcV true h t).view.set]{shr true t} f))
    iintro H; iexists f; isplitr; · ipureintro; exact hf
    iexact H
  iapply e; iexact H

omit [FloatOps F] in
theorem hc_join (c : Dev nD) (h : Bool) (X : Vec F S32x128 .bf16) :
    (bigSep Finset.univ fun t => has c (srcV true h t) (shr true t) X : sProp 𝕄) ⊢ any c (hcR h) := by
  by_cases hn : ∃ f₀ : (hcR h).view.ty.Contents (Elt F), (hcR h).view.read (Elt F) f₀ = X
  · obtain ⟨f₀, h₀⟩ := hn
    have e : (bigSep Finset.univ fun t => has c (srcV true h t) (shr true t) X : sProp 𝕄)
        ⊢ bigSep Finset.univ fun t : Fin (2 ^ 4) => ((hcR h).view.loc (c : Thread nD τ) ↦[(hcR h).view.set]{ShareLeaves.leaf 4 fullShare t} f₀) := by
      refine bigSep_mono fun t _ => ?_
      show (has c (srcV true h t) (shr true t) X : sProp 𝕄) ⊢ ((hcR h).view.loc (c : Thread nD τ) ↦[(hcR h).view.set]{ShareLeaves.leaf 4 fullShare t} f₀)
      unfold has owns
      iintro ⟨%f, %hf, H⟩
      have hc : ∀ i ∈ (hcR h).view.set, f i = f₀ i := fun i hi => by
        obtain ⟨x, -, rfl⟩ := Finset.mem_map.mp hi
        exact (congrFun hf x).trans (congrFun h₀ x).symm
      have e2 : ((hcR h).view.loc (c : Thread nD τ) ↦[(hcR h).view.set]{ShareLeaves.leaf 4 fullShare t} f : sProp 𝕄) = ((hcR h).view.loc (c : Thread nD τ) ↦[(hcR h).view.set]{ShareLeaves.leaf 4 fullShare t} f₀) :=
        pointsTo_congr (ℓ := (hcR h).view.loc (c : Thread nD τ)) hc
      rw [← e2]
      iexact H
    rw [← ShareLeaves.pointsTo_leaves (ℓ := (hcR h).view.loc (c : Thread nD τ)) (hcR h).view.set f₀ 4 fullShare] at e
    refine BIBase.Entails.trans e ?_
    unfold any has owns
    iintro H
    iexists X; iexists f₀; isplitr; · ipureintro; exact h₀
    iexact H
  · have e : (bigSep Finset.univ fun t => has c (srcV true h t) (shr true t) X : sProp 𝕄) ⊢ has c (srcV true h 0) (shr true 0) X := bigSep_elim (Finset.mem_univ 0)
    refine BIBase.Entails.trans e ?_
    unfold has owns
    iintro ⟨%f, %hf, H⟩
    exact absurd ⟨f, hf⟩ hn

/-! ## A buffer and the rectangles that cover it -/

section Cover

variable {J : Type} [Fintype J] [DecidableEq J] [Nonempty J] {s : Shape} {e : EltTy} (off : J → Fin s.rank → ℕ) (size : Fin s.rank → ℕ)
  (inb : ∀ j a, off j a + size a ≤ s.size a)

omit [Nonempty J] in
theorem cover_set (M : Memref sig .tc .vmem s e) (hK : (Finset.univ : Finset s.Idx) = Finset.univ.biUnion fun j => (Rect.unit (off j) size (inb j)).set) :
    M.view.set = Finset.univ.biUnion fun j => (M.slice (Rect.unit (off j) size (inb j)) (fun _ => rfl)).view.set := by
  have e1 : ∀ j, (M.slice (Rect.unit (off j) size (inb j)) (fun _ => rfl)).view.set = (Rect.unit (off j) size (inb j)).set.map M.view.emb := fun j => View.set_slice _ _
  show Finset.univ.map M.view.emb = _
  simp only [e1]
  rw [hK]
  ext i
  simp only [Finset.mem_map, Finset.mem_biUnion, Finset.mem_univ, true_and]
  constructor
  · rintro ⟨x, ⟨j, hj⟩, rfl⟩; exact ⟨j, x, hj, rfl⟩
  · rintro ⟨j, x, hj, rfl⟩; exact ⟨x, ⟨j, hj⟩, rfl⟩
omit [Fintype J] [DecidableEq J] [Nonempty J] in
theorem cover_disj (M : Memref sig .tc .vmem s e) (hd : ∀ j j', j ≠ j' → Disjoint (Rect.unit (off j) size (inb j)).set (Rect.unit (off j') size (inb j')).set)
    (j j' : J) (hne : j ≠ j') :
    Disjoint (M.slice (Rect.unit (off j) size (inb j)) (fun _ => rfl)).view.set (M.slice (Rect.unit (off j') size (inb j')) (fun _ => rfl)).view.set := by
  have e1 : ∀ j, (M.slice (Rect.unit (off j) size (inb j)) (fun _ => rfl)).view.set = (Rect.unit (off j) size (inb j)).set.map M.view.emb := fun j => View.set_slice _ _
  rw [e1, e1]; exact (Finset.disjoint_map _).mpr (hd j j' hne)

variable (hK : (Finset.univ : Finset s.Idx) = Finset.univ.biUnion fun j => (Rect.unit (off j) size (inb j)).set)
  (hd : ∀ j j', j ≠ j' → Disjoint (Rect.unit (off j) size (inb j)).set (Rect.unit (off j') size (inb j')).set)
include hK hd

omit [FloatOps F] [Nonempty J] in
theorem cover_split (c : Dev nD) (M : Memref sig .tc .vmem s e) (X : s.Idx → Elt F e) :
    (has c M fullShare X : sProp 𝕄)
      ⊢ bigSep Finset.univ fun j => has c (M.slice (Rect.unit (off j) size (inb j)) (fun _ => rfl)) fullShare (fun x => X ((Rect.unit (off j) size (inb j)).emb x)) := by
  have := raw_split (F := F) (J := J) (X := s.Idx → Elt F e) (Y := (⟨s.rank, size⟩ : Shape).Idx → Elt F e) (ℓ := M.view.loc (c : Thread nD τ)) (K := M.view.set) (q := fullShare)
    (fun j => (M.slice (Rect.unit (off j) size (inb j)) (fun _ => rfl)).view.set) (cover_set off size inb M hK) (cover_disj off size inb M hd)
    (M.view.read (Elt F)) (fun j => (M.slice (Rect.unit (off j) size (inb j)) (fun _ => rfl)).view.read (Elt F)) (fun j X x => X ((Rect.unit (off j) size (inb j)).emb x))
    (fun j f => rfl) X
  exact this

omit [FloatOps F] in
theorem cover_join (c : Dev nD) (M : Memref sig .tc .vmem s e) (X : s.Idx → Elt F e) (y : J → (⟨s.rank, size⟩ : Shape).Idx → Elt F e)
    (hX : ∀ j x, X ((Rect.unit (off j) size (inb j)).emb x) = y j x) :
    (bigSep Finset.univ fun j => has c (M.slice (Rect.unit (off j) size (inb j)) (fun _ => rfl)) fullShare (y j) : sProp 𝕄) ⊢ has c M fullShare X := by
  have := raw_join (F := F) (J := J) (X := s.Idx → Elt F e) (Y := (⟨s.rank, size⟩ : Shape).Idx → Elt F e) (ℓ := M.view.loc (c : Thread nD τ)) (K := M.view.set) (q := fullShare)
    (fun j => (M.slice (Rect.unit (off j) size (inb j)) (fun _ => rfl)).view.set) (cover_set off size inb M hK) (cover_disj off size inb M hd)
    (M.view.read (Elt F)) (fun j => (M.slice (Rect.unit (off j) size (inb j)) (fun _ => rfl)).view.read (Elt F)) (fun j f f' hf => View.read_congr hf) X y
    (fun f hf => funext fun i => by
      have hi : i ∈ Finset.univ.biUnion fun j => (Rect.unit (off j) size (inb j)).set := hK ▸ Finset.mem_univ i
      obtain ⟨j, -, hj⟩ := Finset.mem_biUnion.mp hi
      rw [← Rect.map_emb_univ] at hj
      obtain ⟨x, -, rfl⟩ := Finset.mem_map.mp hj
      rw [hX, ← hf]; rfl)
  exact this

omit [FloatOps F] in
theorem cover_join_any (c : Dev nD) (M : Memref sig .tc .vmem s e) :
    (bigSep Finset.univ fun j => any c (M.slice (Rect.unit (off j) size (inb j)) (fun _ => rfl)) : sProp 𝕄) ⊢ any c M := by
  have := raw_join0 (F := F) (J := J) (Y := (⟨s.rank, size⟩ : Shape).Idx → Elt F e) (ℓ := M.view.loc (c : Thread nD τ)) (K := M.view.set) (q := fullShare)
    (fun j => (M.slice (Rect.unit (off j) size (inb j)) (fun _ => rfl)).view.set) (cover_set off size inb M hK) (cover_disj off size inb M hd)
    (fun j => (M.slice (Rect.unit (off j) size (inb j)) (fun _ => rfl)).view.read (Elt F)) (fun j f f' hf => View.read_congr hf)
  refine BIBase.Entails.trans this ?_
  unfold any has owns
  iintro ⟨%f, H⟩
  iexists _; iexists f; isplitr; · ipureintro; rfl
  iexact H

end Cover

omit [FloatOps F] in
theorem bigSep_bool (Φ : Bool → sProp 𝕄) : bigSep Finset.univ Φ = iprop(Φ false ∗ Φ true) := by
  rw [bigSep_univ_at Φ false, show (Finset.univ.erase false : Finset Bool) = {true} from rfl, bigSep_singleton]

/-- The rows of a half of a 64-row buffer. -/
abbrev hlf {n : ℕ} {e : EltTy} (M : Memref sig .tc .vmem ⟨2, ![64, n]⟩ e) (h : Bool)
    (inb : ∀ h, ∀ a, off2 h a + (![32, n] : Fin 2 → ℕ) a ≤ (⟨2, ![64, n]⟩ : Shape).size a) : Memref sig .tc .vmem ⟨2, ![32, n]⟩ e :=
  M.slice (Rect.unit (s := ⟨2, ![64, n]⟩) (off2 h) ![32, n] (inb h)) (fun _ => rfl)

omit [FloatOps F] in
theorem halves_split {n : ℕ} {e : EltTy} (inb : ∀ h, ∀ a, off2 h a + (![32, n] : Fin 2 → ℕ) a ≤ (⟨2, ![64, n]⟩ : Shape).size a)
    (c : Dev nD) (M : Memref sig .tc .vmem ⟨2, ![64, n]⟩ e) (X : (⟨2, ![64, n]⟩ : Shape).Idx → Elt F e) :
    (has c M fullShare X : sProp 𝕄) ⊢ iprop(has c (hlf M false inb) fullShare (fun x => X ((Rect.unit (s := ⟨2, ![64, n]⟩) (off2 false) ![32, n] (inb false)).emb x))
      ∗ has c (hlf M true inb) fullShare (fun x => X ((Rect.unit (s := ⟨2, ![64, n]⟩) (off2 true) ![32, n] (inb true)).emb x))) := by
  have := cover_split (F := F) (s := ⟨2, ![64, n]⟩) off2 ![32, n] inb (halves_set inb) (halves_disj inb) c M X
  rw [bigSep_bool] at this; exact this
omit [FloatOps F] in
theorem halves_any {n : ℕ} {e : EltTy} (inb : ∀ h, ∀ a, off2 h a + (![32, n] : Fin 2 → ℕ) a ≤ (⟨2, ![64, n]⟩ : Shape).size a)
    (c : Dev nD) (M : Memref sig .tc .vmem ⟨2, ![64, n]⟩ e) :
    (any c M : sProp 𝕄) ⊢ iprop(any c (hlf M false inb) ∗ any c (hlf M true inb)) := by
  unfold any
  iintro ⟨%X, H⟩
  ihave ⟨H1, H2⟩ := (halves_split inb c M X) $$ H
  isplitl [H1]
  · iexists _; iexact H1
  · iexists _; iexact H2
omit [FloatOps F] in
theorem halves_join {n : ℕ} {e : EltTy} (inb : ∀ h, ∀ a, off2 h a + (![32, n] : Fin 2 → ℕ) a ≤ (⟨2, ![64, n]⟩ : Shape).size a)
    (c : Dev nD) (M : Memref sig .tc .vmem ⟨2, ![64, n]⟩ e) (X : (⟨2, ![64, n]⟩ : Shape).Idx → Elt F e) (y : Bool → (⟨2, ![32, n]⟩ : Shape).Idx → Elt F e)
    (hX : ∀ h x, X ((Rect.unit (s := ⟨2, ![64, n]⟩) (off2 h) ![32, n] (inb h)).emb x) = y h x) :
    iprop(has c (hlf M false inb) fullShare (y false) ∗ has c (hlf M true inb) fullShare (y true)) ⊢ (has c M fullShare X : sProp 𝕄) := by
  have := cover_join (F := F) (s := ⟨2, ![64, n]⟩) off2 ![32, n] inb (halves_set inb) (halves_disj inb) c M X y hX
  rw [bigSep_bool] at this; exact this
omit [FloatOps F] in
theorem halves_join_any {n : ℕ} {e : EltTy} (inb : ∀ h, ∀ a, off2 h a + (![32, n] : Fin 2 → ℕ) a ≤ (⟨2, ![64, n]⟩ : Shape).size a)
    (c : Dev nD) (M : Memref sig .tc .vmem ⟨2, ![64, n]⟩ e) :
    iprop(any c (hlf M false inb) ∗ any c (hlf M true inb)) ⊢ (any c M : sProp 𝕄) := by
  have := cover_join_any (F := F) (s := ⟨2, ![64, n]⟩) off2 ![32, n] inb (halves_set inb) (halves_disj inb) c M
  rw [bigSep_bool] at this; exact this

omit [FloatOps F] in
theorem rs_halves (c : Dev nD) : (any c rsM : sProp 𝕄) ⊢ iprop(any c (rsR false) ∗ any c (rsR true)) := by
  unfold any
  iintro ⟨%X, H⟩
  have := cover_split (F := F) (s := S16x64x128) off3 S16x32x128.size off3_r rR_all rR_disj c rsM X
  rw [bigSep_bool] at this
  ihave ⟨H1, H2⟩ := this $$ H
  isplitl [H1]
  · iexists _; iexact H1
  · iexists _; iexact H2
omit [FloatOps F] in
theorem rs_halves_join (c : Dev nD) : iprop(any c (rsR false) ∗ any c (rsR true)) ⊢ (any c rsM : sProp 𝕄) := by
  have := cover_join_any (F := F) (s := S16x64x128) off3 S16x32x128.size off3_r rR_all rR_disj c rsM
  rw [bigSep_bool] at this; exact this

end Cert.KernelIdeal.Hand

end
-- ==== Proof.StepsIdeal.lean ====
/-
What each step of a layer takes and gives back, over one half of the rows.
-/
module

public import proofs.«01_k».proof.Proof.BufsIdeal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (val : Bool → Bool → ℕ → Dev nD → Dev nD → Vec F S32x128 .bf16) (nm : Dev nD × CI → ℕ)

/-- What device `c` still owes, whatever it has waited for. -/
def ow (c : Dev nD) (l : List (GSem nD τ sig × ℕ × ℕ)) : sProp 𝕄 := iprop(∃ W, owes (c : Thread nD τ) (oweL l) W)

/-- The tokens of one step's fifteen transfers, and the credit for the fifteen landings of the same step. -/
def toks (kd h : Bool) (r : ℕ) (c : Dev nD) : sProp 𝕄 :=
  iprop((allP c fun t => iprop(dutyTok ER (snd kd h c) r t ∗ dutyTok ER (rcv kd h t) r c)) ∗ cred (tallyAt (rcv kd h c) r (15 * N)))

/-- The places device `c` sends its blocks of round `r` to, or, after the last round, its own places back. -/
def places (h : Bool) (r : ℕ) (c : Dev nD) : sProp 𝕄 :=
  if r < 3 then allP c fun t => iprop(any t (slotV false h c) ∗ reached ER (rcv false h t) r) else allP c fun t => any c (slotV false h t)

/-- Where device `c` stands on the cells of a half. -/
def pos (h : Bool) (r r' : ℕ) (c : Dev nD) : sProp 𝕄 :=
  iprop(atPos ER (snd false h c) r ∅ 0 ∗ atPos ER (rcv false h c) r ∅ 0 ∗ atPos ER (snd true h c) r' ∅ 0 ∗ atPos ER (rcv true h c) r' ∅ 0
    ∗ reached ER (snd false h c) r ∗ reached ER (snd true h c) r' ∗ reached ER (rcv true h c) r')

/-- Before the first step of round `r`. -/
def stA (h : Bool) (r : ℕ) (c : Dev nD) : sProp 𝕄 :=
  iprop(any c (accR h) ∗ any c (slotV false h c) ∗ any c (slotV true h c) ∗ (allP c fun t => any c (slotV true h t)) ∗ any c (hcR h) ∗ pos h r r c ∗ places h r c)
/-- After the first step. -/
def stB (h : Bool) (r : ℕ) (c : Dev nD) : sProp 𝕄 :=
  iprop(any c (srcV false h c) ∗ has c (slotV false h c) fullShare (val false h r c c) ∗ any c (slotV true h c) ∗ any c (hcR h) ∗ pos h r r c
    ∗ cred (tallyAt (snd false h c) r (15 * N)) ∗ cred (tallyAt (rcv false h c) r (15 * N)))
/-- After the second. -/
def stC (h : Bool) (r : ℕ) (c : Dev nD) : sProp 𝕄 :=
  iprop(any c (accR h) ∗ any c (slotV false h c) ∗ (if r < 2 then iprop(emp) else allP c fun t => any c (slotV false h t))
    ∗ has c (srcV true h c) (shr true c) (val true h r c c) ∗ has c (slotV true h c) fullShare (val true h r c c) ∗ pos h (r + 1) r c
    ∗ cred (tallyAt (snd true h c) r (15 * N)) ∗ cred (tallyAt (rcv true h c) r (15 * N)))

omit [FloatOps F] in
theorem allP_mono (c : Dev nD) {Φ Ψ : Dev nD → sProp 𝕄} (h : ∀ t, Φ t ⊢ Ψ t) : allP c Φ ⊢ allP c Ψ := bigSep_mono fun t _ => h t
omit [FloatOps F] in
theorem allP_sep (c : Dev nD) (Φ Ψ : Dev nD → sProp 𝕄) : iprop(allP c Φ ∗ allP c Ψ) ⊢ allP c fun t => iprop(Φ t ∗ Ψ t) := by
  unfold allP; rw [bigSep_sep']

omit [FloatOps F] in
/-- What a step's fifteen sends need, gathered. -/
theorem sendPre_all (kd h : Bool) (r : ℕ) (c : Dev nD) :
    iprop((allP c fun t => has c (srcV kd h t) (shr kd t) (val kd h r c t)) ∗ (allP c fun t => iprop(any t (slotV kd h c) ∗ reached ER (rcv kd h t) r))
        ∗ (allP c fun t => give kd h r c t) ∗ (allP c fun t => iprop(dutyTok ER (snd kd h c) r t ∗ dutyTok ER (rcv kd h t) r c)))
      ⊢ sepL offs fun i => sendPre val kd h r c (pr c i) := by
  rw [← allP_eq c (fun t => sendPre val kd h r c t)]
  unfold sendPre
  iintro ⟨H1, H2, H3, H4⟩
  iapply (allP_sep c); isplitl [H1]; · iexact H1
  iapply (allP_sep c); isplitl [H2]; · iexact H2
  iapply (allP_sep c); isplitl [H3]; · iexact H3
  iexact H4

/-! ## The first step -/

theorem wp_step1 (p : Vec F S32x1024 .f32 → Vec F S1024x2048 .f32 → FVec F S32x2048 .bf16) (h : Bool) {r : ℕ} (hr : r < 3)
    (x : Memref sig .tc .vmem S64x1024 .f32) (w : Memref sig .tc .vmem S1024x2048 .f32) (c : Dev nD) (X : Vec F S32x1024 .f32) (Wi : Vec F S1024x2048 .f32)
    (hv : ∀ t, blk t (p X Wi) = val false h r c t) (rest : List (GSem nD τ sig × ℕ × ℕ)) (K : Pg F) (Q : PUnit → sProp 𝕄) :
    iprop(recs val nm ∗ has c (x.slice (rX h) (fun _ => rfl)) fullShare X ∗ has c (w.slice rWi (fun _ => rfl)) fullShare Wi
        ∗ stA h r c ∗ toks false h r c ∗ ow c (dueP c (r, false, h) ++ rest))
      ⊢ iprop(((has c (x.slice (rX h) (fun _ => rfl)) fullShare X ∗ has c (w.slice rWi (fun _ => rfl)) fullShare Wi ∗ stB val h r c ∗ ow c rest) -∗ WP c K Q)
        -∗ WP c (step1 p h x w c K) Q) := by
  unfold step1 stA toks ow places pos
  rw [if_pos hr]
  iintro ⟨#HI, Hx, Hw, ⟨Hacc, Hrs, Hhf, Hhfs, Hhc, Hpos, Hpl⟩, ⟨Ht, Hcr⟩, ⟨%W, HO⟩⟩ Hk
  iapply (wp_get c (M := x) (r := rX h) X) $$ Hx
  iintro Hx
  iapply (wp_get c (M := w) (r := rWi) Wi) $$ Hw
  iintro Hw
  iapply (wp_peek c (M := accM) (r := rA h) (hs := fun _ => rfl)) $$ Hacc
  iintro Hacc
  iapply (wp_put c (M := accM) (r := rA h) (hs := fun _ => rfl) (p X Wi)) $$ Hacc
  iintro Hacc
  ihave Hacc := (acc_split c h (p X Wi)) $$ Hacc
  have e0 : (bigSep Finset.univ fun t => has c (srcV false h t) fullShare (blk t (p X Wi)) : sProp 𝕄)
      ⊢ iprop(has c (srcV false h c) fullShare (val false h r c c) ∗ (allP c fun t => has c (srcV false h t) (shr false t) (val false h r c t))) := by
    refine BIBase.Entails.trans ?_ (Entails.of_eq (univ_allP c (fun t => (has c (srcV false h t) fullShare (val false h r c t) : sProp 𝕄))))
    simp only [hv]; exact Entails.of_eq rfl
  ihave ⟨Hown, Hacc⟩ := e0 $$ Hacc
  icases Hpos with ⟨Ha1, Ha2, Ha3, Ha4, #Hr1, #Hr2, #Hr3⟩
  iapply (wp_sends val nm false h hr c _ Q rest W offs 0) $$ [Hacc Hpl Hhfs Ht HO]
  · isplitr; · iexact HI
    isplitr; · iexact Hr1
    isplitl [Hacc Hpl Hhfs Ht]
    · iapply (sendPre_all val false h r c)
      isplitl [Hacc]; · iexact Hacc
      isplitl [Hpl]; · iexact Hpl
      isplitl [Hhfs]
      · have e : iprop(reached ER (rcv true h c) r ∗ allP c fun t => any c (slotV true h t)) ⊢ (allP c fun t => give false h r c t : sProp 𝕄) :=
          bigSep_with_persistent fun t _ => by
            unfold give; iintro ⟨#H1, H2⟩; isplitl; · iexact H2
            iexact H1
        iapply e
        isplitr; · iexact Hr3
        iexact Hhfs
      iexact Ht
    isplitr; · rw [cred_tallyAt_zero_mul]; iempintro
    iexact HO
  iintro ⟨Hcs, HO⟩
  ihave Hown := (Entails.of_eq (congrArg (fun M => (has c M fullShare (val false h r c c) : sProp 𝕄)) (accOwn h c (fun _ => rfl)).symm)) $$ Hown
  iapply (wp_get c (M := accM) (r := rM h c) (hs := fun _ => rfl) (val false h r c c)) $$ Hown
  iintro Hown
  ihave Hrs := (rsOwn_any h c) $$ Hrs
  iapply (wp_peek c (M := rsM) (r := rS h c) (hs := fun _ => rfl)) $$ Hrs
  iintro Hrs
  iapply (wp_put c (M := rsM) (r := rS h c) (hs := fun _ => rfl) (k0_pay2 (val false h r c c))) $$ Hrs
  iintro Hrs
  ihave Hrs := (rsOwn_has h c (val false h r c c)) $$ Hrs
  ihave Hown := (Entails.of_eq (congrArg (fun M => (has c M fullShare (val false h r c c) : sProp 𝕄)) (accOwn h c (fun _ => rfl)))) $$ Hown
  ihave Hown := (has_any c (srcV false h c) (val false h r c c)) $$ Hown
  iapply Hk
  isplitl [Hx]; · iexact Hx
  isplitl [Hw]; · iexact Hw
  isplitr [HO]
  · unfold stB pos
    isplitl [Hown]; · iexact Hown
    isplitl [Hrs]; · iexact Hrs
    isplitl [Hhf]; · iexact Hhf
    isplitl [Hhc]; · iexact Hhc
    isplitl [Ha1 Ha2 Ha3 Ha4]
    · isplitl [Ha1]; · iexact Ha1
      isplitl [Ha2]; · iexact Ha2
      isplitl [Ha3]; · iexact Ha3
      isplitl [Ha4]; · iexact Ha4
      isplitr; · iexact Hr1
      isplitr; · iexact Hr2
      iexact Hr3
    isplitl [Hcs]; · iexact Hcs
    iexact Hcr
  iexists W; iexact HO

/-! ## The second step -/

theorem wrE_wait (kd h : Bool) (c : Dev nD) (K : PUnit → sProp 𝕄) :
    wpE (defs₀ (F := F)) 𝒱₀ (c : Thread nD τ) none Set.univ (wrE kd h c) K = waitSpec (c : Thread nD τ) Set.univ (csem (some (true, kd, h))) N K := by
  rw [wrE, wpE_waitDma2_eq, dstP_eq, N_slot]
theorem wsE_wait (kd h : Bool) (c : Dev nD) (K : PUnit → sProp 𝕄) :
    wpE (defs₀ (F := F)) 𝒱₀ (c : Thread nD τ) none Set.univ (wsE kd h c) K = waitSpec (c : Thread nD τ) Set.univ (csem (some (false, kd, h))) N K := by
  rw [wsE, wpE_waitDma2_eq, wsrcP_eq, N_src]

/-- Fifteen landings. -/
theorem wp_landed (kd h : Bool) (c : Dev nD) {r : ℕ} (hr : r < 3) (l : List (GSem nD τ sig × ℕ × ℕ))
    (hl : ∀ y ∈ l, y.1.1.2 = .tc ∧ y.2.1 < 3 ∧ plev (r, kd, h) < lv y.1 y.2.1) (K : Pg F) (Q : PUnit → sProp 𝕄) :
    iprop(recs val nm ∗ levAts L lv ∗ ow c l ∗ cred (tallyAt (rcv kd h c) r (15 * N)) ∗ atPos ER (rcv kd h c) r ∅ 0)
      ⊢ iprop(((ow c l ∗ atPos ER (rcv kd h c) (r + 1) ∅ 0 ∗ reached ER (rcv kd h c) (r + 1)
            ∗ (allP c fun d => has c (slotV kd h d) fullShare (val kd h r d c)) ∗ (allP c fun d => give kd h r d c)) -∗ WP c K Q) -∗ WP c (again offs (wrE kd h c) K) Q) := by
  unfold ow
  iintro ⟨#HI, #HL, ⟨%W, HO⟩, Hc, Ha⟩ Hk
  iapply (wp_drained val nm c (true, kd, h) hr (wrE kd h c) (wrE_wait kd h c) l
    (mayWait c (csem (some (true, kd, h))) r l hr (le_of_eq (lv_rcv kd h c r)) hl) W K Q) $$ [HO Hc Ha]
  · isplitr; · iexact HI
    isplitr; · iexact HL
    isplitl [HO]; · iexact HO
    isplitl [Hc]; · iexact Hc
    iexact Ha
  iintro ⟨HO, Ha, Hre, Hp⟩
  have e : (allP c fun d => (rd val).payload (cell c (some (true, kd, h))) r d : sProp 𝕄)
      ⊢ iprop((allP c fun d => has c (slotV kd h d) fullShare (val kd h r d c)) ∗ (allP c fun d => give kd h r d c)) := by
    unfold allP
    rw [← bigSep_sep']
    exact bigSep_mono fun d _ => Entails.of_eq (payload_rcv val c kd h r d)
  ihave ⟨H1, H2⟩ := e $$ Hp
  iapply Hk
  isplitl [HO]; · iexists _; iexact HO
  isplitl [Ha]; · iexact Ha
  isplitl [Hre]; · iexact Hre
  isplitl [H1]; · iexact H1
  iexact H2

/-- Fifteen sources free again. -/
theorem wp_freed (kd h : Bool) (c : Dev nD) {r : ℕ} (hr : r < 3) (l : List (GSem nD τ sig × ℕ × ℕ))
    (hl : ∀ y ∈ l, y.1.1.2 = .tc ∧ y.2.1 < 3 ∧ 0 < lv y.1 y.2.1) (K : Pg F) (Q : PUnit → sProp 𝕄) :
    iprop(recs val nm ∗ levAts L lv ∗ ow c l ∗ cred (tallyAt (snd kd h c) r (15 * N)) ∗ atPos ER (snd kd h c) r ∅ 0)
      ⊢ iprop(((ow c l ∗ atPos ER (snd kd h c) (r + 1) ∅ 0 ∗ reached ER (snd kd h c) (r + 1)
            ∗ (allP c fun t => has c (srcV kd h t) (shr kd t) (val kd h r c t))) -∗ WP c K Q) -∗ WP c (again offs (wsE kd h c) K) Q) := by
  unfold ow
  iintro ⟨#HI, #HL, ⟨%W, HO⟩, Hc, Ha⟩ Hk
  iapply (wp_drained val nm c (false, kd, h) hr (wsE kd h c) (wsE_wait kd h c) l
    (mayWait c (csem (some (false, kd, h))) r l hr (le_of_eq (lv_snd kd h c r)) hl) W K Q) $$ [HO Hc Ha]
  · isplitr; · iexact HI
    isplitr; · iexact HL
    isplitl [HO]; · iexact HO
    isplitl [Hc]; · iexact Hc
    iexact Ha
  iintro ⟨HO, Ha, Hre, Hp⟩
  have e : (allP c fun d => (rd val).payload (cell c (some (false, kd, h))) r d : sProp 𝕄)
      ⊢ (allP c fun t => has c (srcV kd h t) (shr kd t) (val kd h r c t)) :=
    bigSep_mono fun d _ => Entails.of_eq (payload_snd val c kd h r d)
  ihave Hp := e $$ Hp
  iapply Hk
  isplitl [HO]; · iexists _; iexact HO
  isplitl [Ha]; · iexact Ha
  isplitl [Hre]; · iexact Hre
  iexact Hp

theorem wp_step2 (h : Bool) {r : ℕ} (hr : r < 3) (c : Dev nD) (hv : ∀ t, k0_pay5 (stack fun s => val false h r s c) = val true h r c t)
    (rest : List (GSem nD τ sig × ℕ × ℕ))
    (hl : ∀ y ∈ dueP c (r, true, h) ++ rest, y.1.1.2 = .tc ∧ y.2.1 < 3 ∧ plev (r, false, h) < lv y.1 y.2.1)
    (K : Pg F) (Q : PUnit → sProp 𝕄) :
    iprop(recs val nm ∗ levAts L lv ∗ stB val h r c ∗ toks true h r c ∗ ow c (dueP c (r, true, h) ++ rest))
      ⊢ iprop(((stC val h r c ∗ ow c rest) -∗ WP c K Q) -∗ WP c (step2 h c K) Q) := by
  unfold step2 stB toks pos
  iintro ⟨#HI, #HL, ⟨Hac, Hrs, Hhf, Hhc, ⟨Ha1, Ha2, Ha3, Ha4, #Hr1, #Hr2, #Hr3⟩, Hcs, Hcr⟩, ⟨Ht, Hcr'⟩, HO⟩ Hk
  iapply (wp_landed val nm false h c hr _ hl) $$ [HO Hcr Ha2]
  · isplitr; · iexact HI
    isplitr; · iexact HL
    isplitl [HO]; · iexact HO
    isplitl [Hcr]; · iexact Hcr
    iexact Ha2
  iintro ⟨HO, Ha2, #Hr4, Hrss, Hpl⟩
  have e1 : iprop(has c (slotV false h c) fullShare (val false h r c c) ∗ (allP c fun d => has c (slotV false h d) fullShare (val false h r d c)))
      ⊢ (has c (rsR h) fullShare (stack fun s => val false h r s c) : sProp 𝕄) := by
    rw [← univ_allP c (fun d => (has c (slotV false h d) fullShare (val false h r d c) : sProp 𝕄))]
    exact rs_join c h fun s => val false h r s c
  ihave Hrs := e1 $$ [Hrs Hrss]
  · isplitl [Hrs]; · iexact Hrs
    iexact Hrss
  iapply (wp_get c (M := rsM) (r := rR h) (stack fun s => val false h r s c)) $$ Hrs
  iintro Hrs
  iapply (wp_peek c (M := hcM) (r := rC h) (hs := fun _ => rfl)) $$ Hhc
  iintro Hhc
  iapply (wp_put c (M := hcM) (r := rC h) (hs := fun _ => rfl) (k0_pay5 (stack fun s => val false h r s c))) $$ Hhc
  iintro Hhc
  ihave Hhc := (hc_split c h _) $$ Hhc
  have e2 : (bigSep Finset.univ fun t => has c (srcV true h t) (shr true t) (k0_pay5 (stack fun s => val false h r s c)) : sProp 𝕄)
      ⊢ iprop(has c (srcV true h c) (shr true c) (val true h r c c) ∗ (allP c fun t => has c (srcV true h t) (shr true t) (val true h r c t))) := by
    rw [← univ_allP c (fun t => (has c (srcV true h t) (shr true t) (val true h r c t) : sProp 𝕄))]
    rw [show (fun t => (has c (srcV true h t) (shr true t) (val true h r c t) : sProp 𝕄)) = fun t => has c (srcV true h t) (shr true t) (k0_pay5 (stack fun s => val false h r s c)) from funext fun t => by rw [hv t]]
  ihave ⟨Hown, Hhc⟩ := e2 $$ Hhc
  ihave Hrs := (rs_split c h _) $$ Hrs
  ihave ⟨Hrs, Hrss⟩ := (Entails.of_eq (univ_allP c (fun t => (any c (slotV false h t) : sProp 𝕄)))) $$ Hrs
  have e3 : iprop(reached ER (rcv false h c) (r + 1) ∗ allP c fun t => any c (slotV false h t))
      ⊢ (iprop((allP c fun t => give true h r c t) ∗ (if r < 2 then iprop(emp) else allP c fun t => any c (slotV false h t))) : sProp 𝕄) := by
    unfold give
    by_cases h2 : r < 2
    · rw [if_pos h2]; dsimp only; simp only [if_pos h2]
      iintro ⟨#H1, H2⟩
      isplitl
      · have e : iprop(reached ER (rcv false h c) (r + 1) ∗ allP c fun t => any c (slotV false h t))
            ⊢ (allP c fun t => iprop(any c (slotV false h t) ∗ reached ER (rcv false h c) (r + 1)) : sProp 𝕄) :=
          bigSep_with_persistent fun t _ => by
            iintro ⟨#H1, H2⟩; isplitl; · iexact H2
            iexact H1
        iapply e
        isplitr; · iexact H1
        iexact H2
      iempintro
    · rw [if_neg h2]; dsimp only; simp only [if_neg h2]
      iintro ⟨#H1, H2⟩
      isplitr
      · have e : (emp : sProp 𝕄) ⊢ allP c fun _ => iprop(emp) := bigSep_of_persistent _ _
        iapply e; iempintro
      iexact H2
  ihave ⟨Hg, Hback⟩ := e3 $$ [Hrss]
  · isplitr; · iexact Hr4
    iexact Hrss
  unfold ow
  icases HO with ⟨%W, HO⟩
  iapply (wp_sends val nm true h hr c _ Q rest W offs 0) $$ [Hhc Hpl Hg Ht HO]
  · isplitr; · iexact HI
    isplitr; · iexact Hr2
    isplitl [Hhc Hpl Hg Ht]
    · iapply (sendPre_all val true h r c)
      isplitl [Hhc]; · iexact Hhc
      isplitl [Hpl]
      · have e : (allP c fun d => give false h r d c : sProp 𝕄) ⊢ allP c fun t => iprop(any t (slotV true h c) ∗ reached ER (rcv true h t) r) :=
          allP_mono c fun d => (Entails.of_eq rfl : (give false h r d c : sProp 𝕄) ⊢ iprop(any d (slotV true h c) ∗ reached ER (rcv true h d) r))
        iapply e; iexact Hpl
      isplitl [Hg]; · iexact Hg
      iexact Ht
    isplitr; · rw [cred_tallyAt_zero_mul]; iempintro
    iexact HO
  iintro ⟨Hcs', HO⟩
  ihave Hown := (show (has c (srcV true h c) (shr true c) (val true h r c c) : sProp 𝕄) ⊢ has c (hcM.slice (rC h) (fun _ => rfl)) (shr true c) (val true h r c c) from Entails.of_eq rfl) $$ Hown
  iapply (wp_get c (M := hcM) (r := rC h) (hs := fun _ => rfl) (val true h r c c)) $$ Hown
  iintro Hown
  ihave Hown := (show (has c (hcM.slice (rC h) (fun _ => rfl)) (shr true c) (val true h r c c) : sProp 𝕄) ⊢ has c (srcV true h c) (shr true c) (val true h r c c) from Entails.of_eq rfl) $$ Hown
  ihave Hhf := (Entails.of_eq (congrArg (fun M => (any c M : sProp 𝕄)) (hfOwn h c (fun _ => rfl)).symm)) $$ Hhf
  iapply (wp_peek c (M := hfM) (r := rM h c) (hs := fun _ => rfl)) $$ Hhf
  iintro Hhf
  iapply (wp_put c (M := hfM) (r := rM h c) (hs := fun _ => rfl) (k0_pay6 (val true h r c c))) $$ Hhf
  iintro Hhf
  have e6 : (has c (hfM.slice (rM h c) (fun _ => rfl)) fullShare (k0_pay6 (val true h r c c)) : sProp 𝕄) ⊢ has c (slotV true h c) fullShare (val true h r c c) := by
    rw [show k0_pay6 (val true h r c c) = val true h r c c from shapeCast_self _ _, hfOwn]
  ihave Hhf := e6 $$ Hhf
  iapply (wp_freed val nm false h c hr rest (fun y hy => ⟨(hl y (List.mem_append_right _ hy)).1, (hl y (List.mem_append_right _ hy)).2.1, Nat.lt_of_le_of_lt (Nat.zero_le _) (hl y (List.mem_append_right _ hy)).2.2⟩)) $$ [HO Hcs Ha1]
  · isplitr; · iexact HI
    isplitr; · iexact HL
    isplitl [HO]; · unfold ow; iexists W; iexact HO
    isplitl [Hcs]; · iexact Hcs
    iexact Ha1
  iintro ⟨HO, Ha1, #Hr5, Hacc⟩
  have e4 : iprop(any c (srcV false h c) ∗ (allP c fun t => has c (srcV false h t) (shr false t) (val false h r c t))) ⊢ (any c (accR h) : sProp 𝕄) := by
    refine BIBase.Entails.trans ?_ (acc_join c h)
    rw [univ_allP c (fun t => (any c (srcV false h t) : sProp 𝕄))]
    exact sep_mono_right (allP_mono c fun t => has_any c (srcV false h t) _)
  ihave Hacc := e4 $$ [Hac Hacc]
  · isplitl [Hac]; · iexact Hac
    iexact Hacc
  iapply Hk
  isplitr [HO]
  · unfold stC pos
    isplitl [Hacc]; · iexact Hacc
    isplitl [Hrs]; · iexact Hrs
    isplitl [Hback]; · iexact Hback
    isplitl [Hown]; · iexact Hown
    isplitl [Hhf]; · iexact Hhf
    isplitl [Ha1 Ha2 Ha3 Ha4]
    · isplitl [Ha1]; · iexact Ha1
      isplitl [Ha2]; · iexact Ha2
      isplitl [Ha3]; · iexact Ha3
      isplitl [Ha4]; · iexact Ha4
      isplitr; · iexact Hr5
      isplitr; · iexact Hr2
      iexact Hr3
    isplitl [Hcs']; · iexact Hcs'
    iexact Hcr'
  unfold ow; iexact HO

/-! ## The third step -/

theorem wp_step3 (p : Vec F S32x2048 .bf16 → Vec F S2048x1024 .f32 → FVec F S32x1024 .f32) (h : Bool) {r : ℕ} (hr : r < 3)
    (w : Memref sig .tc .vmem S2048x1024 .f32) (o : Memref sig .tc .vmem S64x1024 .f32) (c : Dev nD) (Wo : Vec F S2048x1024 .f32)
    (hv : ∀ t, val true h r c t = val true h r c c)
    (l : List (GSem nD τ sig × ℕ × ℕ)) (hl : ∀ y ∈ l, y.1.1.2 = .tc ∧ y.2.1 < 3 ∧ plev (r, true, h) < lv y.1 y.2.1)
    (K : Pg F) (Q : PUnit → sProp 𝕄) :
    iprop(recs val nm ∗ levAts L lv ∗ has c (w.slice rWo (fun _ => rfl)) fullShare Wo ∗ any c (o.slice (rX h) (fun _ => rfl)) ∗ stC val h r c ∗ ow c l)
      ⊢ iprop(((has c (w.slice rWo (fun _ => rfl)) fullShare Wo ∗ has c (o.slice (rX h) (fun _ => rfl)) fullShare (p (cat fun s => val true h r s c) Wo) ∗ stA h (r + 1) c ∗ ow c l) -∗ WP c K Q)
        -∗ WP c (step3 p h w o c K) Q) := by
  unfold step3 stC pos
  iintro ⟨#HI, #HL, Hw, Ho, ⟨Hacc, Hrs, Hback, Hown, Hhf, ⟨Ha1, Ha2, Ha3, Ha4, #Hr1, #Hr2, #Hr3⟩, Hcs, Hcr⟩, HO⟩ Hk
  iapply (wp_landed val nm true h c hr l hl) $$ [HO Hcr Ha4]
  · isplitr; · iexact HI
    isplitr; · iexact HL
    isplitl [HO]; · iexact HO
    isplitl [Hcr]; · iexact Hcr
    iexact Ha4
  iintro ⟨HO, Ha4, #Hr4, Hhfs, Hpl⟩
  have e1 : iprop(has c (slotV true h c) fullShare (val true h r c c) ∗ (allP c fun d => has c (slotV true h d) fullShare (val true h r d c)))
      ⊢ (has c (hfR h) fullShare (cat fun s => val true h r s c) : sProp 𝕄) := by
    rw [← univ_allP c (fun d => (has c (slotV true h d) fullShare (val true h r d c) : sProp 𝕄))]
    exact hf_join c h fun s => val true h r s c
  ihave Hhf := e1 $$ [Hhf Hhfs]
  · isplitl [Hhf]; · iexact Hhf
    iexact Hhfs
  iapply (wp_get c (M := hfM) (r := rA h) (cat fun s => val true h r s c)) $$ Hhf
  iintro Hhf
  iapply (wp_get c (M := w) (r := rWo) Wo) $$ Hw
  iintro Hw
  iapply (wp_peek c (M := o) (r := rX h) (hs := fun _ => rfl)) $$ Ho
  iintro Ho
  iapply (wp_put c (M := o) (r := rX h) (hs := fun _ => rfl) (p (cat fun s => val true h r s c) Wo)) $$ Ho
  iintro Ho
  ihave Hhf := (hf_split c h _) $$ Hhf
  ihave ⟨Hhf, Hhfs⟩ := (Entails.of_eq (univ_allP c (fun t => (any c (slotV true h t) : sProp 𝕄)))) $$ Hhf
  iapply (wp_freed val nm true h c hr l (fun y hy => ⟨(hl y hy).1, (hl y hy).2.1, Nat.lt_of_le_of_lt (Nat.zero_le _) (hl y hy).2.2⟩)) $$ [HO Hcs Ha3]
  · isplitr; · iexact HI
    isplitr; · iexact HL
    isplitl [HO]; · iexact HO
    isplitl [Hcs]; · iexact Hcs
    iexact Ha3
  iintro ⟨HO, Ha3, #Hr5, Hhc⟩
  have e4 : iprop(has c (srcV true h c) (shr true c) (val true h r c c) ∗ (allP c fun t => has c (srcV true h t) (shr true t) (val true h r c t))) ⊢ (any c (hcR h) : sProp 𝕄) := by
    refine BIBase.Entails.trans ?_ (hc_join c h (val true h r c c))
    rw [univ_allP c (fun t => (has c (srcV true h t) (shr true t) (val true h r c c) : sProp 𝕄))]
    exact sep_mono_right (allP_mono c fun t => Entails.of_eq (by rw [hv t]))
  ihave Hhc := e4 $$ [Hown Hhc]
  · isplitl [Hown]; · iexact Hown
    iexact Hhc
  have e5 : iprop((if r < 2 then iprop(emp) else allP c fun t => any c (slotV false h t)) ∗ (allP c fun d => give true h r d c)) ⊢ (places h (r + 1) c : sProp 𝕄) := by
    unfold places give
    by_cases h2 : r < 2
    · rw [if_pos h2, if_pos (by omega : r + 1 < 3)]; dsimp only; simp only [if_pos h2]
      iintro ⟨-, H⟩; iexact H
    · rw [if_neg h2, if_neg (by omega : ¬ r + 1 < 3)]
      iintro ⟨H, -⟩; iexact H
  ihave Hpl := e5 $$ [Hback Hpl]
  · isplitl [Hback]; · iexact Hback
    iexact Hpl
  iapply Hk
  isplitl [Hw]; · iexact Hw
  isplitl [Ho]; · iexact Ho
  isplitr [HO]
  · unfold stA pos
    isplitl [Hacc]; · iexact Hacc
    isplitl [Hrs]; · iexact Hrs
    isplitl [Hhf]; · iexact Hhf
    isplitl [Hhfs]; · iexact Hhfs
    isplitl [Hhc]; · iexact Hhc
    isplitl [Ha1 Ha2 Ha3 Ha4]
    · isplitl [Ha1]; · iexact Ha1
      isplitl [Ha2]; · iexact Ha2
      isplitl [Ha3]; · iexact Ha3
      isplitl [Ha4]; · iexact Ha4
      isplitr; · iexact Hr1
      isplitr; · iexact Hr5
      iexact Hr4
    iexact Hpl
  iexact HO

end Steps

end Cert.KernelIdeal.Hand

end
-- ==== Proof.BodyIdeal.lean ====
/-
The whole body of the kernel on one device: what each round computes, the entry handshake, and the eighteen steps.
-/
module

public import proofs.«01_k».proof.Proof.StepsIdeal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the rounds compute -/

theorem pay12_eq : (k0_pay12 : Vec F S32x1024 .f32 → Vec F S1024x2048 .f32 → FVec F S32x2048 .bf16) = k0_pay1 := by
  funext v w; unfold k0_pay12 k0_pay1; simp only [shapeCast_self]
theorem pay34_eq : (k0_pay34 : Vec F S32x2048 .bf16 → Vec F S2048x1024 .f32 → FVec F S32x1024 .f32) = k0_pay11 := by
  funext v w; unfold k0_pay34 k0_pay11; simp only [shapeCast_self]

section Vals

variable (x0 : Dev nD → Vec F S64x1024 .f32) (wi : ℕ → Dev nD → Vec F S1024x2048 .f32) (wo : ℕ → Dev nD → Vec F S2048x1024 .f32)

/-- The rows of a half. -/
def half {α : Type} (h : Bool) (X : S64x1024.Idx → α) : S32x1024.Idx → α := fun x => X ((rX h).emb x)
/-- What device `s` makes of the sixteen blocks it receives. -/
def chunk (r : ℕ) (R : Dev nD → Vec F S32x1024 .f32) (s : Dev nD) : Vec F S32x128 .bf16 :=
  k0_pay5 (stack fun u => blk s (k0_pay1 (R u) (wi r u)))
/-- The rows of half `h` on entering round `r`. -/
def rows (h : Bool) : ℕ → Dev nD → Vec F S32x1024 .f32
  | 0, c => half h (x0 c)
  | r + 1, c => k0_pay11 (cat fun s => chunk wi r (rows h r) s) (wo r c)
/-- What `c` sends `t` in round `r`. -/
def vals (kd h : Bool) (r : ℕ) (c t : Dev nD) : Vec F S32x128 .bf16 :=
  match kd with
  | false => blk t (k0_pay1 (rows x0 wi wo h r c) (wi r c))
  | true => chunk wi r (rows x0 wi wo h r) c

end Vals

/-! ## Entering -/

section Enter

variable (val : Bool → Bool → ℕ → Dev nD → Dev nD → Vec F S32x128 .bf16) (nm : Dev nD × CI → ℕ)

omit [FloatOps F] in
theorem places_start (h : Bool) (c : Dev nD) : places (F := F) h 0 c = allP c fun t => iprop(any t (slotV false h c) ∗ reached ER (rcv false h t) 0) := by
  unfold places; exact if_pos (by decide)
omit [FloatOps F] in
theorem places_end (h : Bool) (c : Dev nD) : places (F := F) h 3 c = allP c fun t => any c (slotV false h t) := by
  unfold places; exact if_neg (by decide)

omit [FloatOps F] in
theorem sig_all (c : Dev nD) :
    iprop(recs val nm ∗ (allP c fun t => dutyTok ER (bar t) 0 c) ∗ (allP c fun t => any c (slotV false false t)) ∗ (allP c fun t => any c (slotV false true t)))
      ⊢ sepL offs fun i => sigPre (F := F) c (pr c i) := by
  rw [← allP_eq c (fun t => sigPre (F := F) c t)]
  have e : ∀ t ∈ Finset.univ.erase c, iprop(recs val nm ∗ (dutyTok ER (bar t) 0 c ∗ any c (slotV false false t) ∗ any c (slotV false true t))) ⊢ (sigPre c t : sProp 𝕄) := fun t _ => by
    unfold sigPre barPay
    iintro ⟨#HI, H1, H2, H3⟩
    isplitl [H1]; · iexact H1
    isplitl [H2]
    · isplitl [H2]; · iexact H2
      iapply (recs_reached val nm c (some (true, false, false))); iexact HI
    isplitl [H3]; · iexact H3
    iapply (recs_reached val nm c (some (true, false, true))); iexact HI
  iintro ⟨#HI, H1, H2, H3⟩
  iapply (bigSep_with_persistent e)
  isplitr; · iexact HI
  rw [bigSep_sep', bigSep_sep']
  isplitl [H1]; · iexact H1
  isplitl [H2]; · iexact H2
  iexact H3

omit [FloatOps F] in
theorem bar_all (c : Dev nD) : (bigSep ((rd val).duties ((c : Thread nD τ), SemLoc.reg barS) 0 \ ∅) fun d => (rd val).payload ((c : Thread nD τ), SemLoc.reg barS) 0 d : sProp 𝕄)
      ⊢ iprop(places false 0 c ∗ places true 0 c) := by
  show (bigSep ((rd val).duties (bar c) 0 \ ∅) fun d => (rd val).payload (bar c) 0 d : sProp 𝕄) ⊢ _
  rw [duties_bar, Finset.sdiff_empty, bigSep_congr (fun d _ => payload_bar val c 0 d), places_start, places_start]
  unfold barPay
  rw [show (bigSep (Finset.univ.erase c) fun d => iprop((any d (slotV false false c) ∗ reached ER (rcv false false d) 0) ∗ any d (slotV false true c) ∗ reached ER (rcv false true d) 0) : sProp 𝕄)
    = iprop((bigSep (Finset.univ.erase c) fun d => iprop(any d (slotV false false c) ∗ reached ER (rcv false false d) 0))
      ∗ (bigSep (Finset.univ.erase c) fun d => iprop(any d (slotV false true c) ∗ reached ER (rcv false true d) 0))) from bigSep_sep' _ _ _]

theorem wp_enter (c : Dev nD) (rest : List (GSem nD τ sig × ℕ × ℕ)) (hl : ∀ y ∈ rest, y.1.1.2 = .tc ∧ y.2.1 < 3 ∧ 1 < lv y.1 y.2.1) (K : Pg F) (Q : PUnit → sProp 𝕄) :
    iprop(recs val nm ∗ levAts L lv ∗ (allP c fun t => dutyTok ER (bar t) 0 c) ∗ cred (tallyAt (bar c) 0 15) ∗ atPos ER (bar c) 0 ∅ 0
        ∗ (allP c fun t => any c (slotV false false t)) ∗ (allP c fun t => any c (slotV false true t)) ∗ ow c (dueB c ++ rest))
      ⊢ iprop(((places false 0 c ∗ places true 0 c ∗ atPos ER (bar c) 1 ∅ 0 ∗ ow c rest) -∗ WP c K Q) -∗ WP c (enter c K) Q) := by
  unfold enter ow dueB
  iintro ⟨#HI, #HL, H1, Hc, Ha, H2, H3, ⟨%W, HO⟩⟩ Hk
  iapply (wp_signals val nm c _ Q rest W offs) $$ [H1 H2 H3 HO]
  · isplitr; · iexact HI
    isplitr [HO]
    · iapply (sig_all val nm c)
      isplitr; · iexact HI
      isplitl [H1]; · iexact H1
      isplitl [H2]; · iexact H2
      iexact H3
    iexact HO
  iintro HO
  iapply (Rounds.wp_wait_rest_token 𝒱₀ ER (rd val) (c : Thread nD τ) none (κ := nm (c, none))
      (wpE_semWait_eq 𝒱₀ (c : Thread nD τ) none Set.univ) (Set.mem_univ _) 0 (O := oweL rest) (W := W) (R := 0) (m := 0) (T := ∅)
      ((show 0 + (15#32 : BitVec 32).toNat = 15 by decide).trans (expect_bar val c).symm)) $$ [Hc HO Ha]
  · isplitr; · iapply (recs_inv val nm c none); iexact HI
    isplitl [Hc]; · iexact Hc
    isplitl [HO]; · iexact HO
    isplitr; · iapply (mayWait (b := 1) c (.reg barS) 0 rest (by decide) (le_of_eq (lv_bar c 0)) hl); iexact HL
    iexact Ha
  iintro ⟨HO, Ha, -, Hp⟩
  ihave ⟨Hp1, Hp2⟩ := (bar_all val c) $$ Hp
  iapply Hk
  isplitl [Hp1]; · iexact Hp1
  isplitl [Hp2]; · iexact Hp2
  isplitl [Ha]; · iexact Ha
  iexists _; iexact HO

end Enter

/-! ## The rounds -/

section Rounds

variable (x0 : Dev nD → Vec F S64x1024 .f32) (wi : ℕ → Dev nD → Vec F S1024x2048 .f32) (wo : ℕ → Dev nD → Vec F S2048x1024 .f32)
variable (nm : Dev nD × CI → ℕ)

/-- From the second step of a round to the first of the next, over both halves. -/
theorem wp_layer {r : ℕ} (hr : r + 1 < 3) (c : Dev nD) (w : Memref sig .tc .vmem S2048x1024 .f32) (v : Memref sig .tc .vmem S1024x2048 .f32)
    (ps : List (ℕ × Bool × Bool)) (hps : ∀ p ∈ ps, p.1 < 3 ∧ plev (r + 1, false, true) < plev p) (K : Pg F) (Q : PUnit → sProp 𝕄) :
    iprop(recs (vals x0 wi wo) nm ∗ levAts L lv ∗ has c (w.slice rWo (fun _ => rfl)) fullShare (wo r c) ∗ has c (v.slice rWi (fun _ => rfl)) fullShare (wi (r + 1) c)
        ∗ (any c (xbM.slice (rX false) (fun _ => rfl)) ∗ any c (xbM.slice (rX true) (fun _ => rfl))) ∗ (stB (vals x0 wi wo) false r c ∗ stB (vals x0 wi wo) true r c)
        ∗ (toks true false r c ∗ toks true true r c ∗ toks false false (r + 1) c ∗ toks false true (r + 1) c)
        ∗ ow c (dues c ((r, true, false) :: (r, true, true) :: (r + 1, false, false) :: (r + 1, false, true) :: ps)))
      ⊢ iprop(((has c (w.slice rWo (fun _ => rfl)) fullShare (wo r c) ∗ has c (v.slice rWi (fun _ => rfl)) fullShare (wi (r + 1) c) ∗ (any c (xbM.slice (rX false) (fun _ => rfl)) ∗ any c (xbM.slice (rX true) (fun _ => rfl)))
            ∗ (stB (vals x0 wi wo) false (r + 1) c ∗ stB (vals x0 wi wo) true (r + 1) c) ∗ ow c (dues c ps)) -∗ WP c K Q)
        -∗ WP c (step2 false c <| step2 true c <| step3 k0_pay11 false w xbM c <| step1 k0_pay12 false xbM v c <|
            step3 k0_pay11 true w xbM c <| step1 k0_pay12 true xbM v c K) Q) := by
  have hr' : r < 3 := by omega
  have up {b : ℕ} (qs : List (ℕ × Bool × Bool)) (hqs : ∀ p ∈ qs, p.1 < 3 ∧ b < plev p) (hb : b ≤ plev (r + 1, false, true)) :
      ∀ p ∈ qs ++ ps, p.1 < 3 ∧ b < plev p := fun p hp => by
    rcases List.mem_append.mp hp with hp | hp
    · exact hqs p hp
    · exact ⟨(hps p hp).1, lt_of_le_of_lt hb (hps p hp).2⟩
  iintro ⟨#HI, #HL, Hw, Hv, ⟨Hx0, Hx1⟩, ⟨HB0, HB1⟩, ⟨Ht0, Ht1, Ht2, Ht3⟩, HO⟩ Hk
  iapply (wp_step2 (vals x0 wi wo) nm false hr' c (fun _ => rfl) (dues c ((r, true, true) :: (r + 1, false, false) :: (r + 1, false, true) :: ps))
    (dues_above c ((r, true, false) :: (r, true, true) :: (r + 1, false, false) :: (r + 1, false, true) :: ps)
      (up [(r, true, false), (r, true, true), (r + 1, false, false), (r + 1, false, true)] (by
        simp only [List.mem_cons, List.not_mem_nil, or_false]; rintro p (rfl | rfl | rfl | rfl) <;> (constructor <;> simp [plev] <;> omega)) (by simp [plev]; omega)))) $$ [HB0 Ht0 HO]
  · isplitr; · iexact HI
    isplitr; · iexact HL
    isplitl [HB0]; · iexact HB0
    isplitl [Ht0]; · iexact Ht0
    iexact HO
  iintro ⟨HC0, HO⟩
  iapply (wp_step2 (vals x0 wi wo) nm true hr' c (fun _ => rfl) (dues c ((r + 1, false, false) :: (r + 1, false, true) :: ps))
    (dues_above c ((r, true, true) :: (r + 1, false, false) :: (r + 1, false, true) :: ps)
      (up [(r, true, true), (r + 1, false, false), (r + 1, false, true)] (by
        simp only [List.mem_cons, List.not_mem_nil, or_false]; rintro p (rfl | rfl | rfl) <;> (constructor <;> simp [plev] <;> omega)) (by simp [plev]; omega)))) $$ [HB1 Ht1 HO]
  · isplitr; · iexact HI
    isplitr; · iexact HL
    isplitl [HB1]; · iexact HB1
    isplitl [Ht1]; · iexact Ht1
    iexact HO
  iintro ⟨HC1, HO⟩
  iapply (wp_step3 (vals x0 wi wo) nm k0_pay11 false hr' w xbM c (wo r c) (fun _ => rfl) (dues c ((r + 1, false, false) :: (r + 1, false, true) :: ps))
    (dues_above c ((r + 1, false, false) :: (r + 1, false, true) :: ps)
      (up [(r + 1, false, false), (r + 1, false, true)] (by
        simp only [List.mem_cons, List.not_mem_nil, or_false]; rintro p (rfl | rfl) <;> (constructor <;> simp [plev] <;> omega)) (by simp [plev]; omega)))) $$ [Hw Hx0 HC0 HO]
  · isplitr; · iexact HI
    isplitr; · iexact HL
    isplitl [Hw]; · iexact Hw
    isplitl [Hx0]; · iexact Hx0
    isplitl [HC0]; · iexact HC0
    iexact HO
  iintro ⟨Hw, Hx0, HA0, HO⟩
  iapply (wp_step1 (vals x0 wi wo) nm k0_pay12 false hr xbM v c (rows x0 wi wo false (r + 1) c) (wi (r + 1) c) (fun _ => by rw [pay12_eq]; rfl)
    (dues c ((r + 1, false, true) :: ps))) $$ [Hx0 Hv HA0 Ht2 HO]
  · isplitr; · iexact HI
    isplitl [Hx0]; · iexact Hx0
    isplitl [Hv]; · iexact Hv
    isplitl [HA0]; · iexact HA0
    isplitl [Ht2]; · iexact Ht2
    iexact HO
  iintro ⟨Hx0, Hv, HB0, HO⟩
  iapply (wp_step3 (vals x0 wi wo) nm k0_pay11 true hr' w xbM c (wo r c) (fun _ => rfl) (dues c ((r + 1, false, true) :: ps))
    (dues_above c ((r + 1, false, true) :: ps)
      (up [(r + 1, false, true)] (by
        simp only [List.mem_cons, List.not_mem_nil, or_false]; rintro p rfl; (constructor <;> simp [plev] <;> omega)) (by simp [plev]; omega)))) $$ [Hw Hx1 HC1 HO]
  · isplitr; · iexact HI
    isplitr; · iexact HL
    isplitl [Hw]; · iexact Hw
    isplitl [Hx1]; · iexact Hx1
    isplitl [HC1]; · iexact HC1
    iexact HO
  iintro ⟨Hw, Hx1, HA1, HO⟩
  iapply (wp_step1 (vals x0 wi wo) nm k0_pay12 true hr xbM v c (rows x0 wi wo true (r + 1) c) (wi (r + 1) c) (fun _ => by rw [pay12_eq]; rfl)
    (dues c ps)) $$ [Hx1 Hv HA1 Ht3 HO]
  · isplitr; · iexact HI
    isplitl [Hx1]; · iexact Hx1
    isplitl [Hv]; · iexact Hv
    isplitl [HA1]; · iexact HA1
    isplitl [Ht3]; · iexact Ht3
    iexact HO
  iintro ⟨Hx1, Hv, HB1, HO⟩
  iapply Hk
  isplitl [Hw]; · iexact Hw
  isplitl [Hv]; · iexact Hv
  isplitl [Hx0 Hx1]
  · isplitl [Hx0]
    · iapply (has_any c (xbM.slice (rX false) (fun _ => rfl)) (rows x0 wi wo false (r + 1) c)); iexact Hx0
    iapply (has_any c (xbM.slice (rX true) (fun _ => rfl)) (rows x0 wi wo true (r + 1) c)); iexact Hx1
  isplitl [HB0 HB1]
  · isplitl [HB0]; · iexact HB0
    iexact HB1
  iexact HO

/-- A half's own buffers and cells before the handshake. -/
def stI (h : Bool) (c : Dev nD) : sProp 𝕄 :=
  iprop(any c (accR h) ∗ any c (slotV false h c) ∗ any c (slotV true h c) ∗ (allP c fun t => any c (slotV true h t)) ∗ any c (hcR h) ∗ pos h 0 0 c
    ∗ allP c fun t => any c (slotV false h t))

/-- The six weights of a device. -/
def wts (c : Dev nD) : sProp 𝕄 :=
  iprop((has c (wi0.slice rWi (fun _ => rfl)) fullShare (wi 0 c) ∗ has c (wo0.slice rWo (fun _ => rfl)) fullShare (wo 0 c)) ∗ (has c (wi1.slice rWi (fun _ => rfl)) fullShare (wi 1 c) ∗ has c (wo1.slice rWo (fun _ => rfl)) fullShare (wo 1 c))
    ∗ has c (wi2.slice rWi (fun _ => rfl)) fullShare (wi 2 c) ∗ has c (wo2.slice rWo (fun _ => rfl)) fullShare (wo 2 c))

/-- What the handshake needs. -/
def barI (c : Dev nD) : sProp 𝕄 :=
  iprop((allP c fun t => dutyTok ER (bar t) 0 c) ∗ cred (tallyAt (bar c) 0 15) ∗ atPos ER (bar c) 0 ∅ 0)

set_option maxHeartbeats 1600000 in
/-- The whole body. -/
theorem wp_prog (c : Dev nD) (Q : PUnit → sProp 𝕄) :
    iprop(recs (vals x0 wi wo) nm ∗ levAts L lv ∗ barI c ∗ (stI false c ∗ stI true c) ∗ (sepL phases fun p => toks p.2.1 p.2.2 p.1 c)
        ∗ (has c (xM.slice (rX false) (fun _ => rfl)) fullShare (half false (x0 c)) ∗ has c (xM.slice (rX true) (fun _ => rfl)) fullShare (half true (x0 c))) ∗ wts wi wo c
        ∗ (any c (xbM.slice (rX false) (fun _ => rfl)) ∗ any c (xbM.slice (rX true) (fun _ => rfl))) ∗ (any c (oM.slice (rX false) (fun _ => rfl)) ∗ any c (oM.slice (rX true) (fun _ => rfl))) ∗ ow c (dueB c ++ dues c phases))
      ⊢ iprop(((atPos ER (bar c) 1 ∅ 0 ∗ (stA false 3 c ∗ stA true 3 c)
            ∗ (has c (xM.slice (rX false) (fun _ => rfl)) fullShare (half false (x0 c)) ∗ has c (xM.slice (rX true) (fun _ => rfl)) fullShare (half true (x0 c))) ∗ wts wi wo c
            ∗ (any c (xbM.slice (rX false) (fun _ => rfl)) ∗ any c (xbM.slice (rX true) (fun _ => rfl)))
            ∗ (has c (oM.slice (rX false) (fun _ => rfl)) fullShare (rows x0 wi wo false 3 c) ∗ has c (oM.slice (rX true) (fun _ => rfl)) fullShare (rows x0 wi wo true 3 c)) ∗ ow c []) -∗ Q ⟨⟩)
        -∗ WP c prog Q) := by
  unfold prog barI stI wts phases WP
  rw [wp_deviceId]
  simp only [sepL]
  iintro ⟨#HI, #HL, ⟨Hb1, Hb2, Hb3⟩, ⟨⟨Ha1, Ha2, Ha3, Ha4, Ha5, Ha6, Ha7⟩, ⟨Hc1, Hc2, Hc3, Hc4, Hc5, Hc6, Hc7⟩⟩,
    ⟨Ht00, Ht01, Ht02, Ht03, Ht10, Ht11, Ht12, Ht13, Ht20, Ht21, Ht22, Ht23, -⟩, ⟨Hx0, Hx1⟩, ⟨⟨Hi0, Ho0⟩, ⟨Hi1, Ho1⟩, Hi2, Ho2⟩, Hxb, ⟨Hz0, Hz1⟩, HO⟩ Hk
  iapply (wp_enter (vals x0 wi wo) nm c (dues c phases) (dues_above c phases (by decide))) $$ [Hb1 Hb2 Hb3 Ha7 Hc7 HO]
  · isplitr; · iexact HI
    isplitr; · iexact HL
    isplitl [Hb1]; · iexact Hb1
    isplitl [Hb2]; · iexact Hb2
    isplitl [Hb3]; · iexact Hb3
    isplitl [Ha7]; · iexact Ha7
    isplitl [Hc7]; · iexact Hc7
    iexact HO
  iintro ⟨Ha7, Hc7, Hb, HO⟩
  iapply (wp_step1 (vals x0 wi wo) nm k0_pay1 false (r := 0) (by decide) xM wi0 c (half false (x0 c)) (wi 0 c) (fun _ => rfl)
    (dues c phases.tail)) $$ [Hx0 Hi0 Ha1 Ha2 Ha3 Ha4 Ha5 Ha6 Ha7 Ht00 HO]
  · unfold stA
    isplitr; · iexact HI
    isplitl [Hx0]; · iexact Hx0
    isplitl [Hi0]; · iexact Hi0
    isplitr [Ht00 HO]
    · isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      iexact Ha7
    isplitl [Ht00]; · iexact Ht00
    iexact HO
  iintro ⟨Hx0, Hi0, HB0, HO⟩
  iapply (wp_step1 (vals x0 wi wo) nm k0_pay1 true (r := 0) (by decide) xM wi0 c (half true (x0 c)) (wi 0 c) (fun _ => rfl)
    (dues c phases.tail.tail)) $$ [Hx1 Hi0 Hc1 Hc2 Hc3 Hc4 Hc5 Hc6 Hc7 Ht01 HO]
  · unfold stA
    isplitr; · iexact HI
    isplitl [Hx1]; · iexact Hx1
    isplitl [Hi0]; · iexact Hi0
    isplitr [Ht01 HO]
    · isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      iexact Hc7
    isplitl [Ht01]; · iexact Ht01
    iexact HO
  iintro ⟨Hx1, Hi0, HB1, HO⟩
  iapply (wp_layer x0 wi wo nm (r := 0) (by decide) c wo0 wi1 (phases.drop 6) (by decide)) $$ [Ho0 Hi1 Hxb HB0 HB1 Ht02 Ht03 Ht10 Ht11 HO]
  · isplitr; · iexact HI
    isplitr; · iexact HL
    isplitl [Ho0]; · iexact Ho0
    isplitl [Hi1]; · iexact Hi1
    isplitl [Hxb]; · iexact Hxb
    isplitl [HB0 HB1]
    · isplitl [HB0]; · iexact HB0
      iexact HB1
    isplitr [HO]
    · isplitl [Ht02]; · iexact Ht02
      isplitl [Ht03]; · iexact Ht03
      isplitl [Ht10]; · iexact Ht10
      iexact Ht11
    iexact HO
  iintro ⟨Ho0, Hi1, Hxb, ⟨HB0, HB1⟩, HO⟩
  iapply (wp_layer x0 wi wo nm (r := 1) (by decide) c wo1 wi2 (phases.drop 10) (by decide)) $$ [Ho1 Hi2 Hxb HB0 HB1 Ht12 Ht13 Ht20 Ht21 HO]
  · isplitr; · iexact HI
    isplitr; · iexact HL
    isplitl [Ho1]; · iexact Ho1
    isplitl [Hi2]; · iexact Hi2
    isplitl [Hxb]; · iexact Hxb
    isplitl [HB0 HB1]
    · isplitl [HB0]; · iexact HB0
      iexact HB1
    isplitr [HO]
    · isplitl [Ht12]; · iexact Ht12
      isplitl [Ht13]; · iexact Ht13
      isplitl [Ht20]; · iexact Ht20
      iexact Ht21
    iexact HO
  iintro ⟨Ho1, Hi2, Hxb, ⟨HB0, HB1⟩, HO⟩
  iapply (wp_step2 (vals x0 wi wo) nm false (r := 2) (by decide) c (fun _ => rfl) (dues c [(2, true, true)]) (dues_above c [(2, true, false), (2, true, true)] (by decide))) $$ [HB0 Ht22 HO]
  · isplitr; · iexact HI
    isplitr; · iexact HL
    isplitl [HB0]; · iexact HB0
    isplitl [Ht22]; · iexact Ht22
    iexact HO
  iintro ⟨HC0, HO⟩
  iapply (wp_step2 (vals x0 wi wo) nm true (r := 2) (by decide) c (fun _ => rfl) (dues c []) (dues_above c [(2, true, true)] (by decide))) $$ [HB1 Ht23 HO]
  · isplitr; · iexact HI
    isplitr; · iexact HL
    isplitl [HB1]; · iexact HB1
    isplitl [Ht23]; · iexact Ht23
    iexact HO
  iintro ⟨HC1, HO⟩
  iapply (wp_step3 (vals x0 wi wo) nm k0_pay34 false (r := 2) (by decide) wo2 oM c (wo 2 c) (fun _ => rfl) (dues c []) (dues_above c [] (by decide))) $$ [Ho2 Hz0 HC0 HO]
  · isplitr; · iexact HI
    isplitr; · iexact HL
    isplitl [Ho2]; · iexact Ho2
    isplitl [Hz0]; · iexact Hz0
    isplitl [HC0]; · iexact HC0
    iexact HO
  iintro ⟨Ho2, Hz0, HA0, HO⟩
  iapply (wp_step3 (vals x0 wi wo) nm k0_pay34 true (r := 2) (by decide) wo2 oM c (wo 2 c) (fun _ => rfl) (dues c []) (dues_above c [] (by decide))) $$ [Ho2 Hz1 HC1 HO]
  · isplitr; · iexact HI
    isplitr; · iexact HL
    isplitl [Ho2]; · iexact Ho2
    isplitl [Hz1]; · iexact Hz1
    isplitl [HC1]; · iexact HC1
    iexact HO
  iintro ⟨Ho2, Hz1, HA1, HO⟩
  have e (h : Bool) : (has c (oM.slice (rX h) (fun _ => rfl)) fullShare (k0_pay34 (cat fun s => (vals x0 wi wo) true h 2 s c) (wo 2 c)) : sProp 𝕄) = has c (oM.slice (rX h) (fun _ => rfl)) fullShare (rows x0 wi wo h 3 c) := by
    rw [pay34_eq]; rfl
  ihave Hz0 := (Entails.of_eq (e false)) $$ Hz0
  ihave Hz1 := (Entails.of_eq (e true)) $$ Hz1
  iapply (Entails.of_eq (wp_ret frame (wpE (defs₀ (F := F)) 𝒱₀ (c : Thread nD τ) none) Set.univ PUnit.unit Q).symm)
  imodintro
  iapply Hk
  isplitl [Hb]; · iexact Hb
  isplitl [HA0 HA1]
  · isplitl [HA0]; · iexact HA0
    iexact HA1
  isplitl [Hx0 Hx1]
  · isplitl [Hx0]; · iexact Hx0
    iexact Hx1
  isplitl [Hi0 Ho0 Hi1 Ho1 Hi2 Ho2]
  · isplitl [Hi0 Ho0]
    · isplitl [Hi0]; · iexact Hi0
      iexact Ho0
    isplitl [Hi1 Ho1]
    · isplitl [Hi1]; · iexact Hi1
      iexact Ho1
    isplitl [Hi2]; · iexact Hi2
    iexact Ho2
  isplitl [Hxb]; · iexact Hxb
  isplitl [Hz0 Hz1]
  · isplitl [Hz0]; · iexact Hz0
    iexact Hz1
  iexact HO

end Rounds

end Cert.KernelIdeal.Hand

end
-- ==== Proof.CreditsIdeal.lean ====
/-
What the launch hands each device: the credit for what its peers owe its cells, and the tokens of the transfers it makes.
-/
module

public import proofs.«01_k».proof.Proof.StepsIdeal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a cell is owed -/

theorem cell_injective : Function.Injective fun x : Dev nD × CI => cell x.1 x.2 := by
  rintro ⟨c, x⟩ ⟨c', x'⟩ h
  have h1 : c = c' := congrArg (fun g : GSem nD τ sig => g.1.1) h
  have h2 : x = x' := csem_injective (congrArg Prod.snd h)
  rw [h1, h2]

theorem cell_eq {c d : Dev nD} {x y : CI} : cell c x = cell d y ↔ d = c ∧ x = y :=
  ⟨fun h => by have := @cell_injective (c, x) (d, y) h; injection this with h1 h2; exact ⟨h1.symm, h2⟩, fun h => by rw [h.1, h.2]⟩

theorem oweL_append (l l' : List (GSem nD τ sig × ℕ × ℕ)) : oweL (l ++ l') = oweL l + oweL l' := by
  induction l with
  | nil => rw [List.nil_append, oweL, zero_add]
  | cons x l ih => rw [List.cons_append, oweL, oweL, ih, add_right_comm]

theorem count_peers (c : Dev nD) : ∑ d : Dev nD, (offs.map fun i => if pr d i = c then 1 else 0).sum = 15 := by
  revert c; decide +kernel

theorem owed_step (c d : Dev nD) (x y : CI) (u r n : ℕ) (l : List (Fin 15)) :
    oweL (l.map fun i => (cell (pr d i) y, r, n)) (cell c x) u = (l.map fun i => if pr d i = c then 1 else 0).sum * (if x = y ∧ u = r then n else 0) := by
  induction l with
  | nil => rw [List.map_nil, List.map_nil, List.sum_nil, Nat.zero_mul]; rfl
  | cons i l ih =>
    rw [List.map_cons, oweL, Pi.add_apply, Finsupp.add_apply, ih, tallyAt_apply, List.map_cons, List.sum_cons, Nat.add_mul, Nat.add_comm]
    congr 1
    by_cases hp : pr d i = c
    · by_cases hx : x = y ∧ u = r
      · rw [if_pos ⟨cell_eq.mpr ⟨hp, hx.1⟩, hx.2⟩, if_pos hp, if_pos hx, Nat.one_mul]
      · rw [if_neg fun h => hx ⟨(cell_eq.mp h.1).2, h.2⟩, if_neg hx, Nat.mul_zero]
    · rw [if_neg fun h => hp (cell_eq.mp h.1).1, if_neg hp, Nat.zero_mul]

theorem owed_one (c : Dev nD) (x y : CI) (u r n : ℕ) :
    ∑ d : Dev nD, oweL (offs.map fun i => (cell (pr d i) y, r, n)) (cell c x) u = 15 * (if x = y ∧ u = r then n else 0) := by
  rw [Finset.sum_congr rfl fun d _ => owed_step c d x y u r n offs, ← Finset.sum_mul, count_peers]

theorem owed_dues (c : Dev nD) (x : CI) (u : ℕ) (ps : List (ℕ × Bool × Bool)) :
    ∑ d : Dev nD, oweL (dues d ps) (cell c x) u = (ps.map fun p => 15 * (if x = some (true, p.2.1, p.2.2) ∧ u = p.1 then N else 0)).sum := by
  induction ps with
  | nil => exact Finset.sum_eq_zero fun d _ => rfl
  | cons p ps ih =>
    rw [List.map_cons, List.sum_cons, ← ih, ← owed_one c x (some (true, p.2.1, p.2.2)) u p.1 N, ← Finset.sum_add_distrib]
    exact Finset.sum_congr rfl fun d _ => by rw [dues, oweL_append]; rfl

theorem owed_all (c : Dev nD) (x : CI) (u : ℕ) :
    ∑ d : Dev nD, O₀ d (cell c x) u = 15 * (if x = none ∧ u = 0 then 1 else 0) + (phases.map fun p => 15 * (if x = some (true, p.2.1, p.2.2) ∧ u = p.1 then N else 0)).sum := by
  rw [← owed_dues, ← owed_one c x none u 0 1, ← Finset.sum_add_distrib]
  exact Finset.sum_congr rfl fun d _ => by unfold O₀; rw [oweL_append]; rfl

theorem launch_bar (c : Dev nD) :
    tallyOn (bar c) (launchCredit (Pipeline.owing O₀) 0 (bar c)) = (tallyAt (bar c) 0 15 : CellTallies nD τ sig ℕ) := by
  refine congrArg (tallyOn (bar c)) (Finsupp.ext fun u => ?_)
  rw [Pipeline.launchCredit_owing, owed_all, Finsupp.single_apply]
  by_cases hu : u = 0
  · subst hu; rfl
  · rw [if_neg fun h => hu h.2, if_neg fun h => hu h.symm]; simp [phases]

theorem launch_rcv (kd h : Bool) (c : Dev nD) :
    tallyOn (rcv kd h c) (launchCredit (Pipeline.owing O₀) 0 (rcv kd h c))
      = (tallyAt (rcv kd h c) 0 (15 * N) + (tallyAt (rcv kd h c) 1 (15 * N) + tallyAt (rcv kd h c) 2 (15 * N)) : CellTallies nD τ sig ℕ) := by
  have e : launchCredit (Pipeline.owing O₀) 0 (rcv kd h c) = Finsupp.single 0 (15 * N) + (Finsupp.single 1 (15 * N) + Finsupp.single 2 (15 * N)) := by
    refine Finsupp.ext fun u => ?_
    rw [Pipeline.launchCredit_owing, owed_all, Finsupp.add_apply, Finsupp.add_apply, Finsupp.single_apply, Finsupp.single_apply, Finsupp.single_apply]
    generalize N = n
    rcases u with _ | _ | _ | u <;> cases kd <;> cases h <;> simp [phases]
  rw [e, tallyOn_add, tallyOn_add]; rfl

omit [FloatOps F] in
theorem rcv_creds (kd h : Bool) (c : Dev nD) :
    (cred (tallyOn (rcv kd h c) (launchCredit (Pipeline.owing O₀) 0 (rcv kd h c))) : sProp 𝕄)
      ⊢ iprop(cred (tallyAt (rcv kd h c) 0 (15 * N)) ∗ cred (tallyAt (rcv kd h c) 1 (15 * N)) ∗ cred (tallyAt (rcv kd h c) 2 (15 * N))) := by
  rw [launch_rcv]
  exact BIBase.Entails.trans (cred_add _ _).1 (sep_mono_right (cred_add _ _).1)

omit [FloatOps F] in
theorem bigSep_CI (Φ : CI → sProp 𝕄) :
    bigSep Finset.univ Φ = iprop(Φ none ∗ Φ (some (false, false, false)) ∗ Φ (some (false, false, true)) ∗ Φ (some (false, true, false)) ∗ Φ (some (false, true, true))
      ∗ Φ (some (true, false, false)) ∗ Φ (some (true, false, true)) ∗ Φ (some (true, true, false)) ∗ Φ (some (true, true, true))) :=
  bigSep_univ_eq_bigSepL [none, some (false, false, false), some (false, false, true), some (false, true, false), some (false, true, true),
    some (true, false, false), some (true, false, true), some (true, true, false), some (true, true, true)] (by decide) (by decide) Φ

omit [FloatOps F] in
/-- The credit a device starts with. -/
theorem creds (c : Dev nD) :
    (Pipeline.launchCred O₀ c : sProp 𝕄) ⊢ iprop(cred (tallyAt (bar c) 0 15) ∗ sepL phases fun p => cred (tallyAt (rcv p.2.1 p.2.2 c) p.1 (15 * N))) := by
  have e : (Pipeline.launchCred O₀ c : sProp 𝕄) ⊢ bigSep Finset.univ fun x : CI => cred (tallyOn (cell c x) (launchCredit (Pipeline.owing O₀) 0 (cell c x))) := by
    unfold Pipeline.launchCred
    refine BIBase.Entails.trans (bigSep_subset (Finset.subset_univ (Finset.univ.map ⟨csem, csem_injective⟩))) ?_
    rw [bigSep_map]; exact Entails.of_eq rfl
  refine BIBase.Entails.trans e ?_
  rw [bigSep_CI, launch_bar]
  unfold phases; simp only [sepL]
  iintro ⟨H, -, -, -, -, H1, H2, H3, H4⟩
  ihave ⟨H10, H11, H12⟩ := (rcv_creds false false c) $$ H1
  ihave ⟨H20, H21, H22⟩ := (rcv_creds false true c) $$ H2
  ihave ⟨H30, H31, H32⟩ := (rcv_creds true false c) $$ H3
  ihave ⟨H40, H41, H42⟩ := (rcv_creds true true c) $$ H4
  isplitl [H]; · iexact H
  isplitl [H10]; · iexact H10
  isplitl [H20]; · iexact H20
  isplitl [H30]; · iexact H30
  isplitl [H40]; · iexact H40
  isplitl [H11]; · iexact H11
  isplitl [H21]; · iexact H21
  isplitl [H31]; · iexact H31
  isplitl [H41]; · iexact H41
  isplitl [H12]; · iexact H12
  isplitl [H22]; · iexact H22
  isplitl [H32]; · iexact H32
  isplitl [H42]; · iexact H42
  iempintro

/-! ## Tokens -/

abbrev Step : Type := Fin 3 × Bool × Bool
/-- A token: the device whose cell it is of, the device it names, and which. -/
abbrev TI : Type := Dev nD × Dev nD × (Unit ⊕ Step × Bool)

def tokOf : TI → GSem nD τ sig × ℕ × Dev nD
  | (c, d, .inl _) => (bar c, 0, d)
  | (c, d, .inr ((r, kd, h), b)) => (cell c (some (b, kd, h)), r.val, d)

theorem tokOf_injective : Function.Injective tokOf := by
  rintro ⟨c, d, o⟩ ⟨c', d', o'⟩ h
  have hd : d = d' := by
    have := congrArg (fun x : GSem nD τ sig × ℕ × Dev nD => x.2.2) h
    rcases o with _ | ⟨⟨r, kd, h⟩, b⟩ <;> rcases o' with _ | ⟨⟨r', kd', h'⟩, b'⟩ <;> exact this
  subst hd
  have hc := congrArg (fun x : GSem nD τ sig × ℕ × Dev nD => x.1) h
  have hr := congrArg (fun x : GSem nD τ sig × ℕ × Dev nD => x.2.1) h
  rcases o with _ | ⟨⟨r, kd, h⟩, b⟩ <;> rcases o' with _ | ⟨⟨r', kd', h'⟩, b'⟩
  · obtain ⟨rfl, -⟩ := cell_eq.mp hc; rfl
  · exact absurd (cell_eq.mp hc).2 (by intro h; cases h)
  · exact absurd (cell_eq.mp hc).2 (by intro h; cases h)
  · obtain ⟨rfl, hx⟩ := cell_eq.mp hc
    cases hx
    have : r = r' := Fin.ext hr
    rw [this]

/-- Each token goes to the device that makes the transfer. -/
def turn : TI → TI
  | (c, d, .inl u) => (d, c, .inl u)
  | (c, d, .inr (p, true)) => (d, c, .inr (p, true))
  | (c, d, .inr (p, false)) => (c, d, .inr (p, false))
theorem turn_turn (x : TI) : turn (turn x) = x := by
  obtain ⟨c, d, _ | ⟨p, _ | _⟩⟩ := x <;> rfl
def turnE : TI ≃ TI := ⟨turn, turn, turn_turn, turn_turn⟩

def cellSet : Finset (GSem nD τ sig) := Finset.univ.map ⟨_, cell_injective⟩
def tokSet : Finset (GSem nD τ sig × ℕ × Dev nD) := Finset.univ.map ⟨tokOf, tokOf_injective⟩

def tokP (x : GSem nD τ sig × ℕ × Dev nD) : sProp 𝕄 := dutyTok ER x.1 x.2.1 x.2.2

/-- The tokens a device starts with. -/
def dealt (c : Dev nD) : sProp 𝕄 :=
  iprop((allP c fun t => dutyTok ER (bar t) 0 c)
    ∗ sepL phases fun p => allP c fun t => iprop(dutyTok ER (snd p.2.1 p.2.2 c) p.1 t ∗ dutyTok ER (rcv p.2.1 p.2.2 t) p.1 c))

def steps : List Step :=
  [(0, false, false), (0, false, true), (0, true, false), (0, true, true), (1, false, false), (1, false, true), (1, true, false), (1, true, true),
    (2, false, false), (2, false, true), (2, true, false), (2, true, true)]
theorem steps_all : (Finset.univ : Finset Step) = steps.toFinset := by decide
theorem steps_nodup : steps.Nodup := by decide
theorem phases_eq : phases = steps.map fun p => (p.1.val, p.2) := rfl

omit [FloatOps F] in
theorem all_peers (c : Dev nD) (Φ : Dev nD → sProp 𝕄) : bigSep Finset.univ Φ ⊢ allP c Φ := by
  rw [univ_allP c]; iintro ⟨-, H⟩; iexact H

omit [FloatOps F] in
theorem deal_one (c : Dev nD) :
    (bigSep Finset.univ fun y : Dev nD × (Unit ⊕ Step × Bool) => tokP (tokOf (turn (c, y))) : sProp 𝕄) ⊢ dealt c := by
  rw [bigSep_univ_prod, bigSep_univ_comm, bigSep_univ_sum, bigSep_univ_of_subsingleton (), bigSep_univ_prod]
  unfold dealt
  rw [phases_eq, sepL_map, ← sepL_eq steps steps_nodup, ← steps_all]
  refine BI.sep_mono (all_peers c fun t => tokP (bar t, 0, c)) (bigSep_mono fun p _ => ?_)
  rw [bigSep_bool]
  exact BIBase.Entails.trans (BI.sep_mono (all_peers c fun t => tokP (snd p.2.1 p.2.2 c, p.1.val, t)) (all_peers c fun t => tokP (rcv p.2.1 p.2.2 t, p.1.val, c))) (allP_sep c _ _)

omit [FloatOps F] in
theorem deal : (bigSep tokSet fun x => tokP x : sProp 𝕄) ⊢ bigSep Finset.univ fun c : Dev nD => dealt c := by
  unfold tokSet
  rw [bigSep_map, bigSep_univ_equiv turnE, bigSep_univ_prod]
  exact bigSep_mono fun c _ => deal_one c

/-! ## Setting up -/

section Setup

variable (val : Bool → Bool → ℕ → Dev nD → Dev nD → Vec F S32x128 .bf16)

/-- Device `c`'s own positions and tokens. -/
def mine (c : Dev nD) : sProp 𝕄 := iprop((bigSep Finset.univ fun x : CI => atPos ER (cell c x) 0 ∅ 0) ∗ dealt c)
/-- What device `c` has to run with. -/
def ready (c : Dev nD) : sProp 𝕄 := iprop(∃ nm, recs val nm ∗ mine c)
/-- What the launch gives device `c` of its own cells. -/
def given (c : Dev nD) : sProp 𝕄 :=
  iprop((bigSep Finset.univ fun x : CI => roundState ER (rd val) (cell c x) 0)
    ∗ (bigSep Finset.univ fun x : CI => iprop(atPos ER (cell c x) 0 ∅ 0 ∗ reached ER (cell c x) 0)) ∗ dealt c)

omit [FloatOps F] in
theorem fund_all : BI.own (ER (initOf cellSet tokSet)) ⊢ (|==> bigSep Finset.univ (given val) : sProp 𝕄) := by
  have hX (Φ : GSem nD τ sig → sProp 𝕄) : bigSep cellSet Φ = bigSep Finset.univ fun c : Dev nD => bigSep Finset.univ fun x : CI => Φ (cell c x) := by
    unfold cellSet; rw [bigSep_map, bigSep_univ_prod]; rfl
  unfold given; simp only [bigSep_sep']
  iintro HX
  imod (Rounds.fund ER (rd val) cellSet tokSet) $$ HX with ⟨Hst, Hr, Hat, Htok⟩
  imodintro
  ihave Hst := (Entails.of_eq (hX fun g => roundState ER (rd val) g 0)) $$ Hst
  ihave Hat := (Entails.of_eq (hX fun g => atPos ER g 0 ∅ 0)) $$ Hat
  ihave Hr := (Entails.of_eq (hX fun g => reached ER g 0)) $$ Hr
  ihave Htok := (BIBase.Entails.trans (Entails.of_eq rfl : (bigSep tokSet fun x => (dutyTok ER x.1 x.2.1 x.2.2 : sProp 𝕄)) ⊢ bigSep tokSet fun x => tokP x) deal) $$ Htok
  isplitl [Hst]; · iexact Hst
  isplitr [Htok]
  · isplitl [Hat]; · iexact Hat
    iexact Hr
  iexact Htok

/-- The kernel's own semaphores. -/
abbrev osem : Fin 8 → SemLoc sig := fun
  | 0 => csem (some (false, false, false)) | 1 => csem (some (false, false, true)) | 2 => csem (some (false, true, false)) | 3 => csem (some (false, true, true))
  | 4 => csem (some (true, false, false)) | 5 => csem (some (true, false, true)) | 6 => csem (some (true, true, false)) | 7 => csem (some (true, true, true))

omit [FloatOps F] in
theorem own_sems (c : Dev nD) : (Pipeline.ownSems0 (Ix := ℕ) (Name := ℕ) (U := UU) (Lvl := ℕ) (Val := Elt F) (τ := τ) osem c : sProp 𝕄)
    = iprop(semVal (snd false false c) 0 ∗ semVal (snd false true c) 0 ∗ semVal (snd true false c) 0 ∗ semVal (snd true true c) 0
      ∗ semVal (rcv false false c) 0 ∗ semVal (rcv false true c) 0 ∗ semVal (rcv true false c) 0 ∗ semVal (rcv true true c) 0) := by
  rw [Pipeline.ownSems0_eq_of_list c osem [0, 1, 2, 3, 4, 5, 6, 7] (by decide) (by decide)]; rfl
omit [FloatOps F] in
theorem bar_sem (c : Dev nD) : (unscopedSems0 c : sProp 𝕄) = semVal (bar c) 0 := by
  unfold unscopedSems0; rw [bigSep_eq_bigSepL_of_eq [SemLoc.reg barS] (by decide) (by decide)]; rfl

omit [FloatOps F] in
/-- The counters of a device's cells, all at zero. -/
theorem all_sems (c : Dev nD) :
    (bigSep Finset.univ fun x : CI => semVal (cell c x) 0 : sProp 𝕄)
      = iprop(unscopedSems0 c ∗ Pipeline.ownSems0 (Ix := ℕ) (Name := ℕ) (U := UU) (Lvl := ℕ) (Val := Elt F) (τ := τ) osem c) := by
  rw [bigSep_CI, own_sems, bar_sem]

omit [FloatOps F] in
theorem open_cells (c : Dev nD) :
    iprop(Pipeline.ownSems0 (Ix := ℕ) (Name := ℕ) (U := UU) (Lvl := ℕ) (Val := Elt F) (τ := τ) osem c ∗ unscopedSems0 c ∗ given val c)
      ⊢ |={Set.univ}=> iprop((bigSep Finset.univ fun x : CI => iprop(∃ κ : ℕ, cellInv ER (rd val) κ (cell c x)))
          ∗ (bigSep Finset.univ fun x : CI => iprop(atPos ER (cell c x) 0 ∅ 0 ∗ reached ER (cell c x) 0)) ∗ dealt c) := by
  have e : iprop((bigSep Finset.univ fun x : CI => semVal (cell c x) 0) ∗ bigSep Finset.univ fun x : CI => roundState ER (rd val) (cell c x) 0)
      ⊢ (|={Set.univ}=> bigSep Finset.univ fun x : CI => iprop(∃ κ : ℕ, cellInv ER (rd val) κ (cell c x)) : sProp 𝕄) := by
    rw [← bigSep_sep']
    exact (bigSep_mono fun x _ => (Rounds.body_intro ER (rd val) (cell c x)).trans inv_alloc).trans (bigSep_fupd _ _)
  unfold given
  iintro ⟨Hos, Hus, Hst, Hat, Htok⟩
  ihave Hv := (Entails.of_eq (all_sems (F := F) c).symm) $$ [Hos Hus]
  · isplitl [Hus]; · iexact Hus
    iexact Hos
  imod e $$ [Hv Hst] with Hinv
  · isplitl [Hv]; · iexact Hv
    iexact Hst
  imodintro
  isplitl [Hinv]; · iexact Hinv
  isplitl [Hat]; · iexact Hat
  iexact Htok

omit [FloatOps F] in
theorem spread :
    (bigSep Finset.univ fun c : Dev nD => iprop((bigSep Finset.univ fun x : CI => iprop(∃ κ : ℕ, cellInv ER (rd val) κ (cell c x)))
          ∗ (bigSep Finset.univ fun x : CI => iprop(atPos ER (cell c x) 0 ∅ 0 ∗ reached ER (cell c x) 0)) ∗ dealt c) : sProp 𝕄)
      ⊢ bigSep Finset.univ (ready val) := by
  rw [bigSep_sep', bigSep_sep', ← bigSep_univ_prod (fun x : Dev nD × CI => iprop(∃ κ : ℕ, cellInv ER (rd val) κ (cell x.1 x.2))),
    bigSep_congr (s := Finset.univ) (fun (c : Dev nD) _ => bigSep_sep' Finset.univ (fun x : CI => (atPos ER (cell c x) 0 ∅ 0 : sProp 𝕄)) (fun x => reached ER (cell c x) 0)),
    bigSep_sep', ← bigSep_univ_prod (fun x : Dev nD × CI => (reached ER (cell x.1 x.2) 0 : sProp 𝕄))]
  iintro ⟨HI, ⟨Hat, #HR⟩, Htok⟩
  ihave HK := (BI.bigSep_exists_pi Finset.univ (fun (x : Dev nD × CI) (κ : ℕ) => (cellInv ER (rd val) κ (cell x.1 x.2) : sProp 𝕄))) $$ HI
  icases HK with ⟨%nm, #HI⟩
  have e : ∀ c ∈ (Finset.univ : Finset (Dev nD)), iprop(recs val nm ∗ mine c) ⊢ (ready val c : sProp 𝕄) := fun c _ => by
    unfold ready
    iintro H; iexists nm; iexact H
  iapply (bigSep_with_persistent (R := recs val nm) e)
  isplitr
  · unfold recs
    isplitr; · iexact HI
    iexact HR
  · unfold mine
    iapply (Entails.of_eq (bigSep_sep' Finset.univ (fun c : Dev nD => bigSep Finset.univ fun x : CI => (atPos ER (cell c x) 0 ∅ 0 : sProp 𝕄)) dealt).symm)
    isplitl [Hat]; · iexact Hat
    iexact Htok

omit [FloatOps F] in
theorem ready_all : (bigSep Finset.univ fun c => iprop(Pipeline.ownSems0 (Ix := ℕ) (Name := ℕ) (U := UU) (Lvl := ℕ) (Val := Elt F) (τ := τ) osem c ∗ unscopedSems0 c ∗ given val c) : sProp 𝕄)
    ⊢ |={Set.univ}=> bigSep Finset.univ (ready val) :=
  ((bigSep_mono fun c _ => open_cells val c).trans (bigSep_fupd _ _)).trans (BI.fupd_mono (spread val))

end Setup

end Cert.KernelIdeal.Hand

end
-- ==== Proof.LaunchIdeal.lean ====
/-
The launch: the buffers cut up and put together again, the body between the two, and the run of the whole program.
-/
module

public import proofs.«01_k».proof.Proof.BodyIdeal
public import proofs.«01_k».proof.Proof.CreditsIdeal
public import proofs.«01_k».proof.Proof.Gen.KernelIdeal.Points

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Buffers -/

omit [FloatOps F] in
/-- The rectangle at offset zero of the whole size is the whole. -/
theorem slice_whole (c : Dev nD) {s : Shape} {e : EltTy} (M : Memref sig .tc .vmem s e) (off : Fin s.rank → ℕ) (hoff : ∀ a, off a = 0)
    (inb : ∀ a, off a + s.size a ≤ s.size a) (X : s.Idx → Elt F e) :
    (has c (M.slice (Rect.unit off s.size inb) (fun _ => rfl)) fullShare X : sProp 𝕄) = has c M fullShare X := by
  have he (x : s.Idx) : (Rect.unit off s.size inb).emb x = x := funext fun a => Fin.ext (by rw [Rect.emb_apply]; show off a + 1 * (x a).val = (x a).val; rw [hoff]; omega)
  have hK : (Finset.univ : Finset s.Idx) = Finset.univ.biUnion fun _ : Unit => (Rect.unit off s.size inb).set := by
    ext x
    simp only [Finset.mem_univ, Finset.mem_biUnion, true_and, true_iff]
    exact ⟨(), by rw [← Rect.map_emb_univ]; exact Finset.mem_map.mpr ⟨x, Finset.mem_univ _, he x⟩⟩
  have h1 := cover_split (F := F) (J := Unit) (s := s) (fun _ => off) s.size (fun _ => inb) hK (fun j j' h => absurd (Subsingleton.elim j j') h) c M X
  have h2 := cover_join (F := F) (J := Unit) (s := s) (fun _ => off) s.size (fun _ => inb) hK (fun j j' h => absurd (Subsingleton.elim j j') h) c M X (fun _ => X)
    (fun _ x => congrArg X (he x))
  rw [bigSep_univ_of_subsingleton ()] at h1 h2
  have e : (fun x => X ((Rect.unit off s.size inb).emb x)) = X := funext fun x => congrArg X (he x)
  rw [e] at h1
  exact BI.Entails.antisymm h2 h1

/-- A half of the buffers the kernel works in. -/
def piece (h : Bool) (c : Dev nD) : sProp 𝕄 :=
  iprop(any c (accR h) ∗ (bigSep Finset.univ fun t => any c (slotV false h t)) ∗ any c (hcR h) ∗ bigSep Finset.univ fun t => any c (slotV true h t))
/-- All of them, with the buffer between two layers. -/
def bufs (c : Dev nD) : sProp 𝕄 := iprop(any c accM ∗ any c rsM ∗ any c hcM ∗ any c hfM ∗ any c xbM)
abbrev xbs (c : Dev nD) : sProp 𝕄 := iprop(any c (xbM.slice (rX false) (fun _ => rfl)) ∗ any c (xbM.slice (rX true) (fun _ => rfl)))

omit [FloatOps F] in
theorem rs_cut (c : Dev nD) (h : Bool) : (any c (rsR h) : sProp 𝕄) ⊢ bigSep Finset.univ fun t => any c (slotV false h t) := by
  unfold any; iintro ⟨%X, H⟩; iapply (rs_split c h X); iexact H
omit [FloatOps F] in
theorem hf_cut (c : Dev nD) (h : Bool) : (any c (hfR h) : sProp 𝕄) ⊢ bigSep Finset.univ fun t => any c (slotV true h t) := by
  unfold any; iintro ⟨%X, H⟩; iapply (hf_split c h X); iexact H

omit [FloatOps F] in
theorem bufs_cut (c : Dev nD) : (bufs c : sProp 𝕄) ⊢ iprop(piece false c ∗ piece true c ∗ xbs c) := by
  unfold bufs piece xbs
  iintro ⟨H1, H2, H3, H4, H5⟩
  ihave ⟨Ha, Ha'⟩ := (halves_any off2_a c accM) $$ H1
  ihave ⟨Hr, Hr'⟩ := (rs_halves c) $$ H2
  ihave ⟨Hc, Hc'⟩ := (halves_any off2_c c hcM) $$ H3
  ihave ⟨Hf, Hf'⟩ := (halves_any off2_a c hfM) $$ H4
  ihave ⟨Hx, Hx'⟩ := (halves_any off2_x c xbM) $$ H5
  isplitl [Ha Hr Hc Hf]
  · isplitl [Ha]; · iexact Ha
    isplitl [Hr]; · iapply (rs_cut c false); iexact Hr
    isplitl [Hc]; · iexact Hc
    iapply (hf_cut c false); iexact Hf
  isplitl [Ha' Hr' Hc' Hf']
  · isplitl [Ha']; · iexact Ha'
    isplitl [Hr']; · iapply (rs_cut c true); iexact Hr'
    isplitl [Hc']; · iexact Hc'
    iapply (hf_cut c true); iexact Hf'
  isplitl [Hx]; · iexact Hx
  iexact Hx'

omit [FloatOps F] in
theorem bufs_whole (c : Dev nD) : iprop(piece false c ∗ piece true c ∗ xbs c) ⊢ (bufs c : sProp 𝕄) := by
  unfold bufs piece xbs
  iintro ⟨⟨Ha, Hr, Hc, Hf⟩, ⟨Ha', Hr', Hc', Hf'⟩, Hx, Hx'⟩
  isplitl [Ha Ha']
  · iapply (halves_join_any off2_a c accM); isplitl [Ha]; · iexact Ha
    iexact Ha'
  isplitl [Hr Hr']
  · iapply (rs_halves_join c); isplitl [Hr]
    · iapply (rs_join_any c false); iexact Hr
    iapply (rs_join_any c true); iexact Hr'
  isplitl [Hc Hc']
  · iapply (halves_join_any off2_c c hcM); isplitl [Hc]; · iexact Hc
    iexact Hc'
  isplitl [Hf Hf']
  · iapply (halves_join_any off2_a c hfM); isplitl [Hf]
    · iapply (hf_join_any c false); iexact Hf
    iapply (hf_join_any c true); iexact Hf'
  iapply (halves_join_any off2_x c xbM); isplitl [Hx]; · iexact Hx
  iexact Hx'

omit [FloatOps F] in
theorem stI_intro (h : Bool) (c : Dev nD) : iprop(piece h c ∗ pos h 0 0 c) ⊢ (stI h c : sProp 𝕄) := by
  unfold piece stI
  rw [univ_allP c, univ_allP c]
  iintro ⟨⟨Ha, ⟨Hr, Hr'⟩, Hc, Hf, Hf'⟩, Hp⟩
  isplitl [Ha]; · iexact Ha
  isplitl [Hr]; · iexact Hr
  isplitl [Hf]; · iexact Hf
  isplitl [Hf']; · iexact Hf'
  isplitl [Hc]; · iexact Hc
  isplitl [Hp]; · iexact Hp
  iexact Hr'

omit [FloatOps F] in
theorem stA_elim (h : Bool) (c : Dev nD) : (stA h 3 c : sProp 𝕄) ⊢ iprop(piece h c ∗ pos h 3 3 c) := by
  unfold piece stA
  rw [univ_allP c, univ_allP c, places_end]
  iintro ⟨Ha, Hr, Hf, Hf', Hc, Hp, Hr'⟩
  isplitr [Hp]
  · isplitl [Ha]; · iexact Ha
    isplitl [Hr Hr']
    · isplitl [Hr]; · iexact Hr
      iexact Hr'
    isplitl [Hc]; · iexact Hc
    isplitl [Hf]; · iexact Hf
    iexact Hf'
  iexact Hp

/-! ## Positions -/

section Positions

variable (val : Bool → Bool → ℕ → Dev nD → Dev nD → Vec F S32x128 .bf16) (nm : Dev nD × CI → ℕ)

omit [FloatOps F] in
theorem pos_intro (c : Dev nD) :
    iprop(recs val nm ∗ bigSep Finset.univ fun x : CI => atPos ER (cell c x) 0 ∅ 0) ⊢ (iprop(atPos ER (bar c) 0 ∅ 0 ∗ pos false 0 0 c ∗ pos true 0 0 c) : sProp 𝕄) := by
  rw [bigSep_CI]
  unfold pos
  iintro ⟨#HI, H0, H1, H2, H3, H4, H5, H6, H7, H8⟩
  isplitl [H0]; · iexact H0
  isplitl [H1 H3 H5 H7]
  · isplitl [H1]; · iexact H1
    isplitl [H5]; · iexact H5
    isplitl [H3]; · iexact H3
    isplitl [H7]; · iexact H7
    isplitr; · iapply (recs_reached val nm c (some (false, false, false))); iexact HI
    isplitr; · iapply (recs_reached val nm c (some (false, true, false))); iexact HI
    iapply (recs_reached val nm c (some (true, true, false))); iexact HI
  isplitl [H2]; · iexact H2
  isplitl [H6]; · iexact H6
  isplitl [H4]; · iexact H4
  isplitl [H8]; · iexact H8
  isplitr; · iapply (recs_reached val nm c (some (false, false, true))); iexact HI
  isplitr; · iapply (recs_reached val nm c (some (false, true, true))); iexact HI
  iapply (recs_reached val nm c (some (true, true, true))); iexact HI

/-- The round after a cell's last. -/
def stop (x : CI) : ℕ := match x with | none => 1 | some _ => 3

omit [FloatOps F] in
theorem pos_elim (c : Dev nD) :
    (iprop(atPos ER (bar c) 1 ∅ 0 ∗ pos false 3 3 c ∗ pos true 3 3 c) : sProp 𝕄) ⊢ bigSep Finset.univ fun x : CI => atPos ER (cell c x) (stop x) ∅ 0 := by
  rw [bigSep_CI]
  unfold pos
  iintro ⟨H0, ⟨H1, H5, H3, H7, -⟩, ⟨H2, H6, H4, H8, -⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
theorem shut (c : Dev nD) :
    iprop(recs val nm ∗ bigSep Finset.univ fun x : CI => atPos ER (cell c x) (stop x) ∅ 0) ⊢ (|={Set.univ}=> bigSep Finset.univ fun x : CI => semVal (cell c x) 0 : sProp 𝕄) := by
  have e : ∀ x ∈ (Finset.univ : Finset CI), iprop(recs val nm ∗ atPos ER (cell c x) (stop x) ∅ 0) ⊢ (|={Set.univ}=> semVal (cell c x) 0 : sProp 𝕄) := fun x _ =>
    BIBase.Entails.trans (sep_mono_left (recs_inv val nm c x)) (Rounds.cell_close ER (rd val) (Set.mem_univ (nm (c, x))) (fun h => h) (R := stop x)
      (duties_later val c x (stop x) (by cases x <;> exact le_rfl)))
  exact BIBase.Entails.trans (bigSep_with_persistent (R := recs val nm) e) (bigSep_fupd _ _)

end Positions

/-! ## The body between whole buffers -/

section Whole

variable (x0 : Dev nD → Vec F S64x1024 .f32) (wi : ℕ → Dev nD → Vec F S1024x2048 .f32) (wo : ℕ → Dev nD → Vec F S2048x1024 .f32)

/-- What the kernel leaves on a device. -/
def out (c : Dev nD) : Vec F S64x1024 .f32 := fun i =>
  rows x0 wi wo (decide (32 ≤ (i 0).val)) 3 c (Shape.pair (d := ![32, 1024]) ⟨(i 0).val % 32, Nat.mod_lt _ (by decide)⟩ (i 1))

theorem out_half (c : Dev nD) (h : Bool) (x : S32x1024.Idx) : out x0 wi wo c ((rX h).emb x) = rows x0 wi wo h 3 c x := by
  have h0 : (x 0).val < 32 := (x 0).isLt
  have e0 : ((rX h).emb x 0).val = row h + (x 0).val := by
    rw [Rect.emb_apply]; show off2 h 0 + 1 * (x 0).val = _; rw [off2_eq, Nat.one_mul]; rfl
  have e1 : ((rX h).emb x 1).val = (x 1).val := by
    rw [Rect.emb_apply]; show off2 h 1 + 1 * (x 1).val = _; rw [off2_eq, Nat.one_mul]; exact Nat.zero_add _
  have eh : decide (32 ≤ ((rX h).emb x 0).val) = h := by
    rw [e0]; cases h
    · exact decide_eq_false (by show ¬ 32 ≤ 0 + _; omega)
    · exact decide_eq_true (by show 32 ≤ 32 + _; omega)
  unfold out
  rw [eh]
  refine congrArg _ (Shape.idx_ext₂ (n := ![32, 1024]) ?_ ?_)
  · show ((rX h).emb x 0).val % 32 = (x 0).val
    rw [e0]; cases h
    · show (0 + _) % 32 = _; omega
    · show (32 + _) % 32 = _; omega
  · exact e1

/-- A device's six weights, whole. -/
def wgt (c : Dev nD) : sProp 𝕄 :=
  iprop(has c wi0 fullShare (wi 0 c) ∗ has c wo0 fullShare (wo 0 c) ∗ has c wi1 fullShare (wi 1 c) ∗ has c wo1 fullShare (wo 1 c)
    ∗ has c wi2 fullShare (wi 2 c) ∗ has c wo2 fullShare (wo 2 c))

omit [FloatOps F] in
theorem zero2 (a : Fin 2) : (![0, 0] : Fin 2 → ℕ) a = 0 := by fin_cases a <;> rfl
omit [FloatOps F] in
theorem wi_whole (c : Dev nD) (M : Memref sig .tc .vmem S1024x2048 .f32) (X : Vec F S1024x2048 .f32) :
    (has c (M.slice rWi (fun _ => rfl)) fullShare X : sProp 𝕄) = has c M fullShare X := slice_whole c M ![0, 0] zero2 _ X
omit [FloatOps F] in
theorem wo_whole (c : Dev nD) (M : Memref sig .tc .vmem S2048x1024 .f32) (X : Vec F S2048x1024 .f32) :
    (has c (M.slice rWo (fun _ => rfl)) fullShare X : sProp 𝕄) = has c M fullShare X := slice_whole c M ![0, 0] zero2 _ X

omit [FloatOps F] in
theorem wts_eq (c : Dev nD) : (wts wi wo c : sProp 𝕄) = iprop((has c wi0 fullShare (wi 0 c) ∗ has c wo0 fullShare (wo 0 c)) ∗ (has c wi1 fullShare (wi 1 c) ∗ has c wo1 fullShare (wo 1 c))
    ∗ has c wi2 fullShare (wi 2 c) ∗ has c wo2 fullShare (wo 2 c)) := by
  unfold wts
  rw [wi_whole, wi_whole, wi_whole, wo_whole, wo_whole, wo_whole]

omit [FloatOps F] in
theorem wts_of (c : Dev nD) : (wgt wi wo c : sProp 𝕄) ⊢ wts wi wo c := by
  rw [wts_eq]; unfold wgt
  iintro ⟨H1, H2, H3, H4, H5⟩
  isplitl [H1 H2]
  · isplitl [H1]; · iexact H1
    iexact H2
  isplitr [H5]
  · isplitl [H3]; · iexact H3
    iexact H4
  iexact H5
omit [FloatOps F] in
theorem wts_to (c : Dev nD) : (wts wi wo c : sProp 𝕄) ⊢ wgt wi wo c := by
  rw [wts_eq]; unfold wgt
  iintro ⟨⟨H1, H2⟩, ⟨H3, H4⟩, H5⟩
  isplitl [H1]; · iexact H1
  isplitl [H2]; · iexact H2
  isplitl [H3]; · iexact H3
  isplitl [H4]; · iexact H4
  iexact H5

omit [FloatOps F] in
theorem toks_all (c : Dev nD) :
    iprop((sepL phases fun p => allP c fun t => iprop(dutyTok ER (snd p.2.1 p.2.2 c) p.1 t ∗ dutyTok ER (rcv p.2.1 p.2.2 t) p.1 c))
        ∗ sepL phases fun p => cred (tallyAt (rcv p.2.1 p.2.2 c) p.1 (15 * N)))
      ⊢ (sepL phases fun p => toks p.2.1 p.2.2 p.1 c : sProp 𝕄) := by
  rw [← sepL_eq phases (by decide), ← sepL_eq phases (by decide), ← sepL_eq phases (by decide), ← bigSep_sep']
  exact bigSep_mono fun p _ => by unfold toks; exact BI.Entails.refl _

variable (nm : Dev nD × CI → ℕ)

/-- The body from whole buffers to whole buffers. -/
theorem wp_whole (c : Dev nD) (Q : PUnit → sProp 𝕄) :
    iprop(recs (vals x0 wi wo) nm ∗ levAts L lv ∗ mine c ∗ cred (tallyAt (bar c) 0 15) ∗ (sepL phases fun p => cred (tallyAt (rcv p.2.1 p.2.2 c) p.1 (15 * N)))
        ∗ bufs c ∗ has c xM fullShare (x0 c) ∗ wgt wi wo c ∗ any c oM ∗ ow c (dueB c ++ dues c phases))
      ⊢ iprop((((bigSep Finset.univ fun x : CI => semVal (cell c x) 0) ∗ bufs c ∗ has c xM fullShare (x0 c) ∗ wgt wi wo c ∗ has c oM fullShare (out x0 wi wo c) ∗ ow c []) -∗ Q ⟨⟩)
        -∗ WP c prog Q) := by
  unfold mine dealt
  iintro ⟨#HI, #HL, ⟨Hat, ⟨Htb, Hts⟩⟩, Hcb, Hcs, Hb, Hx, Hw, Ho, HO⟩ Hk
  iapply (wp_fupd frame (wpE (defs₀ (F := F)) 𝒱₀ (c : Thread nD τ) none) Set.univ prog Q)
  ihave ⟨Ha0, Ha1, Ha2⟩ := (pos_intro (vals x0 wi wo) nm c) $$ [Hat]
  · isplitr; · iexact HI
    iexact Hat
  ihave ⟨Hp0, Hp1, Hxb⟩ := (bufs_cut c) $$ Hb
  ihave Hx := (halves_split off2_x c xM (x0 c)) $$ Hx
  ihave Ho := (halves_any off2_x c oM) $$ Ho
  ihave Hw := (wts_of wi wo c) $$ Hw
  ihave Ht := (toks_all c) $$ [Hts Hcs]
  · isplitl [Hts]; · iexact Hts
    iexact Hcs
  iapply (wp_prog x0 wi wo nm c) $$ [Htb Hcb Ha0 Ha1 Ha2 Hp0 Hp1 Ht Hx Hw Hxb Ho HO]
  · isplitr; · iexact HI
    isplitr; · iexact HL
    isplitl [Htb Hcb Ha0]
    · unfold barI
      isplitl [Htb]; · iexact Htb
      isplitl [Hcb]; · iexact Hcb
      iexact Ha0
    isplitl [Ha1 Ha2 Hp0 Hp1]
    · isplitl [Ha1 Hp0]
      · iapply (stI_intro false c); isplitl [Hp0]; · iexact Hp0
        iexact Ha1
      iapply (stI_intro true c); isplitl [Hp1]; · iexact Hp1
      iexact Ha2
    isplitl [Ht]; · iexact Ht
    isplitl [Hx]; · iexact Hx
    isplitl [Hw]; · iexact Hw
    isplitl [Hxb]; · iexact Hxb
    isplitl [Ho]; · iexact Ho
    iexact HO
  iintro ⟨Ha0, ⟨HA0, HA1⟩, Hx, Hw, Hxb, Ho, HO⟩
  ihave ⟨Hp0, Ha1⟩ := (stA_elim false c) $$ HA0
  ihave ⟨Hp1, Ha2⟩ := (stA_elim true c) $$ HA1
  ihave Hat := (pos_elim c) $$ [Ha0 Ha1 Ha2]
  · isplitl [Ha0]; · iexact Ha0
    isplitl [Ha1]; · iexact Ha1
    iexact Ha2
  imod (shut (vals x0 wi wo) nm c) $$ [Hat] with Hz
  · isplitr; · iexact HI
    iexact Hat
  imodintro
  iapply Hk
  isplitl [Hz]; · iexact Hz
  isplitl [Hp0 Hp1 Hxb]
  · iapply (bufs_whole c)
    isplitl [Hp0]; · iexact Hp0
    isplitl [Hp1]; · iexact Hp1
    iexact Hxb
  isplitl [Hx]
  · iapply (halves_join off2_x c xM (x0 c) (fun h => half h (x0 c)) (fun h x => rfl)); iexact Hx
  isplitl [Hw]; · iapply (wts_to wi wo c); iexact Hw
  isplitl [Ho]
  · iapply (halves_join off2_x c oM (out x0 wi wo c) (fun h => rows x0 wi wo h 3 c) (fun h x => out_half x0 wi wo c h x)); iexact Ho
  iexact HO

end Whole

end Cert.KernelIdeal.Hand

end
-- ==== Proof.RunIdeal.lean ====
/-
The run of the whole program: from any memory every run ends, with every counter at zero, the arguments as they were and
on each device what its body leaves.
-/
module

public import proofs.«01_k».proof.Proof.LaunchIdeal
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What is staged -/

def inX (c : Dev nD) : Vec F S64x1024 .f32 := (win0_0.blk (0 : Fin 1)).view.read (Elt F) (m ((c : Thread nD τ).loc main_arg0))
def inI (r : ℕ) (c : Dev nD) : Vec F S1024x2048 .f32 :=
  match r with
  | 0 => (win0_1.blk (0 : Fin 1)).view.read (Elt F) (m ((c : Thread nD τ).loc main_arg1))
  | 1 => (win0_3.blk (0 : Fin 1)).view.read (Elt F) (m ((c : Thread nD τ).loc main_arg3))
  | _ => (win0_5.blk (0 : Fin 1)).view.read (Elt F) (m ((c : Thread nD τ).loc main_arg5))
def inO (r : ℕ) (c : Dev nD) : Vec F S2048x1024 .f32 :=
  match r with
  | 0 => (win0_2.blk (0 : Fin 1)).view.read (Elt F) (m ((c : Thread nD τ).loc main_arg2))
  | 1 => (win0_4.blk (0 : Fin 1)).view.read (Elt F) (m ((c : Thread nD τ).loc main_arg4))
  | _ => (win0_6.blk (0 : Fin 1)).view.read (Elt F) (m ((c : Thread nD τ).loc main_arg6))

abbrev sent : Bool → Bool → ℕ → Dev nD → Dev nD → Vec F S32x128 .bf16 := vals (inX m) (inI m) (inO m)
abbrev res (c : Dev nD) : Vec F S64x1024 .f32 := out (inX m) (inI m) (inO m) c

def begun (c : Dev nD) : sProp 𝕄 :=
  iprop(ready (sent m) c ∗ (cred (tallyAt (bar c) 0 15) ∗ sepL phases fun p => cred (tallyAt (rcv p.2.1 p.2.2 c) p.1 (15 * N))) ∗ levAts L lv)
def atEntry (c : Dev nD) : sProp 𝕄 := iprop(begun m c ∗ bufs c)
def atExit (c : Dev nD) : sProp 𝕄 := iprop((bigSep Finset.univ fun x : CI => semVal (cell c x) 0) ∗ bufs c)

def dats (_ : Fin 1) (c : Dev nD) : Dat τ (Elt F) ℕ ℕ UU ℕ cfg0 c where
  A w := m ((cfg0.win w).arr.view.loc (c : Thread nD τ))
  after w _ := match w with
    | ⟨0, _⟩ => inX m c
    | ⟨1, _⟩ => inI m 0 c
    | ⟨2, _⟩ => inO m 0 c
    | ⟨3, _⟩ => inI m 1 c
    | ⟨4, _⟩ => inO m 1 c
    | ⟨5, _⟩ => inI m 2 c
    | ⟨6, _⟩ => inO m 2 c
    | ⟨7, _⟩ => res m c
  Φ t := match t with
    | ⟨0, _⟩ => atEntry m c
    | ⟨_ + 1, _⟩ => atExit c
  q _ := fullShare
  owed t := match t with
    | ⟨0, _⟩ => O₀ c
    | ⟨_ + 1, _⟩ => 0

/-! ## The body -/

abbrev pt : Fin cfg0.N := t0_0

def bodyIn (c : Dev nD) : sProp 𝕄 :=
  iprop(atEntry m c ∗ (dats m 0 c).owesAt 0 pt.castSucc
    ∗ (∃ d, has c xM fullShare ((dats m 0 c).before (0 : Fin 8) pt d)) ∗ (∃ d, has c wi0 fullShare ((dats m 0 c).before (1 : Fin 8) pt d))
    ∗ (∃ d, has c wo0 fullShare ((dats m 0 c).before (2 : Fin 8) pt d)) ∗ (∃ d, has c wi1 fullShare ((dats m 0 c).before (3 : Fin 8) pt d))
    ∗ (∃ d, has c wo1 fullShare ((dats m 0 c).before (4 : Fin 8) pt d)) ∗ (∃ d, has c wi2 fullShare ((dats m 0 c).before (5 : Fin 8) pt d))
    ∗ (∃ d, has c wo2 fullShare ((dats m 0 c).before (6 : Fin 8) pt d)) ∗ (∃ d, has c oM fullShare ((dats m 0 c).before (7 : Fin 8) pt d)))

def bodyOut (c : Dev nD) : sProp 𝕄 :=
  iprop(atExit c ∗ (dats m 0 c).owesAt 0 pt.succ ∗ has c xM fullShare (inX m c) ∗ has c wi0 fullShare (inI m 0 c) ∗ has c wo0 fullShare (inO m 0 c)
    ∗ has c wi1 fullShare (inI m 1 c) ∗ has c wo1 fullShare (inO m 1 c) ∗ has c wi2 fullShare (inI m 2 c) ∗ has c wo2 fullShare (inO m 2 c) ∗ has c oM fullShare (res m c))

theorem before_0 (c : Dev nD) (d) : (dats m 0 c).before (0 : Fin 8) pt d = inX m c := by unfold Dat.before; rw [if_pos (fetch0_0 pt)]; rfl
theorem before_1 (c : Dev nD) (d) : (dats m 0 c).before (1 : Fin 8) pt d = inI m 0 c := by unfold Dat.before; rw [if_pos (fetch0_1 pt)]; rfl
theorem before_2 (c : Dev nD) (d) : (dats m 0 c).before (2 : Fin 8) pt d = inO m 0 c := by unfold Dat.before; rw [if_pos (fetch0_2 pt)]; rfl
theorem before_3 (c : Dev nD) (d) : (dats m 0 c).before (3 : Fin 8) pt d = inI m 1 c := by unfold Dat.before; rw [if_pos (fetch0_3 pt)]; rfl
theorem before_4 (c : Dev nD) (d) : (dats m 0 c).before (4 : Fin 8) pt d = inO m 1 c := by unfold Dat.before; rw [if_pos (fetch0_4 pt)]; rfl
theorem before_5 (c : Dev nD) (d) : (dats m 0 c).before (5 : Fin 8) pt d = inI m 2 c := by unfold Dat.before; rw [if_pos (fetch0_5 pt)]; rfl
theorem before_6 (c : Dev nD) (d) : (dats m 0 c).before (6 : Fin 8) pt d = inO m 2 c := by unfold Dat.before; rw [if_pos (fetch0_6 pt)]; rfl

theorem body_run (c : Dev nD) : bodyIn m c ⊢ WP c prog (fun _ => bodyOut m c) := by
  unfold bodyIn bodyOut atEntry begun ready Dat.owesAt Pipeline.owesWithin
  rw [show (dats m 0 c).owed pt.castSucc = O₀ c from rfl, show (dats m 0 c).owed pt.succ = 0 from rfl]
  simp only [before_0, before_1, before_2, before_3, before_4, before_5, before_6]
  iintro ⟨⟨⟨⟨%nm, #HI, Hm⟩, ⟨Hc, Hcs⟩, #HL⟩, Hb⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_whole (inX m) (inI m) (inO m) nm c) $$ [Hm Hc Hcs Hb HO H0 H1 H2 H3 H4 H5 H6 H7]
  · isplitr; · iexact HI
    isplitr; · iexact HL
    isplitl [Hm]; · iexact Hm
    isplitl [Hc]; · iexact Hc
    isplitl [Hcs]; · iexact Hcs
    isplitl [Hb]; · iexact Hb
    isplitl [H0]; · iexact H0
    isplitl [H1 H2 H3 H4 H5 H6]
    · unfold wgt
      isplitl [H1]; · iexact H1
      isplitl [H2]; · iexact H2
      isplitl [H3]; · iexact H3
      isplitl [H4]; · iexact H4
      isplitl [H5]; · iexact H5
      iexact H6
    isplitl [H7]; · iapply (has_any c oM _); iexact H7
    unfold ow
    iexists W; iexact HO
  unfold wgt ow atExit
  iintro ⟨Hz, Hb, H0, ⟨H1, H2, H3, H4, H5, H6⟩, H7, ⟨%W', HO⟩⟩
  isplitl [Hz Hb]
  · isplitl [Hz]; · iexact Hz
    iexact Hb
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 100000 in
theorem body_obligation (c : Dev nD) : BodyObligation (dats (F := F) m 0 c) (defs₀ (F := F)) 𝒱₀ 0 Set.univ := fun t => by
  rw [fin_N0 t, bigSep_W0, bigSep_W0]
  show bodyIn m c ⊢ WP c printed (fun _ => bodyOut m c)
  rw [body_eq]
  exact body_run m c

/-! ## The launch -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf cellSet tokSet)

omit [FloatOps F] in
theorem any_whole (c : Dev nD) : (bufs c : sProp 𝕄) = Pipeline.scopedRest cfg0.spec c := by
  rw [scopedRest0_eq]
  unfold bufs any has
  simp only [owns_whole]
  rfl

theorem stage_wait (c : Dev nD) (q : DmaSem sig) (hq : ∀ x, csem x ≠ SemLoc.dma q) (O : CellTallies nD τ sig ℕ) (hO : O = O₀ c ∨ O = 0) :
    (levAts L lv : sProp 𝕄) ⊢ MayWait (c : Thread nD τ) (.dma q) 0 O := by
  rcases hO with rfl | rfl
  · refine mayWait (b := 0) c (.dma q) 0 _ (by decide) (le_of_eq (lv_other (g := ((c : Thread nD τ), SemLoc.dma q)) hq 0)) fun x hx => ?_
    rw [List.mem_append] at hx
    rcases hx with hx | hx
    · obtain ⟨i, -, rfl⟩ := List.mem_map.mp hx
      exact ⟨rfl, (by decide : (0 : ℕ) < 3), by show 0 < lv (bar _) 0; rw [lv_bar]; decide⟩
    · exact dues_above c phases (by decide) x hx
  · rw [MayWait_zero]; iintro -; iempintro

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (sent m) c)
      ⊢ |={Set.univ}=> iprop(begun m c ∗ emp) := by
  unfold begun
  iintro ⟨-, HL, Hc, -, HG⟩
  ihave Hc := (creds (F := F) c) $$ Hc
  imodintro
  isplitl
  · isplitl [HG]; · iexact HG
    isplitl [Hc]; · iexact Hc
    iexact HL
  · iempintro

theorem entry_intro (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atEntry m c from rfl, ← any_whole]
  unfold atEntry
  iintro ⟨Hs, -, Hr⟩
  isplitl [Hs]; · iexact Hs
  iexact Hr

theorem exit_elim (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = atExit c from rfl, ← any_whole]
  unfold atExit
  rw [all_sems]
  iintro ⟨⟨Hu, Ho⟩, Hb⟩
  isplitl [Hu]; · iexact Hu
  isplitl [Ho]; · iexact Ho
  iexact Hb

theorem waits (c : Dev nD) : (levAts L lv : sProp 𝕄) ⊢ Pipeline.cellsWaits cfgs (dats m) 0 0 c :=
  Pipeline.cellsWaits_intro cfgs (dats m) 0 0 c fun w s t =>
    stage_wait c _ (by revert w s; decide +kernel) _ (by
      rcases t with ⟨_ | _, ht⟩
      · exact Or.inl rfl
      · exact Or.inr rfl)

/-! ## The run -/

def fin (c : Dev nD) (w : Fin cfg0.W) : Buf (Elt F) ((cfg0.win w).arr.view.loc (c : Thread nD τ)) := (dats m 0 c).arrAt w cfg0.N

def Ends (r : PUnit × MemSt nD τ sig (Elt F)) : Prop :=
  ∀ c : Dev nD, ∀ w : Fin cfg0.W, r.2.mem ((cfg0.win w).arr.view.loc (c : Thread nD τ)) = fin m c w

set_option maxRecDepth 100000 in
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := given (sent m)) (G' := ready (sent m)) (u₀ := u₀)
    (hu₀ := by
      unfold u₀
      iintro Hu
      ihave H := (ownU_pair _ _) $$ Hu
      icases H with ⟨HP, HX⟩
      imod (fund_all (sent m)) $$ HX with HG
      imodintro
      isplitl [HP] <;> iassumption)
    (hglob := ready_all (sent m))
    (hA := fun _ _ => rfl) (hpf := fun _ k => k.elim0)
    (X := begun m) (Y := fun c => unscopedSems0 c) (Z := fun _ => iprop(emp))
    (hX := begin_intro m ρ) (hin := entry_intro m) (hout := exit_elim m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run are what they were. -/
theorem fin_in (c : Dev nD) (w : Fin cfg0.W) (hw : (cfg0.win w).isOut = false) : fin m c w = m ((cfg0.win w).arr.view.loc (c : Thread nD τ)) :=
  (dats (F := F) m 0 c).arrAt_in w hw _

/-- All seven arguments after the run, on each device. -/
theorem kept {r : PUnit × MemSt nD τ sig (Elt F)} (h : Ends m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  have k (w : Fin cfg0.W) (hw : (cfg0.win w).isOut = false) := (h c w).trans (fin_in m c w hw)
  ⟨k 0 rfl, k 1 rfl, k 2 rfl, k 3 rfl, k 4 rfl, k 5 rfl, k 6 rfl⟩

end Cert.KernelIdeal.Hand

end
-- ==== Proof.ValueIdeal.lean ====
/-
What the kernel computes over the extended reals: on device `c`, block `c` of the chain of three layers of the whole
arrays.
-/
module

public import proofs.«01_k».proof.Proof.RunIdeal
public import Idealize.ShloMosaic.Lib.Layout
public import Idealize.ShloMosaic.Lib.ValueIdx
public import Idealize.ShloMosaic.Lib.Pointwise.Sums
public import Idealize.ShloMosaic.Lib.Pipeline.Value
public import Idealize.ShloMosaic.Lib.Pipeline.ValueKit
public import Idealize.ShloMosaic.PureOps.Ideal
public import Idealize.ShloMosaic.PureOps.Ideal.Laws

@[expose] public section

noncomputable section

namespace Cert.KernelIdeal.Hand

open Cert.KernelIdeal Cert.KernelIdeal.Gen
open Idealize.ShloMosaic Idealize.ShloMosaic.TcCoe Idealize.SL.Sem

/-- The index at row `a` and column `b`. -/
abbrev at2 {n k : ℕ} (a : Fin n) (b : Fin k) : (⟨2, ![n, k]⟩ : Shape).Idx := Shape.pair (d := ![n, k]) a b

/-- A product of two matrices, entry by entry. -/
def mm {n k l : ℕ} (x : (⟨2, ![n, k]⟩ : Shape).Idx → EReal) (w : (⟨2, ![k, l]⟩ : Shape).Idx → EReal) :
    (⟨2, ![n, l]⟩ : Shape).Idx → EReal := fun i => ∑ q : Fin k, x (at2 (i 0) q) * w (at2 q (i 1))

/-- The sum that a contraction of the second axis with the first takes, over the numbers below the axis's length. -/
theorem contr_sum {n k l : ℕ} (D : DotDims ⟨2, ![n, k]⟩ ⟨2, ![k, l]⟩ ⟨2, ![n, l]⟩) (e : D = DotDims.plain n k l)
    (x : (⟨2, ![n, k]⟩ : Shape).Idx → EReal) (w : (⟨2, ![k, l]⟩ : Shape).Idx → EReal) (i : (⟨2, ![n, l]⟩ : Shape).Idx) :
    (∑ q : D.contr.Idx, x (D.lhsIdx i q) * w (D.rhsIdx i q)) = mm x w i := by
  subst e
  rw [← Equiv.sum_comp (ValueIdx.contrEquiv1 (DotDims.plain n k l) k rfl rfl).symm]
  refine Finset.sum_congr rfl fun q _ => ?_
  have hq := ValueIdx.contrEquiv1_symm_val (DotDims.plain n k l) k rfl rfl q
  have el : (DotDims.plain n k l).lhsIdx i ((ValueIdx.contrEquiv1 (DotDims.plain n k l) k rfl rfl).symm q) = at2 (i 0) q :=
    Shape.idx_ext₂ rfl hq
  have er : (DotDims.plain n k l).rhsIdx i ((ValueIdx.contrEquiv1 (DotDims.plain n k l) k rfl rfl).symm q) = at2 q (i 1) :=
    Shape.idx_ext₂ hq rfl
  exact congrArg₂ (fun a b : EReal => a * b) (congrArg x el) (congrArg w er)

/-! ## The three computed values of a round -/

theorem pay1_mm (x : Vec Ideal S32x1024 .f32) (w : Vec Ideal S1024x2048 .f32) : k0_pay1 (F := Ideal) x w = mm x w := by
  funext i
  unfold k0_pay1
  simp only [shapeCast_self]
  exact (Ideal.matmul_constant_zero_apply (φ₁ := .f32) (φ₂ := .f32) dot_S32x1024_S1024x2048_S32x2048_1_0_0_1_n_n none x w i).trans
    (contr_sum _ rfl x w i)

theorem pay11_mm (x : Vec Ideal S32x2048 .bf16) (w : Vec Ideal S2048x1024 .f32) : k0_pay11 (F := Ideal) x w = mm x w := by
  funext i
  unfold k0_pay11
  simp only [shapeCast_self]
  exact (Ideal.matmul_constant_zero_apply (φ₁ := .f32) (φ₂ := .f32) dot_S32x2048_S2048x1024_S32x1024_1_0_0_1_n_n none x w i).trans
    (contr_sum _ rfl x w i)

theorem pay5_sum (y : Dev nD → Vec Ideal S32x128 .bf16) (i : S32x128.Idx) :
    k0_pay5 (F := Ideal) (stack y) i = max (∑ u : Fin 16, y u i) 0 := by
  unfold k0_pay5
  simp only [shapeCast_self]
  refine congrArg₂ max ?_ Ideal.ofBits_zero_f32
  refine (Ideal.multiReduction_add_single (φ := .f32) (stack y) _ _ _ _ i).trans (Finset.sum_congr rfl fun u _ => ?_)
  exact congrArg₂ y (Fin.ext rfl) (Shape.idx_ext₂ rfl rfl)

/-! ## A layer of whole arrays, and its blocks -/

/-- The hidden activations of a layer. -/
def hid (X : (⟨2, ![64, 16384]⟩ : Shape).Idx → EReal) (I : (⟨2, ![16384, 2048]⟩ : Shape).Idx → EReal) :
    (⟨2, ![64, 2048]⟩ : Shape).Idx → EReal := fun i => max (mm X I i) 0
/-- A layer: a product, the rectifier, a product. -/
def lay (X : (⟨2, ![64, 16384]⟩ : Shape).Idx → EReal) (I : (⟨2, ![16384, 2048]⟩ : Shape).Idx → EReal)
    (O : (⟨2, ![2048, 16384]⟩ : Shape).Idx → EReal) : (⟨2, ![64, 16384]⟩ : Shape).Idx → EReal := mm (hid X I) O

abbrev cutX (c : Dev nD) (X : (⟨2, ![64, 16384]⟩ : Shape).Idx → EReal) : Vec Ideal S64x1024 .f32 :=
  Layout.block ⟨2, ![64, 1024]⟩ ⟨2, ![64, 16384]⟩ 1 16 c X
abbrev cutI (c : Dev nD) (I : (⟨2, ![16384, 2048]⟩ : Shape).Idx → EReal) : Vec Ideal S1024x2048 .f32 :=
  Layout.block ⟨2, ![1024, 2048]⟩ ⟨2, ![16384, 2048]⟩ 0 16 c I
abbrev cutO (c : Dev nD) (O : (⟨2, ![2048, 16384]⟩ : Shape).Idx → EReal) : Vec Ideal S2048x1024 .f32 :=
  Layout.block ⟨2, ![2048, 1024]⟩ ⟨2, ![2048, 16384]⟩ 1 16 c O

/-- Row `a` of half `h`, among all the rows. -/
def rowOf (h : Bool) (a : Fin 32) : Fin 64 := ⟨row h + a.val, by cases h <;> simp only [row] <;> omega⟩

theorem rX_at (h : Bool) (i : S32x1024.Idx) : (rX h).emb i = at2 (n := 64) (k := 1024) (rowOf h (i 0)) (i 1) := by
  refine Shape.idx_ext₂ (n := ![64, 1024]) ?_ ?_
  · rw [Rect.emb_apply]; show off2 h 0 + 1 * (i 0).val = _; rw [off2_eq, Nat.one_mul]; rfl
  · rw [Rect.emb_apply]; show off2 h 1 + 1 * (i 1).val = _; rw [off2_eq, Nat.one_mul]; exact Nat.zero_add _

/-- Column `q` of device `c`'s block, among all the columns. -/
def colOf (c : Dev nD) (q : Fin 1024) : Fin 16384 :=
  ⟨c.val * 1024 + q.val, by have h1 : c.val < 16 := c.isLt; have h2 := q.isLt; omega⟩

theorem half_cutX (h : Bool) (c : Dev nD) (X : (⟨2, ![64, 16384]⟩ : Shape).Idx → EReal) (i : S32x1024.Idx) :
    half h (cutX c X) i = X (at2 (rowOf h (i 0)) (colOf c (i 1))) := by
  show X (Layout.Tiles.idx _ c ((rX h).emb i)) = _
  rw [rX_at]
  exact congrArg X (Shape.idx_ext₂ rfl rfl)
theorem cutI_apply (c : Dev nD) (I : (⟨2, ![16384, 2048]⟩ : Shape).Idx → EReal) (q : Fin 1024) (b : Fin 2048) :
    cutI c I (at2 q b) = I (at2 (colOf c q) b) := congrArg I (Shape.idx_ext₂ rfl rfl)
theorem cutO_apply (c : Dev nD) (O : (⟨2, ![2048, 16384]⟩ : Shape).Idx → EReal) (q : Fin 2048) (b : Fin 1024) :
    cutO c O (at2 q b) = O (at2 q (colOf c b)) := congrArg O (Shape.idx_ext₂ rfl rfl)

/-- The sixteen devices' partial products add up to the whole product. -/
theorem partials (h : Bool) (X : (⟨2, ![64, 16384]⟩ : Shape).Idx → EReal) (I : (⟨2, ![16384, 2048]⟩ : Shape).Idx → EReal) (i : S32x2048.Idx) :
    (∑ u : Dev nD, mm (n := 32) (k := 1024) (l := 2048) (half h (cutX u X)) (cutI u I) i) = mm X I (at2 (rowOf h (i 0)) (i 1)) := by
  unfold mm
  rw [Fin.sum_univ_tiles (N := 16384) 16 1024 rfl]
  refine Finset.sum_congr rfl fun u _ => Finset.sum_congr rfl fun q _ => ?_
  exact congrArg₂ (fun a b : EReal => a * b) (half_cutX h u X _) (cutI_apply u I q (i 1))

/-- The blocks of the hidden activations, side by side. -/
theorem hidden (wi : ℕ → Dev nD → Vec Ideal S1024x2048 .f32) (r : ℕ) (h : Bool) (X : (⟨2, ![64, 16384]⟩ : Shape).Idx → EReal)
    (I : (⟨2, ![16384, 2048]⟩ : Shape).Idx → EReal) (hI : ∀ c, wi r c = cutI c I) (i : S32x2048.Idx) :
    cat (fun s => chunk (F := Ideal) wi r (fun c => half h (cutX c X)) s) i = hid X I (at2 (rowOf h (i 0)) (i 1)) := by
  refine (pay5_sum _ _).trans ?_
  show max (∑ u : Dev nD, k0_pay1 (half h (cutX u X)) (wi r u) (inBlk (blkOf i) (ofBlk i))) 0 = max (mm X I _) 0
  rw [inBlk_ofBlk, ← partials h X I i]
  refine congrArg (max · 0) (Finset.sum_congr rfl fun u _ => ?_)
  rw [pay1_mm, hI]

/-- A round turns the blocks of what enters it into the blocks of the layer's result. -/
theorem round_lay (wi : ℕ → Dev nD → Vec Ideal S1024x2048 .f32) (wo : ℕ → Dev nD → Vec Ideal S2048x1024 .f32) (r : ℕ) (h : Bool)
    (X : (⟨2, ![64, 16384]⟩ : Shape).Idx → EReal) (I : (⟨2, ![16384, 2048]⟩ : Shape).Idx → EReal) (O : (⟨2, ![2048, 16384]⟩ : Shape).Idx → EReal)
    (hI : ∀ c, wi r c = cutI c I) (hO : ∀ c, wo r c = cutO c O) (c : Dev nD) :
    k0_pay11 (F := Ideal) (cat fun s => chunk wi r (fun c => half h (cutX c X)) s) (wo r c) = half h (cutX c (lay X I O)) := by
  funext i
  rw [pay11_mm, half_cutX, hO]
  unfold lay mm
  refine Finset.sum_congr rfl fun q _ => ?_
  exact congrArg₂ (fun a b : EReal => a * b) (hidden wi r h X I hI _) (cutO_apply c O q (i 1))

/-- What enters each layer. -/
def chain (X : (⟨2, ![64, 16384]⟩ : Shape).Idx → EReal) (I : ℕ → (⟨2, ![16384, 2048]⟩ : Shape).Idx → EReal)
    (O : ℕ → (⟨2, ![2048, 16384]⟩ : Shape).Idx → EReal) : ℕ → (⟨2, ![64, 16384]⟩ : Shape).Idx → EReal
  | 0 => X
  | r + 1 => lay (chain X I O r) (I r) (O r)

section Rounds

variable (x0 : Dev nD → Vec Ideal S64x1024 .f32) (wi : ℕ → Dev nD → Vec Ideal S1024x2048 .f32) (wo : ℕ → Dev nD → Vec Ideal S2048x1024 .f32)
variable (X : (⟨2, ![64, 16384]⟩ : Shape).Idx → EReal) (I : ℕ → (⟨2, ![16384, 2048]⟩ : Shape).Idx → EReal) (O : ℕ → (⟨2, ![2048, 16384]⟩ : Shape).Idx → EReal)
variable (hX : ∀ c, x0 c = cutX c X) (hI : ∀ r c, wi r c = cutI c (I r)) (hO : ∀ r c, wo r c = cutO c (O r))

include hX hI hO in
theorem rows_chain (h : Bool) (r : ℕ) (c : Dev nD) : rows x0 wi wo h r c = half h (cutX c (chain X I O r)) := by
  induction r generalizing c with
  | zero => show half h (x0 c) = _; rw [hX]; rfl
  | succ r ih =>
    show k0_pay11 (cat fun s => chunk wi r (rows x0 wi wo h r) s) (wo r c) = _
    rw [show rows x0 wi wo h r = fun c => half h (cutX c (chain X I O r)) from funext ih]
    exact round_lay wi wo r h _ _ _ (hI r) (hO r) c

include hX hI hO in
/-- The kernel's result on device `c` is block `c` of the chain's. -/
theorem out_chain (c : Dev nD) : out x0 wi wo c = cutX c (chain X I O 3) := by
  funext i
  have h0 : (i 0).val < 64 := (i 0).isLt
  unfold out
  rw [rows_chain x0 wi wo X I O hX hI hO]
  unfold half
  refine congrArg (cutX c (chain X I O 3)) ?_
  rw [rX_at]
  refine Shape.idx_ext₂ ?_ rfl
  show row _ + (i 0).val % 32 = (i 0).val
  by_cases hd : 32 ≤ (i 0).val
  · rw [decide_eq_true hd]; show 32 + _ = _; omega
  · rw [decide_eq_false hd]; show 0 + _ = _; omega

end Rounds

/-! ## The windows are the whole arrays -/

section Windows

variable (m : (ℓ : Loc nD τ sig) → Buf (Elt Ideal) ℓ)

theorem inX_eq (c : Dev nD) : inX m c = m ((c : Thread nD τ).loc main_arg0) := funext fun y =>
  congrArg (m ((c : Thread nD τ).loc main_arg0)) (Shape.idx_ext₂ (n := ![64, 1024]) (win0_0.rect_emb_val_of_index_zero pt 0 rfl y) (win0_0.rect_emb_val_of_index_zero pt 1 rfl y))
theorem inI_0 (c : Dev nD) : inI m 0 c = m ((c : Thread nD τ).loc main_arg1) := funext fun y =>
  congrArg (m ((c : Thread nD τ).loc main_arg1)) (Shape.idx_ext₂ (n := ![1024, 2048]) (win0_1.rect_emb_val_of_index_zero pt 0 rfl y) (win0_1.rect_emb_val_of_index_zero pt 1 rfl y))
theorem inO_0 (c : Dev nD) : inO m 0 c = m ((c : Thread nD τ).loc main_arg2) := funext fun y =>
  congrArg (m ((c : Thread nD τ).loc main_arg2)) (Shape.idx_ext₂ (n := ![2048, 1024]) (win0_2.rect_emb_val_of_index_zero pt 0 rfl y) (win0_2.rect_emb_val_of_index_zero pt 1 rfl y))
theorem inI_1 (c : Dev nD) : inI m 1 c = m ((c : Thread nD τ).loc main_arg3) := funext fun y =>
  congrArg (m ((c : Thread nD τ).loc main_arg3)) (Shape.idx_ext₂ (n := ![1024, 2048]) (win0_3.rect_emb_val_of_index_zero pt 0 rfl y) (win0_3.rect_emb_val_of_index_zero pt 1 rfl y))
theorem inO_1 (c : Dev nD) : inO m 1 c = m ((c : Thread nD τ).loc main_arg4) := funext fun y =>
  congrArg (m ((c : Thread nD τ).loc main_arg4)) (Shape.idx_ext₂ (n := ![2048, 1024]) (win0_4.rect_emb_val_of_index_zero pt 0 rfl y) (win0_4.rect_emb_val_of_index_zero pt 1 rfl y))
theorem inI_2 (c : Dev nD) : inI m 2 c = m ((c : Thread nD τ).loc main_arg5) := funext fun y =>
  congrArg (m ((c : Thread nD τ).loc main_arg5)) (Shape.idx_ext₂ (n := ![1024, 2048]) (win0_5.rect_emb_val_of_index_zero pt 0 rfl y) (win0_5.rect_emb_val_of_index_zero pt 1 rfl y))
theorem inO_2 (c : Dev nD) : inO m 2 c = m ((c : Thread nD τ).loc main_arg6) := funext fun y =>
  congrArg (m ((c : Thread nD τ).loc main_arg6)) (Shape.idx_ext₂ (n := ![2048, 1024]) (win0_6.rect_emb_val_of_index_zero pt 0 rfl y) (win0_6.rect_emb_val_of_index_zero pt 1 rfl y))

/-- The result array ends holding what the body computes. -/
theorem fin_7 (c : Dev nD) : fin m c 7 = res m c := by
  refine (dats m 0 c).arrAt_eq_of_covers 7 _ (by decide +kernel) fun t hf y => ?_
  rw [fin_N0 t]
  exact congrArg (res m c) (Shape.idx_ext₂ (n := ![64, 1024]) (win0_7.rect_emb_val_of_index_zero pt 0 rfl y) (win0_7.rect_emb_val_of_index_zero pt 1 rfl y)).symm

/-- The three pairs of weights, in order. -/
def pick {α : Type} (a b c : α) : ℕ → α
  | 0 => a
  | 1 => b
  | _ => c

/-- From devices that hold their blocks of the whole arrays, the result array of device `c` ends holding block `c` of the
    three layers' result. -/
theorem fin_chain (X : (⟨2, ![64, 16384]⟩ : Shape).Idx → EReal) (I0 I1 I2 : (⟨2, ![16384, 2048]⟩ : Shape).Idx → EReal)
    (O0 O1 O2 : (⟨2, ![2048, 16384]⟩ : Shape).Idx → EReal)
    (h : ∀ c : Dev nD, m ((c : Thread nD τ).loc main_arg0) = cutX c X
      ∧ m ((c : Thread nD τ).loc main_arg1) = cutI c I0 ∧ m ((c : Thread nD τ).loc main_arg2) = cutO c O0
      ∧ m ((c : Thread nD τ).loc main_arg3) = cutI c I1 ∧ m ((c : Thread nD τ).loc main_arg4) = cutO c O1
      ∧ m ((c : Thread nD τ).loc main_arg5) = cutI c I2 ∧ m ((c : Thread nD τ).loc main_arg6) = cutO c O2) (c : Dev nD) :
    fin m c 7 = cutX c (lay (lay (lay X I0 O0) I1 O1) I2 O2) :=
  (fin_7 m c).trans (out_chain (inX m) (inI m) (inO m) X (pick I0 I1 I2) (pick O0 O1 O2)
    (fun c => (inX_eq m c).trans (h c).1)
    (fun r c => match r with
      | 0 => (inI_0 m c).trans (h c).2.1
      | 1 => (inI_1 m c).trans (h c).2.2.2.1
      | _ + 2 => (inI_2 m c).trans (h c).2.2.2.2.2.1)
    (fun r c => match r with
      | 0 => (inO_0 m c).trans (h c).2.2.1
      | 1 => (inO_1 m c).trans (h c).2.2.2.2.1
      | _ + 2 => (inO_2 m c).trans (h c).2.2.2.2.2.2) c)

end Windows

end Cert.KernelIdeal.Hand

end
-- ==== Proof.RefIdeal.lean ====
/-
The reference's chain of matrix products, as three layers.
-/
module

public import proofs.«01_k».proof.Proof.ValueIdeal
public import proofs.«01_k».proof.Proof.Gen.ReferenceIdeal.Run

@[expose] public section

noncomputable section

namespace Cert.ReferenceIdeal.Hand

open Cert.ReferenceIdeal Cert.ReferenceIdeal.Gen
open Idealize.ShloMosaic Idealize.ShloMosaic.TcCoe Idealize.SL.Sem
open Cert.KernelIdeal.Hand (mm contr_sum hid lay)

theorem into_hidden (X : Vec Ideal S64x16384 .f32) (I : Vec Ideal S16384x2048 .f32) :
    maximumf (F := Ideal) (φ := .f32) (Host.dotGeneral (φ₁ := .f32) (φ₂ := .f32) dot_S64x16384_S16384x2048_S64x2048_1_0_0_1_n_n none X I)
      (broadcastInDim S64x2048 ![] bcast_S_S64x2048 (constant S_ .f32 0x00000000#32)) = hid X I := funext fun i =>
  congrArg₂ max ((Ideal.dotGeneral_apply (φ₁ := .f32) (φ₂ := .f32) _ none _ X I i).trans (contr_sum _ rfl X I i)) Ideal.ofBits_zero_f32

theorem layer (X : Vec Ideal S64x16384 .f32) (I : Vec Ideal S16384x2048 .f32) (O : Vec Ideal S2048x16384 .f32) :
    Host.dotGeneral (F := Ideal) (φ₁ := .f32) (φ₂ := .f32) dot_S64x2048_S2048x16384_S64x16384_1_0_0_1_n_n none
      (maximumf (F := Ideal) (φ := .f32) (Host.dotGeneral (φ₁ := .f32) (φ₂ := .f32) dot_S64x16384_S16384x2048_S64x2048_1_0_0_1_n_n none X I)
        (broadcastInDim S64x2048 ![] bcast_S_S64x2048 (constant S_ .f32 0x00000000#32))) O = lay X I O := by
  rw [into_hidden]
  exact funext fun i => (Ideal.dotGeneral_apply (φ₁ := .f32) (φ₂ := .f32) _ none _ (hid X I) O i).trans (contr_sum _ rfl (hid X I) O i)

end Cert.ReferenceIdeal.Hand

end
-- ==== Proof.lean ====
/-
The claims: each of the three programs runs to an end with its arguments as they were and every counter at zero; the
idealized kernel is the kernel's own text; and over the extended reals the kernel's result on device `c` is block `c` of
the reference's.
-/
module

public import proofs.«01_k».proof.Defs
public import proofs.«01_k».proof.Proof.RunKernel
public import proofs.«01_k».proof.Proof.RunIdeal
public import proofs.«01_k».proof.Proof.ValueIdeal
public import proofs.«01_k».proof.Proof.RefIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run Cert.Kernel.defs _ _).mono (fun _ h => ⟨Cert.Kernel.Hand.kept m h.1, h.2⟩) (Cert.Kernel.Hand.run_main (F := Bits) m g)

theorem frame_ideal : Cert.quiescent_KernelIdeal := fun m g _ =>
  (θ_run Cert.KernelIdeal.defs _ _).mono (fun _ h => ⟨Cert.KernelIdeal.Hand.kept m h.1, h.2⟩)
    (Cert.KernelIdeal.Hand.run_main (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem value : Cert.algebraic_KernelIdeal_ReferenceIdeal := fun m g m' g' _ hm =>
  ⟨Cert.KernelIdeal.Hand.lay (Cert.KernelIdeal.Hand.lay (Cert.KernelIdeal.Hand.lay
      (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)))
      (m' ((0 : Dev Cert.ReferenceIdeal.nD).tc.loc Cert.ReferenceIdeal.main_arg3))
      (m' ((0 : Dev Cert.ReferenceIdeal.nD).tc.loc Cert.ReferenceIdeal.main_arg4)))
      (m' ((0 : Dev Cert.ReferenceIdeal.nD).tc.loc Cert.ReferenceIdeal.main_arg5))
      (m' ((0 : Dev Cert.ReferenceIdeal.nD).tc.loc Cert.ReferenceIdeal.main_arg6)),
    (θ_run Cert.KernelIdeal.defs _ _).mono
      (fun _ h c => ⟨(h.1 c 7).trans (Cert.KernelIdeal.Hand.fin_chain m _ _ _ _ _ _ _ hm c), Cert.KernelIdeal.Hand.kept m h.1 c⟩)
      (Cert.KernelIdeal.Hand.run_main (F := Ideal) m g),
    (θ_run Cert.ReferenceIdeal.defs _ _).mono
      (fun _ h => ⟨(h 0).1.trans (by
        rw [Cert.ReferenceIdeal.Hand.layer, Cert.ReferenceIdeal.Hand.layer, Cert.ReferenceIdeal.Hand.layer]), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
